-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_RefInBwdIdeal (m : (ℓ : Loc Cert.RefInBwdIdeal.nD Cert.RefInBwdIdeal.τ Cert.RefInBwdIdeal.sig) → Buf (Elt Ideal) ℓ) : Prop :=
  True

def Pre_TnWIn (m : (ℓ : Loc Cert.TnWIn.nD Cert.TnWIn.τ Cert.TnWIn.sig) → Buf (Elt Bits) ℓ) : Prop :=
  True

def Pre_TnWInIdeal (m : (ℓ : Loc Cert.TnWInIdeal.nD Cert.TnWInIdeal.τ Cert.TnWInIdeal.sig) → Buf (Elt Ideal) ℓ) : Prop :=
  True

def Pre_RefTnWInIdeal (m : (ℓ : Loc Cert.RefTnWInIdeal.nD Cert.RefTnWInIdeal.τ Cert.RefTnWInIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_RefFwdInIdeal (m : (ℓ : Loc Cert.RefFwdInIdeal.nD Cert.RefFwdInIdeal.τ Cert.RefFwdInIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_RefGwDownIdeal (m : (ℓ : Loc Cert.RefGwDownIdeal.nD Cert.RefGwDownIdeal.τ Cert.RefGwDownIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_RefGwUpIdeal (m : (ℓ : Loc Cert.RefGwUpIdeal.nD Cert.RefGwUpIdeal.τ Cert.RefGwUpIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_RefGwOutIdeal (m : (ℓ : Loc Cert.RefGwOutIdeal.nD Cert.RefGwOutIdeal.τ Cert.RefGwOutIdeal.sig) → Buf (Elt Ideal) ℓ) : Prop :=
  True

def Pre_Gp (m : (ℓ : Loc Cert.Gp.nD Cert.Gp.τ Cert.Gp.sig) → Buf (Elt Bits) ℓ) : Prop :=
  True

def Pre_GpIdeal (m : (ℓ : Loc Cert.GpIdeal.nD Cert.GpIdeal.τ Cert.GpIdeal.sig) → Buf (Elt Ideal) ℓ) : Prop :=
  True

def Pre_RefGpIdeal (m : (ℓ : Loc Cert.RefGpIdeal.nD Cert.RefGpIdeal.τ Cert.RefGpIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_RefAdamProjIdeal (m : (ℓ : Loc Cert.RefAdamProjIdeal.nD Cert.RefAdamProjIdeal.τ Cert.RefAdamProjIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_RefPoolIdeal (m : (ℓ : Loc Cert.RefPoolIdeal.nD Cert.RefPoolIdeal.τ Cert.RefPoolIdeal.sig) → Buf (Elt Ideal) ℓ) : Prop :=
  True

def Pre_PoolFirst (m : (ℓ : Loc Cert.PoolFirst.nD Cert.PoolFirst.τ Cert.PoolFirst.sig) → Buf (Elt Bits) ℓ) : Prop :=
  True

def Pre_PoolFirstIdeal (m : (ℓ : Loc Cert.PoolFirstIdeal.nD Cert.PoolFirstIdeal.τ Cert.PoolFirstIdeal.sig) → Buf (Elt Ideal) ℓ) : Prop :=
  True

def Pre_RefPoolFirstIdeal (m : (ℓ : Loc Cert.RefPoolFirstIdeal.nD Cert.RefPoolFirstIdeal.τ Cert.RefPoolFirstIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_RefInBwdIdeal [hRefInBwdIdeal : Cert.RefInBwdIdeal.Facts] : Prop :=
  ∀ (m : (ℓ : Loc Cert.RefInBwdIdeal.nD Cert.RefInBwdIdeal.τ Cert.RefInBwdIdeal.sig) → Buf (Elt Ideal) ℓ) (g : Dev Cert.RefInBwdIdeal.nD → PrngReg), Pre_RefInBwdIdeal m →
    θ_run (Cert.RefInBwdIdeal.defs (F := Ideal)) (onTc (τ := Cert.RefInBwdIdeal.τ) (Cert.RefInBwdIdeal.main (F := Ideal))) ⟨m, fun _ => 0, g⟩ (fun r => (∀ c : Dev Cert.RefInBwdIdeal.nD,
      r.2.mem ((c.tc : Thread Cert.RefInBwdIdeal.nD Cert.RefInBwdIdeal.τ).loc Cert.RefInBwdIdeal.main_arg0) = m ((c.tc : Thread Cert.RefInBwdIdeal.nD Cert.RefInBwdIdeal.τ).loc Cert.RefInBwdIdeal.main_arg0)
      ∧ r.2.mem ((c.tc : Thread Cert.RefInBwdIdeal.nD Cert.RefInBwdIdeal.τ).loc Cert.RefInBwdIdeal.main_arg1) = m ((c.tc : Thread Cert.RefInBwdIdeal.nD Cert.RefInBwdIdeal.τ).loc Cert.RefInBwdIdeal.main_arg1)
      ∧ r.2.mem ((c.tc : Thread Cert.RefInBwdIdeal.nD Cert.RefInBwdIdeal.τ).loc Cert.RefInBwdIdeal.main_arg2) = m ((c.tc : Thread Cert.RefInBwdIdeal.nD Cert.RefInBwdIdeal.τ).loc Cert.RefInBwdIdeal.main_arg2)
      ∧ r.2.mem ((c.tc : Thread Cert.RefInBwdIdeal.nD Cert.RefInBwdIdeal.τ).loc Cert.RefInBwdIdeal.main_arg3) = m ((c.tc : Thread Cert.RefInBwdIdeal.nD Cert.RefInBwdIdeal.τ).loc Cert.RefInBwdIdeal.main_arg3)
      ∧ r.2.mem ((c.tc : Thread Cert.RefInBwdIdeal.nD Cert.RefInBwdIdeal.τ).loc Cert.RefInBwdIdeal.main_arg4) = m ((c.tc : Thread Cert.RefInBwdIdeal.nD Cert.RefInBwdIdeal.τ).loc Cert.RefInBwdIdeal.main_arg4)
      ∧ r.2.mem ((c.tc : Thread Cert.RefInBwdIdeal.nD Cert.RefInBwdIdeal.τ).loc Cert.RefInBwdIdeal.main_arg5) = m ((c.tc : Thread Cert.RefInBwdIdeal.nD Cert.RefInBwdIdeal.τ).loc Cert.RefInBwdIdeal.main_arg5)
      ∧ r.2.mem ((c.tc : Thread Cert.RefInBwdIdeal.nD Cert.RefInBwdIdeal.τ).loc Cert.RefInBwdIdeal.main_arg6) = m ((c.tc : Thread Cert.RefInBwdIdeal.nD Cert.RefInBwdIdeal.τ).loc Cert.RefInBwdIdeal.main_arg6)
      ∧ r.2.mem ((c.tc : Thread Cert.RefInBwdIdeal.nD Cert.RefInBwdIdeal.τ).loc Cert.RefInBwdIdeal.main_arg7) = m ((c.tc : Thread Cert.RefInBwdIdeal.nD Cert.RefInBwdIdeal.τ).loc Cert.RefInBwdIdeal.main_arg7)
      ∧ r.2.mem ((c.tc : Thread Cert.RefInBwdIdeal.nD Cert.RefInBwdIdeal.τ).loc Cert.RefInBwdIdeal.main_arg8) = m ((c.tc : Thread Cert.RefInBwdIdeal.nD Cert.RefInBwdIdeal.τ).loc Cert.RefInBwdIdeal.main_arg8))
      ∧ r.2.sem = fun _ => 0)

def quiescent_TnWIn [hTnWIn : Cert.TnWIn.Facts] : Prop :=
  ∀ (m : (ℓ : Loc Cert.TnWIn.nD Cert.TnWIn.τ Cert.TnWIn.sig) → Buf (Elt Bits) ℓ) (g : Dev Cert.TnWIn.nD → PrngReg), Pre_TnWIn m →
    θ_run (Cert.TnWIn.defs (F := Bits)) (onTc (τ := Cert.TnWIn.τ) (Cert.TnWIn.main (F := Bits))) ⟨m, fun _ => 0, g⟩ (fun r => (∀ c : Dev Cert.TnWIn.nD,
      r.2.mem ((c.tc : Thread Cert.TnWIn.nD Cert.TnWIn.τ).loc Cert.TnWIn.main_arg0) = m ((c.tc : Thread Cert.TnWIn.nD Cert.TnWIn.τ).loc Cert.TnWIn.main_arg0)
      ∧ r.2.mem ((c.tc : Thread Cert.TnWIn.nD Cert.TnWIn.τ).loc Cert.TnWIn.main_arg1) = m ((c.tc : Thread Cert.TnWIn.nD Cert.TnWIn.τ).loc Cert.TnWIn.main_arg1)
      ∧ r.2.mem ((c.tc : Thread Cert.TnWIn.nD Cert.TnWIn.τ).loc Cert.TnWIn.main_arg2) = m ((c.tc : Thread Cert.TnWIn.nD Cert.TnWIn.τ).loc Cert.TnWIn.main_arg2)
      ∧ r.2.mem ((c.tc : Thread Cert.TnWIn.nD Cert.TnWIn.τ).loc Cert.TnWIn.main_arg3) = m ((c.tc : Thread Cert.TnWIn.nD Cert.TnWIn.τ).loc Cert.TnWIn.main_arg3)
      ∧ r.2.mem ((c.tc : Thread Cert.TnWIn.nD Cert.TnWIn.τ).loc Cert.TnWIn.main_arg4) = m ((c.tc : Thread Cert.TnWIn.nD Cert.TnWIn.τ).loc Cert.TnWIn.main_arg4))
      ∧ r.2.sem = fun _ => 0)

def quiescent_TnWInIdeal [hTnWInIdeal : Cert.TnWInIdeal.Facts] : Prop :=
  ∀ (m : (ℓ : Loc Cert.TnWInIdeal.nD Cert.TnWInIdeal.τ Cert.TnWInIdeal.sig) → Buf (Elt Ideal) ℓ) (g : Dev Cert.TnWInIdeal.nD → PrngReg), Pre_TnWInIdeal m →
    θ_run (Cert.TnWInIdeal.defs (F := Ideal)) (onTc (τ := Cert.TnWInIdeal.τ) (Cert.TnWInIdeal.main (F := Ideal))) ⟨m, fun _ => 0, g⟩ (fun r => (∀ c : Dev Cert.TnWInIdeal.nD,
      r.2.mem ((c.tc : Thread Cert.TnWInIdeal.nD Cert.TnWInIdeal.τ).loc Cert.TnWInIdeal.main_arg0) = m ((c.tc : Thread Cert.TnWInIdeal.nD Cert.TnWInIdeal.τ).loc Cert.TnWInIdeal.main_arg0)
      ∧ r.2.mem ((c.tc : Thread Cert.TnWInIdeal.nD Cert.TnWInIdeal.τ).loc Cert.TnWInIdeal.main_arg1) = m ((c.tc : Thread Cert.TnWInIdeal.nD Cert.TnWInIdeal.τ).loc Cert.TnWInIdeal.main_arg1)
      ∧ r.2.mem ((c.tc : Thread Cert.TnWInIdeal.nD Cert.TnWInIdeal.τ).loc Cert.TnWInIdeal.main_arg2) = m ((c.tc : Thread Cert.TnWInIdeal.nD Cert.TnWInIdeal.τ).loc Cert.TnWInIdeal.main_arg2)
      ∧ r.2.mem ((c.tc : Thread Cert.TnWInIdeal.nD Cert.TnWInIdeal.τ).loc Cert.TnWInIdeal.main_arg3) = m ((c.tc : Thread Cert.TnWInIdeal.nD Cert.TnWInIdeal.τ).loc Cert.TnWInIdeal.main_arg3)
      ∧ r.2.mem ((c.tc : Thread Cert.TnWInIdeal.nD Cert.TnWInIdeal.τ).loc Cert.TnWInIdeal.main_arg4) = m ((c.tc : Thread Cert.TnWInIdeal.nD Cert.TnWInIdeal.τ).loc Cert.TnWInIdeal.main_arg4))
      ∧ r.2.sem = fun _ => 0)

def quiescent_RefTnWInIdeal [hRefTnWInIdeal : Cert.RefTnWInIdeal.Facts] : Prop :=
  ∀ (m : (ℓ : Loc Cert.RefTnWInIdeal.nD Cert.RefTnWInIdeal.τ Cert.RefTnWInIdeal.sig) → Buf (Elt Ideal) ℓ) (g : Dev Cert.RefTnWInIdeal.nD → PrngReg), Pre_RefTnWInIdeal m →
    θ_run (Cert.RefTnWInIdeal.defs (F := Ideal)) (onTc (τ := Cert.RefTnWInIdeal.τ) (Cert.RefTnWInIdeal.main (F := Ideal))) ⟨m, fun _ => 0, g⟩ (fun r => (∀ c : Dev Cert.RefTnWInIdeal.nD,
      r.2.mem ((c.tc : Thread Cert.RefTnWInIdeal.nD Cert.RefTnWInIdeal.τ).loc Cert.RefTnWInIdeal.main_arg0) = m ((c.tc : Thread Cert.RefTnWInIdeal.nD Cert.RefTnWInIdeal.τ).loc Cert.RefTnWInIdeal.main_arg0)
      ∧ r.2.mem ((c.tc : Thread Cert.RefTnWInIdeal.nD Cert.RefTnWInIdeal.τ).loc Cert.RefTnWInIdeal.main_arg1) = m ((c.tc : Thread Cert.RefTnWInIdeal.nD Cert.RefTnWInIdeal.τ).loc Cert.RefTnWInIdeal.main_arg1)
      ∧ r.2.mem ((c.tc : Thread Cert.RefTnWInIdeal.nD Cert.RefTnWInIdeal.τ).loc Cert.RefTnWInIdeal.main_arg2) = m ((c.tc : Thread Cert.RefTnWInIdeal.nD Cert.RefTnWInIdeal.τ).loc Cert.RefTnWInIdeal.main_arg2)
      ∧ r.2.mem ((c.tc : Thread Cert.RefTnWInIdeal.nD Cert.RefTnWInIdeal.τ).loc Cert.RefTnWInIdeal.main_arg3) = m ((c.tc : Thread Cert.RefTnWInIdeal.nD Cert.RefTnWInIdeal.τ).loc Cert.RefTnWInIdeal.main_arg3)
      ∧ r.2.mem ((c.tc : Thread Cert.RefTnWInIdeal.nD Cert.RefTnWInIdeal.τ).loc Cert.RefTnWInIdeal.main_arg4) = m ((c.tc : Thread Cert.RefTnWInIdeal.nD Cert.RefTnWInIdeal.τ).loc Cert.RefTnWInIdeal.main_arg4))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_RefFwdInIdeal [hRefFwdInIdeal : Cert.RefFwdInIdeal.Facts] : Prop :=
  ∀ (m : (ℓ : Loc Cert.RefFwdInIdeal.nD Cert.RefFwdInIdeal.τ Cert.RefFwdInIdeal.sig) → Buf (Elt Ideal) ℓ) (g : Dev Cert.RefFwdInIdeal.nD → PrngReg), Pre_RefFwdInIdeal m →
    θ_run (Cert.RefFwdInIdeal.defs (F := Ideal)) (onTc (τ := Cert.RefFwdInIdeal.τ) (Cert.RefFwdInIdeal.main (F := Ideal))) ⟨m, fun _ => 0, g⟩ (fun r => (∀ c : Dev Cert.RefFwdInIdeal.nD,
      r.2.mem ((c.tc : Thread Cert.RefFwdInIdeal.nD Cert.RefFwdInIdeal.τ).loc Cert.RefFwdInIdeal.main_arg0) = m ((c.tc : Thread Cert.RefFwdInIdeal.nD Cert.RefFwdInIdeal.τ).loc Cert.RefFwdInIdeal.main_arg0)
      ∧ r.2.mem ((c.tc : Thread Cert.RefFwdInIdeal.nD Cert.RefFwdInIdeal.τ).loc Cert.RefFwdInIdeal.main_arg1) = m ((c.tc : Thread Cert.RefFwdInIdeal.nD Cert.RefFwdInIdeal.τ).loc Cert.RefFwdInIdeal.main_arg1)
      ∧ r.2.mem ((c.tc : Thread Cert.RefFwdInIdeal.nD Cert.RefFwdInIdeal.τ).loc Cert.RefFwdInIdeal.main_arg2) = m ((c.tc : Thread Cert.RefFwdInIdeal.nD Cert.RefFwdInIdeal.τ).loc Cert.RefFwdInIdeal.main_arg2)
      ∧ r.2.mem ((c.tc : Thread Cert.RefFwdInIdeal.nD Cert.RefFwdInIdeal.τ).loc Cert.RefFwdInIdeal.main_arg3) = m ((c.tc : Thread Cert.RefFwdInIdeal.nD Cert.RefFwdInIdeal.τ).loc Cert.RefFwdInIdeal.main_arg3))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_RefGwDownIdeal [hRefGwDownIdeal : Cert.RefGwDownIdeal.Facts] : Prop :=
  ∀ (m : (ℓ : Loc Cert.RefGwDownIdeal.nD Cert.RefGwDownIdeal.τ Cert.RefGwDownIdeal.sig) → Buf (Elt Ideal) ℓ) (g : Dev Cert.RefGwDownIdeal.nD → PrngReg), Pre_RefGwDownIdeal m →
    θ_run (Cert.RefGwDownIdeal.defs (F := Ideal)) (onTc (τ := Cert.RefGwDownIdeal.τ) (Cert.RefGwDownIdeal.main (F := Ideal))) ⟨m, fun _ => 0, g⟩ (fun r => (∀ c : Dev Cert.RefGwDownIdeal.nD,
      r.2.mem ((c.tc : Thread Cert.RefGwDownIdeal.nD Cert.RefGwDownIdeal.τ).loc Cert.RefGwDownIdeal.main_arg0) = m ((c.tc : Thread Cert.RefGwDownIdeal.nD Cert.RefGwDownIdeal.τ).loc Cert.RefGwDownIdeal.main_arg0)
      ∧ r.2.mem ((c.tc : Thread Cert.RefGwDownIdeal.nD Cert.RefGwDownIdeal.τ).loc Cert.RefGwDownIdeal.main_arg1) = m ((c.tc : Thread Cert.RefGwDownIdeal.nD Cert.RefGwDownIdeal.τ).loc Cert.RefGwDownIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_RefGwUpIdeal [hRefGwUpIdeal : Cert.RefGwUpIdeal.Facts] : Prop :=
  ∀ (m : (ℓ : Loc Cert.RefGwUpIdeal.nD Cert.RefGwUpIdeal.τ Cert.RefGwUpIdeal.sig) → Buf (Elt Ideal) ℓ) (g : Dev Cert.RefGwUpIdeal.nD → PrngReg), Pre_RefGwUpIdeal m →
    θ_run (Cert.RefGwUpIdeal.defs (F := Ideal)) (onTc (τ := Cert.RefGwUpIdeal.τ) (Cert.RefGwUpIdeal.main (F := Ideal))) ⟨m, fun _ => 0, g⟩ (fun r => (∀ c : Dev Cert.RefGwUpIdeal.nD,
      r.2.mem ((c.tc : Thread Cert.RefGwUpIdeal.nD Cert.RefGwUpIdeal.τ).loc Cert.RefGwUpIdeal.main_arg0) = m ((c.tc : Thread Cert.RefGwUpIdeal.nD Cert.RefGwUpIdeal.τ).loc Cert.RefGwUpIdeal.main_arg0)
      ∧ r.2.mem ((c.tc : Thread Cert.RefGwUpIdeal.nD Cert.RefGwUpIdeal.τ).loc Cert.RefGwUpIdeal.main_arg1) = m ((c.tc : Thread Cert.RefGwUpIdeal.nD Cert.RefGwUpIdeal.τ).loc Cert.RefGwUpIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_RefGwOutIdeal [hRefGwOutIdeal : Cert.RefGwOutIdeal.Facts] : Prop :=
  ∀ (m : (ℓ : Loc Cert.RefGwOutIdeal.nD Cert.RefGwOutIdeal.τ Cert.RefGwOutIdeal.sig) → Buf (Elt Ideal) ℓ) (g : Dev Cert.RefGwOutIdeal.nD → PrngReg), Pre_RefGwOutIdeal m →
    θ_run (Cert.RefGwOutIdeal.defs (F := Ideal)) (onTc (τ := Cert.RefGwOutIdeal.τ) (Cert.RefGwOutIdeal.main (F := Ideal))) ⟨m, fun _ => 0, g⟩ (fun r => (∀ c : Dev Cert.RefGwOutIdeal.nD,
      r.2.mem ((c.tc : Thread Cert.RefGwOutIdeal.nD Cert.RefGwOutIdeal.τ).loc Cert.RefGwOutIdeal.main_arg0) = m ((c.tc : Thread Cert.RefGwOutIdeal.nD Cert.RefGwOutIdeal.τ).loc Cert.RefGwOutIdeal.main_arg0)
      ∧ r.2.mem ((c.tc : Thread Cert.RefGwOutIdeal.nD Cert.RefGwOutIdeal.τ).loc Cert.RefGwOutIdeal.main_arg1) = m ((c.tc : Thread Cert.RefGwOutIdeal.nD Cert.RefGwOutIdeal.τ).loc Cert.RefGwOutIdeal.main_arg1))
      ∧ r.2.sem = fun _ => 0)

def quiescent_Gp [hGp : Cert.Gp.Facts] : Prop :=
  ∀ (m : (ℓ : Loc Cert.Gp.nD Cert.Gp.τ Cert.Gp.sig) → Buf (Elt Bits) ℓ) (g : Dev Cert.Gp.nD → PrngReg), Pre_Gp m →
    θ_run (Cert.Gp.defs (F := Bits)) (onTc (τ := Cert.Gp.τ) (Cert.Gp.main (F := Bits))) ⟨m, fun _ => 0, g⟩ (fun r => (∀ c : Dev Cert.Gp.nD,
      r.2.mem ((c.tc : Thread Cert.Gp.nD Cert.Gp.τ).loc Cert.Gp.main_arg0) = m ((c.tc : Thread Cert.Gp.nD Cert.Gp.τ).loc Cert.Gp.main_arg0)
      ∧ r.2.mem ((c.tc : Thread Cert.Gp.nD Cert.Gp.τ).loc Cert.Gp.main_arg1) = m ((c.tc : Thread Cert.Gp.nD Cert.Gp.τ).loc Cert.Gp.main_arg1)
      ∧ r.2.mem ((c.tc : Thread Cert.Gp.nD Cert.Gp.τ).loc Cert.Gp.main_arg2) = m ((c.tc : Thread Cert.Gp.nD Cert.Gp.τ).loc Cert.Gp.main_arg2))
      ∧ r.2.sem = fun _ => 0)

def quiescent_GpIdeal [hGpIdeal : Cert.GpIdeal.Facts] : Prop :=
  ∀ (m : (ℓ : Loc Cert.GpIdeal.nD Cert.GpIdeal.τ Cert.GpIdeal.sig) → Buf (Elt Ideal) ℓ) (g : Dev Cert.GpIdeal.nD → PrngReg), Pre_GpIdeal m →
    θ_run (Cert.GpIdeal.defs (F := Ideal)) (onTc (τ := Cert.GpIdeal.τ) (Cert.GpIdeal.main (F := Ideal))) ⟨m, fun _ => 0, g⟩ (fun r => (∀ c : Dev Cert.GpIdeal.nD,
      r.2.mem ((c.tc : Thread Cert.GpIdeal.nD Cert.GpIdeal.τ).loc Cert.GpIdeal.main_arg0) = m ((c.tc : Thread Cert.GpIdeal.nD Cert.GpIdeal.τ).loc Cert.GpIdeal.main_arg0)
      ∧ r.2.mem ((c.tc : Thread Cert.GpIdeal.nD Cert.GpIdeal.τ).loc Cert.GpIdeal.main_arg1) = m ((c.tc : Thread Cert.GpIdeal.nD Cert.GpIdeal.τ).loc Cert.GpIdeal.main_arg1)
      ∧ r.2.mem ((c.tc : Thread Cert.GpIdeal.nD Cert.GpIdeal.τ).loc Cert.GpIdeal.main_arg2) = m ((c.tc : Thread Cert.GpIdeal.nD Cert.GpIdeal.τ).loc Cert.GpIdeal.main_arg2))
      ∧ r.2.sem = fun _ => 0)

def quiescent_RefGpIdeal [hRefGpIdeal : Cert.RefGpIdeal.Facts] : Prop :=
  ∀ (m : (ℓ : Loc Cert.RefGpIdeal.nD Cert.RefGpIdeal.τ Cert.RefGpIdeal.sig) → Buf (Elt Ideal) ℓ) (g : Dev Cert.RefGpIdeal.nD → PrngReg), Pre_RefGpIdeal m →
    θ_run (Cert.RefGpIdeal.defs (F := Ideal)) (onTc (τ := Cert.RefGpIdeal.τ) (Cert.RefGpIdeal.main (F := Ideal))) ⟨m, fun _ => 0, g⟩ (fun r => (∀ c : Dev Cert.RefGpIdeal.nD,
      r.2.mem ((c.tc : Thread Cert.RefGpIdeal.nD Cert.RefGpIdeal.τ).loc Cert.RefGpIdeal.main_arg0) = m ((c.tc : Thread Cert.RefGpIdeal.nD Cert.RefGpIdeal.τ).loc Cert.RefGpIdeal.main_arg0)
      ∧ r.2.mem ((c.tc : Thread Cert.RefGpIdeal.nD Cert.RefGpIdeal.τ).loc Cert.RefGpIdeal.main_arg1) = m ((c.tc : Thread Cert.RefGpIdeal.nD Cert.RefGpIdeal.τ).loc Cert.RefGpIdeal.main_arg1)
      ∧ r.2.mem ((c.tc : Thread Cert.RefGpIdeal.nD Cert.RefGpIdeal.τ).loc Cert.RefGpIdeal.main_arg2) = m ((c.tc : Thread Cert.RefGpIdeal.nD Cert.RefGpIdeal.τ).loc Cert.RefGpIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3)
      ∧ r.2.mem ((c.tc : Thread Cert.RefAdamUpIdeal.nD Cert.RefAdamUpIdeal.τ).loc Cert.RefAdamUpIdeal.main_arg4) = m ((c.tc : Thread Cert.RefAdamUpIdeal.nD Cert.RefAdamUpIdeal.τ).loc Cert.RefAdamUpIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_RefAdamProjIdeal [hRefAdamProjIdeal : Cert.RefAdamProjIdeal.Facts] : Prop :=
  ∀ (m : (ℓ : Loc Cert.RefAdamProjIdeal.nD Cert.RefAdamProjIdeal.τ Cert.RefAdamProjIdeal.sig) → Buf (Elt Ideal) ℓ) (g : Dev Cert.RefAdamProjIdeal.nD → PrngReg), Pre_RefAdamProjIdeal m →
    θ_run (Cert.RefAdamProjIdeal.defs (F := Ideal)) (onTc (τ := Cert.RefAdamProjIdeal.τ) (Cert.RefAdamProjIdeal.main (F := Ideal))) ⟨m, fun _ => 0, g⟩ (fun r => (∀ c : Dev Cert.RefAdamProjIdeal.nD,
      r.2.mem ((c.tc : Thread Cert.RefAdamProjIdeal.nD Cert.RefAdamProjIdeal.τ).loc Cert.RefAdamProjIdeal.main_arg0) = m ((c.tc : Thread Cert.RefAdamProjIdeal.nD Cert.RefAdamProjIdeal.τ).loc Cert.RefAdamProjIdeal.main_arg0)
      ∧ r.2.mem ((c.tc : Thread Cert.RefAdamProjIdeal.nD Cert.RefAdamProjIdeal.τ).loc Cert.RefAdamProjIdeal.main_arg1) = m ((c.tc : Thread Cert.RefAdamProjIdeal.nD Cert.RefAdamProjIdeal.τ).loc Cert.RefAdamProjIdeal.main_arg1)
      ∧ r.2.mem ((c.tc : Thread Cert.RefAdamProjIdeal.nD Cert.RefAdamProjIdeal.τ).loc Cert.RefAdamProjIdeal.main_arg2) = m ((c.tc : Thread Cert.RefAdamProjIdeal.nD Cert.RefAdamProjIdeal.τ).loc Cert.RefAdamProjIdeal.main_arg2)
      ∧ r.2.mem ((c.tc : Thread Cert.RefAdamProjIdeal.nD Cert.RefAdamProjIdeal.τ).loc Cert.RefAdamProjIdeal.main_arg3) = m ((c.tc : Thread Cert.RefAdamProjIdeal.nD Cert.RefAdamProjIdeal.τ).loc Cert.RefAdamProjIdeal.main_arg3)
      ∧ r.2.mem ((c.tc : Thread Cert.RefAdamProjIdeal.nD Cert.RefAdamProjIdeal.τ).loc Cert.RefAdamProjIdeal.main_arg4) = m ((c.tc : Thread Cert.RefAdamProjIdeal.nD Cert.RefAdamProjIdeal.τ).loc Cert.RefAdamProjIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

def quiescent_RefPoolIdeal [hRefPoolIdeal : Cert.RefPoolIdeal.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2)
      ∧ r.2.mem ((c.tc : Thread Cert.RefPoolIdeal.nD Cert.RefPoolIdeal.τ).loc Cert.RefPoolIdeal.main_arg3) = m ((c.tc : Thread Cert.RefPoolIdeal.nD Cert.RefPoolIdeal.τ).loc Cert.RefPoolIdeal.main_arg3)
      ∧ r.2.mem ((c.tc : Thread Cert.RefPoolIdeal.nD Cert.RefPoolIdeal.τ).loc Cert.RefPoolIdeal.main_arg4) = m ((c.tc : Thread Cert.RefPoolIdeal.nD Cert.RefPoolIdeal.τ).loc Cert.RefPoolIdeal.main_arg4)
      ∧ r.2.mem ((c.tc : Thread Cert.RefPoolIdeal.nD Cert.RefPoolIdeal.τ).loc Cert.RefPoolIdeal.main_arg5) = m ((c.tc : Thread Cert.RefPoolIdeal.nD Cert.RefPoolIdeal.τ).loc Cert.RefPoolIdeal.main_arg5)
      ∧ r.2.mem ((c.tc : Thread Cert.RefPoolIdeal.nD Cert.RefPoolIdeal.τ).loc Cert.RefPoolIdeal.main_arg6) = m ((c.tc : Thread Cert.RefPoolIdeal.nD Cert.RefPoolIdeal.τ).loc Cert.RefPoolIdeal.main_arg6)
      ∧ r.2.mem ((c.tc : Thread Cert.RefPoolIdeal.nD Cert.RefPoolIdeal.τ).loc Cert.RefPoolIdeal.main_arg7) = m ((c.tc : Thread Cert.RefPoolIdeal.nD Cert.RefPoolIdeal.τ).loc Cert.RefPoolIdeal.main_arg7)
      ∧ r.2.mem ((c.tc : Thread Cert.RefPoolIdeal.nD Cert.RefPoolIdeal.τ).loc Cert.RefPoolIdeal.main_arg8) = m ((c.tc : Thread Cert.RefPoolIdeal.nD Cert.RefPoolIdeal.τ).loc Cert.RefPoolIdeal.main_arg8)
      ∧ r.2.mem ((c.tc : Thread Cert.RefPoolIdeal.nD Cert.RefPoolIdeal.τ).loc Cert.RefPoolIdeal.main_arg9) = m ((c.tc : Thread Cert.RefPoolIdeal.nD Cert.RefPoolIdeal.τ).loc Cert.RefPoolIdeal.main_arg9)
      ∧ r.2.mem ((c.tc : Thread Cert.RefPoolIdeal.nD Cert.RefPoolIdeal.τ).loc Cert.RefPoolIdeal.main_arg10) = m ((c.tc : Thread Cert.RefPoolIdeal.nD Cert.RefPoolIdeal.τ).loc Cert.RefPoolIdeal.main_arg10))
      ∧ r.2.sem = fun _ => 0)

def quiescent_PoolFirst [hPoolFirst : Cert.PoolFirst.Facts] : Prop :=
  ∀ (m : (ℓ : Loc Cert.PoolFirst.nD Cert.PoolFirst.τ Cert.PoolFirst.sig) → Buf (Elt Bits) ℓ) (g : Dev Cert.PoolFirst.nD → PrngReg), Pre_PoolFirst m →
    θ_run (Cert.PoolFirst.defs (F := Bits)) (onTc (τ := Cert.PoolFirst.τ) (Cert.PoolFirst.main (F := Bits))) ⟨m, fun _ => 0, g⟩ (fun r => (∀ c : Dev Cert.PoolFirst.nD,
      r.2.mem ((c.tc : Thread Cert.PoolFirst.nD Cert.PoolFirst.τ).loc Cert.PoolFirst.main_arg0) = m ((c.tc : Thread Cert.PoolFirst.nD Cert.PoolFirst.τ).loc Cert.PoolFirst.main_arg0)
      ∧ r.2.mem ((c.tc : Thread Cert.PoolFirst.nD Cert.PoolFirst.τ).loc Cert.PoolFirst.main_arg1) = m ((c.tc : Thread Cert.PoolFirst.nD Cert.PoolFirst.τ).loc Cert.PoolFirst.main_arg1)
      ∧ r.2.mem ((c.tc : Thread Cert.PoolFirst.nD Cert.PoolFirst.τ).loc Cert.PoolFirst.main_arg2) = m ((c.tc : Thread Cert.PoolFirst.nD Cert.PoolFirst.τ).loc Cert.PoolFirst.main_arg2)
      ∧ r.2.mem ((c.tc : Thread Cert.PoolFirst.nD Cert.PoolFirst.τ).loc Cert.PoolFirst.main_arg3) = m ((c.tc : Thread Cert.PoolFirst.nD Cert.PoolFirst.τ).loc Cert.PoolFirst.main_arg3)
      ∧ r.2.mem ((c.tc : Thread Cert.PoolFirst.nD Cert.PoolFirst.τ).loc Cert.PoolFirst.main_arg4) = m ((c.tc : Thread Cert.PoolFirst.nD Cert.PoolFirst.τ).loc Cert.PoolFirst.main_arg4)
      ∧ r.2.mem ((c.tc : Thread Cert.PoolFirst.nD Cert.PoolFirst.τ).loc Cert.PoolFirst.main_arg5) = m ((c.tc : Thread Cert.PoolFirst.nD Cert.PoolFirst.τ).loc Cert.PoolFirst.main_arg5)
      ∧ r.2.mem ((c.tc : Thread Cert.PoolFirst.nD Cert.PoolFirst.τ).loc Cert.PoolFirst.main_arg6) = m ((c.tc : Thread Cert.PoolFirst.nD Cert.PoolFirst.τ).loc Cert.PoolFirst.main_arg6)
      ∧ r.2.mem ((c.tc : Thread Cert.PoolFirst.nD Cert.PoolFirst.τ).loc Cert.PoolFirst.main_arg7) = m ((c.tc : Thread Cert.PoolFirst.nD Cert.PoolFirst.τ).loc Cert.PoolFirst.main_arg7))
      ∧ r.2.sem = fun _ => 0)

def quiescent_PoolFirstIdeal [hPoolFirstIdeal : Cert.PoolFirstIdeal.Facts] : Prop :=
  ∀ (m : (ℓ : Loc Cert.PoolFirstIdeal.nD Cert.PoolFirstIdeal.τ Cert.PoolFirstIdeal.sig) → Buf (Elt Ideal) ℓ) (g : Dev Cert.PoolFirstIdeal.nD → PrngReg), Pre_PoolFirstIdeal m →
    θ_run (Cert.PoolFirstIdeal.defs (F := Ideal)) (onTc (τ := Cert.PoolFirstIdeal.τ) (Cert.PoolFirstIdeal.main (F := Ideal))) ⟨m, fun _ => 0, g⟩ (fun r => (∀ c : Dev Cert.PoolFirstIdeal.nD,
      r.2.mem ((c.tc : Thread Cert.PoolFirstIdeal.nD Cert.PoolFirstIdeal.τ).loc Cert.PoolFirstIdeal.main_arg0) = m ((c.tc : Thread Cert.PoolFirstIdeal.nD Cert.PoolFirstIdeal.τ).loc Cert.PoolFirstIdeal.main_arg0)
      ∧ r.2.mem ((c.tc : Thread Cert.PoolFirstIdeal.nD Cert.PoolFirstIdeal.τ).loc Cert.PoolFirstIdeal.main_arg1) = m ((c.tc : Thread Cert.PoolFirstIdeal.nD Cert.PoolFirstIdeal.τ).loc Cert.PoolFirstIdeal.main_arg1)
      ∧ r.2.mem ((c.tc : Thread Cert.PoolFirstIdeal.nD Cert.PoolFirstIdeal.τ).loc Cert.PoolFirstIdeal.main_arg2) = m ((c.tc : Thread Cert.PoolFirstIdeal.nD Cert.PoolFirstIdeal.τ).loc Cert.PoolFirstIdeal.main_arg2)
      ∧ r.2.mem ((c.tc : Thread Cert.PoolFirstIdeal.nD Cert.PoolFirstIdeal.τ).loc Cert.PoolFirstIdeal.main_arg3) = m ((c.tc : Thread Cert.PoolFirstIdeal.nD Cert.PoolFirstIdeal.τ).loc Cert.PoolFirstIdeal.main_arg3)
      ∧ r.2.mem ((c.tc : Thread Cert.PoolFirstIdeal.nD Cert.PoolFirstIdeal.τ).loc Cert.PoolFirstIdeal.main_arg4) = m ((c.tc : Thread Cert.PoolFirstIdeal.nD Cert.PoolFirstIdeal.τ).loc Cert.PoolFirstIdeal.main_arg4)
      ∧ r.2.mem ((c.tc : Thread Cert.PoolFirstIdeal.nD Cert.PoolFirstIdeal.τ).loc Cert.PoolFirstIdeal.main_arg5) = m ((c.tc : Thread Cert.PoolFirstIdeal.nD Cert.PoolFirstIdeal.τ).loc Cert.PoolFirstIdeal.main_arg5)
      ∧ r.2.mem ((c.tc : Thread Cert.PoolFirstIdeal.nD Cert.PoolFirstIdeal.τ).loc Cert.PoolFirstIdeal.main_arg6) = m ((c.tc : Thread Cert.PoolFirstIdeal.nD Cert.PoolFirstIdeal.τ).loc Cert.PoolFirstIdeal.main_arg6)
      ∧ r.2.mem ((c.tc : Thread Cert.PoolFirstIdeal.nD Cert.PoolFirstIdeal.τ).loc Cert.PoolFirstIdeal.main_arg7) = m ((c.tc : Thread Cert.PoolFirstIdeal.nD Cert.PoolFirstIdeal.τ).loc Cert.PoolFirstIdeal.main_arg7))
      ∧ r.2.sem = fun _ => 0)

def quiescent_RefPoolFirstIdeal [hRefPoolFirstIdeal : Cert.RefPoolFirstIdeal.Facts] : Prop :=
  ∀ (m : (ℓ : Loc Cert.RefPoolFirstIdeal.nD Cert.RefPoolFirstIdeal.τ Cert.RefPoolFirstIdeal.sig) → Buf (Elt Ideal) ℓ) (g : Dev Cert.RefPoolFirstIdeal.nD → PrngReg), Pre_RefPoolFirstIdeal m →
    θ_run (Cert.RefPoolFirstIdeal.defs (F := Ideal)) (onTc (τ := Cert.RefPoolFirstIdeal.τ) (Cert.RefPoolFirstIdeal.main (F := Ideal))) ⟨m, fun _ => 0, g⟩ (fun r => (∀ c : Dev Cert.RefPoolFirstIdeal.nD,
      r.2.mem ((c.tc : Thread Cert.RefPoolFirstIdeal.nD Cert.RefPoolFirstIdeal.τ).loc Cert.RefPoolFirstIdeal.main_arg0) = m ((c.tc : Thread Cert.RefPoolFirstIdeal.nD Cert.RefPoolFirstIdeal.τ).loc Cert.RefPoolFirstIdeal.main_arg0)
      ∧ r.2.mem ((c.tc : Thread Cert.RefPoolFirstIdeal.nD Cert.RefPoolFirstIdeal.τ).loc Cert.RefPoolFirstIdeal.main_arg1) = m ((c.tc : Thread Cert.RefPoolFirstIdeal.nD Cert.RefPoolFirstIdeal.τ).loc Cert.RefPoolFirstIdeal.main_arg1)
      ∧ r.2.mem ((c.tc : Thread Cert.RefPoolFirstIdeal.nD Cert.RefPoolFirstIdeal.τ).loc Cert.RefPoolFirstIdeal.main_arg2) = m ((c.tc : Thread Cert.RefPoolFirstIdeal.nD Cert.RefPoolFirstIdeal.τ).loc Cert.RefPoolFirstIdeal.main_arg2)
      ∧ r.2.mem ((c.tc : Thread Cert.RefPoolFirstIdeal.nD Cert.RefPoolFirstIdeal.τ).loc Cert.RefPoolFirstIdeal.main_arg3) = m ((c.tc : Thread Cert.RefPoolFirstIdeal.nD Cert.RefPoolFirstIdeal.τ).loc Cert.RefPoolFirstIdeal.main_arg3)
      ∧ r.2.mem ((c.tc : Thread Cert.RefPoolFirstIdeal.nD Cert.RefPoolFirstIdeal.τ).loc Cert.RefPoolFirstIdeal.main_arg4) = m ((c.tc : Thread Cert.RefPoolFirstIdeal.nD Cert.RefPoolFirstIdeal.τ).loc Cert.RefPoolFirstIdeal.main_arg4)
      ∧ r.2.mem ((c.tc : Thread Cert.RefPoolFirstIdeal.nD Cert.RefPoolFirstIdeal.τ).loc Cert.RefPoolFirstIdeal.main_arg5) = m ((c.tc : Thread Cert.RefPoolFirstIdeal.nD Cert.RefPoolFirstIdeal.τ).loc Cert.RefPoolFirstIdeal.main_arg5)
      ∧ r.2.mem ((c.tc : Thread Cert.RefPoolFirstIdeal.nD Cert.RefPoolFirstIdeal.τ).loc Cert.RefPoolFirstIdeal.main_arg6) = m ((c.tc : Thread Cert.RefPoolFirstIdeal.nD Cert.RefPoolFirstIdeal.τ).loc Cert.RefPoolFirstIdeal.main_arg6)
      ∧ r.2.mem ((c.tc : Thread Cert.RefPoolFirstIdeal.nD Cert.RefPoolFirstIdeal.τ).loc Cert.RefPoolFirstIdeal.main_arg7) = m ((c.tc : Thread Cert.RefPoolFirstIdeal.nD Cert.RefPoolFirstIdeal.τ).loc Cert.RefPoolFirstIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)) (v6 : (c : Dev Cert.KernelIdeal.nD) → Buf (Elt Ideal) ((c.tc : Thread Cert.KernelIdeal.nD Cert.KernelIdeal.τ).loc Cert.KernelIdeal.main_v10_6)) (v7 : (c : Dev Cert.KernelIdeal.nD) → Buf (Elt Ideal) ((c.tc : Thread Cert.KernelIdeal.nD Cert.KernelIdeal.τ).loc Cert.KernelIdeal.main_v10_7)) (v8 : (c : Dev Cert.KernelIdeal.nD) → Buf (Elt Ideal) ((c.tc : Thread Cert.KernelIdeal.nD Cert.KernelIdeal.τ).loc Cert.KernelIdeal.main_v10_8)) (v9 : (c : Dev Cert.KernelIdeal.nD) → Buf (Elt Ideal) ((c.tc : Thread Cert.KernelIdeal.nD Cert.KernelIdeal.τ).loc Cert.KernelIdeal.main_v10_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_v10_6) = v6 c
          ∧ r.2.mem ((c.tc : Thread Cert.KernelIdeal.nD Cert.KernelIdeal.τ).loc Cert.KernelIdeal.main_v10_7) = v7 c
          ∧ r.2.mem ((c.tc : Thread Cert.KernelIdeal.nD Cert.KernelIdeal.τ).loc Cert.KernelIdeal.main_v10_8) = v8 c
          ∧ r.2.mem ((c.tc : Thread Cert.KernelIdeal.nD Cert.KernelIdeal.τ).loc Cert.KernelIdeal.main_v10_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_v148) = v6 c
          ∧ r.2.mem ((c.tc : Thread Cert.ReferenceIdeal.nD Cert.ReferenceIdeal.τ).loc Cert.ReferenceIdeal.main_v150) = v7 c
          ∧ r.2.mem ((c.tc : Thread Cert.ReferenceIdeal.nD Cert.ReferenceIdeal.τ).loc Cert.ReferenceIdeal.main_v151) = v8 c
          ∧ r.2.mem ((c.tc : Thread Cert.ReferenceIdeal.nD Cert.ReferenceIdeal.τ).loc Cert.ReferenceIdeal.main_v152) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InBwd_InBwdIdeal : Prop :=
  True

def algebraic_InBwdIdeal_RefInBwdIdeal [hInBwdIdeal : Cert.InBwdIdeal.Facts] [hRefInBwdIdeal : Cert.RefInBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.RefInBwdIdeal.nD Cert.RefInBwdIdeal.τ Cert.RefInBwdIdeal.sig) → Buf (Elt Ideal) ℓ) (g' : Dev Cert.RefInBwdIdeal.nD → PrngReg), Pre_InBwdIdeal m →
    (∀ c : Dev Cert.InBwdIdeal.nD,
      m' ((c.tc : Thread Cert.RefInBwdIdeal.nD Cert.RefInBwdIdeal.τ).loc Cert.RefInBwdIdeal.main_arg0) = m ((c.tc : Thread Cert.InBwdIdeal.nD Cert.InBwdIdeal.τ).loc Cert.InBwdIdeal.main_arg0)
      ∧ m' ((c.tc : Thread Cert.RefInBwdIdeal.nD Cert.RefInBwdIdeal.τ).loc Cert.RefInBwdIdeal.main_arg1) = m ((c.tc : Thread Cert.InBwdIdeal.nD Cert.InBwdIdeal.τ).loc Cert.InBwdIdeal.main_arg1)
      ∧ m' ((c.tc : Thread Cert.RefInBwdIdeal.nD Cert.RefInBwdIdeal.τ).loc Cert.RefInBwdIdeal.main_arg2) = m ((c.tc : Thread Cert.InBwdIdeal.nD Cert.InBwdIdeal.τ).loc Cert.InBwdIdeal.main_arg2)
      ∧ m' ((c.tc : Thread Cert.RefInBwdIdeal.nD Cert.RefInBwdIdeal.τ).loc Cert.RefInBwdIdeal.main_arg3) = m ((c.tc : Thread Cert.InBwdIdeal.nD Cert.InBwdIdeal.τ).loc Cert.InBwdIdeal.main_arg3)
      ∧ m' ((c.tc : Thread Cert.RefInBwdIdeal.nD Cert.RefInBwdIdeal.τ).loc Cert.RefInBwdIdeal.main_arg4) = m ((c.tc : Thread Cert.InBwdIdeal.nD Cert.InBwdIdeal.τ).loc Cert.InBwdIdeal.main_arg4)
      ∧ m' ((c.tc : Thread Cert.RefInBwdIdeal.nD Cert.RefInBwdIdeal.τ).loc Cert.RefInBwdIdeal.main_arg5) = m ((c.tc : Thread Cert.InBwdIdeal.nD Cert.InBwdIdeal.τ).loc Cert.InBwdIdeal.main_arg5)
      ∧ m' ((c.tc : Thread Cert.RefInBwdIdeal.nD Cert.RefInBwdIdeal.τ).loc Cert.RefInBwdIdeal.main_arg6) = m ((c.tc : Thread Cert.InBwdIdeal.nD Cert.InBwdIdeal.τ).loc Cert.InBwdIdeal.main_arg6)
      ∧ m' ((c.tc : Thread Cert.RefInBwdIdeal.nD Cert.RefInBwdIdeal.τ).loc Cert.RefInBwdIdeal.main_arg7) = m ((c.tc : Thread Cert.InBwdIdeal.nD Cert.InBwdIdeal.τ).loc Cert.InBwdIdeal.main_arg7)
      ∧ m' ((c.tc : Thread Cert.RefInBwdIdeal.nD Cert.RefInBwdIdeal.τ).loc Cert.RefInBwdIdeal.main_arg8) = m ((c.tc : Thread Cert.InBwdIdeal.nD Cert.InBwdIdeal.τ).loc Cert.InBwdIdeal.main_arg8)) →
    ∃ (v0 : (c : Dev Cert.InBwdIdeal.nD) → Buf (Elt Ideal) ((c.tc : Thread Cert.InBwdIdeal.nD Cert.InBwdIdeal.τ).loc Cert.InBwdIdeal.main_v2_0)) (v1 : (c : Dev Cert.InBwdIdeal.nD) → Buf (Elt Ideal) ((c.tc : Thread Cert.InBwdIdeal.nD Cert.InBwdIdeal.τ).loc Cert.InBwdIdeal.main_v2_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2_0) = v0 c
          ∧ r.2.mem ((c.tc : Thread Cert.InBwdIdeal.nD Cert.InBwdIdeal.τ).loc Cert.InBwdIdeal.main_v2_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ θ_run (Cert.RefInBwdIdeal.defs (F := Ideal)) (onTc (τ := Cert.RefInBwdIdeal.τ) (Cert.RefInBwdIdeal.main (F := Ideal))) ⟨m', fun _ => 0, g'⟩ (fun r => ∀ c : Dev Cert.RefInBwdIdeal.nD,
          r.2.mem ((c.tc : Thread Cert.RefInBwdIdeal.nD Cert.RefInBwdIdeal.τ).loc Cert.RefInBwdIdeal.main_v51) = v0 c
          ∧ r.2.mem ((c.tc : Thread Cert.RefInBwdIdeal.nD Cert.RefInBwdIdeal.τ).loc Cert.RefInBwdIdeal.main_v34) = v1 c
          ∧ r.2.mem ((c.tc : Thread Cert.RefInBwdIdeal.nD Cert.RefInBwdIdeal.τ).loc Cert.RefInBwdIdeal.main_arg0) = m' ((c.tc : Thread Cert.RefInBwdIdeal.nD Cert.RefInBwdIdeal.τ).loc Cert.RefInBwdIdeal.main_arg0)
          ∧ r.2.mem ((c.tc : Thread Cert.RefInBwdIdeal.nD Cert.RefInBwdIdeal.τ).loc Cert.RefInBwdIdeal.main_arg1) = m' ((c.tc : Thread Cert.RefInBwdIdeal.nD Cert.RefInBwdIdeal.τ).loc Cert.RefInBwdIdeal.main_arg1)
          ∧ r.2.mem ((c.tc : Thread Cert.RefInBwdIdeal.nD Cert.RefInBwdIdeal.τ).loc Cert.RefInBwdIdeal.main_arg2) = m' ((c.tc : Thread Cert.RefInBwdIdeal.nD Cert.RefInBwdIdeal.τ).loc Cert.RefInBwdIdeal.main_arg2)
          ∧ r.2.mem ((c.tc : Thread Cert.RefInBwdIdeal.nD Cert.RefInBwdIdeal.τ).loc Cert.RefInBwdIdeal.main_arg3) = m' ((c.tc : Thread Cert.RefInBwdIdeal.nD Cert.RefInBwdIdeal.τ).loc Cert.RefInBwdIdeal.main_arg3)
          ∧ r.2.mem ((c.tc : Thread Cert.RefInBwdIdeal.nD Cert.RefInBwdIdeal.τ).loc Cert.RefInBwdIdeal.main_arg4) = m' ((c.tc : Thread Cert.RefInBwdIdeal.nD Cert.RefInBwdIdeal.τ).loc Cert.RefInBwdIdeal.main_arg4)
          ∧ r.2.mem ((c.tc : Thread Cert.RefInBwdIdeal.nD Cert.RefInBwdIdeal.τ).loc Cert.RefInBwdIdeal.main_arg5) = m' ((c.tc : Thread Cert.RefInBwdIdeal.nD Cert.RefInBwdIdeal.τ).loc Cert.RefInBwdIdeal.main_arg5)
          ∧ r.2.mem ((c.tc : Thread Cert.RefInBwdIdeal.nD Cert.RefInBwdIdeal.τ).loc Cert.RefInBwdIdeal.main_arg6) = m' ((c.tc : Thread Cert.RefInBwdIdeal.nD Cert.RefInBwdIdeal.τ).loc Cert.RefInBwdIdeal.main_arg6)
          ∧ r.2.mem ((c.tc : Thread Cert.RefInBwdIdeal.nD Cert.RefInBwdIdeal.τ).loc Cert.RefInBwdIdeal.main_arg7) = m' ((c.tc : Thread Cert.RefInBwdIdeal.nD Cert.RefInBwdIdeal.τ).loc Cert.RefInBwdIdeal.main_arg7)
          ∧ r.2.mem ((c.tc : Thread Cert.RefInBwdIdeal.nD Cert.RefInBwdIdeal.τ).loc Cert.RefInBwdIdeal.main_arg8) = m' ((c.tc : Thread Cert.RefInBwdIdeal.nD Cert.RefInBwdIdeal.τ).loc Cert.RefInBwdIdeal.main_arg8))

def preserves_TnWIn_TnWInIdeal : Prop :=
  True

def algebraic_TnWInIdeal_RefTnWInIdeal [hTnWInIdeal : Cert.TnWInIdeal.Facts] [hRefTnWInIdeal : Cert.RefTnWInIdeal.Facts] : Prop :=
  ∀ (m : (ℓ : Loc Cert.TnWInIdeal.nD Cert.TnWInIdeal.τ Cert.TnWInIdeal.sig) → Buf (Elt Ideal) ℓ) (g : Dev Cert.TnWInIdeal.nD → PrngReg)
    (m' : (ℓ : Loc Cert.RefTnWInIdeal.nD Cert.RefTnWInIdeal.τ Cert.RefTnWInIdeal.sig) → Buf (Elt Ideal) ℓ) (g' : Dev Cert.RefTnWInIdeal.nD → PrngReg), Pre_TnWInIdeal m →
    (∀ c : Dev Cert.TnWInIdeal.nD,
      m' ((c.tc : Thread Cert.RefTnWInIdeal.nD Cert.RefTnWInIdeal.τ).loc Cert.RefTnWInIdeal.main_arg0) = m ((c.tc : Thread Cert.TnWInIdeal.nD Cert.TnWInIdeal.τ).loc Cert.TnWInIdeal.main_arg0)
      ∧ m' ((c.tc : Thread Cert.RefTnWInIdeal.nD Cert.RefTnWInIdeal.τ).loc Cert.RefTnWInIdeal.main_arg1) = m ((c.tc : Thread Cert.TnWInIdeal.nD Cert.TnWInIdeal.τ).loc Cert.TnWInIdeal.main_arg1)
      ∧ m' ((c.tc : Thread Cert.RefTnWInIdeal.nD Cert.RefTnWInIdeal.τ).loc Cert.RefTnWInIdeal.main_arg2) = m ((c.tc : Thread Cert.TnWInIdeal.nD Cert.TnWInIdeal.τ).loc Cert.TnWInIdeal.main_arg2)
      ∧ m' ((c.tc : Thread Cert.RefTnWInIdeal.nD Cert.RefTnWInIdeal.τ).loc Cert.RefTnWInIdeal.main_arg3) = m ((c.tc : Thread Cert.TnWInIdeal.nD Cert.TnWInIdeal.τ).loc Cert.TnWInIdeal.main_arg3)
      ∧ m' ((c.tc : Thread Cert.RefTnWInIdeal.nD Cert.RefTnWInIdeal.τ).loc Cert.RefTnWInIdeal.main_arg4) = m ((c.tc : Thread Cert.TnWInIdeal.nD Cert.TnWInIdeal.τ).loc Cert.TnWInIdeal.main_arg4)) →
    ∃ (v0 : (c : Dev Cert.TnWInIdeal.nD) → Buf (Elt Ideal) ((c.tc : Thread Cert.TnWInIdeal.nD Cert.TnWInIdeal.τ).loc Cert.TnWInIdeal.main_v0)),
      θ_run (Cert.TnWInIdeal.defs (F := Ideal)) (onTc (τ := Cert.TnWInIdeal.τ) (Cert.TnWInIdeal.main (F := Ideal))) ⟨m, fun _ => 0, g⟩ (fun r => ∀ c : Dev Cert.TnWInIdeal.nD,
          r.2.mem ((c.tc : Thread Cert.TnWInIdeal.nD Cert.TnWInIdeal.τ).loc Cert.TnWInIdeal.main_v0) = v0 c
          ∧ r.2.mem ((c.tc : Thread Cert.TnWInIdeal.nD Cert.TnWInIdeal.τ).loc Cert.TnWInIdeal.main_arg0) = m ((c.tc : Thread Cert.TnWInIdeal.nD Cert.TnWInIdeal.τ).loc Cert.TnWInIdeal.main_arg0)
          ∧ r.2.mem ((c.tc : Thread Cert.TnWInIdeal.nD Cert.TnWInIdeal.τ).loc Cert.TnWInIdeal.main_arg1) = m ((c.tc : Thread Cert.TnWInIdeal.nD Cert.TnWInIdeal.τ).loc Cert.TnWInIdeal.main_arg1)
          ∧ r.2.mem ((c.tc : Thread Cert.TnWInIdeal.nD Cert.TnWInIdeal.τ).loc Cert.TnWInIdeal.main_arg2) = m ((c.tc : Thread Cert.TnWInIdeal.nD Cert.TnWInIdeal.τ).loc Cert.TnWInIdeal.main_arg2)
          ∧ r.2.mem ((c.tc : Thread Cert.TnWInIdeal.nD Cert.TnWInIdeal.τ).loc Cert.TnWInIdeal.main_arg3) = m ((c.tc : Thread Cert.TnWInIdeal.nD Cert.TnWInIdeal.τ).loc Cert.TnWInIdeal.main_arg3)
          ∧ r.2.mem ((c.tc : Thread Cert.TnWInIdeal.nD Cert.TnWInIdeal.τ).loc Cert.TnWInIdeal.main_arg4) = m ((c.tc : Thread Cert.TnWInIdeal.nD Cert.TnWInIdeal.τ).loc Cert.TnWInIdeal.main_arg4))
      ∧ θ_run (Cert.RefTnWInIdeal.defs (F := Ideal)) (onTc (τ := Cert.RefTnWInIdeal.τ) (Cert.RefTnWInIdeal.main (F := Ideal))) ⟨m', fun _ => 0, g'⟩ (fun r => ∀ c : Dev Cert.RefTnWInIdeal.nD,
          r.2.mem ((c.tc : Thread Cert.RefTnWInIdeal.nD Cert.RefTnWInIdeal.τ).loc Cert.RefTnWInIdeal.main_v22) = v0 c
          ∧ r.2.mem ((c.tc : Thread Cert.RefTnWInIdeal.nD Cert.RefTnWInIdeal.τ).loc Cert.RefTnWInIdeal.main_arg0) = m' ((c.tc : Thread Cert.RefTnWInIdeal.nD Cert.RefTnWInIdeal.τ).loc Cert.RefTnWInIdeal.main_arg0)
          ∧ r.2.mem ((c.tc : Thread Cert.RefTnWInIdeal.nD Cert.RefTnWInIdeal.τ).loc Cert.RefTnWInIdeal.main_arg1) = m' ((c.tc : Thread Cert.RefTnWInIdeal.nD Cert.RefTnWInIdeal.τ).loc Cert.RefTnWInIdeal.main_arg1)
          ∧ r.2.mem ((c.tc : Thread Cert.RefTnWInIdeal.nD Cert.RefTnWInIdeal.τ).loc Cert.RefTnWInIdeal.main_arg2) = m' ((c.tc : Thread Cert.RefTnWInIdeal.nD Cert.RefTnWInIdeal.τ).loc Cert.RefTnWInIdeal.main_arg2)
          ∧ r.2.mem ((c.tc : Thread Cert.RefTnWInIdeal.nD Cert.RefTnWInIdeal.τ).loc Cert.RefTnWInIdeal.main_arg3) = m' ((c.tc : Thread Cert.RefTnWInIdeal.nD Cert.RefTnWInIdeal.τ).loc Cert.RefTnWInIdeal.main_arg3)
          ∧ r.2.mem ((c.tc : Thread Cert.RefTnWInIdeal.nD Cert.RefTnWInIdeal.τ).loc Cert.RefTnWInIdeal.main_arg4) = m' ((c.tc : Thread Cert.RefTnWInIdeal.nD Cert.RefTnWInIdeal.τ).loc Cert.RefTnWInIdeal.main_arg4))

def preserves_FwdIn_FwdInIdeal : Prop :=
  True

def algebraic_FwdInIdeal_RefFwdInIdeal [hFwdInIdeal : Cert.FwdInIdeal.Facts] [hRefFwdInIdeal : Cert.RefFwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.RefFwdInIdeal.nD Cert.RefFwdInIdeal.τ Cert.RefFwdInIdeal.sig) → Buf (Elt Ideal) ℓ) (g' : Dev Cert.RefFwdInIdeal.nD → PrngReg), Pre_FwdInIdeal m →
    (∀ c : Dev Cert.FwdInIdeal.nD,
      m' ((c.tc : Thread Cert.RefFwdInIdeal.nD Cert.RefFwdInIdeal.τ).loc Cert.RefFwdInIdeal.main_arg0) = m ((c.tc : Thread Cert.FwdInIdeal.nD Cert.FwdInIdeal.τ).loc Cert.FwdInIdeal.main_arg0)
      ∧ m' ((c.tc : Thread Cert.RefFwdInIdeal.nD Cert.RefFwdInIdeal.τ).loc Cert.RefFwdInIdeal.main_arg1) = m ((c.tc : Thread Cert.FwdInIdeal.nD Cert.FwdInIdeal.τ).loc Cert.FwdInIdeal.main_arg1)
      ∧ m' ((c.tc : Thread Cert.RefFwdInIdeal.nD Cert.RefFwdInIdeal.τ).loc Cert.RefFwdInIdeal.main_arg2) = m ((c.tc : Thread Cert.FwdInIdeal.nD Cert.FwdInIdeal.τ).loc Cert.FwdInIdeal.main_arg2)
      ∧ m' ((c.tc : Thread Cert.RefFwdInIdeal.nD Cert.RefFwdInIdeal.τ).loc Cert.RefFwdInIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v2_0)) (v1 : (c : Dev Cert.FwdInIdeal.nD) → Buf (Elt Ideal) ((c.tc : Thread Cert.FwdInIdeal.nD Cert.FwdInIdeal.τ).loc Cert.FwdInIdeal.main_v2_1)) (v2 : (c : Dev Cert.FwdInIdeal.nD) → Buf (Elt Ideal) ((c.tc : Thread Cert.FwdInIdeal.nD Cert.FwdInIdeal.τ).loc Cert.FwdInIdeal.main_v2_2)) (v3 : (c : Dev Cert.FwdInIdeal.nD) → Buf (Elt Ideal) ((c.tc : Thread Cert.FwdInIdeal.nD Cert.FwdInIdeal.τ).loc Cert.FwdInIdeal.main_v2_3)) (v4 : (c : Dev Cert.FwdInIdeal.nD) → Buf (Elt Ideal) ((c.tc : Thread Cert.FwdInIdeal.nD Cert.FwdInIdeal.τ).loc Cert.FwdInIdeal.main_v2_4)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v2_0) = v0 c
          ∧ r.2.mem ((c.tc : Thread Cert.FwdInIdeal.nD Cert.FwdInIdeal.τ).loc Cert.FwdInIdeal.main_v2_1) = v1 c
          ∧ r.2.mem ((c.tc : Thread Cert.FwdInIdeal.nD Cert.FwdInIdeal.τ).loc Cert.FwdInIdeal.main_v2_2) = v2 c
          ∧ r.2.mem ((c.tc : Thread Cert.FwdInIdeal.nD Cert.FwdInIdeal.τ).loc Cert.FwdInIdeal.main_v2_3) = v3 c
          ∧ r.2.mem ((c.tc : Thread Cert.FwdInIdeal.nD Cert.FwdInIdeal.τ).loc Cert.FwdInIdeal.main_v2_4) = v4 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.RefFwdInIdeal.defs (F := Ideal)) (onTc (τ := Cert.RefFwdInIdeal.τ) (Cert.RefFwdInIdeal.main (F := Ideal))) ⟨m', fun _ => 0, g'⟩ (fun r => ∀ c : Dev Cert.RefFwdInIdeal.nD,
          r.2.mem ((c.tc : Thread Cert.RefFwdInIdeal.nD Cert.RefFwdInIdeal.τ).loc Cert.RefFwdInIdeal.main_v14) = v0 c
          ∧ r.2.mem ((c.tc : Thread Cert.RefFwdInIdeal.nD Cert.RefFwdInIdeal.τ).loc Cert.RefFwdInIdeal.main_v15) = v1 c
          ∧ r.2.mem ((c.tc : Thread Cert.RefFwdInIdeal.nD Cert.RefFwdInIdeal.τ).loc Cert.RefFwdInIdeal.main_v16) = v2 c
          ∧ r.2.mem ((c.tc : Thread Cert.RefFwdInIdeal.nD Cert.RefFwdInIdeal.τ).loc Cert.RefFwdInIdeal.main_v17) = v3 c
          ∧ r.2.mem ((c.tc : Thread Cert.RefFwdInIdeal.nD Cert.RefFwdInIdeal.τ).loc Cert.RefFwdInIdeal.main_v18) = v4 c
          ∧ r.2.mem ((c.tc : Thread Cert.RefFwdInIdeal.nD Cert.RefFwdInIdeal.τ).loc Cert.RefFwdInIdeal.main_arg0) = m' ((c.tc : Thread Cert.RefFwdInIdeal.nD Cert.RefFwdInIdeal.τ).loc Cert.RefFwdInIdeal.main_arg0)
          ∧ r.2.mem ((c.tc : Thread Cert.RefFwdInIdeal.nD Cert.RefFwdInIdeal.τ).loc Cert.RefFwdInIdeal.main_arg1) = m' ((c.tc : Thread Cert.RefFwdInIdeal.nD Cert.RefFwdInIdeal.τ).loc Cert.RefFwdInIdeal.main_arg1)
          ∧ r.2.mem ((c.tc : Thread Cert.RefFwdInIdeal.nD Cert.RefFwdInIdeal.τ).loc Cert.RefFwdInIdeal.main_arg2) = m' ((c.tc : Thread Cert.RefFwdInIdeal.nD Cert.RefFwdInIdeal.τ).loc Cert.RefFwdInIdeal.main_arg2)
          ∧ r.2.mem ((c.tc : Thread Cert.RefFwdInIdeal.nD Cert.RefFwdInIdeal.τ).loc Cert.RefFwdInIdeal.main_arg3) = m' ((c.tc : Thread Cert.RefFwdInIdeal.nD Cert.RefFwdInIdeal.τ).loc Cert.RefFwdInIdeal.main_arg3))

def preserves_GwDown_GwDownIdeal : Prop :=
  True

def algebraic_GwDownIdeal_RefGwDownIdeal [hGwDownIdeal : Cert.GwDownIdeal.Facts] [hRefGwDownIdeal : Cert.RefGwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.RefGwDownIdeal.nD Cert.RefGwDownIdeal.τ Cert.RefGwDownIdeal.sig) → Buf (Elt Ideal) ℓ) (g' : Dev Cert.RefGwDownIdeal.nD → PrngReg), Pre_GwDownIdeal m →
    (∀ c : Dev Cert.GwDownIdeal.nD,
      m' ((c.tc : Thread Cert.RefGwDownIdeal.nD Cert.RefGwDownIdeal.τ).loc Cert.RefGwDownIdeal.main_arg0) = m ((c.tc : Thread Cert.GwDownIdeal.nD Cert.GwDownIdeal.τ).loc Cert.GwDownIdeal.main_arg0)
      ∧ m' ((c.tc : Thread Cert.RefGwDownIdeal.nD Cert.RefGwDownIdeal.τ).loc Cert.RefGwDownIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.RefGwDownIdeal.defs (F := Ideal)) (onTc (τ := Cert.RefGwDownIdeal.τ) (Cert.RefGwDownIdeal.main (F := Ideal))) ⟨m', fun _ => 0, g'⟩ (fun r => ∀ c : Dev Cert.RefGwDownIdeal.nD,
          r.2.mem ((c.tc : Thread Cert.RefGwDownIdeal.nD Cert.RefGwDownIdeal.τ).loc Cert.RefGwDownIdeal.main_v8) = v0 c
          ∧ r.2.mem ((c.tc : Thread Cert.RefGwDownIdeal.nD Cert.RefGwDownIdeal.τ).loc Cert.RefGwDownIdeal.main_arg0) = m' ((c.tc : Thread Cert.RefGwDownIdeal.nD Cert.RefGwDownIdeal.τ).loc Cert.RefGwDownIdeal.main_arg0)
          ∧ r.2.mem ((c.tc : Thread Cert.RefGwDownIdeal.nD Cert.RefGwDownIdeal.τ).loc Cert.RefGwDownIdeal.main_arg1) = m' ((c.tc : Thread Cert.RefGwDownIdeal.nD Cert.RefGwDownIdeal.τ).loc Cert.RefGwDownIdeal.main_arg1))

def preserves_GwUp_GwUpIdeal : Prop :=
  True

def algebraic_GwUpIdeal_RefGwUpIdeal [hGwUpIdeal : Cert.GwUpIdeal.Facts] [hRefGwUpIdeal : Cert.RefGwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.RefGwUpIdeal.nD Cert.RefGwUpIdeal.τ Cert.RefGwUpIdeal.sig) → Buf (Elt Ideal) ℓ) (g' : Dev Cert.RefGwUpIdeal.nD → PrngReg), Pre_GwUpIdeal m →
    (∀ c : Dev Cert.GwUpIdeal.nD,
      m' ((c.tc : Thread Cert.RefGwUpIdeal.nD Cert.RefGwUpIdeal.τ).loc Cert.RefGwUpIdeal.main_arg0) = m ((c.tc : Thread Cert.GwUpIdeal.nD Cert.GwUpIdeal.τ).loc Cert.GwUpIdeal.main_arg0)
      ∧ m' ((c.tc : Thread Cert.RefGwUpIdeal.nD Cert.RefGwUpIdeal.τ).loc Cert.RefGwUpIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.RefGwUpIdeal.defs (F := Ideal)) (onTc (τ := Cert.RefGwUpIdeal.τ) (Cert.RefGwUpIdeal.main (F := Ideal))) ⟨m', fun _ => 0, g'⟩ (fun r => ∀ c : Dev Cert.RefGwUpIdeal.nD,
          r.2.mem ((c.tc : Thread Cert.RefGwUpIdeal.nD Cert.RefGwUpIdeal.τ).loc Cert.RefGwUpIdeal.main_v9) = v0 c
          ∧ r.2.mem ((c.tc : Thread Cert.RefGwUpIdeal.nD Cert.RefGwUpIdeal.τ).loc Cert.RefGwUpIdeal.main_arg0) = m' ((c.tc : Thread Cert.RefGwUpIdeal.nD Cert.RefGwUpIdeal.τ).loc Cert.RefGwUpIdeal.main_arg0)
          ∧ r.2.mem ((c.tc : Thread Cert.RefGwUpIdeal.nD Cert.RefGwUpIdeal.τ).loc Cert.RefGwUpIdeal.main_arg1) = m' ((c.tc : Thread Cert.RefGwUpIdeal.nD Cert.RefGwUpIdeal.τ).loc Cert.RefGwUpIdeal.main_arg1))

def preserves_GwOut_GwOutIdeal : Prop :=
  True

def algebraic_GwOutIdeal_RefGwOutIdeal [hGwOutIdeal : Cert.GwOutIdeal.Facts] [hRefGwOutIdeal : Cert.RefGwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.RefGwOutIdeal.nD Cert.RefGwOutIdeal.τ Cert.RefGwOutIdeal.sig) → Buf (Elt Ideal) ℓ) (g' : Dev Cert.RefGwOutIdeal.nD → PrngReg), Pre_GwOutIdeal m →
    (∀ c : Dev Cert.GwOutIdeal.nD,
      m' ((c.tc : Thread Cert.RefGwOutIdeal.nD Cert.RefGwOutIdeal.τ).loc Cert.RefGwOutIdeal.main_arg0) = m ((c.tc : Thread Cert.GwOutIdeal.nD Cert.GwOutIdeal.τ).loc Cert.GwOutIdeal.main_arg0)
      ∧ m' ((c.tc : Thread Cert.RefGwOutIdeal.nD Cert.RefGwOutIdeal.τ).loc Cert.RefGwOutIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.RefGwOutIdeal.defs (F := Ideal)) (onTc (τ := Cert.RefGwOutIdeal.τ) (Cert.RefGwOutIdeal.main (F := Ideal))) ⟨m', fun _ => 0, g'⟩ (fun r => ∀ c : Dev Cert.RefGwOutIdeal.nD,
          r.2.mem ((c.tc : Thread Cert.RefGwOutIdeal.nD Cert.RefGwOutIdeal.τ).loc Cert.RefGwOutIdeal.main_v8) = v0 c
          ∧ r.2.mem ((c.tc : Thread Cert.RefGwOutIdeal.nD Cert.RefGwOutIdeal.τ).loc Cert.RefGwOutIdeal.main_arg0) = m' ((c.tc : Thread Cert.RefGwOutIdeal.nD Cert.RefGwOutIdeal.τ).loc Cert.RefGwOutIdeal.main_arg0)
          ∧ r.2.mem ((c.tc : Thread Cert.RefGwOutIdeal.nD Cert.RefGwOutIdeal.τ).loc Cert.RefGwOutIdeal.main_arg1) = m' ((c.tc : Thread Cert.RefGwOutIdeal.nD Cert.RefGwOutIdeal.τ).loc Cert.RefGwOutIdeal.main_arg1))

def preserves_Gp_GpIdeal : Prop :=
  True

def algebraic_GpIdeal_RefGpIdeal [hGpIdeal : Cert.GpIdeal.Facts] [hRefGpIdeal : Cert.RefGpIdeal.Facts] : Prop :=
  ∀ (m : (ℓ : Loc Cert.GpIdeal.nD Cert.GpIdeal.τ Cert.GpIdeal.sig) → Buf (Elt Ideal) ℓ) (g : Dev Cert.GpIdeal.nD → PrngReg)
    (m' : (ℓ : Loc Cert.RefGpIdeal.nD Cert.RefGpIdeal.τ Cert.RefGpIdeal.sig) → Buf (Elt Ideal) ℓ) (g' : Dev Cert.RefGpIdeal.nD → PrngReg), Pre_GpIdeal m →
    (∀ c : Dev Cert.GpIdeal.nD,
      m' ((c.tc : Thread Cert.RefGpIdeal.nD Cert.RefGpIdeal.τ).loc Cert.RefGpIdeal.main_arg0) = m ((c.tc : Thread Cert.GpIdeal.nD Cert.GpIdeal.τ).loc Cert.GpIdeal.main_arg0)
      ∧ m' ((c.tc : Thread Cert.RefGpIdeal.nD Cert.RefGpIdeal.τ).loc Cert.RefGpIdeal.main_arg1) = m ((c.tc : Thread Cert.GpIdeal.nD Cert.GpIdeal.τ).loc Cert.GpIdeal.main_arg1)
      ∧ m' ((c.tc : Thread Cert.RefGpIdeal.nD Cert.RefGpIdeal.τ).loc Cert.RefGpIdeal.main_arg2) = m ((c.tc : Thread Cert.GpIdeal.nD Cert.GpIdeal.τ).loc Cert.GpIdeal.main_arg2)) →
    ∃ (v0 : (c : Dev Cert.GpIdeal.nD) → Buf (Elt Ideal) ((c.tc : Thread Cert.GpIdeal.nD Cert.GpIdeal.τ).loc Cert.GpIdeal.main_v0)),
      θ_run (Cert.GpIdeal.defs (F := Ideal)) (onTc (τ := Cert.GpIdeal.τ) (Cert.GpIdeal.main (F := Ideal))) ⟨m, fun _ => 0, g⟩ (fun r => ∀ c : Dev Cert.GpIdeal.nD,
          r.2.mem ((c.tc : Thread Cert.GpIdeal.nD Cert.GpIdeal.τ).loc Cert.GpIdeal.main_v0) = v0 c
          ∧ r.2.mem ((c.tc : Thread Cert.GpIdeal.nD Cert.GpIdeal.τ).loc Cert.GpIdeal.main_arg0) = m ((c.tc : Thread Cert.GpIdeal.nD Cert.GpIdeal.τ).loc Cert.GpIdeal.main_arg0)
          ∧ r.2.mem ((c.tc : Thread Cert.GpIdeal.nD Cert.GpIdeal.τ).loc Cert.GpIdeal.main_arg1) = m ((c.tc : Thread Cert.GpIdeal.nD Cert.GpIdeal.τ).loc Cert.GpIdeal.main_arg1)
          ∧ r.2.mem ((c.tc : Thread Cert.GpIdeal.nD Cert.GpIdeal.τ).loc Cert.GpIdeal.main_arg2) = m ((c.tc : Thread Cert.GpIdeal.nD Cert.GpIdeal.τ).loc Cert.GpIdeal.main_arg2))
      ∧ θ_run (Cert.RefGpIdeal.defs (F := Ideal)) (onTc (τ := Cert.RefGpIdeal.τ) (Cert.RefGpIdeal.main (F := Ideal))) ⟨m', fun _ => 0, g'⟩ (fun r => ∀ c : Dev Cert.RefGpIdeal.nD,
          r.2.mem ((c.tc : Thread Cert.RefGpIdeal.nD Cert.RefGpIdeal.τ).loc Cert.RefGpIdeal.main_v8) = v0 c
          ∧ r.2.mem ((c.tc : Thread Cert.RefGpIdeal.nD Cert.RefGpIdeal.τ).loc Cert.RefGpIdeal.main_arg0) = m' ((c.tc : Thread Cert.RefGpIdeal.nD Cert.RefGpIdeal.τ).loc Cert.RefGpIdeal.main_arg0)
          ∧ r.2.mem ((c.tc : Thread Cert.RefGpIdeal.nD Cert.RefGpIdeal.τ).loc Cert.RefGpIdeal.main_arg1) = m' ((c.tc : Thread Cert.RefGpIdeal.nD Cert.RefGpIdeal.τ).loc Cert.RefGpIdeal.main_arg1)
          ∧ r.2.mem ((c.tc : Thread Cert.RefGpIdeal.nD Cert.RefGpIdeal.τ).loc Cert.RefGpIdeal.main_arg2) = m' ((c.tc : Thread Cert.RefGpIdeal.nD Cert.RefGpIdeal.τ).loc Cert.RefGpIdeal.main_arg2))

def preserves_AdamUp_AdamUpIdeal : Prop :=
  True

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)
      ∧ m' ((c.tc : Thread Cert.RefAdamUpIdeal.nD Cert.RefAdamUpIdeal.τ).loc Cert.RefAdamUpIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v4) = v0 c
          ∧ r.2.mem ((c.tc : Thread Cert.RefAdamUpIdeal.nD Cert.RefAdamUpIdeal.τ).loc Cert.RefAdamUpIdeal.main_v28) = v1 c
          ∧ r.2.mem ((c.tc : Thread Cert.RefAdamUpIdeal.nD Cert.RefAdamUpIdeal.τ).loc Cert.RefAdamUpIdeal.main_v9) = v2 c
          ∧ r.2.mem ((c.tc : Thread Cert.RefAdamUpIdeal.nD Cert.RefAdamUpIdeal.τ).loc Cert.RefAdamUpIdeal.main_v15) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3)
          ∧ r.2.mem ((c.tc : Thread Cert.RefAdamUpIdeal.nD Cert.RefAdamUpIdeal.τ).loc Cert.RefAdamUpIdeal.main_arg4) = m' ((c.tc : Thread Cert.RefAdamUpIdeal.nD Cert.RefAdamUpIdeal.τ).loc Cert.RefAdamUpIdeal.main_arg4))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)
      ∧ m' ((c.tc : Thread Cert.RefAdamDownIdeal.nD Cert.RefAdamDownIdeal.τ).loc Cert.RefAdamDownIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v4) = v0 c
          ∧ r.2.mem ((c.tc : Thread Cert.RefAdamDownIdeal.nD Cert.RefAdamDownIdeal.τ).loc Cert.RefAdamDownIdeal.main_v28) = v1 c
          ∧ r.2.mem ((c.tc : Thread Cert.RefAdamDownIdeal.nD Cert.RefAdamDownIdeal.τ).loc Cert.RefAdamDownIdeal.main_v9) = v2 c
          ∧ r.2.mem ((c.tc : Thread Cert.RefAdamDownIdeal.nD Cert.RefAdamDownIdeal.τ).loc Cert.RefAdamDownIdeal.main_v15) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3)
          ∧ r.2.mem ((c.tc : Thread Cert.RefAdamDownIdeal.nD Cert.RefAdamDownIdeal.τ).loc Cert.RefAdamDownIdeal.main_arg4) = m' ((c.tc : Thread Cert.RefAdamDownIdeal.nD Cert.RefAdamDownIdeal.τ).loc Cert.RefAdamDownIdeal.main_arg4))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)
      ∧ m' ((c.tc : Thread Cert.RefAdamOutIdeal.nD Cert.RefAdamOutIdeal.τ).loc Cert.RefAdamOutIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v4) = v0 c
          ∧ r.2.mem ((c.tc : Thread Cert.RefAdamOutIdeal.nD Cert.RefAdamOutIdeal.τ).loc Cert.RefAdamOutIdeal.main_v28) = v1 c
          ∧ r.2.mem ((c.tc : Thread Cert.RefAdamOutIdeal.nD Cert.RefAdamOutIdeal.τ).loc Cert.RefAdamOutIdeal.main_v9) = v2 c
          ∧ r.2.mem ((c.tc : Thread Cert.RefAdamOutIdeal.nD Cert.RefAdamOutIdeal.τ).loc Cert.RefAdamOutIdeal.main_v15) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3)
          ∧ r.2.mem ((c.tc : Thread Cert.RefAdamOutIdeal.nD Cert.RefAdamOutIdeal.τ).loc Cert.RefAdamOutIdeal.main_arg4) = m' ((c.tc : Thread Cert.RefAdamOutIdeal.nD Cert.RefAdamOutIdeal.τ).loc Cert.RefAdamOutIdeal.main_arg4))

def preserves_AdamProj_AdamProjIdeal : Prop :=
  True

def algebraic_AdamProjIdeal_RefAdamProjIdeal [hAdamProjIdeal : Cert.AdamProjIdeal.Facts] [hRefAdamProjIdeal : Cert.RefAdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.RefAdamProjIdeal.nD Cert.RefAdamProjIdeal.τ Cert.RefAdamProjIdeal.sig) → Buf (Elt Ideal) ℓ) (g' : Dev Cert.RefAdamProjIdeal.nD → PrngReg), Pre_AdamProjIdeal m →
    (∀ c : Dev Cert.AdamProjIdeal.nD,
      m' ((c.tc : Thread Cert.RefAdamProjIdeal.nD Cert.RefAdamProjIdeal.τ).loc Cert.RefAdamProjIdeal.main_arg0) = m ((c.tc : Thread Cert.AdamProjIdeal.nD Cert.AdamProjIdeal.τ).loc Cert.AdamProjIdeal.main_arg0)
      ∧ m' ((c.tc : Thread Cert.RefAdamProjIdeal.nD Cert.RefAdamProjIdeal.τ).loc Cert.RefAdamProjIdeal.main_arg1) = m ((c.tc : Thread Cert.AdamProjIdeal.nD Cert.AdamProjIdeal.τ).loc Cert.AdamProjIdeal.main_arg1)
      ∧ m' ((c.tc : Thread Cert.RefAdamProjIdeal.nD Cert.RefAdamProjIdeal.τ).loc Cert.RefAdamProjIdeal.main_arg2) = m ((c.tc : Thread Cert.AdamProjIdeal.nD Cert.AdamProjIdeal.τ).loc Cert.AdamProjIdeal.main_arg2)
      ∧ m' ((c.tc : Thread Cert.RefAdamProjIdeal.nD Cert.RefAdamProjIdeal.τ).loc Cert.RefAdamProjIdeal.main_arg3) = m ((c.tc : Thread Cert.AdamProjIdeal.nD Cert.AdamProjIdeal.τ).loc Cert.AdamProjIdeal.main_arg3)
      ∧ m' ((c.tc : Thread Cert.RefAdamProjIdeal.nD Cert.RefAdamProjIdeal.τ).loc Cert.RefAdamProjIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v1_0)) (v1 : (c : Dev Cert.AdamProjIdeal.nD) → Buf (Elt Ideal) ((c.tc : Thread Cert.AdamProjIdeal.nD Cert.AdamProjIdeal.τ).loc Cert.AdamProjIdeal.main_v1_1)) (v2 : (c : Dev Cert.AdamProjIdeal.nD) → Buf (Elt Ideal) ((c.tc : Thread Cert.AdamProjIdeal.nD Cert.AdamProjIdeal.τ).loc Cert.AdamProjIdeal.main_v1_2)) (v3 : (c : Dev Cert.AdamProjIdeal.nD) → Buf (Elt Ideal) ((c.tc : Thread Cert.AdamProjIdeal.nD Cert.AdamProjIdeal.τ).loc Cert.AdamProjIdeal.main_v1_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v1_0) = v0 c
          ∧ r.2.mem ((c.tc : Thread Cert.AdamProjIdeal.nD Cert.AdamProjIdeal.τ).loc Cert.AdamProjIdeal.main_v1_1) = v1 c
          ∧ r.2.mem ((c.tc : Thread Cert.AdamProjIdeal.nD Cert.AdamProjIdeal.τ).loc Cert.AdamProjIdeal.main_v1_2) = v2 c
          ∧ r.2.mem ((c.tc : Thread Cert.AdamProjIdeal.nD Cert.AdamProjIdeal.τ).loc Cert.AdamProjIdeal.main_v1_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.RefAdamProjIdeal.defs (F := Ideal)) (onTc (τ := Cert.RefAdamProjIdeal.τ) (Cert.RefAdamProjIdeal.main (F := Ideal))) ⟨m', fun _ => 0, g'⟩ (fun r => ∀ c : Dev Cert.RefAdamProjIdeal.nD,
          r.2.mem ((c.tc : Thread Cert.RefAdamProjIdeal.nD Cert.RefAdamProjIdeal.τ).loc Cert.RefAdamProjIdeal.main_v4) = v0 c
          ∧ r.2.mem ((c.tc : Thread Cert.RefAdamProjIdeal.nD Cert.RefAdamProjIdeal.τ).loc Cert.RefAdamProjIdeal.main_v28) = v1 c
          ∧ r.2.mem ((c.tc : Thread Cert.RefAdamProjIdeal.nD Cert.RefAdamProjIdeal.τ).loc Cert.RefAdamProjIdeal.main_v9) = v2 c
          ∧ r.2.mem ((c.tc : Thread Cert.RefAdamProjIdeal.nD Cert.RefAdamProjIdeal.τ).loc Cert.RefAdamProjIdeal.main_v15) = v3 c
          ∧ r.2.mem ((c.tc : Thread Cert.RefAdamProjIdeal.nD Cert.RefAdamProjIdeal.τ).loc Cert.RefAdamProjIdeal.main_arg0) = m' ((c.tc : Thread Cert.RefAdamProjIdeal.nD Cert.RefAdamProjIdeal.τ).loc Cert.RefAdamProjIdeal.main_arg0)
          ∧ r.2.mem ((c.tc : Thread Cert.RefAdamProjIdeal.nD Cert.RefAdamProjIdeal.τ).loc Cert.RefAdamProjIdeal.main_arg1) = m' ((c.tc : Thread Cert.RefAdamProjIdeal.nD Cert.RefAdamProjIdeal.τ).loc Cert.RefAdamProjIdeal.main_arg1)
          ∧ r.2.mem ((c.tc : Thread Cert.RefAdamProjIdeal.nD Cert.RefAdamProjIdeal.τ).loc Cert.RefAdamProjIdeal.main_arg2) = m' ((c.tc : Thread Cert.RefAdamProjIdeal.nD Cert.RefAdamProjIdeal.τ).loc Cert.RefAdamProjIdeal.main_arg2)
          ∧ r.2.mem ((c.tc : Thread Cert.RefAdamProjIdeal.nD Cert.RefAdamProjIdeal.τ).loc Cert.RefAdamProjIdeal.main_arg3) = m' ((c.tc : Thread Cert.RefAdamProjIdeal.nD Cert.RefAdamProjIdeal.τ).loc Cert.RefAdamProjIdeal.main_arg3)
          ∧ r.2.mem ((c.tc : Thread Cert.RefAdamProjIdeal.nD Cert.RefAdamProjIdeal.τ).loc Cert.RefAdamProjIdeal.main_arg4) = m' ((c.tc : Thread Cert.RefAdamProjIdeal.nD Cert.RefAdamProjIdeal.τ).loc Cert.RefAdamProjIdeal.main_arg4))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v4) = v0 c
          ∧ r.2.mem ((c.tc : Thread Cert.RefAdamInIdeal.nD Cert.RefAdamInIdeal.τ).loc Cert.RefAdamInIdeal.main_v28) = v1 c
          ∧ r.2.mem ((c.tc : Thread Cert.RefAdamInIdeal.nD Cert.RefAdamInIdeal.τ).loc Cert.RefAdamInIdeal.main_v9) = v2 c
          ∧ r.2.mem ((c.tc : Thread Cert.RefAdamInIdeal.nD Cert.RefAdamInIdeal.τ).loc Cert.RefAdamInIdeal.main_v15) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4))

def preserves_Pool_PoolIdeal : Prop :=
  True

def algebraic_PoolIdeal_RefPoolIdeal [hPoolIdeal : Cert.PoolIdeal.Facts] [hRefPoolIdeal : Cert.RefPoolIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.RefPoolIdeal.nD Cert.RefPoolIdeal.τ Cert.RefPoolIdeal.sig) → Buf (Elt Ideal) ℓ) (g' : Dev Cert.RefPoolIdeal.nD → PrngReg), Pre_PoolIdeal m →
    (∀ c : Dev Cert.PoolIdeal.nD,
      m' ((c.tc : Thread Cert.RefPoolIdeal.nD Cert.RefPoolIdeal.τ).loc Cert.RefPoolIdeal.main_arg0) = m ((c.tc : Thread Cert.PoolIdeal.nD Cert.PoolIdeal.τ).loc Cert.PoolIdeal.main_arg0)
      ∧ m' ((c.tc : Thread Cert.RefPoolIdeal.nD Cert.RefPoolIdeal.τ).loc Cert.RefPoolIdeal.main_arg1) = m ((c.tc : Thread Cert.PoolIdeal.nD Cert.PoolIdeal.τ).loc Cert.PoolIdeal.main_arg1)
      ∧ m' ((c.tc : Thread Cert.RefPoolIdeal.nD Cert.RefPoolIdeal.τ).loc Cert.RefPoolIdeal.main_arg2) = m ((c.tc : Thread Cert.PoolIdeal.nD Cert.PoolIdeal.τ).loc Cert.PoolIdeal.main_arg2)
      ∧ m' ((c.tc : Thread Cert.RefPoolIdeal.nD Cert.RefPoolIdeal.τ).loc Cert.RefPoolIdeal.main_arg3) = m ((c.tc : Thread Cert.PoolIdeal.nD Cert.PoolIdeal.τ).loc Cert.PoolIdeal.main_arg3)
      ∧ m' ((c.tc : Thread Cert.RefPoolIdeal.nD Cert.RefPoolIdeal.τ).loc Cert.RefPoolIdeal.main_arg4) = m ((c.tc : Thread Cert.PoolIdeal.nD Cert.PoolIdeal.τ).loc Cert.PoolIdeal.main_arg4)
      ∧ m' ((c.tc : Thread Cert.RefPoolIdeal.nD Cert.RefPoolIdeal.τ).loc Cert.RefPoolIdeal.main_arg5) = m ((c.tc : Thread Cert.PoolIdeal.nD Cert.PoolIdeal.τ).loc Cert.PoolIdeal.main_arg5)
      ∧ m' ((c.tc : Thread Cert.RefPoolIdeal.nD Cert.RefPoolIdeal.τ).loc Cert.RefPoolIdeal.main_arg6) = m ((c.tc : Thread Cert.PoolIdeal.nD Cert.PoolIdeal.τ).loc Cert.PoolIdeal.main_arg6)
      ∧ m' ((c.tc : Thread Cert.RefPoolIdeal.nD Cert.RefPoolIdeal.τ).loc Cert.RefPoolIdeal.main_arg7) = m ((c.tc : Thread Cert.PoolIdeal.nD Cert.PoolIdeal.τ).loc Cert.PoolIdeal.main_arg7)
      ∧ m' ((c.tc : Thread Cert.RefPoolIdeal.nD Cert.RefPoolIdeal.τ).loc Cert.RefPoolIdeal.main_arg8) = m ((c.tc : Thread Cert.PoolIdeal.nD Cert.PoolIdeal.τ).loc Cert.PoolIdeal.main_arg8)
      ∧ m' ((c.tc : Thread Cert.RefPoolIdeal.nD Cert.RefPoolIdeal.τ).loc Cert.RefPoolIdeal.main_arg9) = m ((c.tc : Thread Cert.PoolIdeal.nD Cert.PoolIdeal.τ).loc Cert.PoolIdeal.main_arg9)
      ∧ m' ((c.tc : Thread Cert.RefPoolIdeal.nD Cert.RefPoolIdeal.τ).loc Cert.RefPoolIdeal.main_arg10) = m ((c.tc : Thread Cert.PoolIdeal.nD Cert.PoolIdeal.τ).loc Cert.PoolIdeal.main_arg10)) →
    ∃ (v0 : (c : Dev Cert.PoolIdeal.nD) → Buf (Elt Ideal) ((c.tc : Thread Cert.PoolIdeal.nD Cert.PoolIdeal.τ).loc Cert.PoolIdeal.main_v2_0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ θ_run (Cert.RefPoolIdeal.defs (F := Ideal)) (onTc (τ := Cert.RefPoolIdeal.τ) (Cert.RefPoolIdeal.main (F := Ideal))) ⟨m', fun _ => 0, g'⟩ (fun r => ∀ c : Dev Cert.RefPoolIdeal.nD,
          r.2.mem ((c.tc : Thread Cert.RefPoolIdeal.nD Cert.RefPoolIdeal.τ).loc Cert.RefPoolIdeal.main_v46) = v0 c
          ∧ r.2.mem ((c.tc : Thread Cert.RefPoolIdeal.nD Cert.RefPoolIdeal.τ).loc Cert.RefPoolIdeal.main_arg0) = m' ((c.tc : Thread Cert.RefPoolIdeal.nD Cert.RefPoolIdeal.τ).loc Cert.RefPoolIdeal.main_arg0)
          ∧ r.2.mem ((c.tc : Thread Cert.RefPoolIdeal.nD Cert.RefPoolIdeal.τ).loc Cert.RefPoolIdeal.main_arg1) = m' ((c.tc : Thread Cert.RefPoolIdeal.nD Cert.RefPoolIdeal.τ).loc Cert.RefPoolIdeal.main_arg1)
          ∧ r.2.mem ((c.tc : Thread Cert.RefPoolIdeal.nD Cert.RefPoolIdeal.τ).loc Cert.RefPoolIdeal.main_arg2) = m' ((c.tc : Thread Cert.RefPoolIdeal.nD Cert.RefPoolIdeal.τ).loc Cert.RefPoolIdeal.main_arg2)
          ∧ r.2.mem ((c.tc : Thread Cert.RefPoolIdeal.nD Cert.RefPoolIdeal.τ).loc Cert.RefPoolIdeal.main_arg3) = m' ((c.tc : Thread Cert.RefPoolIdeal.nD Cert.RefPoolIdeal.τ).loc Cert.RefPoolIdeal.main_arg3)
          ∧ r.2.mem ((c.tc : Thread Cert.RefPoolIdeal.nD Cert.RefPoolIdeal.τ).loc Cert.RefPoolIdeal.main_arg4) = m' ((c.tc : Thread Cert.RefPoolIdeal.nD Cert.RefPoolIdeal.τ).loc Cert.RefPoolIdeal.main_arg4)
          ∧ r.2.mem ((c.tc : Thread Cert.RefPoolIdeal.nD Cert.RefPoolIdeal.τ).loc Cert.RefPoolIdeal.main_arg5) = m' ((c.tc : Thread Cert.RefPoolIdeal.nD Cert.RefPoolIdeal.τ).loc Cert.RefPoolIdeal.main_arg5)
          ∧ r.2.mem ((c.tc : Thread Cert.RefPoolIdeal.nD Cert.RefPoolIdeal.τ).loc Cert.RefPoolIdeal.main_arg6) = m' ((c.tc : Thread Cert.RefPoolIdeal.nD Cert.RefPoolIdeal.τ).loc Cert.RefPoolIdeal.main_arg6)
          ∧ r.2.mem ((c.tc : Thread Cert.RefPoolIdeal.nD Cert.RefPoolIdeal.τ).loc Cert.RefPoolIdeal.main_arg7) = m' ((c.tc : Thread Cert.RefPoolIdeal.nD Cert.RefPoolIdeal.τ).loc Cert.RefPoolIdeal.main_arg7)
          ∧ r.2.mem ((c.tc : Thread Cert.RefPoolIdeal.nD Cert.RefPoolIdeal.τ).loc Cert.RefPoolIdeal.main_arg8) = m' ((c.tc : Thread Cert.RefPoolIdeal.nD Cert.RefPoolIdeal.τ).loc Cert.RefPoolIdeal.main_arg8)
          ∧ r.2.mem ((c.tc : Thread Cert.RefPoolIdeal.nD Cert.RefPoolIdeal.τ).loc Cert.RefPoolIdeal.main_arg9) = m' ((c.tc : Thread Cert.RefPoolIdeal.nD Cert.RefPoolIdeal.τ).loc Cert.RefPoolIdeal.main_arg9)
          ∧ r.2.mem ((c.tc : Thread Cert.RefPoolIdeal.nD Cert.RefPoolIdeal.τ).loc Cert.RefPoolIdeal.main_arg10) = m' ((c.tc : Thread Cert.RefPoolIdeal.nD Cert.RefPoolIdeal.τ).loc Cert.RefPoolIdeal.main_arg10))

def preserves_PoolFirst_PoolFirstIdeal : Prop :=
  True

def algebraic_PoolFirstIdeal_RefPoolFirstIdeal [hPoolFirstIdeal : Cert.PoolFirstIdeal.Facts] [hRefPoolFirstIdeal : Cert.RefPoolFirstIdeal.Facts] : Prop :=
  ∀ (m : (ℓ : Loc Cert.PoolFirstIdeal.nD Cert.PoolFirstIdeal.τ Cert.PoolFirstIdeal.sig) → Buf (Elt Ideal) ℓ) (g : Dev Cert.PoolFirstIdeal.nD → PrngReg)
    (m' : (ℓ : Loc Cert.RefPoolFirstIdeal.nD Cert.RefPoolFirstIdeal.τ Cert.RefPoolFirstIdeal.sig) → Buf (Elt Ideal) ℓ) (g' : Dev Cert.RefPoolFirstIdeal.nD → PrngReg), Pre_PoolFirstIdeal m →
    (∀ c : Dev Cert.PoolFirstIdeal.nD,
      m' ((c.tc : Thread Cert.RefPoolFirstIdeal.nD Cert.RefPoolFirstIdeal.τ).loc Cert.RefPoolFirstIdeal.main_arg0) = m ((c.tc : Thread Cert.PoolFirstIdeal.nD Cert.PoolFirstIdeal.τ).loc Cert.PoolFirstIdeal.main_arg0)
      ∧ m' ((c.tc : Thread Cert.RefPoolFirstIdeal.nD Cert.RefPoolFirstIdeal.τ).loc Cert.RefPoolFirstIdeal.main_arg1) = m ((c.tc : Thread Cert.PoolFirstIdeal.nD Cert.PoolFirstIdeal.τ).loc Cert.PoolFirstIdeal.main_arg1)
      ∧ m' ((c.tc : Thread Cert.RefPoolFirstIdeal.nD Cert.RefPoolFirstIdeal.τ).loc Cert.RefPoolFirstIdeal.main_arg2) = m ((c.tc : Thread Cert.PoolFirstIdeal.nD Cert.PoolFirstIdeal.τ).loc Cert.PoolFirstIdeal.main_arg2)
      ∧ m' ((c.tc : Thread Cert.RefPoolFirstIdeal.nD Cert.RefPoolFirstIdeal.τ).loc Cert.RefPoolFirstIdeal.main_arg3) = m ((c.tc : Thread Cert.PoolFirstIdeal.nD Cert.PoolFirstIdeal.τ).loc Cert.PoolFirstIdeal.main_arg3)
      ∧ m' ((c.tc : Thread Cert.RefPoolFirstIdeal.nD Cert.RefPoolFirstIdeal.τ).loc Cert.RefPoolFirstIdeal.main_arg4) = m ((c.tc : Thread Cert.PoolFirstIdeal.nD Cert.PoolFirstIdeal.τ).loc Cert.PoolFirstIdeal.main_arg4)
      ∧ m' ((c.tc : Thread Cert.RefPoolFirstIdeal.nD Cert.RefPoolFirstIdeal.τ).loc Cert.RefPoolFirstIdeal.main_arg5) = m ((c.tc : Thread Cert.PoolFirstIdeal.nD Cert.PoolFirstIdeal.τ).loc Cert.PoolFirstIdeal.main_arg5)
      ∧ m' ((c.tc : Thread Cert.RefPoolFirstIdeal.nD Cert.RefPoolFirstIdeal.τ).loc Cert.RefPoolFirstIdeal.main_arg6) = m ((c.tc : Thread Cert.PoolFirstIdeal.nD Cert.PoolFirstIdeal.τ).loc Cert.PoolFirstIdeal.main_arg6)
      ∧ m' ((c.tc : Thread Cert.RefPoolFirstIdeal.nD Cert.RefPoolFirstIdeal.τ).loc Cert.RefPoolFirstIdeal.main_arg7) = m ((c.tc : Thread Cert.PoolFirstIdeal.nD Cert.PoolFirstIdeal.τ).loc Cert.PoolFirstIdeal.main_arg7)) →
    ∃ (v0 : (c : Dev Cert.PoolFirstIdeal.nD) → Buf (Elt Ideal) ((c.tc : Thread Cert.PoolFirstIdeal.nD Cert.PoolFirstIdeal.τ).loc Cert.PoolFirstIdeal.main_v3)),
      θ_run (Cert.PoolFirstIdeal.defs (F := Ideal)) (onTc (τ := Cert.PoolFirstIdeal.τ) (Cert.PoolFirstIdeal.main (F := Ideal))) ⟨m, fun _ => 0, g⟩ (fun r => ∀ c : Dev Cert.PoolFirstIdeal.nD,
          r.2.mem ((c.tc : Thread Cert.PoolFirstIdeal.nD Cert.PoolFirstIdeal.τ).loc Cert.PoolFirstIdeal.main_v3) = v0 c
          ∧ r.2.mem ((c.tc : Thread Cert.PoolFirstIdeal.nD Cert.PoolFirstIdeal.τ).loc Cert.PoolFirstIdeal.main_arg0) = m ((c.tc : Thread Cert.PoolFirstIdeal.nD Cert.PoolFirstIdeal.τ).loc Cert.PoolFirstIdeal.main_arg0)
          ∧ r.2.mem ((c.tc : Thread Cert.PoolFirstIdeal.nD Cert.PoolFirstIdeal.τ).loc Cert.PoolFirstIdeal.main_arg1) = m ((c.tc : Thread Cert.PoolFirstIdeal.nD Cert.PoolFirstIdeal.τ).loc Cert.PoolFirstIdeal.main_arg1)
          ∧ r.2.mem ((c.tc : Thread Cert.PoolFirstIdeal.nD Cert.PoolFirstIdeal.τ).loc Cert.PoolFirstIdeal.main_arg2) = m ((c.tc : Thread Cert.PoolFirstIdeal.nD Cert.PoolFirstIdeal.τ).loc Cert.PoolFirstIdeal.main_arg2)
          ∧ r.2.mem ((c.tc : Thread Cert.PoolFirstIdeal.nD Cert.PoolFirstIdeal.τ).loc Cert.PoolFirstIdeal.main_arg3) = m ((c.tc : Thread Cert.PoolFirstIdeal.nD Cert.PoolFirstIdeal.τ).loc Cert.PoolFirstIdeal.main_arg3)
          ∧ r.2.mem ((c.tc : Thread Cert.PoolFirstIdeal.nD Cert.PoolFirstIdeal.τ).loc Cert.PoolFirstIdeal.main_arg4) = m ((c.tc : Thread Cert.PoolFirstIdeal.nD Cert.PoolFirstIdeal.τ).loc Cert.PoolFirstIdeal.main_arg4)
          ∧ r.2.mem ((c.tc : Thread Cert.PoolFirstIdeal.nD Cert.PoolFirstIdeal.τ).loc Cert.PoolFirstIdeal.main_arg5) = m ((c.tc : Thread Cert.PoolFirstIdeal.nD Cert.PoolFirstIdeal.τ).loc Cert.PoolFirstIdeal.main_arg5)
          ∧ r.2.mem ((c.tc : Thread Cert.PoolFirstIdeal.nD Cert.PoolFirstIdeal.τ).loc Cert.PoolFirstIdeal.main_arg6) = m ((c.tc : Thread Cert.PoolFirstIdeal.nD Cert.PoolFirstIdeal.τ).loc Cert.PoolFirstIdeal.main_arg6)
          ∧ r.2.mem ((c.tc : Thread Cert.PoolFirstIdeal.nD Cert.PoolFirstIdeal.τ).loc Cert.PoolFirstIdeal.main_arg7) = m ((c.tc : Thread Cert.PoolFirstIdeal.nD Cert.PoolFirstIdeal.τ).loc Cert.PoolFirstIdeal.main_arg7))
      ∧ θ_run (Cert.RefPoolFirstIdeal.defs (F := Ideal)) (onTc (τ := Cert.RefPoolFirstIdeal.τ) (Cert.RefPoolFirstIdeal.main (F := Ideal))) ⟨m', fun _ => 0, g'⟩ (fun r => ∀ c : Dev Cert.RefPoolFirstIdeal.nD,
          r.2.mem ((c.tc : Thread Cert.RefPoolFirstIdeal.nD Cert.RefPoolFirstIdeal.τ).loc Cert.RefPoolFirstIdeal.main_v42) = v0 c
          ∧ r.2.mem ((c.tc : Thread Cert.RefPoolFirstIdeal.nD Cert.RefPoolFirstIdeal.τ).loc Cert.RefPoolFirstIdeal.main_arg0) = m' ((c.tc : Thread Cert.RefPoolFirstIdeal.nD Cert.RefPoolFirstIdeal.τ).loc Cert.RefPoolFirstIdeal.main_arg0)
          ∧ r.2.mem ((c.tc : Thread Cert.RefPoolFirstIdeal.nD Cert.RefPoolFirstIdeal.τ).loc Cert.RefPoolFirstIdeal.main_arg1) = m' ((c.tc : Thread Cert.RefPoolFirstIdeal.nD Cert.RefPoolFirstIdeal.τ).loc Cert.RefPoolFirstIdeal.main_arg1)
          ∧ r.2.mem ((c.tc : Thread Cert.RefPoolFirstIdeal.nD Cert.RefPoolFirstIdeal.τ).loc Cert.RefPoolFirstIdeal.main_arg2) = m' ((c.tc : Thread Cert.RefPoolFirstIdeal.nD Cert.RefPoolFirstIdeal.τ).loc Cert.RefPoolFirstIdeal.main_arg2)
          ∧ r.2.mem ((c.tc : Thread Cert.RefPoolFirstIdeal.nD Cert.RefPoolFirstIdeal.τ).loc Cert.RefPoolFirstIdeal.main_arg3) = m' ((c.tc : Thread Cert.RefPoolFirstIdeal.nD Cert.RefPoolFirstIdeal.τ).loc Cert.RefPoolFirstIdeal.main_arg3)
          ∧ r.2.mem ((c.tc : Thread Cert.RefPoolFirstIdeal.nD Cert.RefPoolFirstIdeal.τ).loc Cert.RefPoolFirstIdeal.main_arg4) = m' ((c.tc : Thread Cert.RefPoolFirstIdeal.nD Cert.RefPoolFirstIdeal.τ).loc Cert.RefPoolFirstIdeal.main_arg4)
          ∧ r.2.mem ((c.tc : Thread Cert.RefPoolFirstIdeal.nD Cert.RefPoolFirstIdeal.τ).loc Cert.RefPoolFirstIdeal.main_arg5) = m' ((c.tc : Thread Cert.RefPoolFirstIdeal.nD Cert.RefPoolFirstIdeal.τ).loc Cert.RefPoolFirstIdeal.main_arg5)
          ∧ r.2.mem ((c.tc : Thread Cert.RefPoolFirstIdeal.nD Cert.RefPoolFirstIdeal.τ).loc Cert.RefPoolFirstIdeal.main_arg6) = m' ((c.tc : Thread Cert.RefPoolFirstIdeal.nD Cert.RefPoolFirstIdeal.τ).loc Cert.RefPoolFirstIdeal.main_arg6)
          ∧ r.2.mem ((c.tc : Thread Cert.RefPoolFirstIdeal.nD Cert.RefPoolFirstIdeal.τ).loc Cert.RefPoolFirstIdeal.main_arg7) = m' ((c.tc : Thread Cert.RefPoolFirstIdeal.nD Cert.RefPoolFirstIdeal.τ).loc Cert.RefPoolFirstIdeal.main_arg7))

def Claim : Prop :=
  ∃ (hKernel : Cert.Kernel.Facts) (hKernelIdeal : Cert.KernelIdeal.Facts) (hReferenceIdeal : Cert.ReferenceIdeal.Facts) (hInBwd : Cert.InBwd.Facts) (hInBwdIdeal : Cert.InBwdIdeal.Facts) (hRefInBwdIdeal : Cert.RefInBwdIdeal.Facts) (hTnWIn : Cert.TnWIn.Facts) (hTnWInIdeal : Cert.TnWInIdeal.Facts) (hRefTnWInIdeal : Cert.RefTnWInIdeal.Facts) (hFwdIn : Cert.FwdIn.Facts) (hFwdInIdeal : Cert.FwdInIdeal.Facts) (hRefFwdInIdeal : Cert.RefFwdInIdeal.Facts) (hGwDown : Cert.GwDown.Facts) (hGwDownIdeal : Cert.GwDownIdeal.Facts) (hRefGwDownIdeal : Cert.RefGwDownIdeal.Facts) (hGwUp : Cert.GwUp.Facts) (hGwUpIdeal : Cert.GwUpIdeal.Facts) (hRefGwUpIdeal : Cert.RefGwUpIdeal.Facts) (hGwOut : Cert.GwOut.Facts) (hGwOutIdeal : Cert.GwOutIdeal.Facts) (hRefGwOutIdeal : Cert.RefGwOutIdeal.Facts) (hGp : Cert.Gp.Facts) (hGpIdeal : Cert.GpIdeal.Facts) (hRefGpIdeal : Cert.RefGpIdeal.Facts) (hAdamUp : Cert.AdamUp.Facts) (hAdamUpIdeal : Cert.AdamUpIdeal.Facts) (hRefAdamUpIdeal : Cert.RefAdamUpIdeal.Facts) (hAdamDown : Cert.AdamDown.Facts) (hAdamDownIdeal : Cert.AdamDownIdeal.Facts) (hRefAdamDownIdeal : Cert.RefAdamDownIdeal.Facts) (hAdamOut : Cert.AdamOut.Facts) (hAdamOutIdeal : Cert.AdamOutIdeal.Facts) (hRefAdamOutIdeal : Cert.RefAdamOutIdeal.Facts) (hAdamProj : Cert.AdamProj.Facts) (hAdamProjIdeal : Cert.AdamProjIdeal.Facts) (hRefAdamProjIdeal : Cert.RefAdamProjIdeal.Facts) (hAdamIn : Cert.AdamIn.Facts) (hAdamInIdeal : Cert.AdamInIdeal.Facts) (hRefAdamInIdeal : Cert.RefAdamInIdeal.Facts) (hPool : Cert.Pool.Facts) (hPoolIdeal : Cert.PoolIdeal.Facts) (hRefPoolIdeal : Cert.RefPoolIdeal.Facts) (hPoolFirst : Cert.PoolFirst.Facts) (hPoolFirstIdeal : Cert.PoolFirstIdeal.Facts) (hRefPoolFirstIdeal : Cert.RefPoolFirstIdeal.Facts),
    quiescent_Kernel (hKernel := hKernel)
    ∧ quiescent_KernelIdeal (hKernelIdeal := hKernelIdeal)
    ∧ quiescent_ReferenceIdeal (hReferenceIdeal := hReferenceIdeal)
    ∧ quiescent_InBwd (hInBwd := hInBwd)
    ∧ quiescent_InBwdIdeal (hInBwdIdeal := hInBwdIdeal)
    ∧ quiescent_RefInBwdIdeal (hRefInBwdIdeal := hRefInBwdIdeal)
    ∧ quiescent_TnWIn (hTnWIn := hTnWIn)
    ∧ quiescent_TnWInIdeal (hTnWInIdeal := hTnWInIdeal)
    ∧ quiescent_RefTnWInIdeal (hRefTnWInIdeal := hRefTnWInIdeal)
    ∧ quiescent_FwdIn (hFwdIn := hFwdIn)
    ∧ quiescent_FwdInIdeal (hFwdInIdeal := hFwdInIdeal)
    ∧ quiescent_RefFwdInIdeal (hRefFwdInIdeal := hRefFwdInIdeal)
    ∧ quiescent_GwDown (hGwDown := hGwDown)
    ∧ quiescent_GwDownIdeal (hGwDownIdeal := hGwDownIdeal)
    ∧ quiescent_RefGwDownIdeal (hRefGwDownIdeal := hRefGwDownIdeal)
    ∧ quiescent_GwUp (hGwUp := hGwUp)
    ∧ quiescent_GwUpIdeal (hGwUpIdeal := hGwUpIdeal)
    ∧ quiescent_RefGwUpIdeal (hRefGwUpIdeal := hRefGwUpIdeal)
    ∧ quiescent_GwOut (hGwOut := hGwOut)
    ∧ quiescent_GwOutIdeal (hGwOutIdeal := hGwOutIdeal)
    ∧ quiescent_RefGwOutIdeal (hRefGwOutIdeal := hRefGwOutIdeal)
    ∧ quiescent_Gp (hGp := hGp)
    ∧ quiescent_GpIdeal (hGpIdeal := hGpIdeal)
    ∧ quiescent_RefGpIdeal (hRefGpIdeal := hRefGpIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamProj (hAdamProj := hAdamProj)
    ∧ quiescent_AdamProjIdeal (hAdamProjIdeal := hAdamProjIdeal)
    ∧ quiescent_RefAdamProjIdeal (hRefAdamProjIdeal := hRefAdamProjIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_Pool (hPool := hPool)
    ∧ quiescent_PoolIdeal (hPoolIdeal := hPoolIdeal)
    ∧ quiescent_RefPoolIdeal (hRefPoolIdeal := hRefPoolIdeal)
    ∧ quiescent_PoolFirst (hPoolFirst := hPoolFirst)
    ∧ quiescent_PoolFirstIdeal (hPoolFirstIdeal := hPoolFirstIdeal)
    ∧ quiescent_RefPoolFirstIdeal (hRefPoolFirstIdeal := hRefPoolFirstIdeal)
    ∧ preserves_Kernel_KernelIdeal
    ∧ algebraic_KernelIdeal_ReferenceIdeal (hKernelIdeal := hKernelIdeal) (hReferenceIdeal := hReferenceIdeal)
    ∧ preserves_InBwd_InBwdIdeal
    ∧ algebraic_InBwdIdeal_RefInBwdIdeal (hInBwdIdeal := hInBwdIdeal) (hRefInBwdIdeal := hRefInBwdIdeal)
    ∧ preserves_TnWIn_TnWInIdeal
    ∧ algebraic_TnWInIdeal_RefTnWInIdeal (hTnWInIdeal := hTnWInIdeal) (hRefTnWInIdeal := hRefTnWInIdeal)
    ∧ preserves_FwdIn_FwdInIdeal
    ∧ algebraic_FwdInIdeal_RefFwdInIdeal (hFwdInIdeal := hFwdInIdeal) (hRefFwdInIdeal := hRefFwdInIdeal)
    ∧ preserves_GwDown_GwDownIdeal
    ∧ algebraic_GwDownIdeal_RefGwDownIdeal (hGwDownIdeal := hGwDownIdeal) (hRefGwDownIdeal := hRefGwDownIdeal)
    ∧ preserves_GwUp_GwUpIdeal
    ∧ algebraic_GwUpIdeal_RefGwUpIdeal (hGwUpIdeal := hGwUpIdeal) (hRefGwUpIdeal := hRefGwUpIdeal)
    ∧ preserves_GwOut_GwOutIdeal
    ∧ algebraic_GwOutIdeal_RefGwOutIdeal (hGwOutIdeal := hGwOutIdeal) (hRefGwOutIdeal := hRefGwOutIdeal)
    ∧ preserves_Gp_GpIdeal
    ∧ algebraic_GpIdeal_RefGpIdeal (hGpIdeal := hGpIdeal) (hRefGpIdeal := hRefGpIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamDown_AdamDownIdeal
    ∧ algebraic_AdamDownIdeal_RefAdamDownIdeal (hAdamDownIdeal := hAdamDownIdeal) (hRefAdamDownIdeal := hRefAdamDownIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamProj_AdamProjIdeal
    ∧ algebraic_AdamProjIdeal_RefAdamProjIdeal (hAdamProjIdeal := hAdamProjIdeal) (hRefAdamProjIdeal := hRefAdamProjIdeal)
    ∧ preserves_AdamIn_AdamInIdeal
    ∧ algebraic_AdamInIdeal_RefAdamInIdeal (hAdamInIdeal := hAdamInIdeal) (hRefAdamInIdeal := hRefAdamInIdeal)
    ∧ preserves_Pool_PoolIdeal
    ∧ algebraic_PoolIdeal_RefPoolIdeal (hPoolIdeal := hPoolIdeal) (hRefPoolIdeal := hRefPoolIdeal)
    ∧ preserves_PoolFirst_PoolFirstIdeal
    ∧ algebraic_PoolFirstIdeal_RefPoolFirstIdeal (hPoolFirstIdeal := hPoolFirstIdeal) (hRefPoolFirstIdeal := hRefPoolFirstIdeal)
-- ==== Kernel.lean ====
abbrev S8192x1024 : Shape := ⟨2, ![8192, 1024]⟩
abbrev S8192x512 : Shape := ⟨2, ![8192, 512]⟩
abbrev S8192x2048 : Shape := ⟨2, ![8192, 2048]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S1024x8x512 : Shape := ⟨3, ![1024, 8, 512]⟩
abbrev S8x1024x512 : Shape := ⟨3, ![8, 1024, 512]⟩
abbrev S8192x4096 : Shape := ⟨2, ![8192, 4096]⟩
abbrev S8x1024 : Shape := ⟨2, ![8, 1024]⟩
abbrev S256x1024 : Shape := ⟨2, ![256, 1024]⟩
abbrev S256x512 : Shape := ⟨2, ![256, 512]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 32
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x4096, .bf16⟩
  | .hbm, ⟨17, _⟩ => ⟨S1024x8x512, .bf16⟩
  | .hbm, ⟨18, _⟩ => ⟨S8x1024x512, .bf16⟩
  | .hbm, ⟨19, _⟩ => ⟨S1x1024, .f32⟩
  | .hbm, ⟨20, _⟩ => ⟨S1024x1024, .bf16⟩
  | .hbm, ⟨21, _⟩ => ⟨S4096x1024, .bf16⟩
  | .hbm, ⟨22, _⟩ => ⟨S8192x1024, .f32⟩
  | .hbm, ⟨23, _⟩ => ⟨S8192x4096, .bf16⟩
  | .hbm, ⟨24, _⟩ => ⟨S8192x4096, .bf16⟩
  | .hbm, ⟨25, _⟩ => ⟨S8192x4096, .bf16⟩
  | .hbm, ⟨26, _⟩ => ⟨S8x1024, .f32⟩
  | .hbm, ⟨27, _⟩ => ⟨S8192x1024, .bf16⟩
  | .hbm, ⟨28, _⟩ => ⟨S8192x1024, .bf16⟩
  | .hbm, ⟨29, _⟩ => ⟨S8192x2048, .bf16⟩
  | .hbm, ⟨30, _⟩ => ⟨S8192x512, .bf16⟩
  | .hbm, ⟨31, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S8x1024x512, .bf16⟩
  | .local _ .vmem, ⟨16, _⟩ => ⟨S4096x1024, .bf16⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S8x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x2048, .bf16⟩
  | .local _ .vmem, ⟨31, _⟩ => ⟨S256x2048, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v10_7 : Ref sig .tc := ⟨.hbm, 29, rfl⟩
abbrev main_v10_8 : Ref sig .tc := ⟨.hbm, 30, rfl⟩
abbrev main_v10_9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S8192x1024 : Shape := ⟨2, ![8192, 1024]⟩
abbrev S8192x512 : Shape := ⟨2, ![8192, 512]⟩
abbrev S8192x2048 : Shape := ⟨2, ![8192, 2048]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S5x1024 : Shape := ⟨2, ![5, 1024]⟩
abbrev S8x1024 : Shape := ⟨2, ![8, 1024]⟩

abbrev nBuf : Space → Nat
  | .hbm => 203
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S8192x2048, .bf16⟩
  | 4 => ⟨S8192x1024, .f32⟩
  | 5 => ⟨S1x1024, .f32⟩
  | 6 => ⟨S1024, .f32⟩
  | 7 => ⟨S512x1024, .f32⟩
  | 8 => ⟨S512x1024, .f32⟩
  | 9 => ⟨S1024x1024, .f32⟩
  | 10 => ⟨S1024x4096, .f32⟩
  | 11 => ⟨S4096x1024, .f32⟩
  | 12 => ⟨S8192x512, .f32⟩
  | 13 => ⟨S8192x512, .f32⟩
  | 14 => ⟨S8192x2048, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x4096, .f32⟩
  | 68 => ⟨S_, .f32⟩
  | 69 => ⟨S8192x4096, .f32⟩
  | 70 => ⟨S8192x4096, .f32⟩
  | 71 => ⟨S_, .f32⟩
  | 72 => ⟨S8192x4096, .f32⟩
  | 73 => ⟨S8192x4096, .i1⟩
  | 74 => ⟨S_, .f32⟩
  | 75 => ⟨S8192x4096, .f32⟩
  | 76 => ⟨S8192x4096, .f32⟩
  | 77 => ⟨S8192x1024, .f32⟩
  | 78 => ⟨S8192x1024, .f32⟩
  | 79 => ⟨S1x1024, .f32⟩
  | 80 => ⟨S8192x1024, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S_, .f32⟩
  | 105 => ⟨S8192, .f32⟩
  | 106 => ⟨S_, .f32⟩
  | 107 => ⟨S8192, .f32⟩
  | 108 => ⟨S8192, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S8192, .f32⟩
  | 117 => ⟨S_, .f32⟩
  | 118 => ⟨S8192, .f32⟩
  | 119 => ⟨S8192, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x4096, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S8192x1024, .f32⟩
  | 36 => ⟨S8192x1024, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x512, .f32⟩
  | 57 => ⟨S8192x512, .f32⟩
  | 58 => ⟨S1x1024, .f32⟩
  | 59 => ⟨S_, .f32⟩
  | 60 => ⟨S5x1024, .f32⟩
  | 61 => ⟨S8x1024, .f32⟩
  | 62 => ⟨S_, .f32⟩
  | 63 => ⟨S8192x4096, .f32⟩
  | 64 => ⟨S8192x4096, .f32⟩
  | 65 => ⟨S8192x4096, .bf16⟩
  | 66 => ⟨S8192x4096, .bf16⟩
  | 67 => ⟨S8192x4096, .f32⟩
  | 68 => ⟨S8192x4096, .bf16⟩
  | 69 => ⟨S8192x1024, .bf16⟩
  | 70 => ⟨S8192x1024, .bf16⟩
  | 71 => ⟨S8192x2048, .f32⟩
  | 72 => ⟨S8192x2048, .bf16⟩
  | 73 => ⟨S8192x512, .bf16⟩
  | 74 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_cst_19 : Ref sig .tc := ⟨.hbm, 111, rfl⟩
abbrev main_v77 : Ref sig .tc := ⟨.hbm, 112, rfl⟩
abbrev main_cst_20 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_23 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_24 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_25 : Ref sig .tc := ⟨.hbm, 135, rfl⟩
abbrev main_v95 : Ref sig .tc := ⟨.hbm, 136, rfl⟩
abbrev main_v96 : Ref sig .tc := ⟨.hbm, 137, rfl⟩
abbrev main_cst_26 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_27 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_29 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_30 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_32 : Ref sig .tc := ⟨.hbm, 187, rfl⟩
abbrev main_v140 : Ref sig .tc := ⟨.hbm, 188, rfl⟩
abbrev main_v141 : Ref sig .tc := ⟨.hbm, 189, rfl⟩
abbrev main_call1_cst : Ref sig .tc := ⟨.hbm, 190, rfl⟩
abbrev main_call1_v0 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩

abbrev nD : Nat := 1
abbrev τ : Topo := Topo.v7x

variable {F : FTy → Type} [FloatOps F]
-- ==== InBwd.lean ====
abbrev S8x128 : Shape := ⟨2, ![8, 128]⟩
abbrev S8192x512 : Shape := ⟨2, ![8192, 512]⟩
abbrev S8192x256 : Shape := ⟨2, ![8192, 256]⟩
abbrev S8192x2048 : Shape := ⟨2, ![8192, 2048]⟩
abbrev S1024x3328 : Shape := ⟨2, ![1024, 3328]⟩
abbrev S8192x1024 : Shape := ⟨2, ![8192, 1024]⟩
abbrev S1x1024 : Shape := ⟨2, ![1, 1024]⟩
abbrev S3328x1024 : Shape := ⟨2, ![3328, 1024]⟩
abbrev S512x512 : Shape := ⟨2, ![512, 512]⟩
abbrev S512x256 : Shape := ⟨2, ![512, 256]⟩
abbrev S512x2048 : Shape := ⟨2, ![512, 2048]⟩
abbrev S512x1024 : Shape := ⟨2, ![512, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S8x128, .i32⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S1024x3328, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S3328x1024, .f32⟩
  | .hbm, ⟨10, _⟩ => ⟨S3328x1024, .bf16⟩
  | .hbm, ⟨11, _⟩ => ⟨S8192x1024, .f32⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S3328x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3328x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefInBwdIdeal.lean ====
abbrev S8x128 : Shape := ⟨2, ![8, 128]⟩
abbrev S8192x512 : Shape := ⟨2, ![8192, 512]⟩
abbrev S8192x256 : Shape := ⟨2, ![8192, 256]⟩
abbrev S8192x2048 : Shape := ⟨2, ![8192, 2048]⟩
abbrev S1024x3328 : Shape := ⟨2, ![1024, 3328]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x3328 : Shape := ⟨2, ![8192, 3328]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S1024x3328, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x3328, .f32⟩
  | .hbm, ⟨29, _⟩ => ⟨S8192x512, .f32⟩
  | .hbm, ⟨30, _⟩ => ⟨S8192x512, .f32⟩
  | .hbm, ⟨31, _⟩ => ⟨S8192x256, .f32⟩
  | .hbm, ⟨32, _⟩ => ⟨S8192x2048, .f32⟩
  | .hbm, ⟨33, _⟩ => ⟨S8192x512, .f32⟩
  | .hbm, ⟨34, _⟩ => ⟨S8192x512, .f32⟩
  | .hbm, ⟨35, _⟩ => ⟨S8192x256, .f32⟩
  | .hbm, ⟨36, _⟩ => ⟨S8192x2048, .f32⟩
  | .hbm, ⟨37, _⟩ => ⟨S_, .f32⟩
  | .hbm, ⟨38, _⟩ => ⟨S8192x3328, .f32⟩
  | .hbm, ⟨39, _⟩ => ⟨S_, .f32⟩
  | .hbm, ⟨40, _⟩ => ⟨S8192x3328, .f32⟩
  | .hbm, ⟨41, _⟩ => ⟨S8192x3328, .f32⟩
  | .hbm, ⟨42, _⟩ => ⟨S_, .f32⟩
  | .hbm, ⟨43, _⟩ => ⟨S8192x3328, .f32⟩
  | .hbm, ⟨44, _⟩ => ⟨S8192x3328, .f32⟩
  | .hbm, ⟨45, _⟩ => ⟨S_, .f32⟩
  | .hbm, ⟨46, _⟩ => ⟨S8192x3328, .f32⟩
  | .hbm, ⟨47, _⟩ => ⟨S8192x3328, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== TnWIn.lean ====
abbrev S8192x1024 : Shape := ⟨2, ![8192, 1024]⟩
abbrev S8192x512 : Shape := ⟨2, ![8192, 512]⟩
abbrev S8192x256 : Shape := ⟨2, ![8192, 256]⟩
abbrev S8192x2048 : Shape := ⟨2, ![8192, 2048]⟩
abbrev S8x416x1024 : Shape := ⟨3, ![8, 416, 1024]⟩
abbrev S1024x1024 : Shape := ⟨2, ![1024, 1024]⟩
abbrev S1024x512 : Shape := ⟨2, ![1024, 512]⟩
abbrev S1024x256 : Shape := ⟨2, ![1024, 256]⟩
abbrev S1024x2048 : Shape := ⟨2, ![1024, 2048]⟩
abbrev S3328x1024 : Shape := ⟨2, ![3328, 1024]⟩
abbrev S512x1024 : Shape := ⟨2, ![512, 1024]⟩
abbrev S256x1024 : Shape := ⟨2, ![256, 1024]⟩
abbrev S2048x1024 : Shape := ⟨2, ![2048, 1024]⟩
abbrev S416x1024 : Shape := ⟨2, ![416, 1024]⟩
abbrev S1x416x1024 : Shape := ⟨3, ![1, 416, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S8x416x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x2048, .bf16⟩
  | .local _ .vmem, ⟨9, _⟩ => ⟨S1024x2048, .bf16⟩
  | .local _ .vmem, ⟨10, _⟩ => ⟨S8x416x1024, .bf16⟩
  | .local _ .vmem, ⟨11, _⟩ => ⟨S3328x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x416x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefTnWInIdeal.lean ====
abbrev S8192x1024 : Shape := ⟨2, ![8192, 1024]⟩
abbrev S8192x512 : Shape := ⟨2, ![8192, 512]⟩
abbrev S8192x256 : Shape := ⟨2, ![8192, 256]⟩
abbrev S8192x2048 : Shape := ⟨2, ![8192, 2048]⟩
abbrev S_ : Shape := ⟨0, ![]⟩
abbrev S1024x3328 : Shape := ⟨2, ![1024, 3328]⟩
abbrev S8192x3328 : Shape := ⟨2, ![8192, 3328]⟩
abbrev S3328x1024 : Shape := ⟨2, ![3328, 1024]⟩
abbrev S8x416x1024 : Shape := ⟨3, ![8, 416, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x2048, .bf16⟩
  | .hbm, ⟨5, _⟩ => ⟨S8192x1024, .f32⟩
  | .hbm, ⟨6, _⟩ => ⟨S_, .f32⟩
  | .hbm, ⟨7, _⟩ => ⟨S1024x3328, .f32⟩
  | .hbm, ⟨8, _⟩ => ⟨S8192x3328, .f32⟩
  | .hbm, ⟨9, _⟩ => ⟨S8192x512, .f32⟩
  | .hbm, ⟨10, _⟩ => ⟨S8192x512, .f32⟩
  | .hbm, ⟨11, _⟩ => ⟨S8192x256, .f32⟩
  | .hbm, ⟨12, _⟩ => ⟨S8192x2048, .f32⟩
  | .hbm, ⟨13, _⟩ => ⟨S8192x512, .f32⟩
  | .hbm, ⟨14, _⟩ => ⟨S8192x512, .f32⟩
  | .hbm, ⟨15, _⟩ => ⟨S8192x256, .f32⟩
  | .hbm, ⟨16, _⟩ => ⟨S8192x2048, .f32⟩
  | .hbm, ⟨17, _⟩ => ⟨S_, .f32⟩
  | .hbm, ⟨18, _⟩ => ⟨S8192x3328, .f32⟩
  | .hbm, ⟨19, _⟩ => ⟨S_, .f32⟩
  | .hbm, ⟨20, _⟩ => ⟨S8192x3328, .f32⟩
  | .hbm, ⟨21, _⟩ => ⟨S8192x3328, .f32⟩
  | .hbm, ⟨22, _⟩ => ⟨S_, .f32⟩
  | .hbm, ⟨23, _⟩ => ⟨S8192x3328, .f32⟩
  | .hbm, ⟨24, _⟩ => ⟨S8192x3328, .f32⟩
  | .hbm, ⟨25, _⟩ => ⟨S_, .f32⟩
  | .hbm, ⟨26, _⟩ => ⟨S8192x3328, .f32⟩
  | .hbm, ⟨27, _⟩ => ⟨S8192x3328, .f32⟩
  | .hbm, ⟨28, _⟩ => ⟨S3328x1024, .f32⟩
  | .hbm, ⟨29, _⟩ => ⟨S1024x3328, .f32⟩
  | .hbm, ⟨30, _⟩ => ⟨S3328x1024, .f32⟩
  | .hbm, ⟨31, _⟩ => ⟨S8x416x1024, .f32⟩
  | .hbm, ⟨32, _⟩ => ⟨S8x416x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== FwdIn.lean ====
abbrev S8x128 : Shape := ⟨2, ![8, 128]⟩
abbrev S8192x1024 : Shape := ⟨2, ![8192, 1024]⟩
abbrev S1x1024 : Shape := ⟨2, ![1, 1024]⟩
abbrev S1024x3328 : Shape := ⟨2, ![1024, 3328]⟩
abbrev S3328x1024 : Shape := ⟨2, ![3328, 1024]⟩
abbrev S8192x512 : Shape := ⟨2, ![8192, 512]⟩
abbrev S8192x256 : Shape := ⟨2, ![8192, 256]⟩
abbrev S8192x2048 : Shape := ⟨2, ![8192, 2048]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S2048x1024 : Shape := ⟨2, ![2048, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8x128, .i32⟩
  | .hbm, ⟨1, _⟩ => ⟨S8192x1024, .f32⟩
  | .hbm, ⟨2, _⟩ => ⟨S1x1024, .f32⟩
  | .hbm, ⟨3, _⟩ => ⟨S1024x3328, .f32⟩
  | .hbm, ⟨4, _⟩ => ⟨S3328x1024, .f32⟩
  | .hbm, ⟨5, _⟩ => ⟨S3328x1024, .bf16⟩
  | .hbm, ⟨6, _⟩ => ⟨S8192x1024, .bf16⟩
  | .hbm, ⟨7, _⟩ => ⟨S8192x512, .bf16⟩
  | .hbm, ⟨8, _⟩ => ⟨S8192x512, .bf16⟩
  | .hbm, ⟨9, _⟩ => ⟨S8192x256, .bf16⟩
  | .hbm, ⟨10, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x2048, .bf16⟩
  | .local _ .vmem, ⟨13, _⟩ => ⟨S512x2048, .bf16⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefFwdInIdeal.lean ====
abbrev S8x128 : Shape := ⟨2, ![8, 128]⟩
abbrev S8192x1024 : Shape := ⟨2, ![8192, 1024]⟩
abbrev S1x1024 : Shape := ⟨2, ![1, 1024]⟩
abbrev S1024x3328 : Shape := ⟨2, ![1024, 3328]⟩
abbrev S_ : Shape := ⟨0, ![]⟩
abbrev S8192 : Shape := ⟨1, ![8192]⟩
abbrev S8192x1 : Shape := ⟨2, ![8192, 1]⟩
abbrev S8192x3328 : Shape := ⟨2, ![8192, 3328]⟩
abbrev S8192x512 : Shape := ⟨2, ![8192, 512]⟩
abbrev S8192x256 : Shape := ⟨2, ![8192, 256]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8192x1024, .f32⟩
  | .hbm, ⟨2, _⟩ => ⟨S1x1024, .f32⟩
  | .hbm, ⟨3, _⟩ => ⟨S1024x3328, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3328, .f32⟩
  | .hbm, ⟨20, _⟩ => ⟨S8192x3328, .bf16⟩
  | .hbm, ⟨21, _⟩ => ⟨S8192x1024, .bf16⟩
  | .hbm, ⟨22, _⟩ => ⟨S8192x512, .bf16⟩
  | .hbm, ⟨23, _⟩ => ⟨S8192x512, .bf16⟩
  | .hbm, ⟨24, _⟩ => ⟨S8192x256, .bf16⟩
  | .hbm, ⟨25, _⟩ => ⟨S8192x2048, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GwDown.lean ====
abbrev S8192x4096 : Shape := ⟨2, ![8192, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwDownIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S4096x1024, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GwUp.lean ====
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwUpIdeal.lean ====
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x1024, .bf16⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S1024x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x8x512, .f32⟩
  | .hbm, ⟨11, _⟩ => ⟨S8x1024x512, .f32⟩
  | .hbm, ⟨12, _⟩ => ⟨S8x1024x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GwOut.lean ====
abbrev S8192x4096 : Shape := ⟨2, ![8192, 4096]⟩
abbrev S8x128 : Shape := ⟨2, ![8, 128]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8x128, .i32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGwOutIdeal.lean ====
abbrev S8192x4096 : Shape := ⟨2, ![8192, 4096]⟩
abbrev S8x128 : Shape := ⟨2, ![8, 128]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x128, .i32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gp.lean ====
abbrev S8192x512 : Shape := ⟨2, ![8192, 512]⟩
abbrev S8192x1024 : Shape := ⟨2, ![8192, 1024]⟩
abbrev S8x128 : Shape := ⟨2, ![8, 128]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x128, .i32⟩
  | .hbm, ⟨3, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGpIdeal.lean ====
abbrev S8192x512 : Shape := ⟨2, ![8192, 512]⟩
abbrev S8192x1024 : Shape := ⟨2, ![8192, 1024]⟩
abbrev S8x128 : Shape := ⟨2, ![8, 128]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x128, .i32⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x8x128, .f32⟩
  | .hbm, ⟨11, _⟩ => ⟨S8x512x128, .f32⟩
  | .hbm, ⟨12, _⟩ => ⟨S8x512x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdamUp.lean ====
abbrev S8x1024x512 : Shape := ⟨3, ![8, 1024, 512]⟩
abbrev S1024x512 : Shape := ⟨2, ![1024, 512]⟩
abbrev S_ : Shape := ⟨0, ![]⟩
abbrev S1 : Shape := ⟨1, ![1]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 10
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S_, .i32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S8x1024x512 : Shape := ⟨3, ![8, 1024, 512]⟩
abbrev S1024x512 : Shape := ⟨2, ![1024, 512]⟩
abbrev S_ : Shape := ⟨0, ![]⟩
abbrev S1 : Shape := ⟨1, ![1]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 10
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S_, .i32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamUpIdeal.lean ====
abbrev S8x1024x512 : Shape := ⟨3, ![8, 1024, 512]⟩
abbrev S1024x512 : Shape := ⟨2, ![1024, 512]⟩
abbrev S1x1024x512 : Shape := ⟨3, ![1, 1024, 512]⟩
abbrev S7x1024x512 : Shape := ⟨3, ![7, 1024, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1x1024x512, .bf16⟩
  | .hbm, ⟨6, _⟩ => ⟨S7x1024x512, .bf16⟩
  | .hbm, ⟨7, _⟩ => ⟨S8x1024x512, .bf16⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamDown.lean ====
abbrev S8x512x1024 : Shape := ⟨3, ![8, 512, 1024]⟩
abbrev S512x1024 : Shape := ⟨2, ![512, 1024]⟩
abbrev S_ : Shape := ⟨0, ![]⟩
abbrev S1 : Shape := ⟨1, ![1]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .i32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S8x512x1024 : Shape := ⟨3, ![8, 512, 1024]⟩
abbrev S512x1024 : Shape := ⟨2, ![512, 1024]⟩
abbrev S_ : Shape := ⟨0, ![]⟩
abbrev S1 : Shape := ⟨1, ![1]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .i32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamDownIdeal.lean ====
abbrev S8x512x1024 : Shape := ⟨3, ![8, 512, 1024]⟩
abbrev S512x1024 : Shape := ⟨2, ![512, 1024]⟩
abbrev S1x512x1024 : Shape := ⟨3, ![1, 512, 1024]⟩
abbrev S7x512x1024 : Shape := ⟨3, ![7, 512, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1x512x1024, .bf16⟩
  | .hbm, ⟨6, _⟩ => ⟨S7x512x1024, .bf16⟩
  | .hbm, ⟨7, _⟩ => ⟨S8x512x1024, .bf16⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .i32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S8x128x1024 : Shape := ⟨3, ![8, 128, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .i32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RefAdamOutIdeal.lean ====
abbrev S8x128x1024 : Shape := ⟨3, ![8, 128, 1024]⟩
abbrev S128x1024 : Shape := ⟨2, ![128, 1024]⟩
abbrev S1x128x1024 : Shape := ⟨3, ![1, 128, 1024]⟩
abbrev S7x128x1024 : Shape := ⟨3, ![7, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S7x128x1024, .bf16⟩
  | .hbm, ⟨7, _⟩ => ⟨S8x128x1024, .bf16⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamProj.lean ====
abbrev S8x512x128 : Shape := ⟨3, ![8, 512, 128]⟩
abbrev S512x128 : Shape := ⟨2, ![512, 128]⟩
abbrev S_ : Shape := ⟨0, ![]⟩
abbrev S1 : Shape := ⟨1, ![1]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 10
  | .vmem => 18
  | .smem => 1
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .i32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .smem, ⟨0, _⟩ => ⟨S1, .i32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamProjIdeal.lean ====
abbrev S8x512x128 : Shape := ⟨3, ![8, 512, 128]⟩
abbrev S512x128 : Shape := ⟨2, ![512, 128]⟩
abbrev S_ : Shape := ⟨0, ![]⟩
abbrev S1 : Shape := ⟨1, ![1]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 10
  | .vmem => 18
  | .smem => 1
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .i32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .smem, ⟨0, _⟩ => ⟨S1, .i32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamProjIdeal.lean ====
abbrev S8x512x128 : Shape := ⟨3, ![8, 512, 128]⟩
abbrev S512x128 : Shape := ⟨2, ![512, 128]⟩
abbrev S1x512x128 : Shape := ⟨3, ![1, 512, 128]⟩
abbrev S7x512x128 : Shape := ⟨3, ![7, 512, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S1x512x128, .bf16⟩
  | .hbm, ⟨6, _⟩ => ⟨S7x512x128, .bf16⟩
  | .hbm, ⟨7, _⟩ => ⟨S8x512x128, .bf16⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamIn.lean ====
abbrev S8x416x1024 : Shape := ⟨3, ![8, 416, 1024]⟩
abbrev S416x1024 : Shape := ⟨2, ![416, 1024]⟩
abbrev S_ : Shape := ⟨0, ![]⟩
abbrev S1 : Shape := ⟨1, ![1]⟩
abbrev S1x416x1024 : Shape := ⟨3, ![1, 416, 1024]⟩

abbrev nBuf : Space → Nat
  | .hbm => 10
  | .vmem => 9
  | .smem => 1
  | _ => 0

abbrev bufTy : (tb : Table) → Fin (tcTables nBuf tb) → BufTy
  | .hbm, ⟨0, _⟩ => ⟨S8x416x1024, .bf16⟩
  | .hbm, ⟨1, _⟩ => ⟨S8x416x1024, .bf16⟩
  | .hbm, ⟨2, _⟩ => ⟨S416x1024, .f32⟩
  | .hbm, ⟨3, _⟩ => ⟨S416x1024, .f32⟩
  | .hbm, ⟨4, _⟩ => ⟨S416x1024, .f32⟩
  | .hbm, ⟨5, _⟩ => ⟨S_, .i32⟩
  | .hbm, ⟨6, _⟩ => ⟨S416x1024, .f32⟩
  | .hbm, ⟨7, _⟩ => ⟨S416x1024, .f32⟩
  | .hbm, ⟨8, _⟩ => ⟨S416x1024, .f32⟩
  | .hbm, ⟨9, _⟩ => ⟨S416x1024, .f32⟩
  | .local _ .vmem, ⟨0, _⟩ => ⟨S8x416x1024, .bf16⟩
  | .local _ .vmem, ⟨1, _⟩ => ⟨S1x416x1024, .bf16⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .smem, ⟨0, _⟩ => ⟨S1, .i32⟩
  | _, _ => ⟨S8x416x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x416x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x416x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S416x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S416x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S416x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S416x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S416x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S416x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S416x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RefAdamInIdeal.lean ====
abbrev S8x416x1024 : Shape := ⟨3, ![8, 416, 1024]⟩
abbrev S416x1024 : Shape := ⟨2, ![416, 1024]⟩
abbrev S1x416x1024 : Shape := ⟨3, ![1, 416, 1024]⟩
abbrev S7x416x1024 : Shape := ⟨3, ![7, 416, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x416x1024, .bf16⟩
  | .hbm, ⟨1, _⟩ => ⟨S8x416x1024, .bf16⟩
  | .hbm, ⟨2, _⟩ => ⟨S416x1024, .f32⟩
  | .hbm, ⟨3, _⟩ => ⟨S416x1024, .f32⟩
  | .hbm, ⟨4, _⟩ => ⟨S416x1024, .f32⟩
  | .hbm, ⟨5, _⟩ => ⟨S1x416x1024, .bf16⟩
  | .hbm, ⟨6, _⟩ => ⟨S7x416x1024, .bf16⟩
  | .hbm, ⟨7, _⟩ => ⟨S8x416x1024, .bf16⟩
  | .hbm, ⟨8, _⟩ => ⟨S8x416x1024, .f32⟩
  | .hbm, ⟨9, _⟩ => ⟨S_, .f32⟩
  | .hbm, ⟨10, _⟩ => ⟨S416x1024, .f32⟩
  | .hbm, ⟨11, _⟩ => ⟨S_, .f32⟩
  | .hbm, ⟨12, _⟩ => ⟨S416x1024, .f32⟩
  | .hbm, ⟨13, _⟩ => ⟨S416x1024, .f32⟩
  | .hbm, ⟨14, _⟩ => ⟨S_, .f32⟩
  | .hbm, ⟨15, _⟩ => ⟨S416x1024, .f32⟩
  | .hbm, ⟨16, _⟩ => ⟨S416x1024, .f32⟩
  | .hbm, ⟨17, _⟩ => ⟨S416x1024, .f32⟩
  | .hbm, ⟨18, _⟩ => ⟨S_, .f32⟩
  | .hbm, ⟨19, _⟩ => ⟨S416x1024, .f32⟩
  | .hbm, ⟨20, _⟩ => ⟨S416x1024, .f32⟩
  | .hbm, ⟨21, _⟩ => ⟨S416x1024, .f32⟩
  | .hbm, ⟨22, _⟩ => ⟨S_, .f32⟩
  | .hbm, ⟨23, _⟩ => ⟨S416x1024, .f32⟩
  | .hbm, ⟨24, _⟩ => ⟨S416x1024, .f32⟩
  | .hbm, ⟨25, _⟩ => ⟨S416x1024, .f32⟩
  | .hbm, ⟨26, _⟩ => ⟨S_, .f32⟩
  | .hbm, ⟨27, _⟩ => ⟨S416x1024, .f32⟩
  | .hbm, ⟨28, _⟩ => ⟨S416x1024, .f32⟩
  | .hbm, ⟨29, _⟩ => ⟨S_, .f32⟩
  | .hbm, ⟨30, _⟩ => ⟨S416x1024, .f32⟩
  | .hbm, ⟨31, _⟩ => ⟨S416x1024, .f32⟩
  | .hbm, ⟨32, _⟩ => ⟨S416x1024, .f32⟩
  | .hbm, ⟨33, _⟩ => ⟨S_, .f32⟩
  | .hbm, ⟨34, _⟩ => ⟨S416x1024, .f32⟩
  | .hbm, ⟨35, _⟩ => ⟨S416x1024, .f32⟩
  | .hbm, ⟨36, _⟩ => ⟨S416x1024, .f32⟩
  | .hbm, ⟨37, _⟩ => ⟨S_, .f32⟩
  | .hbm, ⟨38, _⟩ => ⟨S416x1024, .f32⟩
  | .hbm, ⟨39, _⟩ => ⟨S416x1024, .f32⟩
  | .hbm, ⟨40, _⟩ => ⟨S416x1024, .f32⟩
  | .hbm, ⟨41, _⟩ => ⟨S_, .f32⟩
  | .hbm, ⟨42, _⟩ => ⟨S416x1024, .f32⟩
  | .hbm, ⟨43, _⟩ => ⟨S416x1024, .f32⟩
  | _, _ => ⟨S8x416x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Pool.lean ====
abbrev S8x128 : Shape := ⟨2, ![8, 128]⟩
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S1x512 : Shape := ⟨2, ![1, 512]⟩
abbrev S2x128x512 : Shape := ⟨3, ![2, 128, 512]⟩
abbrev S2x1x512 : Shape := ⟨3, ![2, 1, 512]⟩
abbrev S512x512 : Shape := ⟨2, ![512, 512]⟩
abbrev S16x512 : Shape := ⟨2, ![16, 512]⟩
abbrev S512x256 : Shape := ⟨2, ![512, 256]⟩
abbrev S128x256 : Shape := ⟨2, ![128, 256]⟩
abbrev S2x640x128 : Shape := ⟨3, ![2, 640, 128]⟩
abbrev S528x512 : Shape := ⟨2, ![528, 512]⟩
abbrev S528x128 : Shape := ⟨2, ![528, 128]⟩
abbrev S512x128 : Shape := ⟨2, ![512, 128]⟩
abbrev S16x128 : Shape := ⟨2, ![16, 128]⟩
abbrev S496x128 : Shape := ⟨2, ![496, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S128x512 : Shape := ⟨2, ![128, 512]⟩
abbrev S1x256x128 : Shape := ⟨3, ![1, 256, 128]⟩
abbrev S256x128 : Shape := ⟨2, ![256, 128]⟩
abbrev S1x128x512 : Shape := ⟨3, ![1, 128, 512]⟩
abbrev S1x1x512 : Shape := ⟨3, ![1, 1, 512]⟩
abbrev S256x512 : Shape := ⟨2, ![256, 512]⟩
abbrev S512 : Shape := ⟨1, ![512]⟩

abbrev nBuf : Space → Nat
  | .hbm => 15
  | .vmem => 21
  | .smem => 0
  | _ => 0

abbrev bufTy : (tb : Table) → Fin (tcTables nBuf tb) → BufTy
  | .hbm, ⟨0, _⟩ => ⟨S8x128, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x256, .bf16⟩
  | .hbm, ⟨6, _⟩ => ⟨S4x128x128, .f32⟩
  | .hbm, ⟨7, _⟩ => ⟨S4x128, .f32⟩
  | .hbm, ⟨8, _⟩ => ⟨S1x512, .f32⟩
  | .hbm, ⟨9, _⟩ => ⟨S2x128x512, .f32⟩
  | .hbm, ⟨10, _⟩ => ⟨S2x1x512, .f32⟩
  | .hbm, ⟨11, _⟩ => ⟨S4x128x128, .bf16⟩
  | .hbm, ⟨12, _⟩ => ⟨S1x512, .f32⟩
  | .hbm, ⟨13, _⟩ => ⟨S8192x512, .bf16⟩
  | .hbm, ⟨14, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S4x128x128, .bf16⟩
  | .local _ .vmem, ⟨11, _⟩ => ⟨S1x512, .f32⟩
  | .local _ .vmem, ⟨12, _⟩ => ⟨S1x512, .f32⟩
  | .local _ .vmem, ⟨13, _⟩ => ⟨S2x128x512, .f32⟩
  | .local _ .vmem, ⟨14, _⟩ => ⟨S2x1x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S2x640x128, .bf16⟩
  | .local _ .vmem, ⟨20, _⟩ => ⟨S2x640x128, .bf16⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.addi arg0 c9_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c9_i32 : BitVec 32 := 9#32
  let v0 : BitVec 32 := Scalar.addi arg0 c9_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefPoolIdeal.lean ====
abbrev S8x128 : Shape := ⟨2, ![8, 128]⟩
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S1x512 : Shape := ⟨2, ![1, 512]⟩
abbrev S2x128x512 : Shape := ⟨3, ![2, 128, 512]⟩
abbrev S2x1x512 : Shape := ⟨3, ![2, 1, 512]⟩
abbrev S4 : Shape := ⟨1, ![4]⟩
abbrev S8192 : Shape := ⟨1, ![8192]⟩
abbrev S8192x1 : Shape := ⟨2, ![8192, 1]⟩
abbrev S_ : Shape := ⟨0, ![]⟩
abbrev S8192x4x128 : Shape := ⟨3, ![8192, 4, 128]⟩
abbrev S1x8192 : Shape := ⟨2, ![1, 8192]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S4x128x8192 : Shape := ⟨3, ![4, 128, 8192]⟩
abbrev S1x4 : Shape := ⟨2, ![1, 4]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x256, .bf16⟩
  | .hbm, ⟨6, _⟩ => ⟨S4x128x128, .f32⟩
  | .hbm, ⟨7, _⟩ => ⟨S4x128, .f32⟩
  | .hbm, ⟨8, _⟩ => ⟨S1x512, .f32⟩
  | .hbm, ⟨9, _⟩ => ⟨S2x128x512, .f32⟩
  | .hbm, ⟨10, _⟩ => ⟨S2x1x512, .f32⟩
  | .hbm, ⟨11, _⟩ => ⟨S4, .i32⟩
  | .hbm, ⟨12, _⟩ => ⟨S8192, .i32⟩
  | .hbm, ⟨13, _⟩ => ⟨S8192x1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S8192x512, .f32⟩
  | .hbm, ⟨18, _⟩ => ⟨S8192x4x128, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S1x8192x8192, .i32⟩
  | .hbm, ⟨26, _⟩ => ⟨S_, .i32⟩
  | .hbm, ⟨27, _⟩ => ⟨S1x8192x8192, .i32⟩
  | .hbm, ⟨28, _⟩ => ⟨S1x8192x8192, .i1⟩
  | .hbm, ⟨29, _⟩ => ⟨S1x8192x8192, .i32⟩
  | .hbm, ⟨30, _⟩ => ⟨S4x1x1, .i32⟩
  | .hbm, ⟨31, _⟩ => ⟨S4x8192x8192, .i32⟩
  | .hbm, ⟨32, _⟩ => ⟨S4x8192x8192, .i32⟩
  | .hbm, ⟨33, _⟩ => ⟨S4x8192x8192, .i1⟩
  | .hbm, ⟨34, _⟩ => ⟨S4x8192x8192, .i1⟩
  | .hbm, ⟨35, _⟩ => ⟨S4x8192x8192, .i1⟩
  | .hbm, ⟨36, _⟩ => ⟨S4x8192x8192, .f32⟩
  | .hbm, ⟨37, _⟩ => ⟨S4x128x8192, .f32⟩
  | .hbm, ⟨38, _⟩ => ⟨S8192x4x128, .f32⟩
  | .hbm, ⟨39, _⟩ => ⟨S8192x1, .i32⟩
  | .hbm, ⟨40, _⟩ => ⟨S_, .i32⟩
  | .hbm, ⟨41, _⟩ => ⟨S8192x1, .i32⟩
  | .hbm, ⟨42, _⟩ => ⟨S8192x1, .i32⟩
  | .hbm, ⟨43, _⟩ => ⟨S1x4, .i32⟩
  | .hbm, ⟨44, _⟩ => ⟨S8192x4, .i32⟩
  | .hbm, ⟨45, _⟩ => ⟨S8192x4, .i32⟩
  | .hbm, ⟨46, _⟩ => ⟨S8192x4, .i32⟩
  | .hbm, ⟨47, _⟩ => ⟨S8192x4, .f32⟩
  | .hbm, ⟨48, _⟩ => ⟨S8192x4x1, .f32⟩
  | .hbm, ⟨49, _⟩ => ⟨S8192x4x128, .f32⟩
  | .hbm, ⟨50, _⟩ => ⟨S8192x4x128, .f32⟩
  | .hbm, ⟨51, _⟩ => ⟨S8192x4x128, .f32⟩
  | .hbm, ⟨52, _⟩ => ⟨S4x128x8192, .f32⟩
  | .hbm, ⟨53, _⟩ => ⟨S8192x4x128, .f32⟩
  | .hbm, ⟨54, _⟩ => ⟨S1x4x128, .f32⟩
  | .hbm, ⟨55, _⟩ => ⟨S8192x4x128, .f32⟩
  | .hbm, ⟨56, _⟩ => ⟨S8192x4x128, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .bf16⟩
  | .hbm, ⟨61, _⟩ => ⟨S8192x512, .i1⟩
  | .hbm, ⟨62, _⟩ => ⟨S8192x512, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== PoolFirst.lean ====
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S1x512 : Shape := ⟨2, ![1, 512]⟩
abbrev S2x128x512 : Shape := ⟨3, ![2, 128, 512]⟩
abbrev S2x1x512 : Shape := ⟨3, ![2, 1, 512]⟩
abbrev S512x512 : Shape := ⟨2, ![512, 512]⟩
abbrev S16x512 : Shape := ⟨2, ![16, 512]⟩
abbrev S512x256 : Shape := ⟨2, ![512, 256]⟩
abbrev S128x256 : Shape := ⟨2, ![128, 256]⟩
abbrev S2x640x128 : Shape := ⟨3, ![2, 640, 128]⟩
abbrev S528x512 : Shape := ⟨2, ![528, 512]⟩
abbrev S528x128 : Shape := ⟨2, ![528, 128]⟩
abbrev S512x128 : Shape := ⟨2, ![512, 128]⟩
abbrev S16x128 : Shape := ⟨2, ![16, 128]⟩
abbrev S496x128 : Shape := ⟨2, ![496, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S128x512 : Shape := ⟨2, ![128, 512]⟩
abbrev S1x256x128 : Shape := ⟨3, ![1, 256, 128]⟩
abbrev S256x128 : Shape := ⟨2, ![256, 128]⟩
abbrev S1x128x512 : Shape := ⟨3, ![1, 128, 512]⟩
abbrev S1x1x512 : Shape := ⟨3, ![1, 1, 512]⟩
abbrev S256x512 : Shape := ⟨2, ![256, 512]⟩
abbrev S512 : Shape := ⟨1, ![512]⟩
abbrev S4608x512 : Shape := ⟨2, ![4608, 512]⟩

abbrev nBuf : Space → Nat
  | .hbm => 13
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x256, .bf16⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S2x128x512, .f32⟩
  | .hbm, ⟨7, _⟩ => ⟨S2x1x512, .f32⟩
  | .hbm, ⟨8, _⟩ => ⟨S4x128x128, .bf16⟩
  | .hbm, ⟨9, _⟩ => ⟨S1x512, .f32⟩
  | .hbm, ⟨10, _⟩ => ⟨S8192x512, .bf16⟩
  | .hbm, ⟨11, _⟩ => ⟨S8192x512, .bf16⟩
  | .hbm, ⟨12, _⟩ => ⟨S4608x512, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S4x128x128, .bf16⟩
  | .local _ .vmem, ⟨11, _⟩ => ⟨S1x512, .f32⟩
  | .local _ .vmem, ⟨12, _⟩ => ⟨S1x512, .f32⟩
  | .local _ .vmem, ⟨13, _⟩ => ⟨S2x128x512, .f32⟩
  | .local _ .vmem, ⟨14, _⟩ => ⟨S2x1x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S2x640x128, .bf16⟩
  | .local _ .vmem, ⟨20, _⟩ => ⟨S2x640x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c4_i32 : BitVec 32 := 4#32
  let v1 : BitVec 32 := Scalar.muli v0 c4_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefPoolFirstIdeal.lean ====
abbrev S8192x512 : Shape := ⟨2, ![8192, 512]⟩
abbrev S8192x256 : Shape := ⟨2, ![8192, 256]⟩
abbrev S4x128x128 : Shape := ⟨3, ![4, 128, 128]⟩
abbrev S4x128 : Shape := ⟨2, ![4, 128]⟩
abbrev S1x512 : Shape := ⟨2, ![1, 512]⟩
abbrev S2x128x512 : Shape := ⟨3, ![2, 128, 512]⟩
abbrev S2x1x512 : Shape := ⟨3, ![2, 1, 512]⟩
abbrev S4 : Shape := ⟨1, ![4]⟩
abbrev S8192x4x128 : Shape := ⟨3, ![8192, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S4x1x1 : Shape := ⟨3, ![4, 1, 1]⟩
abbrev S4x8192x8192 : Shape := ⟨3, ![4, 8192, 8192]⟩
abbrev S4x128x8192 : Shape := ⟨3, ![4, 128, 8192]⟩
abbrev S1x4 : Shape := ⟨2, ![1, 4]⟩
abbrev S8192x4 : Shape := ⟨2, ![8192, 4]⟩
abbrev S8192x4x1 : Shape := ⟨3, ![8192, 4, 1]⟩
abbrev S1x4x128 : Shape := ⟨3, ![1, 4, 128]⟩
abbrev S4608x512 : Shape := ⟨2, ![4608, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x256, .bf16⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S2x128x512, .f32⟩
  | .hbm, ⟨7, _⟩ => ⟨S2x1x512, .f32⟩
  | .hbm, ⟨8, _⟩ => ⟨S4, .i32⟩
  | .hbm, ⟨9, _⟩ => ⟨S8192x512, .f32⟩
  | .hbm, ⟨10, _⟩ => ⟨S8192x4x128, .f32⟩
  | .hbm, ⟨11, _⟩ => ⟨S8192, .i32⟩
  | .hbm, ⟨12, _⟩ => ⟨S8192x1, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S1x8192x8192, .i32⟩
  | .hbm, ⟨18, _⟩ => ⟨S_, .i32⟩
  | .hbm, ⟨19, _⟩ => ⟨S1x8192x8192, .i32⟩
  | .hbm, ⟨20, _⟩ => ⟨S1x8192x8192, .i1⟩
  | .hbm, ⟨21, _⟩ => ⟨S1x8192x8192, .i32⟩
  | .hbm, ⟨22, _⟩ => ⟨S4x1x1, .i32⟩
  | .hbm, ⟨23, _⟩ => ⟨S4x8192x8192, .i32⟩
  | .hbm, ⟨24, _⟩ => ⟨S4x8192x8192, .i32⟩
  | .hbm, ⟨25, _⟩ => ⟨S4x8192x8192, .i1⟩
  | .hbm, ⟨26, _⟩ => ⟨S4x8192x8192, .i1⟩
  | .hbm, ⟨27, _⟩ => ⟨S4x8192x8192, .i1⟩
  | .hbm, ⟨28, _⟩ => ⟨S4x8192x8192, .f32⟩
  | .hbm, ⟨29, _⟩ => ⟨S4x128x8192, .f32⟩
  | .hbm, ⟨30, _⟩ => ⟨S8192x4x128, .f32⟩
  | .hbm, ⟨31, _⟩ => ⟨S8192x1, .i32⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S1x4, .i32⟩
  | .hbm, ⟨36, _⟩ => ⟨S8192x4, .i32⟩
  | .hbm, ⟨37, _⟩ => ⟨S8192x4, .i32⟩
  | .hbm, ⟨38, _⟩ => ⟨S8192x4, .i32⟩
  | .hbm, ⟨39, _⟩ => ⟨S8192x4, .f32⟩
  | .hbm, ⟨40, _⟩ => ⟨S8192x4x1, .f32⟩
  | .hbm, ⟨41, _⟩ => ⟨S8192x4x128, .f32⟩
  | .hbm, ⟨42, _⟩ => ⟨S8192x4x128, .f32⟩
  | .hbm, ⟨43, _⟩ => ⟨S8192x4x128, .f32⟩
  | .hbm, ⟨44, _⟩ => ⟨S4x128x8192, .f32⟩
  | .hbm, ⟨45, _⟩ => ⟨S8192x4x128, .f32⟩
  | .hbm, ⟨46, _⟩ => ⟨S1x4x128, .f32⟩
  | .hbm, ⟨47, _⟩ => ⟨S8192x4x128, .f32⟩
  | .hbm, ⟨48, _⟩ => ⟨S8192x4x128, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .bf16⟩
  | .hbm, ⟨53, _⟩ => ⟨S4608x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Step.lean ====
/-
  One AdamW step: on one number, and on an array of any number of rows and columns whose gradient is the sum of eight parts.
-/
module

public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Step

open Idealize.ShloMosaic

/-- The new first moment, -/
def m' (g m : EReal) : EReal := Ideal.ofBits .f32 0x3F666666#32 * m + Ideal.ofBits .f32 0x3DCCCCCD#32 * g
/-- the new second moment, -/
def v' (g v : EReal) : EReal := Ideal.ofBits .f32 0x3F7FBE77#32 * v + Ideal.ofBits .f32 0x3A83126F#32 * (g * g)
/-- and the change of the weight. -/
def d' (g w m v : EReal) : EReal :=
  Ideal.ofBits .f32 0xBA83126F#32 * (Ideal.div (Ideal.div (m' g m) (Ideal.ofBits .f32 0x3F26BD02#32))
      (Ideal.sqrt (Ideal.div (v' g v) (Ideal.ofBits .f32 0x3C231ACC#32)) + Ideal.ofBits .f32 0x322BCC77#32)
    + Ideal.ofBits .f32 0x3C23D70A#32 * w)

/-- A sum of eight, from the first on. -/
theorem sum8 (f : Fin 8 → EReal) : ∑ k, f k = f 0 + f 1 + f 2 + f 3 + f 4 + f 5 + f 6 + f 7 := Fin.sum_univ_eight f

/-- What one device sent itself, and what the seven others sent it. -/
def pick (own : EReal) (f : Fin 8 → EReal) (k : Fin 8) : EReal := if k = 0 then own else f k

theorem sum_pick (own : EReal) (f : Fin 8 → EReal) : ∑ k, pick own f k = own + f 1 + f 2 + f 3 + f 4 + f 5 + f 6 + f 7 := by
  rw [sum8]
  rfl

/-- An index some block index lies at is in the block. -/
theorem mem_of {sig : RefSig} {κ : Kind} {sp : Space} {s : Shape} {e : EltTy} (v : View sig κ sp s e) (y : s.Idx) (x : v.ty.Idx) (h : v.emb y = x) : x ∈ v.set :=
  h ▸ v.emb_mem_set y

/-! ## An array of `R` rows and `C` columns -/

section
variable {R C T : ℕ}

/-- The gradient of one entry: the sum of the eight parts, this device's own the first. -/
def grad (A B : (⟨3, ![8, R, C]⟩ : Shape).Idx → EReal) (i : Fin R) (j : Fin C) : EReal :=
  ∑ k : Fin 8, pick (B (ix3 0 i j)) (fun k => A (ix3 k i j)) k

/-- The four results, whole: the gradient, -/
def Grad (A B : (⟨3, ![8, R, C]⟩ : Shape).Idx → EReal) (x : (⟨2, ![R, C]⟩ : Shape).Idx) : EReal := grad A B (x 0) (x 1)
/-- the change, -/
def Delta (A B : (⟨3, ![8, R, C]⟩ : Shape).Idx → EReal) (w u v : (⟨2, ![R, C]⟩ : Shape).Idx → EReal) (x : (⟨2, ![R, C]⟩ : Shape).Idx) : EReal :=
  d' (Grad A B x) (w x) (u x) (v x)
/-- the first moment, -/
def Mom (A B : (⟨3, ![8, R, C]⟩ : Shape).Idx → EReal) (u : (⟨2, ![R, C]⟩ : Shape).Idx → EReal) (x : (⟨2, ![R, C]⟩ : Shape).Idx) : EReal := m' (Grad A B x) (u x)
/-- and the second. -/
def Sq (A B : (⟨3, ![8, R, C]⟩ : Shape).Idx → EReal) (v : (⟨2, ![R, C]⟩ : Shape).Idx → EReal) (x : (⟨2, ![R, C]⟩ : Shape).Idx) : EReal := v' (Grad A B x) (v x)

/-- One device's part of a block of parts. -/
theorem ld (k : Fin 8) (inb : ∀ a, (![k.val, 0, 0] : Fin 3 → ℕ) a + (⟨3, ![1, T, C]⟩ : Shape).size a ≤ (⟨3, ![8, T, C]⟩ : Shape).size a)
    (Z : (⟨3, ![8, T, C]⟩ : Shape).Idx → Elt Ideal .bf16) (i j) :
    View.ld Z (Rect.unit (s := ⟨3, ![8, T, C]⟩) ![k.val, 0, 0] (⟨3, ![1, T, C]⟩ : Shape).size inb) (ix3 0 i j) = Z (ix3 k i j) := by
  refine congrArg Z ?_
  funext a
  refine Fin.ext ?_
  fin_cases a
  · show k.val + 1 * 0 = k.val; omega
  · show 0 + 1 * i.val = i.val; omega
  · show 0 + 1 * j.val = j.val; omega

/-- The own part and the seven others that follow it in a block of parts, added up from the first on. -/
theorem parts (x0 : (⟨3, ![8, T, C]⟩ : Shape).Idx → EReal) (x1 : EReal) (a : Fin T) (b : Fin C) (h1 h2 h3 h4 h5 h6 h7) :
    x1 + View.ld (Val := Elt Ideal) (e' := .bf16) x0 (Rect.unit (s := ⟨3, ![8, T, C]⟩) ![1, 0, 0] (⟨3, ![1, T, C]⟩ : Shape).size h1) (ix3 0 a b)
      + View.ld (Val := Elt Ideal) (e' := .bf16) x0 (Rect.unit (s := ⟨3, ![8, T, C]⟩) ![2, 0, 0] (⟨3, ![1, T, C]⟩ : Shape).size h2) (ix3 0 a b)
      + View.ld (Val := Elt Ideal) (e' := .bf16) x0 (Rect.unit (s := ⟨3, ![8, T, C]⟩) ![3, 0, 0] (⟨3, ![1, T, C]⟩ : Shape).size h3) (ix3 0 a b)
      + View.ld (Val := Elt Ideal) (e' := .bf16) x0 (Rect.unit (s := ⟨3, ![8, T, C]⟩) ![4, 0, 0] (⟨3, ![1, T, C]⟩ : Shape).size h4) (ix3 0 a b)
      + View.ld (Val := Elt Ideal) (e' := .bf16) x0 (Rect.unit (s := ⟨3, ![8, T, C]⟩) ![5, 0, 0] (⟨3, ![1, T, C]⟩ : Shape).size h5) (ix3 0 a b)
      + View.ld (Val := Elt Ideal) (e' := .bf16) x0 (Rect.unit (s := ⟨3, ![8, T, C]⟩) ![6, 0, 0] (⟨3, ![1, T, C]⟩ : Shape).size h6) (ix3 0 a b)
      + View.ld (Val := Elt Ideal) (e' := .bf16) x0 (Rect.unit (s := ⟨3, ![8, T, C]⟩) ![7, 0, 0] (⟨3, ![1, T, C]⟩ : Shape).size h7) (ix3 0 a b)
    = (∑ k : Fin 8, pick x1 (fun k => x0 (ix3 k a b)) k : EReal) := by
  rw [sum_pick]
  exact congrArg₂ (· + ·) (congrArg₂ (· + ·) (congrArg₂ (· + ·) (congrArg₂ (· + ·) (congrArg₂ (· + ·) (congrArg₂ (· + ·) (congrArg₂ (· + ·) rfl
    (ld 1 h1 x0 a b)) (ld 2 h2 x0 a b)) (ld 3 h3 x0 a b)) (ld 4 h4 x0 a b)) (ld 5 h5 x0 a b)) (ld 6 h6 x0 a b)) (ld 7 h7 x0 a b)

/-- The sum of a block's parts is the gradient of the rows that the block holds. -/
theorem sumAt (A B : (⟨3, ![8, R, C]⟩ : Shape).Idx → EReal) (x0 : (⟨3, ![8, T, C]⟩ : Shape).Idx → EReal) (x1 : (⟨3, ![1, T, C]⟩ : Shape).Idx → EReal) (r : Fin R) (i : Fin T) (j : Fin C)
    (h0 : ∀ k, x0 (ix3 k i j) = A (ix3 k r j)) (h1 : x1 (ix3 0 i j) = B (ix3 0 r j)) :
    (∑ k : Fin 8, pick (x1 (ix3 0 i j)) (fun k => x0 (ix3 k i j)) k) = grad A B r j :=
  Finset.sum_congr rfl fun k _ => congrArg₂ (fun p q => pick p q k) h1 (funext h0)

/-- The own part before the seven others, added up over the parts' axis: the gradient. -/
theorem whole (A B : (⟨3, ![8, R, C]⟩ : Shape).Idx → EReal) (h1 : (⟨3, ![8, R, C]⟩ : Shape).Slices ![0, 0, 0] ⟨3, ![1, R, C]⟩) (h2 : (⟨3, ![8, R, C]⟩ : Shape).Slices ![1, 0, 0] ⟨3, ![7, R, C]⟩)
    (h3 : Shape.Concatenates [(⟨3, ![1, R, C]⟩ : Shape), ⟨3, ![7, R, C]⟩] ⟨3, ![8, R, C]⟩ 0) (h4 : FTy.bits .bf16 < FTy.bits .f32)
    (h5 : (⟨3, ![8, R, C]⟩ : Shape).ReducesTo [0] ⟨2, ![R, C]⟩) (h6 : 0 < (⟨0, ![]⟩ : Shape).numel) :
    (Host.reduceAdd (F := Ideal) (extf .f32 (concatenate (⟨3, ![8, R, C]⟩ : Shape) 0 [⟨⟨3, ![1, R, C]⟩, extractStridedSlice (⟨3, ![1, R, C]⟩ : Shape) ![0, 0, 0] B h1⟩,
      ⟨⟨3, ![7, R, C]⟩, extractStridedSlice (⟨3, ![7, R, C]⟩ : Shape) ![1, 0, 0] A h2⟩] h3 : FVec Ideal _ .bf16) h4) (constant (⟨0, ![]⟩ : Shape) .f32 0x00000000#32) h5 h6 : (⟨2, ![R, C]⟩ : Shape).Idx → EReal) = Grad A B := by
  funext x
  obtain ⟨i, j, rfl⟩ : ∃ (i : Fin R) (j : Fin C), x = ix2 i j := ⟨x 0, x 1, (ix2_eta x).symm⟩
  pointwise
  refine Eq.trans ?_ (sum_pick _ _).symm
  rw [Fin.sum_univ_seven]
  simp only [Fin.sum_univ_one, add_assoc]
  refine congrArg₂ (· + ·) (congrArg B ?_) (congrArg₂ (· + ·) (congrArg A ?_) (congrArg₂ (· + ·) (congrArg A ?_) (congrArg₂ (· + ·) (congrArg A ?_)
    (congrArg₂ (· + ·) (congrArg A ?_) (congrArg₂ (· + ·) (congrArg A ?_) (congrArg₂ (· + ·) (congrArg A ?_) (congrArg A ?_)))))))
  all_goals
    funext a
    refine Fin.ext ?_
    fin_cases a
    · rfl
    · exact Nat.zero_add _
    · exact Nat.zero_add _

/-- One number at every entry, as the reference writes it. -/
abbrev num (hb : (⟨0, ![]⟩ : Shape).BroadcastsInDim ⟨2, ![R, C]⟩ (![] : Fin 0 → Fin 2)) (x : BitVec 32) : FVec Ideal (⟨2, ![R, C]⟩ : Shape) .f32 :=
  broadcastInDim (s := ⟨0, ![]⟩) ⟨2, ![R, C]⟩ (![] : Fin 0 → Fin 2) hb (constant (⟨0, ![]⟩ : Shape) .f32 x)

/-- The step as the reference writes it, from any array that is the gradient: the first moment, -/
theorem mom (A B : (⟨3, ![8, R, C]⟩ : Shape).Idx → EReal) (u : (⟨2, ![R, C]⟩ : Shape).Idx → EReal) (G : FVec Ideal (⟨2, ![R, C]⟩ : Shape) .f32) (h : G = Grad A B)
    (hb : (⟨0, ![]⟩ : Shape).BroadcastsInDim ⟨2, ![R, C]⟩ (![] : Fin 0 → Fin 2)) :
    (addf (mulf (num hb 0x3F666666#32) u) (mulf (num hb 0x3DCCCCCD#32) G) : (⟨2, ![R, C]⟩ : Shape).Idx → EReal) = Mom A B u := by
  rw [h]
  rfl
/-- the second, -/
theorem sq (A B : (⟨3, ![8, R, C]⟩ : Shape).Idx → EReal) (v : (⟨2, ![R, C]⟩ : Shape).Idx → EReal) (G : FVec Ideal (⟨2, ![R, C]⟩ : Shape) .f32) (h : G = Grad A B)
    (hb : (⟨0, ![]⟩ : Shape).BroadcastsInDim ⟨2, ![R, C]⟩ (![] : Fin 0 → Fin 2)) :
    (addf (mulf (num hb 0x3F7FBE77#32) v) (mulf (num hb 0x3A83126F#32) (mulf G G)) : (⟨2, ![R, C]⟩ : Shape).Idx → EReal) = Sq A B v := by
  rw [h]
  rfl
/-- and the change. -/
theorem delta (A B : (⟨3, ![8, R, C]⟩ : Shape).Idx → EReal) (w u v : (⟨2, ![R, C]⟩ : Shape).Idx → EReal) (G : FVec Ideal (⟨2, ![R, C]⟩ : Shape) .f32) (h : G = Grad A B)
    (hb : (⟨0, ![]⟩ : Shape).BroadcastsInDim ⟨2, ![R, C]⟩ (![] : Fin 0 → Fin 2)) :
    (mulf (num hb 0xBA83126F#32) (addf (Host.divf (Host.divf
        (addf (mulf (num hb 0x3F666666#32) u) (mulf (num hb 0x3DCCCCCD#32) G))
        (num hb 0x3F26BD02#32))
      (addf (Host.sqrt (Host.divf (addf (mulf (num hb 0x3F7FBE77#32) v) (mulf (num hb 0x3A83126F#32) (mulf G G)))
        (num hb 0x3C231ACC#32))) (num hb 0x322BCC77#32)))
      (mulf (num hb 0x3C23D70A#32) w)) : (⟨2, ![R, C]⟩ : Shape).Idx → EReal) = Delta A B w u v := by
  rw [h]
  rfl

end

end Cert.Step

end
-- ==== Proof.StepUp.lean ====
/-
  AdamW's step on the first feed-forward weight's shard: the 1024 rows in 4 blocks of 256. The gradient is the sum of what the eight devices sent; this
  device's own part is read from what it sent out, and where that lies is read from a table.
-/
module

public import proofs.«01_k».proof.Proof.Step
public import proofs.«01_k».proof.Proof.Gen.AdamUp.Frame
public import proofs.«01_k».proof.Proof.Gen.AdamUpIdeal.Frame

@[expose] public section

set_option maxRecDepth 16384

noncomputable section

namespace Cert.AdamUp.Own

open Cert.AdamUp Cert.AdamUp.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x512.size a ≤ S8x1024x512.size a := by decide +kernel

/-- and lies in its array. -/
theorem ok : Ok m := fun i => ⟨fun a => by rw [tf]; exact inb i a, .inr (Affine.block_words_dvd (of_decide_eq_true rfl) (by decide))⟩

end Cert.AdamUp.Own

namespace Cert.AdamUpIdeal.Own

open Cert.AdamUpIdeal Cert.AdamUpIdeal.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x512.size a ≤ S8x1024x512.size a := by decide +kernel

/-- and lies in its array. -/
theorem ok : Ok m := fun i => ⟨fun a => by rw [tf]; exact inb i a, .inr (Affine.block_words_dvd (of_decide_eq_true rfl) (by decide))⟩

end Cert.AdamUpIdeal.Own

namespace Cert.StepUp

open Cert.AdamUpIdeal Cert.AdamUpIdeal.Gen Cert.AdamUpIdeal.Own Idealize.ShloMosaic Idealize.ShloMosaic.TcCoe Idealize.SL.Sem

variable (m : (ℓ : Loc nD τ sig) → Buf (Elt Ideal) ℓ) (c : Dev nD)

/-- What the devices sent here, what this one sent out, the weight and its two moments. -/
abbrev a0 : S8x1024x512.Idx → EReal := m ((c : Thread nD τ).loc main_arg0)
abbrev a1 : S8x1024x512.Idx → EReal := m ((c : Thread nD τ).loc main_arg1)
abbrev a2 : S1024x512.Idx → EReal := m ((c : Thread nD τ).loc main_arg2)
abbrev a3 : S1024x512.Idx → EReal := m ((c : Thread nD τ).loc main_arg3)
abbrev a4 : S1024x512.Idx → EReal := m ((c : Thread nD τ).loc main_arg4)

abbrev cf := cfgM m (ok m)

theorem ltN (t : Fin (cf m).N) : t.val < 4 := lt_of_lt_of_eq t.isLt N_0

/-- The row of row `i` of point `t`'s blocks. -/
abbrev row (t : Fin (cf m).N) (i : Fin 256) : Fin 1024 := ⟨t.val * 256 + i.val, by have := ltN m t; omega⟩

/-- Where the windows' blocks lie. -/
theorem at3 : ∀ t : Fin grid0.N, cc0_transform_0 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0] :=
  (by decide +kernel : ∀ t : Fin grid0.N, _)
theorem idx (t : Fin (cf m).N) : ((cf m).win 0).index t = ![0, t.val, 0] ∧ ((cf m).win 1).index t = ![0, t.val, 0] ∧ ((cf m).win 2).index t = ![t.val, 0]
    ∧ ((cf m).win 3).index t = ![t.val, 0] ∧ ((cf m).win 4).index t = ![t.val, 0] ∧ ((cf m).win 5).index t = ![t.val, 0]
    ∧ ((cf m).win 6).index t = ![t.val, 0] ∧ ((cf m).win 7).index t = ![t.val, 0] ∧ ((cf m).win 8).index t = ![t.val, 0] :=
  have h := at3 t
  ⟨h.1, (tf m _).trans h.1, h.2⟩

theorem rd0 (t : Fin (cf m).N) (k i j) : (iblk m (ok m) c 0 t : S8x256x512.Idx → EReal) (ix3 k i j) = a0 m c (ix3 k (row m t i) j) := by
  blk_ext [iblk, V, idx m t]
theorem rd1 (t : Fin (cf m).N) (i j) : (iblk m (ok m) c 1 t : S1x256x512.Idx → EReal) (ix3 0 i j) = a1 m c (ix3 0 (row m t i) j) := by
  blk_ext [iblk, V, idx m t]
theorem rd2 (t : Fin (cf m).N) (i j) : (iblk m (ok m) c 2 t : S256x512.Idx → EReal) (ix2 i j) = a2 m c (ix2 (row m t i) j) := by
  blk_ext [iblk, V, idx m t]
theorem rd3 (t : Fin (cf m).N) (i j) : (iblk m (ok m) c 3 t : S256x512.Idx → EReal) (ix2 i j) = a3 m c (ix2 (row m t i) j) := by
  blk_ext [iblk, V, idx m t]
theorem rd4 (t : Fin (cf m).N) (i j) : (iblk m (ok m) c 4 t : S256x512.Idx → EReal) (ix2 i j) = a4 m c (ix2 (row m t i) j) := by
  blk_ext [iblk, V, idx m t]

/-- The body's four computed values, read at an entry. -/
theorem pay4 (v0 v3 v7 v11 v15 v19 v23 v27) (i j) : (k0_pay4 (F := Ideal) v0 v3 v7 v11 v15 v19 v23 v27 (ix2 i j) : EReal)
    = v0 (ix3 0 i j) + v3 (ix3 0 i j) + v7 (ix3 0 i j) + v11 (ix3 0 i j) + v15 (ix3 0 i j) + v19 (ix3 0 i j) + v23 (ix3 0 i j) + v27 (ix3 0 i j) := by
  pointwise [k0_pay4]
theorem pay1 (g u) (i j) : (k0_pay1 (F := Ideal) g u (Scalar.ofBits .f32 0x3F666666#32) (ix2 i j) : EReal) = Step.m' (g (ix2 i j)) (u (ix2 i j)) := rfl
theorem pay2 (g u) (i j) : (k0_pay2 (F := Ideal) g u (ix2 i j) : EReal) = Step.v' (g (ix2 i j)) (u (ix2 i j)) := rfl
theorem pay3 (g u v w) (i j) : (k0_pay3 (F := Ideal) g u (Scalar.ofBits .f32 0x3F666666#32) v w (ix2 i j) : EReal)
    = Step.d' (g (ix2 i j)) (w (ix2 i j)) (u (ix2 i j)) (v (ix2 i j)) := rfl

/-- What the body leaves in the four outputs' buffers: the gradient, -/
theorem p5 (i : grid0.Coords) (arg2 harg2 arg3 harg3 arg4 harg4 arg5 harg5 arg6 harg6 arg7 harg7 arg8 harg8 arg9 harg9 arg10 harg10)
    (x0 : S8x256x512.Idx → EReal) (x1 : S1x256x512.Idx → EReal) (x2 x3 x4 : S256x512.Idx → EReal) (xt0) (a : Fin 256) (b : Fin 512) :
    (out0_A_5 (F := Ideal) c i arg2 harg2 arg3 harg3 arg4 harg4 arg5 harg5 arg6 harg6 arg7 harg7 arg8 harg8 arg9 harg9 arg10 harg10 x0 x1 x2 x3 x4 xt0 (ix2 a b) : EReal) = (∑ k : Fin 8, Step.pick (x1 (ix3 0 a b)) (fun k => x0 (ix3 k a b)) k) := by
  frame_open
  frame_out
  exact (pay4 ..).trans (Step.parts ..)
/-- the change, -/
theorem p6 (i : grid0.Coords) (arg2 harg2 arg3 harg3 arg4 harg4 arg5 harg5 arg6 harg6 arg7 harg7 arg8 harg8 arg9 harg9 arg10 harg10)
    (x0 : S8x256x512.Idx → EReal) (x1 : S1x256x512.Idx → EReal) (x2 x3 x4 : S256x512.Idx → EReal) (xt0) (a : Fin 256) (b : Fin 512) :
    (out0_A_6 (F := Ideal) c i arg2 harg2 arg3 harg3 arg4 harg4 arg5 harg5 arg6 harg6 arg7 harg7 arg8 harg8 arg9 harg9 arg10 harg10 x0 x1 x2 x3 x4 xt0 (ix2 a b) : EReal) = Step.d' (∑ k : Fin 8, Step.pick (x1 (ix3 0 a b)) (fun k => x0 (ix3 k a b)) k) (x2 (ix2 a b)) (x3 (ix2 a b)) (x4 (ix2 a b)) := by
  frame_open
  frame_out
  refine (pay3 ..).trans ?_
  exact congrArg (fun g => Step.d' g _ _ _) ((pay4 ..).trans (Step.parts ..))
/-- the first moment, -/
theorem p7 (i : grid0.Coords) (arg2 harg2 arg3 harg3 arg4 harg4 arg5 harg5 arg6 harg6 arg7 harg7 arg8 harg8 arg9 harg9 arg10 harg10)
    (x0 : S8x256x512.Idx → EReal) (x1 : S1x256x512.Idx → EReal) (x2 x3 x4 : S256x512.Idx → EReal) (xt0) (a : Fin 256) (b : Fin 512) :
    (out0_A_7 (F := Ideal) c i arg2 harg2 arg3 harg3 arg4 harg4 arg5 harg5 arg6 harg6 arg7 harg7 arg8 harg8 arg9 harg9 arg10 harg10 x0 x1 x2 x3 x4 xt0 (ix2 a b) : EReal) = Step.m' (∑ k : Fin 8, Step.pick (x1 (ix3 0 a b)) (fun k => x0 (ix3 k a b)) k) (x3 (ix2 a b)) := by
  frame_open
  frame_out
  refine (pay1 ..).trans ?_
  exact congrArg (fun g => Step.m' g _) ((pay4 ..).trans (Step.parts ..))
/-- the second moment. -/
theorem p8 (i : grid0.Coords) (arg2 harg2 arg3 harg3 arg4 harg4 arg5 harg5 arg6 harg6 arg7 harg7 arg8 harg8 arg9 harg9 arg10 harg10)
    (x0 : S8x256x512.Idx → EReal) (x1 : S1x256x512.Idx → EReal) (x2 x3 x4 : S256x512.Idx → EReal) (xt0) (a : Fin 256) (b : Fin 512) :
    (out0_A_8 (F := Ideal) c i arg2 harg2 arg3 harg3 arg4 harg4 arg5 harg5 arg6 harg6 arg7 harg7 arg8 harg8 arg9 harg9 arg10 harg10 x0 x1 x2 x3 x4 xt0 (ix2 a b) : EReal) = Step.v' (∑ k : Fin 8, Step.pick (x1 (ix3 0 a b)) (fun k => x0 (ix3 k a b)) k) (x4 (ix2 a b)) := by
  frame_open
  frame_out
  refine (pay2 ..).trans ?_
  exact congrArg (fun g => Step.v' g _) ((pay4 ..).trans (Step.parts ..))

/-- The sum of a point's blocks is the gradient of their rows. -/
theorem sumAt (t : Fin (cf m).N) (i : Fin 256) (j : Fin 512) :
    (∑ k : Fin 8, Step.pick ((iblk m (ok m) c 1 t : S1x256x512.Idx → EReal) (ix3 0 i j)) (fun k => (iblk m (ok m) c 0 t : S8x256x512.Idx → EReal) (ix3 k i j)) k)
      = Step.grad (a0 m c) (a1 m c) (row m t i) j :=
  Step.sumAt _ _ _ _ _ i j (fun k => rd0 m c t k i j) (rd1 m c t i j)

/-- The block of gradients at a point, -/
theorem o5 (t : Fin (cf m).N) (i : Fin 256) (j : Fin 512) : ((outsAt0 m (ok m) c t).1 (ix2 i j) : EReal) = Step.grad (a0 m c) (a1 m c) (row m t i) j := by
  dsimp only [outsAt0]
  exact (p5 ..).trans (sumAt m c t i j)
/-- the block of changes, -/
theorem o6 (t : Fin (cf m).N) (i : Fin 256) (j : Fin 512) : ((outsAt0 m (ok m) c t).2.1 (ix2 i j) : EReal) = Step.d' (Step.grad (a0 m c) (a1 m c) (row m t i) j)
    (a2 m c (ix2 (row m t i) j)) (a3 m c (ix2 (row m t i) j)) (a4 m c (ix2 (row m t i) j)) := by
  dsimp only [outsAt0]
  exact (p6 ..).trans (congr (congr (congr (congrArg Step.d' (sumAt m c t i j)) (rd2 m c t i j)) (rd3 m c t i j)) (rd4 m c t i j))
/-- the block of first moments, -/
theorem o7 (t : Fin (cf m).N) (i : Fin 256) (j : Fin 512) : ((outsAt0 m (ok m) c t).2.2.1 (ix2 i j) : EReal) = Step.m' (Step.grad (a0 m c) (a1 m c) (row m t i) j) (a3 m c (ix2 (row m t i) j)) := by
  dsimp only [outsAt0]
  exact (p7 ..).trans (congr (congrArg Step.m' (sumAt m c t i j)) (rd3 m c t i j))
/-- and the block of second moments. -/
theorem o8 (t : Fin (cf m).N) (i : Fin 256) (j : Fin 512) : ((outsAt0 m (ok m) c t).2.2.2 (ix2 i j) : EReal) = Step.v' (Step.grad (a0 m c) (a1 m c) (row m t i) j) (a4 m c (ix2 (row m t i) j)) := by
  dsimp only [outsAt0]
  exact (p8 ..).trans (congr (congrArg Step.v' (sumAt m c t i j)) (rd4 m c t i j))

/-- The point that holds a row, and the row's place in its block. -/
def pt (i : Fin 1024) : Fin (cf m).N := ⟨i.val / 256, by have h : (cf m).N = 4 := N_0; omega⟩
def pl (i : Fin 1024) : Fin 256 := ⟨i.val % 256, by omega⟩
theorem back (x : S1024x512.Idx) : (ix2 (row m (pt m (x 0)) (pl (x 0))) (x 1) : S1024x512.Idx) = x :=
  (congrArg (fun p : Fin 1024 => (ix2 p (x 1) : S1024x512.Idx)) (Fin.ext (Nat.div_add_mod' _ _))).trans (ix2_eta x)

/-- Each output array ends whole: the gradient, -/
theorem emb5 (t : Fin (cf m).N) (i : Fin 256) (j : Fin 512) : (((cf m).win 5).blk t).view.emb (ix2 i j : S256x512.Idx) = (ix2 (row m t i) j : S1024x512.Idx) := by
  blk_ext [idx m t]
theorem final5 : (dats m (ok m) 0 c).arrAt 5 (cf m).N = Step.Grad (a0 m c) (a1 m c) := by
  refine (dats m (ok m) 0 c).arrAt_eq_of_emb 5 _ (fun t hf (y : S256x512.Idx) => ?_) (fun (x : S1024x512.Idx) => ⟨pt m (x 0), flush0_5 _ _, ?_⟩)
  · idx_vars y
    rw [emb5 m t y0 y1]
    refine Eq.trans ?_ (o5 m c t y0 y1)
    blk_simp
    rw [after0_5]
  · exact Step.mem_of _ _ _ ((emb5 m (pt m (x 0)) (pl (x 0)) (x 1)).trans (back m x))

/-- the change, -/
theorem emb6 (t : Fin (cf m).N) (i : Fin 256) (j : Fin 512) : (((cf m).win 6).blk t).view.emb (ix2 i j : S256x512.Idx) = (ix2 (row m t i) j : S1024x512.Idx) := by
  blk_ext [idx m t]
theorem final6 : (dats m (ok m) 0 c).arrAt 6 (cf m).N = Step.Delta (a0 m c) (a1 m c) (a2 m c) (a3 m c) (a4 m c) := by
  refine (dats m (ok m) 0 c).arrAt_eq_of_emb 6 _ (fun t hf (y : S256x512.Idx) => ?_) (fun (x : S1024x512.Idx) => ⟨pt m (x 0), flush0_6 _ _, ?_⟩)
  · idx_vars y
    rw [emb6 m t y0 y1]
    refine Eq.trans ?_ (o6 m c t y0 y1)
    blk_simp
    rw [after0_6]
  · exact Step.mem_of _ _ _ ((emb6 m (pt m (x 0)) (pl (x 0)) (x 1)).trans (back m x))

/-- the first moment, -/
theorem emb7 (t : Fin (cf m).N) (i : Fin 256) (j : Fin 512) : (((cf m).win 7).blk t).view.emb (ix2 i j : S256x512.Idx) = (ix2 (row m t i) j : S1024x512.Idx) := by
  blk_ext [idx m t]
theorem final7 : (dats m (ok m) 0 c).arrAt 7 (cf m).N = Step.Mom (a0 m c) (a1 m c) (a3 m c) := by
  refine (dats m (ok m) 0 c).arrAt_eq_of_emb 7 _ (fun t hf (y : S256x512.Idx) => ?_) (fun (x : S1024x512.Idx) => ⟨pt m (x 0), flush0_7 _ _, ?_⟩)
  · idx_vars y
    rw [emb7 m t y0 y1]
    refine Eq.trans ?_ (o7 m c t y0 y1)
    blk_simp
    rw [after0_7]
  · exact Step.mem_of _ _ _ ((emb7 m (pt m (x 0)) (pl (x 0)) (x 1)).trans (back m x))

/-- the second moment. -/
theorem emb8 (t : Fin (cf m).N) (i : Fin 256) (j : Fin 512) : (((cf m).win 8).blk t).view.emb (ix2 i j : S256x512.Idx) = (ix2 (row m t i) j : S1024x512.Idx) := by
  blk_ext [idx m t]
theorem final8 : (dats m (ok m) 0 c).arrAt 8 (cf m).N = Step.Sq (a0 m c) (a1 m c) (a4 m c) := by
  refine (dats m (ok m) 0 c).arrAt_eq_of_emb 8 _ (fun t hf (y : S256x512.Idx) => ?_) (fun (x : S1024x512.Idx) => ⟨pt m (x 0), flush0_8 _ _, ?_⟩)
  · idx_vars y
    rw [emb8 m t y0 y1]
    refine Eq.trans ?_ (o8 m c t y0 y1)
    blk_simp
    rw [after0_8]
  · exact Step.mem_of _ _ _ ((emb8 m (pt m (x 0)) (pl (x 0)) (x 1)).trans (back m x))

/-- The run, its results named: the four arrays, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = Step.Grad (a0 m c) (a1 m c)
      ∧ r.2.mem ((c.tc : Thread nD τ).loc main_v1_1) = Step.Delta (a0 m c) (a1 m c) (a2 m c) (a3 m c) (a4 m c)
      ∧ r.2.mem ((c.tc : Thread nD τ).loc main_v1_2) = Step.Mom (a0 m c) (a1 m c) (a3 m c)
      ∧ r.2.mem ((c.tc : Thread nD τ).loc main_v1_3) = Step.Sq (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c), ((h c).1 8).trans (final8 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.StepUp

end
-- ==== Proof.PoolA.lean ====
/-
  The pooling mixer's arithmetic: the window sums that the kernel makes by doubling, and the block's rows from them.
-/
module

public import proofs.«01_k».proof.Proof.Gen.PoolIdeal.Skeleton
public import Idealize.ShloMosaic.Lib.KernelVsHost
public import Idealize.ShloMosaic.Lib.Pointwise

@[expose] public section

set_option maxRecDepth 16384

noncomputable section

namespace Cert.Pool.Math

open Cert.PoolIdeal Cert.PoolIdeal.Gen Idealize.ShloMosaic Idealize.ShloMosaic.TcCoe Idealize.SL.Sem

/-- A column of the halo and the block, read at a row's number. -/
def at0 (x : S528x128.Idx → EReal) (j : Fin 128) (r : ℕ) : EReal := if h : r < 528 then x (ix2 ⟨r, h⟩ j) else 0

/-- The sum of a row and the `w - 1` rows before it. -/
def back (f : ℕ → EReal) (w r : ℕ) : EReal := ∑ k ∈ Finset.range w, f (r - k)

/-- A window of one row is the row. -/
theorem back_one (f : ℕ → EReal) (r : ℕ) : back f 1 r = f r := by simp [back]

/-- A window and the one before it make the window of twice the width. -/
theorem back_add (f : ℕ → EReal) (w r : ℕ) : back f w r + back f w (r - w) = back f (w + w) r := by
  simp only [back, Finset.sum_range_add]
  exact congrArg _ (Finset.sum_congr rfl fun k _ => by rw [Nat.sub_sub])

/-- Windows added to themselves, rotated by their width. -/
def dbl (n : BitVec 32) (x : FVec Ideal S528x128 .f32) : FVec Ideal S528x128 .f32 :=
  addf x (dynamicRotate 0 n none x rotates_S528x128_d0)

/-- Doubling gives the windows of twice the width, from the row that has a whole one on. -/
theorem dbl_back (x acc : FVec Ideal S528x128 .f32) (n : BitVec 32) (j : Fin 128) (w : ℕ) (hn : n.toNat = w) (hw : 0 < w) (hw' : w < 528)
    (h : ∀ r : Fin 528, w ≤ r.val + 1 → (acc (ix2 r j) : EReal) = back (at0 x j) w r.val) (r : Fin 528) (hr : w + w ≤ r.val + 1) :
    (dbl n acc (ix2 r j) : EReal) = back (at0 x j) (w + w) r.val := by
  have e : (dynamicRotate 0 n none acc rotates_S528x128_d0 (ix2 r j) : EReal) = acc (ix2 ⟨r.val - w, by omega⟩ j) := by
    refine dynamicRotate_apply 0 n acc rotates_S528x128_d0 _ _ fun b => ?_
    fin_cases b
    · show r.val - w = (r.val + 528 - n.toNat % 528) % 528
      have := r.isLt
      rw [hn, Nat.mod_eq_of_lt hw']
      omega
    · rfl
  show (acc (ix2 r j) : EReal) + dynamicRotate 0 n none acc rotates_S528x128_d0 (ix2 r j) = _
  rw [e, h r (by omega), h ⟨r.val - w, by omega⟩ (by show w ≤ r.val - w + 1; omega), back_add]

/-- Windows of two, -/
theorem d2 (x : FVec Ideal S528x128 .f32) (j : Fin 128) (r : Fin 528) (hr : 2 ≤ r.val + 1) :
    (dbl 1#32 x (ix2 r j) : EReal) = back (at0 x j) 2 r.val :=
  dbl_back x x 1#32 j 1 rfl (by omega) (by omega) (fun r _ => by rw [back_one, at0, dif_pos r.isLt]) r hr
/-- of four, -/
theorem d4 (x : FVec Ideal S528x128 .f32) (j : Fin 128) (r : Fin 528) (hr : 4 ≤ r.val + 1) :
    (dbl 2#32 (dbl 1#32 x) (ix2 r j) : EReal) = back (at0 x j) 4 r.val :=
  dbl_back x _ 2#32 j 2 rfl (by omega) (by omega) (d2 x j) r hr
/-- of eight, -/
theorem d8 (x : FVec Ideal S528x128 .f32) (j : Fin 128) (r : Fin 528) (hr : 8 ≤ r.val + 1) :
    (dbl 4#32 (dbl 2#32 (dbl 1#32 x)) (ix2 r j) : EReal) = back (at0 x j) 8 r.val :=
  dbl_back x _ 4#32 j 4 rfl (by omega) (by omega) (d4 x j) r hr
/-- and of sixteen rows. -/
theorem d16 (x : FVec Ideal S528x128 .f32) (j : Fin 128) (r : Fin 528) (hr : 16 ≤ r.val + 1) :
    (dbl 8#32 (dbl 4#32 (dbl 2#32 (dbl 1#32 x))) (ix2 r j) : EReal) = back (at0 x j) 16 r.val :=
  dbl_back x _ 8#32 j 8 rfl (by omega) (by omega) (d8 x j) r hr

/-- The windows' means less the rows themselves: the first sixteen rows are divided by the number of positions in their windows,
    the others multiplied by the reciprocal of the width. -/
def diff (n : BitVec 32) (b : BitVec 32) (p : BitVec 32) (acc : FVec Ideal S528x128 .f32) (cur : FVec Ideal S512x128 .f32) : FVec Ideal S512x128 .bf16 :=
  truncf .bf16 (subf (concatenate S512x128 0
    [⟨S16x128, divf (extractStridedSlice S16x128 ![0, 0] (extractStridedSlice S512x128 ![16, 0] acc slices_S528x128_o16_0_S512x128) slices_S512x128_o0_0_S16x128)
        (sitofp .f32 (minsi (addi (addi (broadcast S16x128 p) (iota .tc S16x128 32 [0] iota_S16x128_d0_w32)) (broadcast S16x128 1#32)) (broadcast S16x128 n)))⟩,
     ⟨S496x128, mulf (extractStridedSlice S496x128 ![16, 0] (extractStridedSlice S512x128 ![16, 0] acc slices_S528x128_o16_0_S512x128) slices_S512x128_o16_0_S496x128)
        (broadcast S496x128 (Scalar.ofBits .f32 b))⟩] concatenates_S16x128_S496x128_S512x128_d0) cur) bitsLt_bf16_f32

/-- A group's product with its weight, shifted and scaled. -/
def lin (d : FVec Ideal S512x128 .bf16) (w : Vec Ideal S1x128x128 .bf16) (b s : Vec Ideal S1x128 .f32) : FVec Ideal S512x128 .bf16 :=
  truncf .bf16 (mulf (addf (matmul (φ₂ := .bf16) dot_S512x128_S128x128_S512x128_1_0_0_1_n_n none d (shapeCast S128x128 w shapeCasts_S1x128x128_S128x128) (constant S512x128 .f32 0x00000000#32))
    (broadcastTo S512x128 (shapeCast S1x128 b shapeCasts_S1x128_S1x128) broadcasts_S1x128_S512x128)) (broadcastTo S512x128 s broadcasts_S1x128_S512x128)) bitsLt_bf16_f32

/-- An entry of a group's product. -/
theorem lin_at (d w b s) (i : Fin 512) (j : Fin 128) : (lin d w b s (ix2 i j) : EReal)
    = (∑ k : Fin 128, (d (ix2 i k) : EReal) * w (ix3 0 k j) + b (ix2 0 j)) * s (ix2 0 j) := by
  pointwise [lin]

/-- A small number is its word's value. -/
theorem sitofp_eq (n : BitVec 32) (w : ℕ) (hn : n.toNat = w) (hw : w ≤ 16) : (FloatOps.sitofp (F := Ideal) FTy.f32 n : EReal) = ((w : ℝ) : EReal) := by
  show (((n.toInt : ℤ) : ℝ) : EReal) = _
  rw [BitVec.toInt_eq_toNat_of_lt (by omega), hn]; simp

/-- The number of the positions in a window: the width, or the row's number and one where that is less. -/
theorem count_eq (a n : BitVec 32) (w : ℕ) (ha : a.toNat < 2147483648) (hn : n.toNat = w) (hw : w ≤ 16) :
    (FloatOps.sitofp (F := Ideal) FTy.f32 (IntOp.minsi a n) : EReal) = (((min a.toNat w : ℕ) : ℝ) : EReal) := by
  refine sitofp_eq _ _ ?_ (by omega)
  show (if a.slt n then a else n).toNat = _
  have e : a.slt n = decide (a.toNat < n.toNat) := by
    rw [Bool.eq_iff_iff, BitVec.slt_iff_toInt_lt, decide_eq_true_iff, BitVec.toInt_eq_toNat_of_lt (by omega), BitVec.toInt_eq_toNat_of_lt (by omega)]
    omega
  rw [e]
  by_cases h : a.toNat < n.toNat
  · rw [if_pos (by simpa using h)]; omega
  · rw [if_neg (by simpa using h)]; omega

/-- A window's mean less the row. -/
theorem diff_at (n b p : BitVec 32) (w : ℕ) (hn : n.toNat = w) (hw : w ≤ 16) (hw0 : 0 < w)
    (hb : Ideal.ofBits .f32 b = ((1 / (w : ℝ) : ℝ) : EReal)) (hp' : p.toNat < 8192)
    (acc : FVec Ideal S528x128 .f32) (cur) (i : Fin 512) (j : Fin 128) :
    (diff n b p acc cur (ix2 i j) : EReal)
      = Ideal.div (acc (ix2 ⟨i.val + 16, by omega⟩ j)) (((min (p.toNat + i.val + 1) w : ℕ) : ℝ) : EReal) - cur (ix2 i j) := by
  have e : (p + BitVec.ofNat 32 i.val + 1#32).toNat = p.toNat + i.val + 1 := by
    simp only [BitVec.toNat_add, BitVec.toNat_ofNat]; omega
  have hc := count_eq (p + BitVec.ofNat 32 i.val + 1#32) n w (by omega) hn hw
  rw [e] at hc
  pointwise [diff]
  refine congrArg (· - (cur (ix2 i j) : EReal)) ?_
  split_ifs with h
  · refine Eq.trans (congrArg (Ideal.div _) hc) ?_
    exact congrArg (fun q => Ideal.div (acc (ix2 q j)) (((min (p.toNat + i.val + 1) w : ℕ) : ℝ) : EReal)) (Fin.ext (Nat.add_comm _ _))
  · have hi : 16 ≤ i.val := Nat.le_of_not_lt h
    rw [hb, min_eq_right (by omega : w ≤ p.toNat + i.val + 1), Ideal.div_coe (by exact_mod_cast hw0.ne')]
    exact congrArg (fun q => (acc (ix2 q j) : EReal) * ((1 / (w : ℝ) : ℝ) : EReal)) (Fin.ext (by show 16 + (16 + (i.val - 16)) = i.val + 16; omega))
  · exact absurd rfl ‹_›

/-- The first group's columns as one formula, -/
theorem g0 (i v1 v3 w b s) : k0_pay5 (F := Ideal) (k0_pay4 i v1 v3 w b) s
    = lin (diff 2#32 0x3F000000#32 (Scalar.muli (Scalar.addi (BitVec.ofNat 32 (i 0).val) 9#32) 512#32)
        (dbl 1#32 (extractStridedSlice S528x128 ![0, 0] (k0_pay3 i v1 v3) slices_S528x512_o0_0_S528x128))
        (extractStridedSlice S512x128 ![0, 0] (k0_pay2 v1) slices_S512x512_o0_0_S512x128)) w b s := rfl
/-- the second's, -/
theorem g1 (v0 v2 v10 w b s) : k0_pay6 (F := Ideal) v0 v2 v10 w b s
    = lin (diff 4#32 0x3E800000#32 (Scalar.muli v0 512#32)
        (dbl 2#32 (dbl 1#32 (extractStridedSlice S528x128 ![0, 128] v10 slices_S528x512_o0_128_S528x128)))
        (extractStridedSlice S512x128 ![0, 128] v2 slices_S512x512_o0_128_S512x128)) w b s := rfl
/-- the third's, -/
theorem g2 (v0 v2 v10 w b s) : k0_pay7 (F := Ideal) v0 v2 v10 w b s
    = lin (diff 8#32 0x3E000000#32 (Scalar.muli v0 512#32)
        (dbl 4#32 (dbl 2#32 (dbl 1#32 (extractStridedSlice S528x128 ![0, 256] v10 slices_S528x512_o0_256_S528x128))))
        (extractStridedSlice S512x128 ![0, 256] v2 slices_S512x512_o0_256_S512x128)) w b s := rfl
/-- and the fourth's. -/
theorem g3 (v0 v2 v10 w b s) : k0_pay10 (F := Ideal) v0 (k0_pay8 v10) (k0_pay9 v2) 512#32 w b s
    = lin (diff 16#32 0x3D800000#32 (Scalar.muli v0 512#32)
        (dbl 8#32 (dbl 4#32 (dbl 2#32 (dbl 1#32 (extractStridedSlice S528x128 ![0, 384] v10 slices_S528x512_o0_384_S528x128)))))
        (extractStridedSlice S512x128 ![0, 384] v2 slices_S512x512_o0_384_S512x128)) w b s := rfl

/-- The halo above the block and the block's rows, a row at a time; past the first block the halo is kept. -/
theorem ext_at (i : grid0.Coords) (v1 : Vec Ideal S512x512 .bf16) (v3 : Vec Ideal S16x512 .bf16) (r : Fin 528) (n : Fin 512) :
    (k0_pay3 i v1 v3 (ix2 r n) : EReal) = if h : r.val < 16 then (v3 (ix2 ⟨r.val, h⟩ n) : EReal) else v1 (ix2 ⟨r.val - 16, by omega⟩ n) := by
  have hk : ∀ k : Fin 7, (Scalar.extui (Scalar.cmpi .sgt (Scalar.addi (BitVec.ofNat 32 k.val) 9#32) 0#32) : BitVec 32) = 1#32 := by decide
  have hf : ((((Scalar.extui (Scalar.cmpi .sgt (Scalar.addi (BitVec.ofNat 32 (i 0).val) 9#32) 0#32) : BitVec 32).toInt : ℤ) : ℝ) : EReal) = 1 := by
    rw [hk (i 0)]
    simp
  pointwise [k0_pay3, k0_pay2]
  split_ifs
  · exact (congrArg _ hf).trans (mul_one _)
  · rfl
  · rfl

/-- A column of a group. -/
def col (g : Fin 4) (c : Fin 128) : Fin 512 := ⟨g.val * 128 + c.val, by omega⟩

/-- The groups' window widths. -/
def wid : Fin 4 → ℕ := ![2, 4, 8, 16]

/-- The row `k` rows ago, zero before the first. -/
def past (u : S8192x512.Idx → EReal) (n : Fin 512) (r : Fin 8192) (k : ℕ) : EReal := if k ≤ r.val then u (ix2 ⟨r.val - k, by omega⟩ n) else 0

/-- The pooling mixer at a row: the group's window mean less the row itself, by the group's weight, shifted and scaled. -/
def val (u : S8192x512.Idx → EReal) (pw : S4x128x128.Idx → EReal) (pb : S4x128.Idx → EReal) (ps : S1x512.Idx → EReal)
    (r : Fin 8192) (g : Fin 4) (j : Fin 128) : EReal :=
  (∑ c : Fin 128, (Ideal.div (∑ k ∈ Finset.range (wid g), past u (col g c) r k) (((min (r.val + 1) (wid g) : ℕ) : ℝ) : EReal) - u (ix2 r (col g c)))
    * pw (ix3 g c j) + pb (ix2 g j)) * ps (ix2 0 (col g j))

/-- A group's columns of a block, from its window sums. -/
theorem grp (u : S8192x512.Idx → EReal) (pw : S4x128x128.Idx → EReal) (pb : S4x128.Idx → EReal) (ps : S1x512.Idx → EReal)
    (g : Fin 4) (q : ℕ) (hq' : q + 512 ≤ 8192) (n b p : BitVec 32) (hn : n.toNat = wid g) (hw : wid g ≤ 16) (hw0 : 0 < wid g)
    (hb : Ideal.ofBits .f32 b = ((1 / (wid g : ℝ) : ℝ) : EReal)) (hp : p.toNat = q)
    (x acc : FVec Ideal S528x128 .f32) (cur : FVec Ideal S512x128 .f32) (wv : Vec Ideal S1x128x128 .bf16) (bv sv : Vec Ideal S1x128 .f32)
    (hx : ∀ (r : Fin 528) (c : Fin 128), (x (ix2 r c) : EReal) = if 16 ≤ q + r.val then u (ix2 ⟨q + r.val - 16, by omega⟩ (col g c)) else 0)
    (hacc : ∀ (c : Fin 128) (r : Fin 528), wid g ≤ r.val + 1 → (acc (ix2 r c) : EReal) = back (at0 x c) (wid g) r.val)
    (hcur : ∀ (r : Fin 512) (c : Fin 128), (cur (ix2 r c) : EReal) = u (ix2 ⟨q + r.val, by omega⟩ (col g c)))
    (hwv : ∀ c j : Fin 128, (wv (ix3 0 c j) : EReal) = pw (ix3 g c j)) (hbv : ∀ j : Fin 128, (bv (ix2 0 j) : EReal) = pb (ix2 g j))
    (hsv : ∀ j : Fin 128, (sv (ix2 0 j) : EReal) = ps (ix2 0 (col g j))) (i : Fin 512) (j : Fin 128) :
    (lin (diff n b p acc cur) wv bv sv (ix2 i j) : EReal) = val u pw pb ps ⟨q + i.val, by omega⟩ g j := by
  rw [lin_at, hbv, hsv, val]
  refine congrArg (fun z => (z + pb (ix2 g j)) * ps (ix2 0 (col g j))) (Finset.sum_congr rfl fun c _ => ?_)
  rw [diff_at n b p (wid g) hn hw hw0 hb (by omega) acc cur i c, hwv, hcur, hacc c _ (by show wid g ≤ i.val + 16 + 1; omega), hp]
  refine congrArg (fun z => (Ideal.div z (((min (q + i.val + 1) (wid g) : ℕ) : ℝ) : EReal) - u (ix2 ⟨q + i.val, by omega⟩ (col g c))) * pw (ix3 g c j))
    (Finset.sum_congr rfl fun k hk => ?_)
  have hk' := Finset.mem_range.1 hk
  rw [at0, dif_pos (by show i.val + 16 - k < 528; omega), hx, past]
  by_cases h : k ≤ q + i.val
  · rw [if_pos (by show 16 ≤ q + (i.val + 16 - k); omega), if_pos h]
    exact congrArg (fun z => u (ix2 z (col g c))) (Fin.ext (by show q + (i.val + 16 - k) - 16 = q + i.val - k; omega))
  · rw [if_neg (by show ¬ 16 ≤ q + (i.val + 16 - k); omega), if_neg h]

/-- The columns of a row that a group reads. -/
theorem ld_row (Z : S1x512.Idx → Elt Ideal .f32) (g : Fin 4) (o : ℕ) (ho : o = g.val * 128)
    (inb : ∀ a, (![0, o] : Fin 2 → ℕ) a + (![1, 128] : Fin 2 → ℕ) a ≤ S1x512.size a) (j : Fin 128) :
    View.ld Z (Rect.unit (s := S1x512) ![0, o] ![1, 128] inb) (ix2 (0 : Fin 1) j) = Z (ix2 0 (col g j)) := by
  subst ho
  refine congrArg Z ?_
  funext a
  refine Fin.ext ?_
  fin_cases a
  · rfl
  · show g.val * 128 + 1 * j.val = g.val * 128 + j.val; omega

/-- The weight that a group reads. -/
theorem ld_w (Z : S4x128x128.Idx → Elt Ideal .bf16) (g : Fin 4) (o : ℕ) (ho : o = g.val)
    (inb : ∀ a, (![o, 0, 0] : Fin 3 → ℕ) a + (![1, 128, 128] : Fin 3 → ℕ) a ≤ S4x128x128.size a) (k j : Fin 128) :
    View.ld Z (Rect.unit (s := S4x128x128) ![o, 0, 0] ![1, 128, 128] inb) (ix3 (0 : Fin 1) k j) = Z (ix3 g k j) := by
  subst ho
  refine congrArg Z ?_
  funext a
  refine Fin.ext ?_
  fin_cases a
  · rfl
  · show 0 + 1 * k.val = k.val; omega
  · show 0 + 1 * j.val = j.val; omega

/-- A group's columns of the block with its halo, -/
theorem ext_col (E : FVec Ideal S528x512 .f32) (g : Fin 4) (o : ℕ) (ho : o = g.val * 128) (h : S528x512.Slices ![0, o] S528x128) (r : Fin 528) (j : Fin 128) :
    (extractStridedSlice S528x128 ![0, o] E h (ix2 r j) : EReal) = E (ix2 r (col g j)) := by
  subst ho
  refine congrArg E ?_
  funext a
  refine Fin.ext ?_
  fin_cases a
  · show 0 + r.val = r.val; omega
  · show g.val * 128 + j.val = g.val * 128 + j.val; omega

/-- and of the block. -/
theorem cur_col (B : FVec Ideal S512x512 .f32) (g : Fin 4) (o : ℕ) (ho : o = g.val * 128) (h : S512x512.Slices ![0, o] S512x128) (r : Fin 512) (j : Fin 128) :
    (extractStridedSlice S512x128 ![0, o] B h (ix2 r j) : EReal) = B (ix2 r (col g j)) := by
  subst ho
  refine congrArg B ?_
  funext a
  refine Fin.ext ?_
  fin_cases a
  · show 0 + r.val = r.val; omega
  · show g.val * 128 + j.val = g.val * 128 + j.val; omega

/-- A group's columns of a point's block, from the block with its halo, the block, and the weight's, the shift's and the scale's blocks. -/
theorem tile (u : S8192x512.Idx → EReal) (pw : S4x128x128.Idx → EReal) (pb : S4x128.Idx → EReal) (ps : S1x512.Idx → EReal)
    (q : ℕ) (hq' : q + 512 ≤ 8192) (p : BitVec 32) (hp : p.toNat = q) (E : FVec Ideal S528x512 .f32) (B : FVec Ideal S512x512 .f32)
    (W : S4x128x128.Idx → Elt Ideal .bf16) (Y Z : S1x512.Idx → Elt Ideal .f32)
    (hE : ∀ (r : Fin 528) (c : Fin 512), (E (ix2 r c) : EReal) = if 16 ≤ q + r.val then u (ix2 ⟨q + r.val - 16, by omega⟩ c) else 0)
    (hB : ∀ (r : Fin 512) (c : Fin 512), (B (ix2 r c) : EReal) = u (ix2 ⟨q + r.val, by omega⟩ c))
    (hW : ∀ g k j, (W (ix3 g k j) : EReal) = pw (ix3 g k j)) (hY : ∀ (g : Fin 4) (j : Fin 128), (Y (ix2 0 (col g j)) : EReal) = pb (ix2 g j))
    (hZ : ∀ i j, (Z (ix2 i j) : EReal) = ps (ix2 i j))
    (g : Fin 4) (o o' : ℕ) (ho : o = g.val * 128) (ho' : o' = g.val) (n b : BitVec 32) (hn : n.toNat = wid g) (hw : wid g ≤ 16) (hw0 : 0 < wid g)
    (hb : Ideal.ofBits .f32 b = ((1 / (wid g : ℝ) : ℝ) : EReal)) (hs : S528x512.Slices ![0, o] S528x128) (hs' : S512x512.Slices ![0, o] S512x128)
    (acc : FVec Ideal S528x128 .f32 → FVec Ideal S528x128 .f32)
    (hacc : ∀ (x : FVec Ideal S528x128 .f32) (j : Fin 128) (r : Fin 528), wid g ≤ r.val + 1 → (acc x (ix2 r j) : EReal) = back (at0 x j) (wid g) r.val)
    (ib ib' iw) (x0 : Fin 512) (x1 : Fin 128) (y0 y1 : Fin 512) (h0 : y0.val = x0.val) (h1 : y1.val = o + x1.val) :
    (lin (diff n b p (acc (extractStridedSlice S528x128 ![0, o] E hs)) (extractStridedSlice S512x128 ![0, o] B hs'))
      (View.ld W (Rect.unit (s := S4x128x128) ![o', 0, 0] ![1, 128, 128] iw))
      (View.ld Y (Rect.unit (s := S1x512) ![0, o] ![1, 128] ib))
      (View.ld Z (Rect.unit (s := S1x512) ![0, o] ![1, 128] ib')) (ix2 x0 x1) : EReal)
      = val u pw pb ps ⟨q + y0.val, by omega⟩ ⟨y1.val / 128, by omega⟩ ⟨y1.val % 128, by omega⟩ := by
  refine (grp u pw pb ps g q hq' n b p hn hw hw0 hb hp _ _ _ _ _ _
    (fun r j => (ext_col E g o ho hs r j).trans (hE _ _)) (hacc _) (fun r j => (cur_col B g o ho hs' r j).trans (hB _ _)) (fun k j => (ld_w _ g o' ho' iw k j).trans (hW _ _ _))
    (fun j => (ld_row _ g o ho ib j).trans (hY _ _)) (fun j => (ld_row _ g o ho ib' j).trans (hZ _ _)) x0 x1).trans ?_
  congr 1
  · exact Fin.ext (by show q + x0.val = q + y0.val; omega)
  · exact Fin.ext (by show g.val = y1.val / 128; omega)
  · exact Fin.ext (by show x1.val = y1.val % 128; omega)

/-- The pooling mixer at an array's place. -/
def Val (u : S8192x512.Idx → EReal) (pw : S4x128x128.Idx → EReal) (pb : S4x128.Idx → EReal) (ps : S1x512.Idx → EReal) (x : S8192x512.Idx) : EReal :=
  val u pw pb ps (x 0) ⟨(x 1).val / 128, by have : (x 1).val < 512 := (x 1).isLt; omega⟩ ⟨(x 1).val % 128, by omega⟩

/-- The pattern of `1/4`. -/
theorem cquarter : Ideal.ofBits .f32 0x3E800000#32 = ((1 / 4 : ℝ) : EReal) := by
  simp [Ideal.ofBits, Ideal.ieee, -EReal.coe_mul, -EReal.coe_neg]; norm_num
/-- The pattern of `1/8`. -/
theorem ceighth : Ideal.ofBits .f32 0x3E000000#32 = ((1 / 8 : ℝ) : EReal) := by
  simp [Ideal.ofBits, Ideal.ieee, -EReal.coe_mul, -EReal.coe_neg]; norm_num
/-- The pattern of `1/16`. -/
theorem csixteenth : Ideal.ofBits .f32 0x3D800000#32 = ((1 / 16 : ℝ) : EReal) := by
  simp [Ideal.ofBits, Ideal.ieee, -EReal.coe_mul, -EReal.coe_neg]; norm_num

end Cert.Pool.Math

end
-- ==== Proof.Alg.lean ====
/-
  Arithmetic on the extended reals that the block-by-block comparison needs, free of programs and arrays:
  what the constants denote, how a non-negative real factor passes through a sum, the derivative of the
  squared rectifier, and the two written forms of the RMS norm's input gradient.
-/
module

public import Idealize.ShloMosaic.PureOps.Ideal
public import Idealize.ShloMosaic.Lib.Pointwise

@[expose] public section

noncomputable section

namespace Cert.Core

open Idealize.ShloMosaic

/-- The pattern of `1024`. -/
theorem c1024 : Ideal.ofBits .f32 0x44800000#32 = ((1024 : ℝ) : EReal) := by
  simp [Ideal.ofBits, Ideal.ieee, -EReal.coe_mul, -EReal.coe_neg]; norm_num

/-- The pattern of `1/2`. -/
theorem chalf : Ideal.ofBits .f32 0x3F000000#32 = ((1 / 2 : ℝ) : EReal) := by
  simp [Ideal.ofBits, Ideal.ieee, -EReal.coe_mul, -EReal.coe_neg]; norm_num

/-- The pattern of `-1/2`. -/
theorem cneghalf : Ideal.ofBits .f32 0xBF000000#32 = ((-(1 / 2) : ℝ) : EReal) := by
  simp [Ideal.ofBits, Ideal.ieee, -EReal.coe_mul, -EReal.coe_neg]; norm_num

/-- The pattern of `2`. -/
theorem ctwo : Ideal.ofBits .f32 0x40000000#32 = ((2 : ℝ) : EReal) := by
  simp [Ideal.ofBits, Ideal.ieee, -EReal.coe_mul, -EReal.coe_neg]; norm_num

/-- The pattern of `1/1024`. -/
theorem cinv1024 : Ideal.ofBits .f32 0x3A800000#32 = ((1 / 1024 : ℝ) : EReal) := by
  simp [Ideal.ofBits, Ideal.ieee, -EReal.coe_mul, -EReal.coe_neg]; norm_num

/-- The pattern of the norm's small constant: a positive real. -/
theorem ceps : ∃ e : ℝ, 0 < e ∧ Ideal.ofBits .f32 0x3727C5AC#32 = (e : EReal) := by
  refine ⟨10995116 * (2 : ℝ) ^ (-40 : ℤ), by norm_num, ?_⟩
  simp [Ideal.ofBits, Ideal.ieee, -EReal.coe_mul, -EReal.coe_neg]

/-- Dividing by a nonzero real is multiplying by its reciprocal. -/
theorem div_real (x : EReal) (r : ℝ) (hr : r ≠ 0) : Ideal.div x (r : EReal) = x * ((r⁻¹ : ℝ) : EReal) := by
  rw [Ideal.div, if_neg (by exact_mod_cast hr), EReal.coe_inv]

/-- A non-negative real factor passes into a sum, whatever the terms. -/
theorem real_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

/-- Twice is the sum of two. -/
theorem two_mul_eq (y : EReal) : ((2 : ℝ) : EReal) * y = y + y := by
  induction y with
  | bot => rw [EReal.coe_mul_bot_of_pos (by norm_num)]; rfl
  | top => rw [EReal.coe_mul_top_of_pos (by norm_num)]; rfl
  | coe a => rw [← EReal.coe_mul, ← EReal.coe_add, two_mul]

/-- A square is not negative. -/
theorem sq_nonneg' (x : EReal) : 0 ≤ x * x := by
  induction x with
  | bot => rw [EReal.bot_mul_bot]; exact le_top
  | top => rw [EReal.top_mul_top]; exact le_top
  | coe a => rw [← EReal.coe_mul]; exact_mod_cast mul_self_nonneg a

/-- A number whose square is below `⊤` is real. -/
theorem real_of_sq {x : EReal} (h : x * x ≠ ⊤) : ∃ a : ℝ, x = (a : EReal) := by
  induction x with
  | bot => exact absurd EReal.bot_mul_bot h
  | top => exact absurd EReal.top_mul_top h
  | coe a => exact ⟨a, rfl⟩

/-- The squared rectifier's derivative: `d · (2 · max s 0)` against the guarded `max s 0 · d + d · max s 0`. -/
theorem relu_sq (s d : EReal) :
    d * (((2 : ℝ) : EReal) * max s 0) = if 0 < s then max s 0 * d + d * max s 0 else 0 := by
  split
  · rw [mul_comm (max s 0) d, ← two_mul_eq, ← mul_assoc, ← mul_assoc, mul_comm d]
  · rename_i h
    rw [max_eq_right (not_lt.mp h), mul_zero, mul_zero]

/-- The RMS norm's input gradient: the factored form against the form of its three branches. `x` is the row,
    `ct` the cotangent of the normalised row (after the gain), `e` the norm's small constant. -/
theorem rms_bwd {n : ℕ} (x ct : Fin n → EReal) (e : ℝ) (he : 0 < e) (s : EReal)
    (hs : s = Ideal.div (∑ k, x k * x k) ((1024 : ℝ) : EReal) + (e : EReal)) (j : Fin n) :
    Ideal.rsqrt s * (ct j - (x j * Ideal.rsqrt s) * Ideal.div (∑ k, ct k * (x k * Ideal.rsqrt s)) ((1024 : ℝ) : EReal))
      = (ct j * Ideal.rsqrt s
          + x j * Ideal.div ((∑ k, x k * ct k) * (((-(1 / 2) : ℝ) : EReal) * Ideal.div (Ideal.rsqrt s) s)) ((1024 : ℝ) : EReal))
        + Ideal.div ((∑ k, x k * ct k) * (((-(1 / 2) : ℝ) : EReal) * Ideal.div (Ideal.rsqrt s) s)) ((1024 : ℝ) : EReal) * x j := by
  have h0 : 0 ≤ ∑ k, x k * x k := Finset.sum_nonneg fun k _ => sq_nonneg' _
  have hm0 : 0 ≤ Ideal.div (∑ k, x k * x k) ((1024 : ℝ) : EReal) := by
    rw [div_real _ _ (by norm_num)]
    exact mul_nonneg h0 (by exact_mod_cast (by norm_num : (0 : ℝ) ≤ (1024 : ℝ)⁻¹))
  rcases eq_or_ne s ⊤ with htop | htop
  · rw [htop, Ideal.rsqrt_top, zero_mul, mul_zero, zero_add]
    have : Ideal.div (0 : EReal) ⊤ = 0 := by rw [Ideal.div, if_neg (by decide), zero_mul]
    rw [this, mul_zero, mul_zero, div_real _ _ (by norm_num), zero_mul, zero_mul, mul_zero, add_zero]
  · have hsum : ∑ k, x k * x k ≠ ⊤ := by
      intro h
      rw [h, div_real _ _ (by norm_num), EReal.top_mul_coe_of_pos (by norm_num), EReal.top_add_coe] at hs
      exact htop hs
    have hreal : ∀ k, ∃ a : ℝ, x k = (a : EReal) := fun k => real_of_sq fun h => hsum <|
      top_le_iff.mp (h ▸ Finset.single_le_sum (f := fun k => x k * x k) (fun k _ => sq_nonneg' _) (Finset.mem_univ k))
    choose a ha using hreal
    obtain ⟨σ, hσ⟩ : ∃ σ : ℝ, s = (σ : EReal) := by
      induction s with
      | bot =>
        exfalso
        have : (0 : EReal) ≤ ⊥ := hs ▸ add_nonneg hm0 (by exact_mod_cast he.le)
        exact absurd this (by decide)
      | top => exact absurd rfl htop
      | coe σ => exact ⟨σ, rfl⟩
    have hσ0 : 0 < σ := by
      have : (0 : EReal) < s := by
        rw [hs]
        calc (0 : EReal) < (e : EReal) := by exact_mod_cast he
          _ = 0 + (e : EReal) := (zero_add _).symm
          _ ≤ _ := by gcongr
      rw [hσ] at this; exact_mod_cast this
    have hr : Ideal.rsqrt s = (((Real.sqrt σ)⁻¹ : ℝ) : EReal) := by
      rw [hσ, Ideal.rsqrt_coe, if_neg (not_lt.mpr hσ0.le), if_neg hσ0.ne']
    have hρ0 : 0 < (Real.sqrt σ)⁻¹ := inv_pos.mpr (Real.sqrt_pos.mpr hσ0)
    have hρ2 : (Real.sqrt σ)⁻¹ * (Real.sqrt σ)⁻¹ = σ⁻¹ := by
      rw [← mul_inv, Real.mul_self_sqrt hσ0.le]
    rw [hr, hσ]
    generalize (Real.sqrt σ)⁻¹ = ρ at hρ0 hρ2
    have hsumA : ∑ k, ct k * (x k * (ρ : EReal)) = (ρ : EReal) * ∑ k, x k * ct k := by
      rw [real_mul_sum _ _ hρ0.le]
      exact Finset.sum_congr rfl fun k _ => by rw [mul_comm (x k) (ct k), ← mul_assoc, mul_comm]
    rw [hsumA]
    generalize ∑ k, x k * ct k = B
    rw [div_real _ _ (by norm_num), div_real _ _ (by norm_num), div_real _ _ hσ0.ne', ha j]
    generalize a j = b
    generalize ct j = c
    have hρn : (0 : EReal) ≤ (ρ : EReal) := by exact_mod_cast hρ0.le
    have e1 : (b : EReal) * (ρ : EReal) * ((ρ : EReal) * B * ((1024⁻¹ : ℝ) : EReal))
        = ((b * ρ * ρ * 1024⁻¹ : ℝ) : EReal) * B := by
      push_cast; ac_rfl
    have e2 : (b : EReal) * (B * (((-(1 / 2) : ℝ) : EReal) * ((ρ : EReal) * ((σ⁻¹ : ℝ) : EReal))) * ((1024⁻¹ : ℝ) : EReal))
        = ((b * -(1 / 2) * ρ * σ⁻¹ * 1024⁻¹ : ℝ) : EReal) * B := by
      push_cast; ac_rfl
    rw [mul_comm _ (b : EReal), e1, e2, add_assoc, ← two_mul_eq, ← mul_assoc, ← EReal.coe_mul, mul_comm c,
      sub_eq_add_neg, EReal.left_distrib_of_nonneg_of_ne_top hρn (EReal.coe_ne_top _), ← neg_mul, ← EReal.coe_neg,
      ← mul_assoc, ← EReal.coe_mul]
    congr 3
    rw [← hρ2]; ring

end Cert.Core

end
-- ==== Proof.PoolB.lean ====
/-
  The mixers' second forward call, the pooling result: the blocks its points read, what they write, and the array after the last point.
-/
module

public import proofs.«01_k».proof.Proof.Gen.PoolIdeal.Frame
public import proofs.«01_k».proof.Proof.PoolA
public import proofs.«01_k».proof.Proof.Alg
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Pool

open Cert.PoolIdeal Cert.PoolIdeal.Gen Idealize.ShloMosaic Idealize.ShloMosaic.TcCoe Idealize.SL.Sem Cert.Pool.Math

variable (m : (ℓ : Loc nD τ sig) → Buf (Elt Ideal) ℓ) (c : Dev nD)

/-- The array of the earlier call, the pooled inputs, the weight, the shift and the scale. -/
abbrev a1 : S8192x512.Idx → EReal := m ((c : Thread nD τ).loc main_arg1)
abbrev a3 : S8192x512.Idx → EReal := m ((c : Thread nD τ).loc main_arg3)
abbrev a6 : S4x128x128.Idx → EReal := m ((c : Thread nD τ).loc main_arg6)
abbrev a7 : S4x128.Idx → EReal := m ((c : Thread nD τ).loc main_arg7)
abbrev a8 : S1x512.Idx → EReal := m ((c : Thread nD τ).loc main_arg8)

theorem lt7 (t : Fin cfg0.N) : t.val < 7 := lt_of_lt_of_eq t.isLt N_0

/-- Where the windows' blocks lie. -/
theorem idx : ∀ t : Fin cfg0.N, win0_0.index t = ![t.val + 9, 0] ∧ win0_1.index t = ![(t.val + 9) * 32 - 1, 0] ∧ win0_5.index t = ![0, 0, 0]
    ∧ win0_6.index t = ![0, 0] ∧ win0_7.index t = ![0, 0] ∧ win0_10.index t = ![t.val + 9, 0] ∧ (grid0.coords t 0).val = t.val :=
  (by decide +kernel : ∀ t : Fin grid0.N, _)

/-- The first row of a point's block. -/
abbrev row (t : Fin cfg0.N) : ℕ := (t.val + 9) * 512

theorem rd0 (t : Fin cfg0.N) (i n) : (iblk m c 0 t : S512x512.Idx → EReal) (ix2 i n) = a3 m c (ix2 ⟨row t + i.val, by have := lt7 t; unfold row; omega⟩ n) := by
  blk_ext [iblk, V, idx t]
theorem rd1 (t : Fin cfg0.N) (i n) : (iblk m c 1 t : S16x512.Idx → EReal) (ix2 i n) = a3 m c (ix2 ⟨row t - 16 + i.val, by have := lt7 t; unfold row; omega⟩ n) := by
  blk_ext [iblk, V, idx t]
  unfold row
  omega
theorem rd5 (t : Fin cfg0.N) (g k j) : (iblk m c 5 t : S4x128x128.Idx → EReal) (ix3 g k j) = a6 m c (ix3 g k j) := by
  blk_simp [iblk]
  entry_read
  pointwise
  blk_ext [idx t]
theorem rd6 (t : Fin cfg0.N) (g : Fin 4) (j : Fin 128) : (iblk m c 6 t : S1x512.Idx → EReal) (ix2 0 (col g j)) = a7 m c (ix2 g j) := by
  blk_simp [iblk]
  entry_read
  pointwise
  blk_ext [idx t]
  · show (g.val * 128 + j.val) / 128 = g.val; omega
  · show (g.val * 128 + j.val) % 128 = j.val; omega
theorem rd7 (t : Fin cfg0.N) (i n) : (iblk m c 7 t : S1x512.Idx → EReal) (ix2 i n) = a8 m c (ix2 i n) := by
  blk_ext [iblk, V, idx t]

/-- The tile's number, times its rows. -/
theorem base (t : Fin cfg0.N) : (Scalar.muli (Scalar.addi (BitVec.ofNat 32 (grid0.coords t 0).val) 9#32) 512#32 : BitVec 32).toNat = row t := by
  rw [(idx t).2.2.2.2.2.2]
  exact (by decide : ∀ k : Fin 7, (Scalar.muli (Scalar.addi (BitVec.ofNat 32 k.val) 9#32) 512#32 : BitVec 32).toNat = (k.val + 9) * 512) ⟨t.val, lt7 t⟩

/-- The block with its halo, -/
theorem ext (t : Fin cfg0.N) (r : Fin 528) (n : Fin 512) : (k0_pay3 (F := Ideal) (grid0.coords t) (iblk m c 0 t) (iblk m c 1 t) (ix2 r n) : EReal)
      = if 16 ≤ row t + r.val then a3 m c (ix2 ⟨row t + r.val - 16, by have := lt7 t; unfold row; omega⟩ n) else 0 := by
  rw [ext_at, if_pos (by unfold row; omega)]
  split_ifs with hr
  · refine (rd1 m c t _ _).trans (congrArg (fun z => a3 m c (ix2 z n)) (Fin.ext ?_))
    show row t - 16 + r.val = row t + r.val - 16
    unfold row; omega
  · refine (rd0 m c t _ _).trans (congrArg (fun z => a3 m c (ix2 z n)) (Fin.ext ?_))
    show row t + (r.val - 16) = row t + r.val - 16
    omega

/-- and a group's columns of what a point writes in it. -/
abbrev tile (t : Fin cfg0.N) := Math.tile (a3 m c) (a6 m c) (a7 m c) (a8 m c) (row t) (by have := lt7 t; unfold row; omega) _ (base t) _ _ _ _ _
  (ext m c t) (rd0 m c t) (rd5 m c t) (rd6 m c t) (rd7 m c t)

/-- What a point writes in its block. -/
theorem o10 (t : Fin cfg0.N) (y0 y1 : Fin 512) : ((outsAt0 m c t).1 (ix2 y0 y1) : EReal)
    = val (a3 m c) (a6 m c) (a7 m c) (a8 m c) ⟨row t + y0.val, by have := lt7 t; unfold row; omega⟩ ⟨y1.val / 128, by omega⟩ ⟨y1.val % 128, by omega⟩ := by
  dsimp only [outsAt0]
  frame_open
  frame_out
  canon_tiles x h
  · idx_vars x
    exact (congrFun (g3 _ _ _ _ _ _) _).trans (tile m c t 3 384 3 rfl rfl 16#32 _ rfl (by decide) (by decide) csixteenth _ _
      (fun x => dbl 8#32 (dbl 4#32 (dbl 2#32 (dbl 1#32 x)))) d16 _ _ _ _ _ y0 y1 h0 h1)
  · idx_vars x
    exact (congrFun (g2 _ _ _ _ _ _) _).trans (tile m c t 2 256 2 rfl rfl 8#32 _ rfl (by decide) (by decide) ceighth _ _
      (fun x => dbl 4#32 (dbl 2#32 (dbl 1#32 x))) d8 _ _ _ _ _ y0 y1 h0 h1)
  · idx_vars x
    exact (congrFun (g1 _ _ _ _ _ _) _).trans (tile m c t 1 128 1 rfl rfl 4#32 _ rfl (by decide) (by decide) cquarter _ _
      (fun x => dbl 2#32 (dbl 1#32 x)) d4 _ _ _ _ _ y0 y1 h0 h1)
  · idx_vars x
    exact (congrFun (g0 _ _ _ _ _ _) _).trans (tile m c t 0 0 0 rfl rfl 2#32 _ rfl (by decide) (by decide) Core.chalf _ _
      (fun x => dbl 1#32 x) d2 _ _ _ _ _ y0 y1 h0 (h1.trans (Nat.zero_add _).symm))

/-- The array after the last point: the earlier call's rows before the first block, the pooling mixer's from there on. -/
def Out (e u : S8192x512.Idx → EReal) (pw : S4x128x128.Idx → EReal) (pb : S4x128.Idx → EReal) (ps : S1x512.Idx → EReal) (x : S8192x512.Idx) : EReal :=
  if 9 ≤ (x 0).val / 512 then Val u pw pb ps x else e x

theorem final10 : (dats m 0 c).arrAt 10 cfg0.N = fun i => if 9 ≤ (i 0).val / 512 then Val (a3 m c) (a6 m c) (a7 m c) (a8 m c) i else V m c main_v2_0 i := by
  refine (dats m 0 c).arrAt_eq_of_coversWhere 10 _ (fun β => 9 ≤ β (0 : Fin _)) (by decide +kernel) (fun t hf y => ?_) (fun j => Iff.rfl)
  blk_simp
  rw [after0_10]
  idx_vars y
  refine (o10 m c t y0 y1).trans ?_
  refine Eq.trans (b := Val (a3 m c) (a6 m c) (a7 m c) (a8 m c) (ix2 ⟨row t + y0.val, by have := lt7 t; unfold row; omega⟩ y1)) rfl ?_
  blk_ext [idx t]

theorem entry10 : (V m c main_v2_0 : S8192x512.Idx → EReal) = a1 m c := by
  entry_read
  rfl

/-- The run, its result named, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v2_0) = Out (a1 m c) (a3 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h.1 c).1 10).trans ((final10 m c).trans (by rw [entry10]; rfl)), h.2 c⟩)
    (θ_run_and (run_main m ρ) (unchanged m ρ))

end Cert.Pool

end
-- ==== Proof.PoolC.lean ====
/-
  The pooling result's reference, at an index: the sum over the positions of the window, and its result in one formula with the kernel's.
-/
module

public import proofs.«01_k».proof.Proof.PoolB
public import proofs.«01_k».proof.Proof.Gen.RefPoolIdeal.Run
public import Idealize.ShloMosaic.Lib.Pointwise

@[expose] public section

set_option maxRecDepth 16384

noncomputable section

namespace Cert.Pool

open Cert.RefPoolIdeal Cert.RefPoolIdeal.Gen Idealize.ShloMosaic Idealize.ShloMosaic.TcCoe Idealize.SL.Sem Cert.Pool.Math

/-- The widths' words. -/
theorem lit (g : Fin 4) : (lit0 (S4.rowMajor (ix1 g))).toNat = wid g := by
  fin_cases g <;> rfl

theorem wid_le (g : Fin 4) : wid g ≤ 16 := by
  fin_cases g <;> decide

/-- How long ago a position was, as a word. -/
theorem ago (r s : Fin 8192) : (BitVec.ofNat 32 r.val - BitVec.ofNat 32 s.val).toInt = (r.val : ℤ) - s.val := by
  have := r.isLt
  have := s.isLt
  rw [BitVec.toInt_eq_toNat_cond]
  simp only [BitVec.toNat_sub, BitVec.toNat_ofNat]
  split_ifs <;> omega

/-- The mark of the positions in a row's window. -/
theorem mark (r s : Fin 8192) (n : BitVec 32) (w : ℕ) (hn : n.toNat = w) (hw : w ≤ 16) :
    (FloatOps.uitofp (F := Ideal) FTy.f32 (IntOp.andi (IntOp.cmpi .sge (IntOp.subi (BitVec.ofNat 32 r.val) (BitVec.ofNat 32 s.val)) 0#32)
      (IntOp.cmpi .slt (IntOp.subi (BitVec.ofNat 32 r.val) (BitVec.ofNat 32 s.val)) n)) : EReal)
      = if s.val ≤ r.val ∧ r.val < s.val + w then 1 else 0 := by
  have e1 : (0#32 : BitVec 32).sle (BitVec.ofNat 32 r.val - BitVec.ofNat 32 s.val) = decide (s.val ≤ r.val) := by
    rw [Bool.eq_iff_iff, BitVec.sle_iff_toInt_le, ago, decide_eq_true_iff, show (0#32 : BitVec 32).toInt = 0 from rfl]
    omega
  have e2 : (BitVec.ofNat 32 r.val - BitVec.ofNat 32 s.val).slt n = decide (r.val < s.val + w) := by
    rw [Bool.eq_iff_iff, BitVec.slt_iff_toInt_lt, ago, decide_eq_true_iff, BitVec.toInt_eq_toNat_of_lt (by omega), hn]
    omega
  show (((BitVec.ofBool ((0#32 : BitVec 32).sle (BitVec.ofNat 32 r.val - BitVec.ofNat 32 s.val))
    &&& BitVec.ofBool ((BitVec.ofNat 32 r.val - BitVec.ofNat 32 s.val).slt n)).toNat : ℝ) : EReal) = _
  rw [e1, e2]
  by_cases h1 : s.val ≤ r.val <;> by_cases h2 : r.val < s.val + w <;> simp [h1, h2]

/-- The marked positions' sum is the window's, of the rows there are. -/
theorem sum_mark (f : Fin 8192 → EReal) (r : Fin 8192) (w : ℕ) :
    ∑ s : Fin 8192, f s * (if s.val ≤ r.val ∧ r.val < s.val + w then 1 else 0) = ∑ k ∈ Finset.range w, if k ≤ r.val then f ⟨r.val - k, by omega⟩ else 0 := by
  have := r.isLt
  simp only [mul_ite, mul_one, mul_zero]
  rw [← Finset.sum_filter, ← Finset.sum_filter]
  refine Finset.sum_bij' (fun s _ => r.val - s.val) (fun k _ => (⟨r.val - k, by omega⟩ : Fin 8192)) (fun s hs => ?_) (fun k hk => ?_) (fun s hs => ?_) (fun k hk => ?_)
    (fun s hs => ?_)
  · have := (Finset.mem_filter.1 hs).2
    exact Finset.mem_filter.2 ⟨Finset.mem_range.2 (by omega), by omega⟩
  · have h1 := Finset.mem_range.1 (Finset.mem_filter.1 hk).1
    have h2 := (Finset.mem_filter.1 hk).2
    exact Finset.mem_filter.2 ⟨Finset.mem_univ _, by show r.val - k ≤ r.val; omega, by show r.val < r.val - k + w; omega⟩
  · have := (Finset.mem_filter.1 hs).2
    exact Fin.ext (by show r.val - (r.val - s.val) = s.val; omega)
  · have := (Finset.mem_filter.1 hk).2
    show r.val - (r.val - k) = k
    omega
  · have := (Finset.mem_filter.1 hs).2
    exact congrArg f (Fin.ext (by show s.val = r.val - (r.val - s.val); omega))

/-- The reference's pooling is the kernel's, at every row. -/
theorem pooling (u : S8192x512.Idx → EReal) (pw : S4x128x128.Idx → EReal) (pb : S4x128.Idx → EReal) (ps : S1x512.Idx → EReal) :
    ((truncf (F := Ideal) .bf16 (mulf (shapeCast _ (addf (transpose S8192x4x128 [2, 0, 1] (Host.dotGeneral (φ₁ := .f32) (φ₂ := .f32) dot_S4x128x128_S8192x4x128_S4x128x8192_1_2_2_0_0_1 none pw (subf (Host.divf (transpose S8192x4x128 [2, 0, 1] (Host.dotGeneral (φ₁ := .f32) (φ₂ := .f32) dot_S8192x4x128_S4x8192x8192_S4x128x8192_0_2_2_1_1_0 none (shapeCast _ (extf (F := Ideal) .f32 u bitsLt_bf16_f32) shapeCasts_S8192x512_S8192x4x128) (uitofp .f32 (andi (broadcastInDim S4x8192x8192 ![0, 1, 2] bcast_S1x8192x8192_S4x8192x8192_0_1_2 (cmpi .sge (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S1x8192x8192 ![] bcast_S_S1x8192x8192 (constantI S_ 32 0#32)))) (cmpi .slt (broadcastInDim S4x8192x8192 ![0, 1, 2] bcast_S1x8192x8192_S4x8192x8192_0_1_2 (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S4x8192x8192 ![0, 1, 2] bcast_S4x1x1_S4x8192x8192_0_1_2 (broadcastInDim S4x1x1 ![0] bcast_S4_S4x1x1_0 ((fun i => lit0 (S4.rowMajor i))))))))) transposes_S4x128x8192_S8192x4x128_2_0_1) (broadcastInDim S8192x4x128 ![0, 1, 2] bcast_S8192x4x1_S8192x4x128_0_1_2 (broadcastInDim S8192x4x1 ![0, 1] bcast_S8192x4_S8192x4x1_0_1 (sitofp .f32 (minsi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (broadcastInDim S8192x4 ![0, 1] bcast_S1x4_S8192x4_0_1 (broadcastInDim S1x4 ![1] bcast_S4_S1x4_1 ((fun i => lit0 (S4.rowMajor i)))))))))) (shapeCast _ (extf (F := Ideal) .f32 u bitsLt_bf16_f32) shapeCasts_S8192x512_S8192x4x128))) transposes_S4x128x8192_S8192x4x128_2_0_1) (broadcastInDim S8192x4x128 ![0, 1, 2] bcast_S1x4x128_S8192x4x128_0_1_2 (broadcastInDim S1x4x128 ![1, 2] bcast_S4x128_S1x4x128_1_2 pb))) shapeCasts_S8192x4x128_S8192x512) (broadcastInDim S8192x512 ![0, 1] bcast_S1x512_S8192x512_0_1 ps)) bitsLt_bf16_f32) : S8192x512.Idx → EReal)
      = Val u pw pb ps := by
  funext x
  idx_vars x
  pointwise
  have hx := x0.isLt
  have hw := wid_le ⟨x1.val / 128, by omega⟩
  have hn : (BitVec.ofNat 32 x0.val + 1#32).toNat = x0.val + 1 := by simp only [BitVec.toNat_add, BitVec.toNat_ofNat]; omega
  have hc := count_eq (BitVec.ofNat 32 x0.val + 1#32) _ _ (by omega) (lit ⟨x1.val / 128, by omega⟩) hw
  rw [hn] at hc
  refine congrArg₂ (· * ·) (congrArg (· + pb _) (Finset.sum_congr rfl fun k _ => ?_)) (congrArg ps (congrArg (ix2 0) (Fin.ext ?_)))
  · refine (mul_comm _ _).trans (congrArg₂ (fun z y => (Ideal.div z y - u _) * pw _) ?_ hc)
    refine (Finset.sum_congr rfl fun s _ => congrArg (u (ix2 s _) * ·) (mark x0 s _ _ (lit _) hw)).trans ?_
    exact sum_mark (fun s => u (ix2 s _)) x0 _
  · show x1.val = x1.val / 128 * 128 + x1.val % 128
    omega

/-- The rows before the second call's first block are the earlier call's. -/
theorem rows (e y : S8192x512.Idx → EReal) :
    (select (broadcastInDim S8192x512 ![0, 1] bcast_S8192x1_S8192x512_0_1 (cmpi .slt (broadcastInDim S8192x1 ![0] bcast_S8192_S8192x1_0 (iotaInDim S8192 32 0)) (broadcastInDim S8192x1 ![] bcast_S_S8192x1 (constantI S_ 32 4608#32)))) e y : S8192x512.Idx → EReal)
      = fun x => if 9 ≤ (x 0).val / 512 then y x else e x := by
  funext x
  idx_vars x
  pointwise
  have hlt : Scalar.select (IntOp.cmpi .slt (BitVec.ofNat 32 x0.val) 4608#32) = fun a b : EReal => if x0.val < 4608 then a else b := by
    have hx := x0.isLt
    have e1 : (BitVec.ofNat 32 x0.val).slt 4608#32 = decide (x0.val < 4608) := by
      rw [Bool.eq_iff_iff, BitVec.slt_iff_toInt_lt, decide_eq_true_iff, BitVec.toInt_eq_toNat_of_lt (by simp only [BitVec.toNat_ofNat]; omega), show (4608#32 : BitVec 32).toInt = 4608 from rfl]
      simp only [BitVec.toNat_ofNat]
      omega
    funext a b
    show (if BitVec.ofBool ((BitVec.ofNat 32 x0.val).slt 4608#32) = 1#1 then a else b) = _
    rw [e1]
    by_cases h : x0.val < 4608 <;> simp [h]
  rw [hlt]
  show (if x0.val < 4608 then _ else _) = if 9 ≤ x0.val / 512 then y (ix2 x0 x1) else e (ix2 x0 x1)
  by_cases h : x0.val < 4608
  · rw [if_pos h, if_neg (by omega)]
  · rw [if_neg h, if_pos (by omega)]

/-- The second call's reference is the kernel's. -/
theorem ref (e u : S8192x512.Idx → EReal) (pw : S4x128x128.Idx → EReal) (pb : S4x128.Idx → EReal) (ps : S1x512.Idx → EReal) :
    ((select (broadcastInDim S8192x512 ![0, 1] bcast_S8192x1_S8192x512_0_1 (cmpi .slt (broadcastInDim S8192x1 ![0] bcast_S8192_S8192x1_0 (iotaInDim S8192 32 0)) (broadcastInDim S8192x1 ![] bcast_S_S8192x1 (constantI S_ 32 4608#32)))) e (truncf (F := Ideal) .bf16 (mulf (shapeCast _ (addf (transpose S8192x4x128 [2, 0, 1] (Host.dotGeneral (φ₁ := .f32) (φ₂ := .f32) dot_S4x128x128_S8192x4x128_S4x128x8192_1_2_2_0_0_1 none pw (subf (Host.divf (transpose S8192x4x128 [2, 0, 1] (Host.dotGeneral (φ₁ := .f32) (φ₂ := .f32) dot_S8192x4x128_S4x8192x8192_S4x128x8192_0_2_2_1_1_0 none (shapeCast _ (extf (F := Ideal) .f32 u bitsLt_bf16_f32) shapeCasts_S8192x512_S8192x4x128) (uitofp .f32 (andi (broadcastInDim S4x8192x8192 ![0, 1, 2] bcast_S1x8192x8192_S4x8192x8192_0_1_2 (cmpi .sge (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S1x8192x8192 ![] bcast_S_S1x8192x8192 (constantI S_ 32 0#32)))) (cmpi .slt (broadcastInDim S4x8192x8192 ![0, 1, 2] bcast_S1x8192x8192_S4x8192x8192_0_1_2 (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S4x8192x8192 ![0, 1, 2] bcast_S4x1x1_S4x8192x8192_0_1_2 (broadcastInDim S4x1x1 ![0] bcast_S4_S4x1x1_0 ((fun i => lit0 (S4.rowMajor i))))))))) transposes_S4x128x8192_S8192x4x128_2_0_1) (broadcastInDim S8192x4x128 ![0, 1, 2] bcast_S8192x4x1_S8192x4x128_0_1_2 (broadcastInDim S8192x4x1 ![0, 1] bcast_S8192x4_S8192x4x1_0_1 (sitofp .f32 (minsi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (broadcastInDim S8192x4 ![0, 1] bcast_S1x4_S8192x4_0_1 (broadcastInDim S1x4 ![1] bcast_S4_S1x4_1 ((fun i => lit0 (S4.rowMajor i)))))))))) (shapeCast _ (extf (F := Ideal) .f32 u bitsLt_bf16_f32) shapeCasts_S8192x512_S8192x4x128))) transposes_S4x128x8192_S8192x4x128_2_0_1) (broadcastInDim S8192x4x128 ![0, 1, 2] bcast_S1x4x128_S8192x4x128_0_1_2 (broadcastInDim S1x4x128 ![1, 2] bcast_S4x128_S1x4x128_1_2 pb))) shapeCasts_S8192x4x128_S8192x512) (broadcastInDim S8192x512 ![0, 1] bcast_S1x512_S8192x512_0_1 ps)) bitsLt_bf16_f32)) : S8192x512.Idx → EReal)
      = Out e u pw pb ps := by
  rw [rows, pooling]
  rfl

end Cert.Pool

end
-- ==== Proof.PoolF.lean ====
/-
  The mixers' first forward call, the pooling result of the rows that it writes: its blocks, the array that it leaves, and its reference.
-/
module

public import proofs.«01_k».proof.Proof.Gen.PoolFirstIdeal.Frame
public import proofs.«01_k».proof.Proof.Gen.RefPoolFirstIdeal.Run
public import proofs.«01_k».proof.Proof.PoolC

@[expose] public section

set_option maxRecDepth 16384

noncomputable section

namespace Cert.PoolFirst

section Kernel

open Cert.PoolFirstIdeal Cert.PoolFirstIdeal.Gen Idealize.ShloMosaic Idealize.ShloMosaic.TcCoe Idealize.SL.Sem Cert.Pool.Math

variable (m : (ℓ : Loc nD τ sig) → Buf (Elt Ideal) ℓ) (c : Dev nD)

/-- The pooled inputs, the weight, the shift and the scale. -/
abbrev a0 : S8192x512.Idx → EReal := m ((c : Thread nD τ).loc main_arg0)
abbrev a3 : S4x128x128.Idx → EReal := m ((c : Thread nD τ).loc main_arg3)
abbrev a4 : S4x128.Idx → EReal := m ((c : Thread nD τ).loc main_arg4)
abbrev a5 : S1x512.Idx → EReal := m ((c : Thread nD τ).loc main_arg5)

theorem lt9 (t : Fin cfg0.N) : t.val < 9 := lt_of_lt_of_eq t.isLt N_0

/-- Where the windows' blocks lie: the halo's of the first point is the array's first, and is not used. -/
theorem idx : ∀ t : Fin cfg0.N, win0_0.index t = ![t.val, 0] ∧ win0_1.index t = ![t.val * 32 - 1, 0] ∧ win0_5.index t = ![0, 0, 0]
    ∧ win0_6.index t = ![0, 0] ∧ win0_7.index t = ![0, 0] ∧ win0_10.index t = ![t.val, 0] ∧ (grid0.coords t 0).val = t.val :=
  (by decide +kernel : ∀ t : Fin grid0.N, _)

/-- The first row of a point's block. -/
abbrev row (t : Fin cfg0.N) : ℕ := t.val * 512

theorem rd0 (t : Fin cfg0.N) (i n) : (iblk m c 0 t : S512x512.Idx → EReal) (ix2 i n) = a0 m c (ix2 ⟨row t + i.val, by have := lt9 t; unfold row; omega⟩ n) := by
  blk_ext [iblk, V, idx t]
theorem rd1 (t : Fin cfg0.N) (ht : 0 < t.val) (i n) : (iblk m c 1 t : S16x512.Idx → EReal) (ix2 i n) = a0 m c (ix2 ⟨row t + i.val - 16, by have := lt9 t; unfold row; omega⟩ n) := by
  blk_ext [iblk, V, idx t]
  unfold row
  omega
theorem rd5 (t : Fin cfg0.N) (g k j) : (iblk m c 5 t : S4x128x128.Idx → EReal) (ix3 g k j) = a3 m c (ix3 g k j) := by
  blk_simp [iblk]
  entry_read
  pointwise
  blk_ext [idx t]
theorem rd6 (t : Fin cfg0.N) (g : Fin 4) (j : Fin 128) : (iblk m c 6 t : S1x512.Idx → EReal) (ix2 0 (col g j)) = a4 m c (ix2 g j) := by
  have e : (V m c main_v1 : S1x512.Idx → EReal) = shapeCast S1x512 (a4 m c) shapeCasts_S4x128_S1x512 := by
    entry_read
    rfl
  blk_simp [iblk]
  refine (congrFun e _).trans ?_
  pointwise
  blk_ext [idx t]
  · show (g.val * 128 + j.val) / 128 = g.val; omega
  · show (g.val * 128 + j.val) % 128 = j.val; omega
theorem rd7 (t : Fin cfg0.N) (i n) : (iblk m c 7 t : S1x512.Idx → EReal) (ix2 i n) = a5 m c (ix2 i n) := by
  blk_ext [iblk, V, idx t]

/-- The tile's number, times its rows. -/
theorem base (t : Fin cfg0.N) : (Scalar.muli (Scalar.addi (BitVec.ofNat 32 (grid0.coords t 0).val) 0#32) 512#32 : BitVec 32).toNat = row t := by
  rw [(idx t).2.2.2.2.2.2]
  exact (by decide : ∀ k : Fin 9, (Scalar.muli (Scalar.addi (BitVec.ofNat 32 k.val) 0#32) 512#32 : BitVec 32).toNat = k.val * 512) ⟨t.val, lt9 t⟩

/-- The factor of the halo: zero at the first point, one at the others. -/
theorem keep (t : Fin cfg0.N) : ((((Scalar.extui (Scalar.cmpi .sgt (Scalar.addi (BitVec.ofNat 32 (grid0.coords t 0).val) 0#32) 0#32) : BitVec 32).toInt : ℤ) : ℝ) : EReal)
    = if 0 < t.val then 1 else 0 := by
  rw [(idx t).2.2.2.2.2.2, (by decide : ∀ k : Fin 9, (Scalar.extui (Scalar.cmpi .sgt (Scalar.addi (BitVec.ofNat 32 k.val) 0#32) 0#32) : BitVec 32)
    = if 0 < k.val then 1#32 else 0#32) ⟨t.val, lt9 t⟩]
  by_cases h : 0 < t.val
  · rw [if_pos h, if_pos h]; simp
  · rw [if_neg h, if_neg h]; simp

/-- The block with its halo, zero above the first row, -/
theorem ext (t : Fin cfg0.N) (r : Fin 528) (n : Fin 512) : (k0_pay3 (F := Ideal) (grid0.coords t) (iblk m c 0 t) (iblk m c 1 t) (ix2 r n) : EReal)
      = if 16 ≤ row t + r.val then a0 m c (ix2 ⟨row t + r.val - 16, by have := lt9 t; unfold row; omega⟩ n) else 0 := by
  have e : (k0_pay3 (F := Ideal) (grid0.coords t) (iblk m c 0 t) (iblk m c 1 t) (ix2 r n) : EReal)
      = if h : r.val < 16 then HMul.hMul (α := EReal) (β := EReal) ((iblk m c 1 t : S16x512.Idx → EReal) (ix2 ⟨r.val, h⟩ n)) (if 0 < t.val then 1 else 0)
        else (iblk m c 0 t : S512x512.Idx → EReal) (ix2 ⟨r.val - 16, by omega⟩ n) := by
    rw [← keep t]
    pointwise [k0_pay3, k0_pay2]
  rw [e]
  by_cases hr : r.val < 16
  · rw [dif_pos hr]
    by_cases ht : 0 < t.val
    · rw [if_pos ht, mul_one, if_pos (by unfold row; omega)]
      exact rd1 m c t ht _ _
    · rw [if_neg ht, mul_zero, if_neg (by unfold row; omega)]
  · rw [dif_neg hr, if_pos (by omega)]
    refine (rd0 m c t _ _).trans (congrArg (fun z => a0 m c (ix2 z n)) (Fin.ext ?_))
    show row t + (r.val - 16) = row t + r.val - 16
    omega

/-- and a group's columns of what a point writes in it. -/
abbrev tile (t : Fin cfg0.N) := Cert.Pool.Math.tile (a0 m c) (a3 m c) (a4 m c) (a5 m c) (row t) (by have := lt9 t; unfold row; omega) _ (base t) _ _ _ _ _
  (ext m c t) (rd0 m c t) (rd5 m c t) (rd6 m c t) (rd7 m c t)

/-- The first group's columns as one formula; the other groups' are the second call's. -/
theorem g0 (i v1 v3 w b s) : k0_pay5 (F := Ideal) (k0_pay4 i v1 v3 w b) s
    = lin (diff 2#32 0x3F000000#32 (Scalar.muli (Scalar.addi (BitVec.ofNat 32 (i 0).val) 0#32) 512#32)
        (dbl 1#32 (extractStridedSlice S528x128 ![0, 0] (k0_pay3 i v1 v3) slices_S528x512_o0_0_S528x128))
        (extractStridedSlice S512x128 ![0, 0] (k0_pay2 v1) slices_S512x512_o0_0_S512x128)) w b s := rfl

/-- What a point writes in its block. -/
theorem o10 (t : Fin cfg0.N) (y0 y1 : Fin 512) : ((outsAt0 m c t).1 (ix2 y0 y1) : EReal)
    = val (a0 m c) (a3 m c) (a4 m c) (a5 m c) ⟨row t + y0.val, by have := lt9 t; unfold row; omega⟩ ⟨y1.val / 128, by omega⟩ ⟨y1.val % 128, by omega⟩ := by
  dsimp only [outsAt0]
  frame_open
  frame_out
  canon_tiles x h
  · idx_vars x
    exact (congrFun (g3 _ _ _ _ _ _) _).trans (tile m c t 3 384 3 rfl rfl 16#32 _ rfl (by decide) (by decide) csixteenth _ _
      (fun x => dbl 8#32 (dbl 4#32 (dbl 2#32 (dbl 1#32 x)))) d16 _ _ _ _ _ y0 y1 h0 h1)
  · idx_vars x
    exact (congrFun (g2 _ _ _ _ _ _) _).trans (tile m c t 2 256 2 rfl rfl 8#32 _ rfl (by decide) (by decide) ceighth _ _
      (fun x => dbl 4#32 (dbl 2#32 (dbl 1#32 x))) d8 _ _ _ _ _ y0 y1 h0 h1)
  · idx_vars x
    exact (congrFun (g1 _ _ _ _ _ _) _).trans (tile m c t 1 128 1 rfl rfl 4#32 _ rfl (by decide) (by decide) cquarter _ _
      (fun x => dbl 2#32 (dbl 1#32 x)) d4 _ _ _ _ _ y0 y1 h0 h1)
  · idx_vars x
    exact (congrFun (g0 _ _ _ _ _ _) _).trans (tile m c t 0 0 0 rfl rfl 2#32 _ rfl (by decide) (by decide) Core.chalf _ _
      (fun x => dbl 1#32 x) d2 _ _ _ _ _ y0 y1 h0 (h1.trans (Nat.zero_add _).symm))

/-- The array after the last point: the pooling mixer's rows, and what it held before from the tenth block on. -/
theorem final10 : (dats m 0 c).arrAt 10 cfg0.N = fun i => if (i 0).val / 512 < 9 then Val (a0 m c) (a3 m c) (a4 m c) (a5 m c) i else V m c main_v2_0 i := by
  refine (dats m 0 c).arrAt_eq_of_coversWhere 10 _ (fun β => β (0 : Fin _) < 9) (by decide +kernel) (fun t hf y => ?_) (fun j => Iff.rfl)
  blk_simp
  rw [after0_10]
  idx_vars y
  refine (o10 m c t y0 y1).trans ?_
  refine Eq.trans (b := Val (a0 m c) (a3 m c) (a4 m c) (a5 m c) (ix2 ⟨row t + y0.val, by have := lt9 t; unfold row; omega⟩ y1)) rfl ?_
  blk_ext [idx t]

/-- The rows that the call writes. -/
def Out (u : S8192x512.Idx → EReal) (pw : S4x128x128.Idx → EReal) (pb : S4x128.Idx → EReal) (ps : S1x512.Idx → EReal) : S4608x512.Idx → EReal :=
  extractStridedSlice S4608x512 ![0, 0] (Val u pw pb ps) slices_S8192x512_S4608x512_0_0

/-- The array that the call writes, when it has run. -/
theorem exit10 : (Pipeline.withArrays (cfgs 0).spec c (V0 m c) (fun w => (dats m 0 c).arrAt w (cfgs 0).N) (Proc.devRef .tc main_v2_0) : S8192x512.Idx → EReal)
    = fun i => if (i 0).val / 512 < 9 then Val (a0 m c) (a3 m c) (a4 m c) (a5 m c) i else V m c main_v2_0 i :=
  have e := (dats m 0 c).withArrays_arrAt sharedIn0 (V0 m c) (A_eq m c) 10
  e.trans (final10 m c)

/-- The line after the call cuts its rows out of it, -/
theorem cut : (Pipeline.afterTail₀ cfgs (dats m) 0 (V0 m) [hostOps1] c main_v3 : S4608x512.Idx → EReal) = extractStridedSlice S4608x512 ![0, 0]
      (Pipeline.withArrays (cfgs 0).spec c (V0 m c) (fun w => (dats m 0 c).arrAt w (cfgs 0).N) (Proc.devRef .tc main_v2_0)) slices_S8192x512_S4608x512_0_0 := by
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = W
  after_results_simp

/-- and they are the pooling mixer's. -/
theorem tail : (Pipeline.afterTail₀ cfgs (dats m) 0 (V0 m) [hostOps1] c main_v3 : S4608x512.Idx → EReal) = Out (a0 m c) (a3 m c) (a4 m c) (a5 m c) := by
  rw [cut, exit10]
  funext x
  idx_vars x
  unfold Out
  pointwise
  rw [if_pos (by have := x0.isLt; omega)]

/-- The run, its result named, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v3) = Out (a0 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).2 main_v3 (Pipeline.mem_restRefs_of main_v3 (by decide) (by decide))).trans (tail m c), h.2 c⟩)
    (θ_run_and (run_main m ρ) (unchanged m ρ))

end Kernel

section Reference

open Cert.RefPoolFirstIdeal Cert.RefPoolFirstIdeal.Gen Idealize.ShloMosaic Idealize.ShloMosaic.TcCoe Idealize.SL.Sem Cert.Pool.Math

/-- The second call's pooling again, with this program's names. -/
theorem pooling (u : S8192x512.Idx → EReal) (pw : S4x128x128.Idx → EReal) (pb : S4x128.Idx → EReal) (ps : S1x512.Idx → EReal) :
    ((truncf (F := Ideal) .bf16 (mulf (shapeCast _ (addf (transpose S8192x4x128 [2, 0, 1] (Host.dotGeneral (φ₁ := .f32) (φ₂ := .f32) dot_S4x128x128_S8192x4x128_S4x128x8192_1_2_2_0_0_1 none pw (subf (Host.divf (transpose S8192x4x128 [2, 0, 1] (Host.dotGeneral (φ₁ := .f32) (φ₂ := .f32) dot_S8192x4x128_S4x8192x8192_S4x128x8192_0_2_2_1_1_0 none (shapeCast _ (extf (F := Ideal) .f32 u bitsLt_bf16_f32) shapeCasts_S8192x512_S8192x4x128) (uitofp .f32 (andi (broadcastInDim S4x8192x8192 ![0, 1, 2] bcast_S1x8192x8192_S4x8192x8192_0_1_2 (cmpi .sge (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S1x8192x8192 ![] bcast_S_S1x8192x8192 (constantI S_ 32 0#32)))) (cmpi .slt (broadcastInDim S4x8192x8192 ![0, 1, 2] bcast_S1x8192x8192_S4x8192x8192_0_1_2 (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S4x8192x8192 ![0, 1, 2] bcast_S4x1x1_S4x8192x8192_0_1_2 (broadcastInDim S4x1x1 ![0] bcast_S4_S4x1x1_0 ((fun i => lit0 (S4.rowMajor i))))))))) transposes_S4x128x8192_S8192x4x128_2_0_1) (broadcastInDim S8192x4x128 ![0, 1, 2] bcast_S8192x4x1_S8192x4x128_0_1_2 (broadcastInDim S8192x4x1 ![0, 1] bcast_S8192x4_S8192x4x1_0_1 (sitofp .f32 (minsi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (broadcastInDim S8192x4 ![0, 1] bcast_S1x4_S8192x4_0_1 (broadcastInDim S1x4 ![1] bcast_S4_S1x4_1 ((fun i => lit0 (S4.rowMajor i)))))))))) (shapeCast _ (extf (F := Ideal) .f32 u bitsLt_bf16_f32) shapeCasts_S8192x512_S8192x4x128))) transposes_S4x128x8192_S8192x4x128_2_0_1) (broadcastInDim S8192x4x128 ![0, 1, 2] bcast_S1x4x128_S8192x4x128_0_1_2 (broadcastInDim S1x4x128 ![1, 2] bcast_S4x128_S1x4x128_1_2 pb))) shapeCasts_S8192x4x128_S8192x512) (broadcastInDim S8192x512 ![0, 1] bcast_S1x512_S8192x512_0_1 ps)) bitsLt_bf16_f32) : S8192x512.Idx → EReal)
      = Val u pw pb ps :=
  have h := Cert.Pool.pooling u pw pb ps
  h

/-- The first call's reference is the kernel's. -/
theorem ref (u : S8192x512.Idx → EReal) (pw : S4x128x128.Idx → EReal) (pb : S4x128.Idx → EReal) (ps : S1x512.Idx → EReal) :
    (extractStridedSlice S4608x512 ![0, 0] (truncf (F := Ideal) .bf16 (mulf (shapeCast _ (addf (transpose S8192x4x128 [2, 0, 1] (Host.dotGeneral (φ₁ := .f32) (φ₂ := .f32) dot_S4x128x128_S8192x4x128_S4x128x8192_1_2_2_0_0_1 none pw (subf (Host.divf (transpose S8192x4x128 [2, 0, 1] (Host.dotGeneral (φ₁ := .f32) (φ₂ := .f32) dot_S8192x4x128_S4x8192x8192_S4x128x8192_0_2_2_1_1_0 none (shapeCast _ (extf (F := Ideal) .f32 u bitsLt_bf16_f32) shapeCasts_S8192x512_S8192x4x128) (uitofp .f32 (andi (broadcastInDim S4x8192x8192 ![0, 1, 2] bcast_S1x8192x8192_S4x8192x8192_0_1_2 (cmpi .sge (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S1x8192x8192 ![] bcast_S_S1x8192x8192 (constantI S_ 32 0#32)))) (cmpi .slt (broadcastInDim S4x8192x8192 ![0, 1, 2] bcast_S1x8192x8192_S4x8192x8192_0_1_2 (broadcastInDim S1x8192x8192 ![1, 2] bcast_S8192x8192_S1x8192x8192_1_2 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S4x8192x8192 ![0, 1, 2] bcast_S4x1x1_S4x8192x8192_0_1_2 (broadcastInDim S4x1x1 ![0] bcast_S4_S4x1x1_0 ((fun i => lit0 (S4.rowMajor i))))))))) transposes_S4x128x8192_S8192x4x128_2_0_1) (broadcastInDim S8192x4x128 ![0, 1, 2] bcast_S8192x4x1_S8192x4x128_0_1_2 (broadcastInDim S8192x4x1 ![0, 1] bcast_S8192x4_S8192x4x1_0_1 (sitofp .f32 (minsi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (broadcastInDim S8192x4 ![0, 1] bcast_S1x4_S8192x4_0_1 (broadcastInDim S1x4 ![1] bcast_S4_S1x4_1 ((fun i => lit0 (S4.rowMajor i)))))))))) (shapeCast _ (extf (F := Ideal) .f32 u bitsLt_bf16_f32) shapeCasts_S8192x512_S8192x4x128))) transposes_S4x128x8192_S8192x4x128_2_0_1) (broadcastInDim S8192x4x128 ![0, 1, 2] bcast_S1x4x128_S8192x4x128_0_1_2 (broadcastInDim S1x4x128 ![1, 2] bcast_S4x128_S1x4x128_1_2 pb))) shapeCasts_S8192x4x128_S8192x512) (broadcastInDim S8192x512 ![0, 1] bcast_S1x512_S8192x512_0_1 ps)) bitsLt_bf16_f32) slices_S8192x512_S4608x512_0_0 : S4608x512.Idx → EReal)
      = Out u pw pb ps := by
  rw [pooling]
  rfl

end Reference

end Cert.PoolFirst

end
-- ==== Proof.StepDown.lean ====
/-
  AdamW's step on the second feed-forward weight's shard: the 512 rows in 2 blocks of 256. The gradient is the sum of what the eight devices sent; this
  device's own part is read from what it sent out, and where that lies is read from a table.
-/
module

public import proofs.«01_k».proof.Proof.Step
public import proofs.«01_k».proof.Proof.Gen.AdamDown.Frame
public import proofs.«01_k».proof.Proof.Gen.AdamDownIdeal.Frame

@[expose] public section

set_option maxRecDepth 16384

noncomputable section

namespace Cert.AdamDown.Own

open Cert.AdamDown Cert.AdamDown.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x1024.size a ≤ S8x512x1024.size a := by decide +kernel

/-- and lies in its array. -/
theorem ok : Ok m := fun i => ⟨fun a => by rw [tf]; exact inb i a, .inr (Affine.block_words_dvd (of_decide_eq_true rfl) (by decide))⟩

end Cert.AdamDown.Own

namespace Cert.AdamDownIdeal.Own

open Cert.AdamDownIdeal Cert.AdamDownIdeal.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x1024.size a ≤ S8x512x1024.size a := by decide +kernel

/-- and lies in its array. -/
theorem ok : Ok m := fun i => ⟨fun a => by rw [tf]; exact inb i a, .inr (Affine.block_words_dvd (of_decide_eq_true rfl) (by decide))⟩

end Cert.AdamDownIdeal.Own

namespace Cert.StepDown

open Cert.AdamDownIdeal Cert.AdamDownIdeal.Gen Cert.AdamDownIdeal.Own Idealize.ShloMosaic Idealize.ShloMosaic.TcCoe Idealize.SL.Sem

variable (m : (ℓ : Loc nD τ sig) → Buf (Elt Ideal) ℓ) (c : Dev nD)

/-- What the devices sent here, what this one sent out, the weight and its two moments. -/
abbrev a0 : S8x512x1024.Idx → EReal := m ((c : Thread nD τ).loc main_arg0)
abbrev a1 : S8x512x1024.Idx → EReal := m ((c : Thread nD τ).loc main_arg1)
abbrev a2 : S512x1024.Idx → EReal := m ((c : Thread nD τ).loc main_arg2)
abbrev a3 : S512x1024.Idx → EReal := m ((c : Thread nD τ).loc main_arg3)
abbrev a4 : S512x1024.Idx → EReal := m ((c : Thread nD τ).loc main_arg4)

abbrev cf := cfgM m (ok m)

theorem ltN (t : Fin (cf m).N) : t.val < 2 := lt_of_lt_of_eq t.isLt N_0

/-- The row of row `i` of point `t`'s blocks. -/
abbrev row (t : Fin (cf m).N) (i : Fin 256) : Fin 512 := ⟨t.val * 256 + i.val, by have := ltN m t; omega⟩

/-- Where the windows' blocks lie. -/
theorem at3 : ∀ t : Fin grid0.N, cc0_transform_0 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0] :=
  (by decide +kernel : ∀ t : Fin grid0.N, _)
theorem idx (t : Fin (cf m).N) : ((cf m).win 0).index t = ![0, t.val, 0] ∧ ((cf m).win 1).index t = ![0, t.val, 0] ∧ ((cf m).win 2).index t = ![t.val, 0]
    ∧ ((cf m).win 3).index t = ![t.val, 0] ∧ ((cf m).win 4).index t = ![t.val, 0] ∧ ((cf m).win 5).index t = ![t.val, 0]
    ∧ ((cf m).win 6).index t = ![t.val, 0] ∧ ((cf m).win 7).index t = ![t.val, 0] ∧ ((cf m).win 8).index t = ![t.val, 0] :=
  have h := at3 t
  ⟨h.1, (tf m _).trans h.1, h.2⟩

theorem rd0 (t : Fin (cf m).N) (k i j) : (iblk m (ok m) c 0 t : S8x256x1024.Idx → EReal) (ix3 k i j) = a0 m c (ix3 k (row m t i) j) := by
  blk_ext [iblk, V, idx m t]
theorem rd1 (t : Fin (cf m).N) (i j) : (iblk m (ok m) c 1 t : S1x256x1024.Idx → EReal) (ix3 0 i j) = a1 m c (ix3 0 (row m t i) j) := by
  blk_ext [iblk, V, idx m t]
theorem rd2 (t : Fin (cf m).N) (i j) : (iblk m (ok m) c 2 t : S256x1024.Idx → EReal) (ix2 i j) = a2 m c (ix2 (row m t i) j) := by
  blk_ext [iblk, V, idx m t]
theorem rd3 (t : Fin (cf m).N) (i j) : (iblk m (ok m) c 3 t : S256x1024.Idx → EReal) (ix2 i j) = a3 m c (ix2 (row m t i) j) := by
  blk_ext [iblk, V, idx m t]
theorem rd4 (t : Fin (cf m).N) (i j) : (iblk m (ok m) c 4 t : S256x1024.Idx → EReal) (ix2 i j) = a4 m c (ix2 (row m t i) j) := by
  blk_ext [iblk, V, idx m t]

/-- The body's four computed values, read at an entry. -/
theorem pay4 (v0 v3 v7 v11 v15 v19 v23 v27) (i j) : (k0_pay4 (F := Ideal) v0 v3 v7 v11 v15 v19 v23 v27 (ix2 i j) : EReal)
    = v0 (ix3 0 i j) + v3 (ix3 0 i j) + v7 (ix3 0 i j) + v11 (ix3 0 i j) + v15 (ix3 0 i j) + v19 (ix3 0 i j) + v23 (ix3 0 i j) + v27 (ix3 0 i j) := by
  pointwise [k0_pay4]
theorem pay1 (g u) (i j) : (k0_pay1 (F := Ideal) g u (Scalar.ofBits .f32 0x3F666666#32) (ix2 i j) : EReal) = Step.m' (g (ix2 i j)) (u (ix2 i j)) := rfl
theorem pay2 (g u) (i j) : (k0_pay2 (F := Ideal) g u (ix2 i j) : EReal) = Step.v' (g (ix2 i j)) (u (ix2 i j)) := rfl
theorem pay3 (g u v w) (i j) : (k0_pay3 (F := Ideal) g u (Scalar.ofBits .f32 0x3F666666#32) v w (ix2 i j) : EReal)
    = Step.d' (g (ix2 i j)) (w (ix2 i j)) (u (ix2 i j)) (v (ix2 i j)) := rfl

/-- What the body leaves in the four outputs' buffers: the gradient, -/
theorem p5 (i : grid0.Coords) (arg2 harg2 arg3 harg3 arg4 harg4 arg5 harg5 arg6 harg6 arg7 harg7 arg8 harg8 arg9 harg9 arg10 harg10)
    (x0 : S8x256x1024.Idx → EReal) (x1 : S1x256x1024.Idx → EReal) (x2 x3 x4 : S256x1024.Idx → EReal) (xt0) (a : Fin 256) (b : Fin 1024) :
    (out0_A_5 (F := Ideal) c i arg2 harg2 arg3 harg3 arg4 harg4 arg5 harg5 arg6 harg6 arg7 harg7 arg8 harg8 arg9 harg9 arg10 harg10 x0 x1 x2 x3 x4 xt0 (ix2 a b) : EReal) = (∑ k : Fin 8, Step.pick (x1 (ix3 0 a b)) (fun k => x0 (ix3 k a b)) k) := by
  frame_open
  frame_out
  exact (pay4 ..).trans (Step.parts ..)
/-- the change, -/
theorem p6 (i : grid0.Coords) (arg2 harg2 arg3 harg3 arg4 harg4 arg5 harg5 arg6 harg6 arg7 harg7 arg8 harg8 arg9 harg9 arg10 harg10)
    (x0 : S8x256x1024.Idx → EReal) (x1 : S1x256x1024.Idx → EReal) (x2 x3 x4 : S256x1024.Idx → EReal) (xt0) (a : Fin 256) (b : Fin 1024) :
    (out0_A_6 (F := Ideal) c i arg2 harg2 arg3 harg3 arg4 harg4 arg5 harg5 arg6 harg6 arg7 harg7 arg8 harg8 arg9 harg9 arg10 harg10 x0 x1 x2 x3 x4 xt0 (ix2 a b) : EReal) = Step.d' (∑ k : Fin 8, Step.pick (x1 (ix3 0 a b)) (fun k => x0 (ix3 k a b)) k) (x2 (ix2 a b)) (x3 (ix2 a b)) (x4 (ix2 a b)) := by
  frame_open
  frame_out
  refine (pay3 ..).trans ?_
  exact congrArg (fun g => Step.d' g _ _ _) ((pay4 ..).trans (Step.parts ..))
/-- the first moment, -/
theorem p7 (i : grid0.Coords) (arg2 harg2 arg3 harg3 arg4 harg4 arg5 harg5 arg6 harg6 arg7 harg7 arg8 harg8 arg9 harg9 arg10 harg10)
    (x0 : S8x256x1024.Idx → EReal) (x1 : S1x256x1024.Idx → EReal) (x2 x3 x4 : S256x1024.Idx → EReal) (xt0) (a : Fin 256) (b : Fin 1024) :
    (out0_A_7 (F := Ideal) c i arg2 harg2 arg3 harg3 arg4 harg4 arg5 harg5 arg6 harg6 arg7 harg7 arg8 harg8 arg9 harg9 arg10 harg10 x0 x1 x2 x3 x4 xt0 (ix2 a b) : EReal) = Step.m' (∑ k : Fin 8, Step.pick (x1 (ix3 0 a b)) (fun k => x0 (ix3 k a b)) k) (x3 (ix2 a b)) := by
  frame_open
  frame_out
  refine (pay1 ..).trans ?_
  exact congrArg (fun g => Step.m' g _) ((pay4 ..).trans (Step.parts ..))
/-- the second moment. -/
theorem p8 (i : grid0.Coords) (arg2 harg2 arg3 harg3 arg4 harg4 arg5 harg5 arg6 harg6 arg7 harg7 arg8 harg8 arg9 harg9 arg10 harg10)
    (x0 : S8x256x1024.Idx → EReal) (x1 : S1x256x1024.Idx → EReal) (x2 x3 x4 : S256x1024.Idx → EReal) (xt0) (a : Fin 256) (b : Fin 1024) :
    (out0_A_8 (F := Ideal) c i arg2 harg2 arg3 harg3 arg4 harg4 arg5 harg5 arg6 harg6 arg7 harg7 arg8 harg8 arg9 harg9 arg10 harg10 x0 x1 x2 x3 x4 xt0 (ix2 a b) : EReal) = Step.v' (∑ k : Fin 8, Step.pick (x1 (ix3 0 a b)) (fun k => x0 (ix3 k a b)) k) (x4 (ix2 a b)) := by
  frame_open
  frame_out
  refine (pay2 ..).trans ?_
  exact congrArg (fun g => Step.v' g _) ((pay4 ..).trans (Step.parts ..))

/-- The sum of a point's blocks is the gradient of their rows. -/
theorem sumAt (t : Fin (cf m).N) (i : Fin 256) (j : Fin 1024) :
    (∑ k : Fin 8, Step.pick ((iblk m (ok m) c 1 t : S1x256x1024.Idx → EReal) (ix3 0 i j)) (fun k => (iblk m (ok m) c 0 t : S8x256x1024.Idx → EReal) (ix3 k i j)) k)
      = Step.grad (a0 m c) (a1 m c) (row m t i) j :=
  Step.sumAt _ _ _ _ _ i j (fun k => rd0 m c t k i j) (rd1 m c t i j)

/-- The block of gradients at a point, -/
theorem o5 (t : Fin (cf m).N) (i : Fin 256) (j : Fin 1024) : ((outsAt0 m (ok m) c t).1 (ix2 i j) : EReal) = Step.grad (a0 m c) (a1 m c) (row m t i) j := by
  dsimp only [outsAt0]
  exact (p5 ..).trans (sumAt m c t i j)
/-- the block of changes, -/
theorem o6 (t : Fin (cf m).N) (i : Fin 256) (j : Fin 1024) : ((outsAt0 m (ok m) c t).2.1 (ix2 i j) : EReal) = Step.d' (Step.grad (a0 m c) (a1 m c) (row m t i) j)
    (a2 m c (ix2 (row m t i) j)) (a3 m c (ix2 (row m t i) j)) (a4 m c (ix2 (row m t i) j)) := by
  dsimp only [outsAt0]
  exact (p6 ..).trans (congr (congr (congr (congrArg Step.d' (sumAt m c t i j)) (rd2 m c t i j)) (rd3 m c t i j)) (rd4 m c t i j))
/-- the block of first moments, -/
theorem o7 (t : Fin (cf m).N) (i : Fin 256) (j : Fin 1024) : ((outsAt0 m (ok m) c t).2.2.1 (ix2 i j) : EReal) = Step.m' (Step.grad (a0 m c) (a1 m c) (row m t i) j) (a3 m c (ix2 (row m t i) j)) := by
  dsimp only [outsAt0]
  exact (p7 ..).trans (congr (congrArg Step.m' (sumAt m c t i j)) (rd3 m c t i j))
/-- and the block of second moments. -/
theorem o8 (t : Fin (cf m).N) (i : Fin 256) (j : Fin 1024) : ((outsAt0 m (ok m) c t).2.2.2 (ix2 i j) : EReal) = Step.v' (Step.grad (a0 m c) (a1 m c) (row m t i) j) (a4 m c (ix2 (row m t i) j)) := by
  dsimp only [outsAt0]
  exact (p8 ..).trans (congr (congrArg Step.v' (sumAt m c t i j)) (rd4 m c t i j))

/-- The point that holds a row, and the row's place in its block. -/
def pt (i : Fin 512) : Fin (cf m).N := ⟨i.val / 256, by have h : (cf m).N = 2 := N_0; omega⟩
def pl (i : Fin 512) : Fin 256 := ⟨i.val % 256, by omega⟩
theorem back (x : S512x1024.Idx) : (ix2 (row m (pt m (x 0)) (pl (x 0))) (x 1) : S512x1024.Idx) = x :=
  (congrArg (fun p : Fin 512 => (ix2 p (x 1) : S512x1024.Idx)) (Fin.ext (Nat.div_add_mod' _ _))).trans (ix2_eta x)

/-- Each output array ends whole: the gradient, -/
theorem emb5 (t : Fin (cf m).N) (i : Fin 256) (j : Fin 1024) : (((cf m).win 5).blk t).view.emb (ix2 i j : S256x1024.Idx) = (ix2 (row m t i) j : S512x1024.Idx) := by
  blk_ext [idx m t]
theorem final5 : (dats m (ok m) 0 c).arrAt 5 (cf m).N = Step.Grad (a0 m c) (a1 m c) := by
  refine (dats m (ok m) 0 c).arrAt_eq_of_emb 5 _ (fun t hf (y : S256x1024.Idx) => ?_) (fun (x : S512x1024.Idx) => ⟨pt m (x 0), flush0_5 _ _, ?_⟩)
  · idx_vars y
    rw [emb5 m t y0 y1]
    refine Eq.trans ?_ (o5 m c t y0 y1)
    blk_simp
    rw [after0_5]
  · exact Step.mem_of _ _ _ ((emb5 m (pt m (x 0)) (pl (x 0)) (x 1)).trans (back m x))

/-- the change, -/
theorem emb6 (t : Fin (cf m).N) (i : Fin 256) (j : Fin 1024) : (((cf m).win 6).blk t).view.emb (ix2 i j : S256x1024.Idx) = (ix2 (row m t i) j : S512x1024.Idx) := by
  blk_ext [idx m t]
theorem final6 : (dats m (ok m) 0 c).arrAt 6 (cf m).N = Step.Delta (a0 m c) (a1 m c) (a2 m c) (a3 m c) (a4 m c) := by
  refine (dats m (ok m) 0 c).arrAt_eq_of_emb 6 _ (fun t hf (y : S256x1024.Idx) => ?_) (fun (x : S512x1024.Idx) => ⟨pt m (x 0), flush0_6 _ _, ?_⟩)
  · idx_vars y
    rw [emb6 m t y0 y1]
    refine Eq.trans ?_ (o6 m c t y0 y1)
    blk_simp
    rw [after0_6]
  · exact Step.mem_of _ _ _ ((emb6 m (pt m (x 0)) (pl (x 0)) (x 1)).trans (back m x))

/-- the first moment, -/
theorem emb7 (t : Fin (cf m).N) (i : Fin 256) (j : Fin 1024) : (((cf m).win 7).blk t).view.emb (ix2 i j : S256x1024.Idx) = (ix2 (row m t i) j : S512x1024.Idx) := by
  blk_ext [idx m t]
theorem final7 : (dats m (ok m) 0 c).arrAt 7 (cf m).N = Step.Mom (a0 m c) (a1 m c) (a3 m c) := by
  refine (dats m (ok m) 0 c).arrAt_eq_of_emb 7 _ (fun t hf (y : S256x1024.Idx) => ?_) (fun (x : S512x1024.Idx) => ⟨pt m (x 0), flush0_7 _ _, ?_⟩)
  · idx_vars y
    rw [emb7 m t y0 y1]
    refine Eq.trans ?_ (o7 m c t y0 y1)
    blk_simp
    rw [after0_7]
  · exact Step.mem_of _ _ _ ((emb7 m (pt m (x 0)) (pl (x 0)) (x 1)).trans (back m x))

/-- the second moment. -/
theorem emb8 (t : Fin (cf m).N) (i : Fin 256) (j : Fin 1024) : (((cf m).win 8).blk t).view.emb (ix2 i j : S256x1024.Idx) = (ix2 (row m t i) j : S512x1024.Idx) := by
  blk_ext [idx m t]
theorem final8 : (dats m (ok m) 0 c).arrAt 8 (cf m).N = Step.Sq (a0 m c) (a1 m c) (a4 m c) := by
  refine (dats m (ok m) 0 c).arrAt_eq_of_emb 8 _ (fun t hf (y : S256x1024.Idx) => ?_) (fun (x : S512x1024.Idx) => ⟨pt m (x 0), flush0_8 _ _, ?_⟩)
  · idx_vars y
    rw [emb8 m t y0 y1]
    refine Eq.trans ?_ (o8 m c t y0 y1)
    blk_simp
    rw [after0_8]
  · exact Step.mem_of _ _ _ ((emb8 m (pt m (x 0)) (pl (x 0)) (x 1)).trans (back m x))

/-- The run, its results named: the four arrays, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = Step.Grad (a0 m c) (a1 m c)
      ∧ r.2.mem ((c.tc : Thread nD τ).loc main_v1_1) = Step.Delta (a0 m c) (a1 m c) (a2 m c) (a3 m c) (a4 m c)
      ∧ r.2.mem ((c.tc : Thread nD τ).loc main_v1_2) = Step.Mom (a0 m c) (a1 m c) (a3 m c)
      ∧ r.2.mem ((c.tc : Thread nD τ).loc main_v1_3) = Step.Sq (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c), ((h c).1 8).trans (final8 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.StepDown

end
-- ==== Proof.StepOut.lean ====
/-
  AdamW's step on the output projection's shard: the 128 rows in 1 block of 128. The gradient is the sum of what the eight devices sent; this
  device's own part is read from what it sent out, and where that lies is read from a table.
-/
module

public import proofs.«01_k».proof.Proof.Step
public import proofs.«01_k».proof.Proof.Gen.AdamOut.Frame
public import proofs.«01_k».proof.Proof.Gen.AdamOutIdeal.Frame

@[expose] public section

set_option maxRecDepth 16384

noncomputable section

namespace Cert.AdamOut.Own

open Cert.AdamOut Cert.AdamOut.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x128x1024.size a ≤ S8x128x1024.size a := by decide +kernel

/-- and lies in its array. -/
theorem ok : Ok m := fun i => ⟨fun a => by rw [tf]; exact inb i a, .inr (Affine.block_words_dvd (of_decide_eq_true rfl) (by decide))⟩

end Cert.AdamOut.Own

namespace Cert.AdamOutIdeal.Own

open Cert.AdamOutIdeal Cert.AdamOutIdeal.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x128x1024.size a ≤ S8x128x1024.size a := by decide +kernel

/-- and lies in its array. -/
theorem ok : Ok m := fun i => ⟨fun a => by rw [tf]; exact inb i a, .inr (Affine.block_words_dvd (of_decide_eq_true rfl) (by decide))⟩

end Cert.AdamOutIdeal.Own

namespace Cert.StepOut

open Cert.AdamOutIdeal Cert.AdamOutIdeal.Gen Cert.AdamOutIdeal.Own Idealize.ShloMosaic Idealize.ShloMosaic.TcCoe Idealize.SL.Sem

variable (m : (ℓ : Loc nD τ sig) → Buf (Elt Ideal) ℓ) (c : Dev nD)

/-- What the devices sent here, what this one sent out, the weight and its two moments. -/
abbrev a0 : S8x128x1024.Idx → EReal := m ((c : Thread nD τ).loc main_arg0)
abbrev a1 : S8x128x1024.Idx → EReal := m ((c : Thread nD τ).loc main_arg1)
abbrev a2 : S128x1024.Idx → EReal := m ((c : Thread nD τ).loc main_arg2)
abbrev a3 : S128x1024.Idx → EReal := m ((c : Thread nD τ).loc main_arg3)
abbrev a4 : S128x1024.Idx → EReal := m ((c : Thread nD τ).loc main_arg4)

abbrev cf := cfgM m (ok m)

theorem ltN (t : Fin (cf m).N) : t.val < 1 := lt_of_lt_of_eq t.isLt N_0

/-- The row of row `i` of point `t`'s blocks. -/
abbrev row (t : Fin (cf m).N) (i : Fin 128) : Fin 128 := ⟨t.val * 128 + i.val, by have := ltN m t; omega⟩

/-- Where the windows' blocks lie. -/
theorem at3 : ∀ t : Fin grid0.N, cc0_transform_0 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0] :=
  (by decide +kernel : ∀ t : Fin grid0.N, _)
theorem idx (t : Fin (cf m).N) : ((cf m).win 0).index t = ![0, t.val, 0] ∧ ((cf m).win 1).index t = ![0, t.val, 0] ∧ ((cf m).win 2).index t = ![t.val, 0]
    ∧ ((cf m).win 3).index t = ![t.val, 0] ∧ ((cf m).win 4).index t = ![t.val, 0] ∧ ((cf m).win 5).index t = ![t.val, 0]
    ∧ ((cf m).win 6).index t = ![t.val, 0] ∧ ((cf m).win 7).index t = ![t.val, 0] ∧ ((cf m).win 8).index t = ![t.val, 0] :=
  have h := at3 t
  ⟨h.1, (tf m _).trans h.1, h.2⟩

theorem rd0 (t : Fin (cf m).N) (k i j) : (iblk m (ok m) c 0 t : S8x128x1024.Idx → EReal) (ix3 k i j) = a0 m c (ix3 k (row m t i) j) := by
  blk_ext [iblk, V, idx m t]
theorem rd1 (t : Fin (cf m).N) (i j) : (iblk m (ok m) c 1 t : S1x128x1024.Idx → EReal) (ix3 0 i j) = a1 m c (ix3 0 (row m t i) j) := by
  blk_ext [iblk, V, idx m t]
theorem rd2 (t : Fin (cf m).N) (i j) : (iblk m (ok m) c 2 t : S128x1024.Idx → EReal) (ix2 i j) = a2 m c (ix2 (row m t i) j) := by
  blk_ext [iblk, V, idx m t]
theorem rd3 (t : Fin (cf m).N) (i j) : (iblk m (ok m) c 3 t : S128x1024.Idx → EReal) (ix2 i j) = a3 m c (ix2 (row m t i) j) := by
  blk_ext [iblk, V, idx m t]
theorem rd4 (t : Fin (cf m).N) (i j) : (iblk m (ok m) c 4 t : S128x1024.Idx → EReal) (ix2 i j) = a4 m c (ix2 (row m t i) j) := by
  blk_ext [iblk, V, idx m t]

/-- The body's four computed values, read at an entry. -/
theorem pay4 (v0 v3 v7 v11 v15 v19 v23 v27) (i j) : (k0_pay4 (F := Ideal) v0 v3 v7 v11 v15 v19 v23 v27 (ix2 i j) : EReal)
    = v0 (ix3 0 i j) + v3 (ix3 0 i j) + v7 (ix3 0 i j) + v11 (ix3 0 i j) + v15 (ix3 0 i j) + v19 (ix3 0 i j) + v23 (ix3 0 i j) + v27 (ix3 0 i j) := by
  pointwise [k0_pay4]
theorem pay1 (g u) (i j) : (k0_pay1 (F := Ideal) g u (Scalar.ofBits .f32 0x3F666666#32) (ix2 i j) : EReal) = Step.m' (g (ix2 i j)) (u (ix2 i j)) := rfl
theorem pay2 (g u) (i j) : (k0_pay2 (F := Ideal) g u (ix2 i j) : EReal) = Step.v' (g (ix2 i j)) (u (ix2 i j)) := rfl
theorem pay3 (g u v w) (i j) : (k0_pay3 (F := Ideal) g u (Scalar.ofBits .f32 0x3F666666#32) v w (ix2 i j) : EReal)
    = Step.d' (g (ix2 i j)) (w (ix2 i j)) (u (ix2 i j)) (v (ix2 i j)) := rfl

/-- What the body leaves in the four outputs' buffers: the gradient, -/
theorem p5 (i : grid0.Coords) (arg2 harg2 arg3 harg3 arg4 harg4 arg5 harg5 arg6 harg6 arg7 harg7 arg8 harg8 arg9 harg9 arg10 harg10)
    (x0 : S8x128x1024.Idx → EReal) (x1 : S1x128x1024.Idx → EReal) (x2 x3 x4 : S128x1024.Idx → EReal) (xt0) (a : Fin 128) (b : Fin 1024) :
    (out0_A_5 (F := Ideal) c i arg2 harg2 arg3 harg3 arg4 harg4 arg5 harg5 arg6 harg6 arg7 harg7 arg8 harg8 arg9 harg9 arg10 harg10 x0 x1 x2 x3 x4 xt0 (ix2 a b) : EReal) = (∑ k : Fin 8, Step.pick (x1 (ix3 0 a b)) (fun k => x0 (ix3 k a b)) k) := by
  frame_open
  frame_out
  exact (pay4 ..).trans (Step.parts ..)
/-- the change, -/
theorem p6 (i : grid0.Coords) (arg2 harg2 arg3 harg3 arg4 harg4 arg5 harg5 arg6 harg6 arg7 harg7 arg8 harg8 arg9 harg9 arg10 harg10)
    (x0 : S8x128x1024.Idx → EReal) (x1 : S1x128x1024.Idx → EReal) (x2 x3 x4 : S128x1024.Idx → EReal) (xt0) (a : Fin 128) (b : Fin 1024) :
    (out0_A_6 (F := Ideal) c i arg2 harg2 arg3 harg3 arg4 harg4 arg5 harg5 arg6 harg6 arg7 harg7 arg8 harg8 arg9 harg9 arg10 harg10 x0 x1 x2 x3 x4 xt0 (ix2 a b) : EReal) = Step.d' (∑ k : Fin 8, Step.pick (x1 (ix3 0 a b)) (fun k => x0 (ix3 k a b)) k) (x2 (ix2 a b)) (x3 (ix2 a b)) (x4 (ix2 a b)) := by
  frame_open
  frame_out
  refine (pay3 ..).trans ?_
  exact congrArg (fun g => Step.d' g _ _ _) ((pay4 ..).trans (Step.parts ..))
/-- the first moment, -/
theorem p7 (i : grid0.Coords) (arg2 harg2 arg3 harg3 arg4 harg4 arg5 harg5 arg6 harg6 arg7 harg7 arg8 harg8 arg9 harg9 arg10 harg10)
    (x0 : S8x128x1024.Idx → EReal) (x1 : S1x128x1024.Idx → EReal) (x2 x3 x4 : S128x1024.Idx → EReal) (xt0) (a : Fin 128) (b : Fin 1024) :
    (out0_A_7 (F := Ideal) c i arg2 harg2 arg3 harg3 arg4 harg4 arg5 harg5 arg6 harg6 arg7 harg7 arg8 harg8 arg9 harg9 arg10 harg10 x0 x1 x2 x3 x4 xt0 (ix2 a b) : EReal) = Step.m' (∑ k : Fin 8, Step.pick (x1 (ix3 0 a b)) (fun k => x0 (ix3 k a b)) k) (x3 (ix2 a b)) := by
  frame_open
  frame_out
  refine (pay1 ..).trans ?_
  exact congrArg (fun g => Step.m' g _) ((pay4 ..).trans (Step.parts ..))
/-- the second moment. -/
theorem p8 (i : grid0.Coords) (arg2 harg2 arg3 harg3 arg4 harg4 arg5 harg5 arg6 harg6 arg7 harg7 arg8 harg8 arg9 harg9 arg10 harg10)
    (x0 : S8x128x1024.Idx → EReal) (x1 : S1x128x1024.Idx → EReal) (x2 x3 x4 : S128x1024.Idx → EReal) (xt0) (a : Fin 128) (b : Fin 1024) :
    (out0_A_8 (F := Ideal) c i arg2 harg2 arg3 harg3 arg4 harg4 arg5 harg5 arg6 harg6 arg7 harg7 arg8 harg8 arg9 harg9 arg10 harg10 x0 x1 x2 x3 x4 xt0 (ix2 a b) : EReal) = Step.v' (∑ k : Fin 8, Step.pick (x1 (ix3 0 a b)) (fun k => x0 (ix3 k a b)) k) (x4 (ix2 a b)) := by
  frame_open
  frame_out
  refine (pay2 ..).trans ?_
  exact congrArg (fun g => Step.v' g _) ((pay4 ..).trans (Step.parts ..))

/-- The sum of a point's blocks is the gradient of their rows. -/
theorem sumAt (t : Fin (cf m).N) (i : Fin 128) (j : Fin 1024) :
    (∑ k : Fin 8, Step.pick ((iblk m (ok m) c 1 t : S1x128x1024.Idx → EReal) (ix3 0 i j)) (fun k => (iblk m (ok m) c 0 t : S8x128x1024.Idx → EReal) (ix3 k i j)) k)
      = Step.grad (a0 m c) (a1 m c) (row m t i) j :=
  Step.sumAt _ _ _ _ _ i j (fun k => rd0 m c t k i j) (rd1 m c t i j)

/-- The block of gradients at a point, -/
theorem o5 (t : Fin (cf m).N) (i : Fin 128) (j : Fin 1024) : ((outsAt0 m (ok m) c t).1 (ix2 i j) : EReal) = Step.grad (a0 m c) (a1 m c) (row m t i) j := by
  dsimp only [outsAt0]
  exact (p5 ..).trans (sumAt m c t i j)
/-- the block of changes, -/
theorem o6 (t : Fin (cf m).N) (i : Fin 128) (j : Fin 1024) : ((outsAt0 m (ok m) c t).2.1 (ix2 i j) : EReal) = Step.d' (Step.grad (a0 m c) (a1 m c) (row m t i) j)
    (a2 m c (ix2 (row m t i) j)) (a3 m c (ix2 (row m t i) j)) (a4 m c (ix2 (row m t i) j)) := by
  dsimp only [outsAt0]
  exact (p6 ..).trans (congr (congr (congr (congrArg Step.d' (sumAt m c t i j)) (rd2 m c t i j)) (rd3 m c t i j)) (rd4 m c t i j))
/-- the block of first moments, -/
theorem o7 (t : Fin (cf m).N) (i : Fin 128) (j : Fin 1024) : ((outsAt0 m (ok m) c t).2.2.1 (ix2 i j) : EReal) = Step.m' (Step.grad (a0 m c) (a1 m c) (row m t i) j) (a3 m c (ix2 (row m t i) j)) := by
  dsimp only [outsAt0]
  exact (p7 ..).trans (congr (congrArg Step.m' (sumAt m c t i j)) (rd3 m c t i j))
/-- and the block of second moments. -/
theorem o8 (t : Fin (cf m).N) (i : Fin 128) (j : Fin 1024) : ((outsAt0 m (ok m) c t).2.2.2 (ix2 i j) : EReal) = Step.v' (Step.grad (a0 m c) (a1 m c) (row m t i) j) (a4 m c (ix2 (row m t i) j)) := by
  dsimp only [outsAt0]
  exact (p8 ..).trans (congr (congrArg Step.v' (sumAt m c t i j)) (rd4 m c t i j))

/-- The point that holds a row, and the row's place in its block. -/
def pt (i : Fin 128) : Fin (cf m).N := ⟨i.val / 128, by have h : (cf m).N = 1 := N_0; omega⟩
def pl (i : Fin 128) : Fin 128 := ⟨i.val % 128, by omega⟩
theorem back (x : S128x1024.Idx) : (ix2 (row m (pt m (x 0)) (pl (x 0))) (x 1) : S128x1024.Idx) = x :=
  (congrArg (fun p : Fin 128 => (ix2 p (x 1) : S128x1024.Idx)) (Fin.ext (Nat.div_add_mod' _ _))).trans (ix2_eta x)

/-- Each output array ends whole: the gradient, -/
theorem emb5 (t : Fin (cf m).N) (i : Fin 128) (j : Fin 1024) : (((cf m).win 5).blk t).view.emb (ix2 i j : S128x1024.Idx) = (ix2 (row m t i) j : S128x1024.Idx) := by
  blk_ext [idx m t]
theorem final5 : (dats m (ok m) 0 c).arrAt 5 (cf m).N = Step.Grad (a0 m c) (a1 m c) := by
  refine (dats m (ok m) 0 c).arrAt_eq_of_emb 5 _ (fun t hf (y : S128x1024.Idx) => ?_) (fun (x : S128x1024.Idx) => ⟨pt m (x 0), flush0_5 _ _, ?_⟩)
  · idx_vars y
    rw [emb5 m t y0 y1]
    refine Eq.trans ?_ (o5 m c t y0 y1)
    blk_simp
    rw [after0_5]
  · exact Step.mem_of _ _ _ ((emb5 m (pt m (x 0)) (pl (x 0)) (x 1)).trans (back m x))

/-- the change, -/
theorem emb6 (t : Fin (cf m).N) (i : Fin 128) (j : Fin 1024) : (((cf m).win 6).blk t).view.emb (ix2 i j : S128x1024.Idx) = (ix2 (row m t i) j : S128x1024.Idx) := by
  blk_ext [idx m t]
theorem final6 : (dats m (ok m) 0 c).arrAt 6 (cf m).N = Step.Delta (a0 m c) (a1 m c) (a2 m c) (a3 m c) (a4 m c) := by
  refine (dats m (ok m) 0 c).arrAt_eq_of_emb 6 _ (fun t hf (y : S128x1024.Idx) => ?_) (fun (x : S128x1024.Idx) => ⟨pt m (x 0), flush0_6 _ _, ?_⟩)
  · idx_vars y
    rw [emb6 m t y0 y1]
    refine Eq.trans ?_ (o6 m c t y0 y1)
    blk_simp
    rw [after0_6]
  · exact Step.mem_of _ _ _ ((emb6 m (pt m (x 0)) (pl (x 0)) (x 1)).trans (back m x))

/-- the first moment, -/
theorem emb7 (t : Fin (cf m).N) (i : Fin 128) (j : Fin 1024) : (((cf m).win 7).blk t).view.emb (ix2 i j : S128x1024.Idx) = (ix2 (row m t i) j : S128x1024.Idx) := by
  blk_ext [idx m t]
theorem final7 : (dats m (ok m) 0 c).arrAt 7 (cf m).N = Step.Mom (a0 m c) (a1 m c) (a3 m c) := by
  refine (dats m (ok m) 0 c).arrAt_eq_of_emb 7 _ (fun t hf (y : S128x1024.Idx) => ?_) (fun (x : S128x1024.Idx) => ⟨pt m (x 0), flush0_7 _ _, ?_⟩)
  · idx_vars y
    rw [emb7 m t y0 y1]
    refine Eq.trans ?_ (o7 m c t y0 y1)
    blk_simp
    rw [after0_7]
  · exact Step.mem_of _ _ _ ((emb7 m (pt m (x 0)) (pl (x 0)) (x 1)).trans (back m x))

/-- the second moment. -/
theorem emb8 (t : Fin (cf m).N) (i : Fin 128) (j : Fin 1024) : (((cf m).win 8).blk t).view.emb (ix2 i j : S128x1024.Idx) = (ix2 (row m t i) j : S128x1024.Idx) := by
  blk_ext [idx m t]
theorem final8 : (dats m (ok m) 0 c).arrAt 8 (cf m).N = Step.Sq (a0 m c) (a1 m c) (a4 m c) := by
  refine (dats m (ok m) 0 c).arrAt_eq_of_emb 8 _ (fun t hf (y : S128x1024.Idx) => ?_) (fun (x : S128x1024.Idx) => ⟨pt m (x 0), flush0_8 _ _, ?_⟩)
  · idx_vars y
    rw [emb8 m t y0 y1]
    refine Eq.trans ?_ (o8 m c t y0 y1)
    blk_simp
    rw [after0_8]
  · exact Step.mem_of _ _ _ ((emb8 m (pt m (x 0)) (pl (x 0)) (x 1)).trans (back m x))

/-- The run, its results named: the four arrays, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = Step.Grad (a0 m c) (a1 m c)
      ∧ r.2.mem ((c.tc : Thread nD τ).loc main_v1_1) = Step.Delta (a0 m c) (a1 m c) (a2 m c) (a3 m c) (a4 m c)
      ∧ r.2.mem ((c.tc : Thread nD τ).loc main_v1_2) = Step.Mom (a0 m c) (a1 m c) (a3 m c)
      ∧ r.2.mem ((c.tc : Thread nD τ).loc main_v1_3) = Step.Sq (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c), ((h c).1 8).trans (final8 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.StepOut

end
-- ==== Proof.StepProj.lean ====
/-
  AdamW's step on the shard of a mixer's projection: the 512 rows in 2 blocks of 256. The gradient is the sum of what the eight devices sent; this
  device's own part is read from what it sent out, and where that lies is read from a table.
-/
module

public import proofs.«01_k».proof.Proof.Step
public import proofs.«01_k».proof.Proof.Gen.AdamProj.Frame
public import proofs.«01_k».proof.Proof.Gen.AdamProjIdeal.Frame

@[expose] public section

set_option maxRecDepth 16384

noncomputable section

namespace Cert.AdamProj.Own

open Cert.AdamProj Cert.AdamProj.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x128.size a ≤ S8x512x128.size a := by decide +kernel

/-- and lies in its array. -/
theorem ok : Ok m := fun i => ⟨fun a => by rw [tf]; exact inb i a, .inr (Affine.block_words_dvd (of_decide_eq_true rfl) (by decide))⟩

end Cert.AdamProj.Own

namespace Cert.AdamProjIdeal.Own

open Cert.AdamProjIdeal Cert.AdamProjIdeal.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x256x128.size a ≤ S8x512x128.size a := by decide +kernel

/-- and lies in its array. -/
theorem ok : Ok m := fun i => ⟨fun a => by rw [tf]; exact inb i a, .inr (Affine.block_words_dvd (of_decide_eq_true rfl) (by decide))⟩

end Cert.AdamProjIdeal.Own

namespace Cert.StepProj

open Cert.AdamProjIdeal Cert.AdamProjIdeal.Gen Cert.AdamProjIdeal.Own Idealize.ShloMosaic Idealize.ShloMosaic.TcCoe Idealize.SL.Sem

variable (m : (ℓ : Loc nD τ sig) → Buf (Elt Ideal) ℓ) (c : Dev nD)

/-- What the devices sent here, what this one sent out, the weight and its two moments. -/
abbrev a0 : S8x512x128.Idx → EReal := m ((c : Thread nD τ).loc main_arg0)
abbrev a1 : S8x512x128.Idx → EReal := m ((c : Thread nD τ).loc main_arg1)
abbrev a2 : S512x128.Idx → EReal := m ((c : Thread nD τ).loc main_arg2)
abbrev a3 : S512x128.Idx → EReal := m ((c : Thread nD τ).loc main_arg3)
abbrev a4 : S512x128.Idx → EReal := m ((c : Thread nD τ).loc main_arg4)

abbrev cf := cfgM m (ok m)

theorem ltN (t : Fin (cf m).N) : t.val < 2 := lt_of_lt_of_eq t.isLt N_0

/-- The row of row `i` of point `t`'s blocks. -/
abbrev row (t : Fin (cf m).N) (i : Fin 256) : Fin 512 := ⟨t.val * 256 + i.val, by have := ltN m t; omega⟩

/-- Where the windows' blocks lie. -/
theorem at3 : ∀ t : Fin grid0.N, cc0_transform_0 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0] :=
  (by decide +kernel : ∀ t : Fin grid0.N, _)
theorem idx (t : Fin (cf m).N) : ((cf m).win 0).index t = ![0, t.val, 0] ∧ ((cf m).win 1).index t = ![0, t.val, 0] ∧ ((cf m).win 2).index t = ![t.val, 0]
    ∧ ((cf m).win 3).index t = ![t.val, 0] ∧ ((cf m).win 4).index t = ![t.val, 0] ∧ ((cf m).win 5).index t = ![t.val, 0]
    ∧ ((cf m).win 6).index t = ![t.val, 0] ∧ ((cf m).win 7).index t = ![t.val, 0] ∧ ((cf m).win 8).index t = ![t.val, 0] :=
  have h := at3 t
  ⟨h.1, (tf m _).trans h.1, h.2⟩

theorem rd0 (t : Fin (cf m).N) (k i j) : (iblk m (ok m) c 0 t : S8x256x128.Idx → EReal) (ix3 k i j) = a0 m c (ix3 k (row m t i) j) := by
  blk_ext [iblk, V, idx m t]
theorem rd1 (t : Fin (cf m).N) (i j) : (iblk m (ok m) c 1 t : S1x256x128.Idx → EReal) (ix3 0 i j) = a1 m c (ix3 0 (row m t i) j) := by
  blk_ext [iblk, V, idx m t]
theorem rd2 (t : Fin (cf m).N) (i j) : (iblk m (ok m) c 2 t : S256x128.Idx → EReal) (ix2 i j) = a2 m c (ix2 (row m t i) j) := by
  blk_ext [iblk, V, idx m t]
theorem rd3 (t : Fin (cf m).N) (i j) : (iblk m (ok m) c 3 t : S256x128.Idx → EReal) (ix2 i j) = a3 m c (ix2 (row m t i) j) := by
  blk_ext [iblk, V, idx m t]
theorem rd4 (t : Fin (cf m).N) (i j) : (iblk m (ok m) c 4 t : S256x128.Idx → EReal) (ix2 i j) = a4 m c (ix2 (row m t i) j) := by
  blk_ext [iblk, V, idx m t]

/-- The body's four computed values, read at an entry. -/
theorem pay4 (v0 v3 v7 v11 v15 v19 v23 v27) (i j) : (k0_pay4 (F := Ideal) v0 v3 v7 v11 v15 v19 v23 v27 (ix2 i j) : EReal)
    = v0 (ix3 0 i j) + v3 (ix3 0 i j) + v7 (ix3 0 i j) + v11 (ix3 0 i j) + v15 (ix3 0 i j) + v19 (ix3 0 i j) + v23 (ix3 0 i j) + v27 (ix3 0 i j) := by
  pointwise [k0_pay4]
theorem pay1 (g u) (i j) : (k0_pay1 (F := Ideal) g u (Scalar.ofBits .f32 0x3F666666#32) (ix2 i j) : EReal) = Step.m' (g (ix2 i j)) (u (ix2 i j)) := rfl
theorem pay2 (g u) (i j) : (k0_pay2 (F := Ideal) g u (ix2 i j) : EReal) = Step.v' (g (ix2 i j)) (u (ix2 i j)) := rfl
theorem pay3 (g u v w) (i j) : (k0_pay3 (F := Ideal) g u (Scalar.ofBits .f32 0x3F666666#32) v w (ix2 i j) : EReal)
    = Step.d' (g (ix2 i j)) (w (ix2 i j)) (u (ix2 i j)) (v (ix2 i j)) := rfl

/-- What the body leaves in the four outputs' buffers: the gradient, -/
theorem p5 (i : grid0.Coords) (arg2 harg2 arg3 harg3 arg4 harg4 arg5 harg5 arg6 harg6 arg7 harg7 arg8 harg8 arg9 harg9 arg10 harg10)
    (x0 : S8x256x128.Idx → EReal) (x1 : S1x256x128.Idx → EReal) (x2 x3 x4 : S256x128.Idx → EReal) (xt0) (a : Fin 256) (b : Fin 128) :
    (out0_A_5 (F := Ideal) c i arg2 harg2 arg3 harg3 arg4 harg4 arg5 harg5 arg6 harg6 arg7 harg7 arg8 harg8 arg9 harg9 arg10 harg10 x0 x1 x2 x3 x4 xt0 (ix2 a b) : EReal) = (∑ k : Fin 8, Step.pick (x1 (ix3 0 a b)) (fun k => x0 (ix3 k a b)) k) := by
  frame_open
  frame_out
  exact (pay4 ..).trans (Step.parts ..)
/-- the change, -/
theorem p6 (i : grid0.Coords) (arg2 harg2 arg3 harg3 arg4 harg4 arg5 harg5 arg6 harg6 arg7 harg7 arg8 harg8 arg9 harg9 arg10 harg10)
    (x0 : S8x256x128.Idx → EReal) (x1 : S1x256x128.Idx → EReal) (x2 x3 x4 : S256x128.Idx → EReal) (xt0) (a : Fin 256) (b : Fin 128) :
    (out0_A_6 (F := Ideal) c i arg2 harg2 arg3 harg3 arg4 harg4 arg5 harg5 arg6 harg6 arg7 harg7 arg8 harg8 arg9 harg9 arg10 harg10 x0 x1 x2 x3 x4 xt0 (ix2 a b) : EReal) = Step.d' (∑ k : Fin 8, Step.pick (x1 (ix3 0 a b)) (fun k => x0 (ix3 k a b)) k) (x2 (ix2 a b)) (x3 (ix2 a b)) (x4 (ix2 a b)) := by
  frame_open
  frame_out
  refine (pay3 ..).trans ?_
  exact congrArg (fun g => Step.d' g _ _ _) ((pay4 ..).trans (Step.parts ..))
/-- the first moment, -/
theorem p7 (i : grid0.Coords) (arg2 harg2 arg3 harg3 arg4 harg4 arg5 harg5 arg6 harg6 arg7 harg7 arg8 harg8 arg9 harg9 arg10 harg10)
    (x0 : S8x256x128.Idx → EReal) (x1 : S1x256x128.Idx → EReal) (x2 x3 x4 : S256x128.Idx → EReal) (xt0) (a : Fin 256) (b : Fin 128) :
    (out0_A_7 (F := Ideal) c i arg2 harg2 arg3 harg3 arg4 harg4 arg5 harg5 arg6 harg6 arg7 harg7 arg8 harg8 arg9 harg9 arg10 harg10 x0 x1 x2 x3 x4 xt0 (ix2 a b) : EReal) = Step.m' (∑ k : Fin 8, Step.pick (x1 (ix3 0 a b)) (fun k => x0 (ix3 k a b)) k) (x3 (ix2 a b)) := by
  frame_open
  frame_out
  refine (pay1 ..).trans ?_
  exact congrArg (fun g => Step.m' g _) ((pay4 ..).trans (Step.parts ..))
/-- the second moment. -/
theorem p8 (i : grid0.Coords) (arg2 harg2 arg3 harg3 arg4 harg4 arg5 harg5 arg6 harg6 arg7 harg7 arg8 harg8 arg9 harg9 arg10 harg10)
    (x0 : S8x256x128.Idx → EReal) (x1 : S1x256x128.Idx → EReal) (x2 x3 x4 : S256x128.Idx → EReal) (xt0) (a : Fin 256) (b : Fin 128) :
    (out0_A_8 (F := Ideal) c i arg2 harg2 arg3 harg3 arg4 harg4 arg5 harg5 arg6 harg6 arg7 harg7 arg8 harg8 arg9 harg9 arg10 harg10 x0 x1 x2 x3 x4 xt0 (ix2 a b) : EReal) = Step.v' (∑ k : Fin 8, Step.pick (x1 (ix3 0 a b)) (fun k => x0 (ix3 k a b)) k) (x4 (ix2 a b)) := by
  frame_open
  frame_out
  refine (pay2 ..).trans ?_
  exact congrArg (fun g => Step.v' g _) ((pay4 ..).trans (Step.parts ..))

/-- The sum of a point's blocks is the gradient of their rows. -/
theorem sumAt (t : Fin (cf m).N) (i : Fin 256) (j : Fin 128) :
    (∑ k : Fin 8, Step.pick ((iblk m (ok m) c 1 t : S1x256x128.Idx → EReal) (ix3 0 i j)) (fun k => (iblk m (ok m) c 0 t : S8x256x128.Idx → EReal) (ix3 k i j)) k)
      = Step.grad (a0 m c) (a1 m c) (row m t i) j :=
  Step.sumAt _ _ _ _ _ i j (fun k => rd0 m c t k i j) (rd1 m c t i j)

/-- The block of gradients at a point, -/
theorem o5 (t : Fin (cf m).N) (i : Fin 256) (j : Fin 128) : ((outsAt0 m (ok m) c t).1 (ix2 i j) : EReal) = Step.grad (a0 m c) (a1 m c) (row m t i) j := by
  dsimp only [outsAt0]
  exact (p5 ..).trans (sumAt m c t i j)
/-- the block of changes, -/
theorem o6 (t : Fin (cf m).N) (i : Fin 256) (j : Fin 128) : ((outsAt0 m (ok m) c t).2.1 (ix2 i j) : EReal) = Step.d' (Step.grad (a0 m c) (a1 m c) (row m t i) j)
    (a2 m c (ix2 (row m t i) j)) (a3 m c (ix2 (row m t i) j)) (a4 m c (ix2 (row m t i) j)) := by
  dsimp only [outsAt0]
  exact (p6 ..).trans (congr (congr (congr (congrArg Step.d' (sumAt m c t i j)) (rd2 m c t i j)) (rd3 m c t i j)) (rd4 m c t i j))
/-- the block of first moments, -/
theorem o7 (t : Fin (cf m).N) (i : Fin 256) (j : Fin 128) : ((outsAt0 m (ok m) c t).2.2.1 (ix2 i j) : EReal) = Step.m' (Step.grad (a0 m c) (a1 m c) (row m t i) j) (a3 m c (ix2 (row m t i) j)) := by
  dsimp only [outsAt0]
  exact (p7 ..).trans (congr (congrArg Step.m' (sumAt m c t i j)) (rd3 m c t i j))
/-- and the block of second moments. -/
theorem o8 (t : Fin (cf m).N) (i : Fin 256) (j : Fin 128) : ((outsAt0 m (ok m) c t).2.2.2 (ix2 i j) : EReal) = Step.v' (Step.grad (a0 m c) (a1 m c) (row m t i) j) (a4 m c (ix2 (row m t i) j)) := by
  dsimp only [outsAt0]
  exact (p8 ..).trans (congr (congrArg Step.v' (sumAt m c t i j)) (rd4 m c t i j))

/-- The point that holds a row, and the row's place in its block. -/
def pt (i : Fin 512) : Fin (cf m).N := ⟨i.val / 256, by have h : (cf m).N = 2 := N_0; omega⟩
def pl (i : Fin 512) : Fin 256 := ⟨i.val % 256, by omega⟩
theorem back (x : S512x128.Idx) : (ix2 (row m (pt m (x 0)) (pl (x 0))) (x 1) : S512x128.Idx) = x :=
  (congrArg (fun p : Fin 512 => (ix2 p (x 1) : S512x128.Idx)) (Fin.ext (Nat.div_add_mod' _ _))).trans (ix2_eta x)

/-- Each output array ends whole: the gradient, -/
theorem emb5 (t : Fin (cf m).N) (i : Fin 256) (j : Fin 128) : (((cf m).win 5).blk t).view.emb (ix2 i j : S256x128.Idx) = (ix2 (row m t i) j : S512x128.Idx) := by
  blk_ext [idx m t]
theorem final5 : (dats m (ok m) 0 c).arrAt 5 (cf m).N = Step.Grad (a0 m c) (a1 m c) := by
  refine (dats m (ok m) 0 c).arrAt_eq_of_emb 5 _ (fun t hf (y : S256x128.Idx) => ?_) (fun (x : S512x128.Idx) => ⟨pt m (x 0), flush0_5 _ _, ?_⟩)
  · idx_vars y
    rw [emb5 m t y0 y1]
    refine Eq.trans ?_ (o5 m c t y0 y1)
    blk_simp
    rw [after0_5]
  · exact Step.mem_of _ _ _ ((emb5 m (pt m (x 0)) (pl (x 0)) (x 1)).trans (back m x))

/-- the change, -/
theorem emb6 (t : Fin (cf m).N) (i : Fin 256) (j : Fin 128) : (((cf m).win 6).blk t).view.emb (ix2 i j : S256x128.Idx) = (ix2 (row m t i) j : S512x128.Idx) := by
  blk_ext [idx m t]
theorem final6 : (dats m (ok m) 0 c).arrAt 6 (cf m).N = Step.Delta (a0 m c) (a1 m c) (a2 m c) (a3 m c) (a4 m c) := by
  refine (dats m (ok m) 0 c).arrAt_eq_of_emb 6 _ (fun t hf (y : S256x128.Idx) => ?_) (fun (x : S512x128.Idx) => ⟨pt m (x 0), flush0_6 _ _, ?_⟩)
  · idx_vars y
    rw [emb6 m t y0 y1]
    refine Eq.trans ?_ (o6 m c t y0 y1)
    blk_simp
    rw [after0_6]
  · exact Step.mem_of _ _ _ ((emb6 m (pt m (x 0)) (pl (x 0)) (x 1)).trans (back m x))

/-- the first moment, -/
theorem emb7 (t : Fin (cf m).N) (i : Fin 256) (j : Fin 128) : (((cf m).win 7).blk t).view.emb (ix2 i j : S256x128.Idx) = (ix2 (row m t i) j : S512x128.Idx) := by
  blk_ext [idx m t]
theorem final7 : (dats m (ok m) 0 c).arrAt 7 (cf m).N = Step.Mom (a0 m c) (a1 m c) (a3 m c) := by
  refine (dats m (ok m) 0 c).arrAt_eq_of_emb 7 _ (fun t hf (y : S256x128.Idx) => ?_) (fun (x : S512x128.Idx) => ⟨pt m (x 0), flush0_7 _ _, ?_⟩)
  · idx_vars y
    rw [emb7 m t y0 y1]
    refine Eq.trans ?_ (o7 m c t y0 y1)
    blk_simp
    rw [after0_7]
  · exact Step.mem_of _ _ _ ((emb7 m (pt m (x 0)) (pl (x 0)) (x 1)).trans (back m x))

/-- the second moment. -/
theorem emb8 (t : Fin (cf m).N) (i : Fin 256) (j : Fin 128) : (((cf m).win 8).blk t).view.emb (ix2 i j : S256x128.Idx) = (ix2 (row m t i) j : S512x128.Idx) := by
  blk_ext [idx m t]
theorem final8 : (dats m (ok m) 0 c).arrAt 8 (cf m).N = Step.Sq (a0 m c) (a1 m c) (a4 m c) := by
  refine (dats m (ok m) 0 c).arrAt_eq_of_emb 8 _ (fun t hf (y : S256x128.Idx) => ?_) (fun (x : S512x128.Idx) => ⟨pt m (x 0), flush0_8 _ _, ?_⟩)
  · idx_vars y
    rw [emb8 m t y0 y1]
    refine Eq.trans ?_ (o8 m c t y0 y1)
    blk_simp
    rw [after0_8]
  · exact Step.mem_of _ _ _ ((emb8 m (pt m (x 0)) (pl (x 0)) (x 1)).trans (back m x))

/-- The run, its results named: the four arrays, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = Step.Grad (a0 m c) (a1 m c)
      ∧ r.2.mem ((c.tc : Thread nD τ).loc main_v1_1) = Step.Delta (a0 m c) (a1 m c) (a2 m c) (a3 m c) (a4 m c)
      ∧ r.2.mem ((c.tc : Thread nD τ).loc main_v1_2) = Step.Mom (a0 m c) (a1 m c) (a3 m c)
      ∧ r.2.mem ((c.tc : Thread nD τ).loc main_v1_3) = Step.Sq (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c), ((h c).1 8).trans (final8 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.StepProj

end
-- ==== Proof.StepIn.lean ====
/-
  AdamW's step on the transposed shard of the input projection: the 416 rows in 1 block of 416. The gradient is the sum of what the eight devices sent; this
  device's own part is read from what it sent out, and where that lies is read from a table.
-/
module

public import proofs.«01_k».proof.Proof.Step
public import proofs.«01_k».proof.Proof.Gen.AdamIn.Frame
public import proofs.«01_k».proof.Proof.Gen.AdamInIdeal.Frame

@[expose] public section

set_option maxRecDepth 16384

noncomputable section

namespace Cert.AdamIn.Own

open Cert.AdamIn Cert.AdamIn.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x416x1024.size a ≤ S8x416x1024.size a := by decide +kernel

/-- and lies in its array. -/
theorem ok : Ok m := fun i => ⟨fun a => by rw [tf]; exact inb i a, .inr (Affine.block_words_dvd (of_decide_eq_true rfl) (by decide))⟩

end Cert.AdamIn.Own

namespace Cert.AdamInIdeal.Own

open Cert.AdamInIdeal Cert.AdamInIdeal.Gen Idealize.ShloMosaic Idealize.ShloMosaic.TcCoe Idealize.SL.Sem

variable {F : FTy → Type} [FloatOps F] (m : (ℓ : Loc nD τ sig) → Buf (Elt F) ℓ)

/-- The table holds zero, -/
theorem tbl_zero (j) : (tbl m 0 : S1.Idx → BitVec 32) j = 0#32 := by
  unfold tbl
  simp only [V, hostOps0]
  after_results_simp
  rfl

/-- so the window that reads it begins where the whole parts' window begins, -/
theorem tf (i : grid0.Coords) : cc0_transform_1 inb_S1_S1_0 numel1_S1 (tbl m) i = cc0_transform_0 i := by
  unfold cc0_transform_1 cc0_transform_0
  have h : (tbl m).at 0 (Rect.unit (s := S1) ![0] S1.size inb_S1_S1_0) numel1_S1 = 0#32 := tbl_zero m _
  simp only [h]

theorem inb : ∀ (i : grid0.Coords) a, (cc0_transform_0 i a + 1) * S1x416x1024.size a ≤ S8x416x1024.size a := by decide +kernel

/-- and lies in its array. -/
theorem ok : Ok m := fun i => ⟨fun a => by rw [tf]; exact inb i a, .inr (Affine.block_words_dvd (of_decide_eq_true rfl) (by decide))⟩

end Cert.AdamInIdeal.Own

namespace Cert.StepIn

open Cert.AdamInIdeal Cert.AdamInIdeal.Gen Cert.AdamInIdeal.Own Idealize.ShloMosaic Idealize.ShloMosaic.TcCoe Idealize.SL.Sem

variable (m : (ℓ : Loc nD τ sig) → Buf (Elt Ideal) ℓ) (c : Dev nD)

/-- What the devices sent here, what this one sent out, the weight and its two moments. -/
abbrev a0 : S8x416x1024.Idx → EReal := m ((c : Thread nD τ).loc main_arg0)
abbrev a1 : S8x416x1024.Idx → EReal := m ((c : Thread nD τ).loc main_arg1)
abbrev a2 : S416x1024.Idx → EReal := m ((c : Thread nD τ).loc main_arg2)
abbrev a3 : S416x1024.Idx → EReal := m ((c : Thread nD τ).loc main_arg3)
abbrev a4 : S416x1024.Idx → EReal := m ((c : Thread nD τ).loc main_arg4)

abbrev cf := cfgM m (ok m)

theorem ltN (t : Fin (cf m).N) : t.val < 1 := lt_of_lt_of_eq t.isLt N_0

/-- The row of row `i` of point `t`'s blocks. -/
abbrev row (t : Fin (cf m).N) (i : Fin 416) : Fin 416 := ⟨t.val * 416 + i.val, by have := ltN m t; omega⟩

/-- Where the windows' blocks lie. -/
theorem at3 : ∀ t : Fin grid0.N, cc0_transform_0 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0] :=
  (by decide +kernel : ∀ t : Fin grid0.N, _)
theorem idx (t : Fin (cf m).N) : ((cf m).win 0).index t = ![0, t.val, 0] ∧ ((cf m).win 1).index t = ![0, t.val, 0] ∧ ((cf m).win 2).index t = ![t.val, 0]
    ∧ ((cf m).win 3).index t = ![t.val, 0] ∧ ((cf m).win 4).index t = ![t.val, 0] ∧ ((cf m).win 5).index t = ![t.val, 0]
    ∧ ((cf m).win 6).index t = ![t.val, 0] ∧ ((cf m).win 7).index t = ![t.val, 0] ∧ ((cf m).win 8).index t = ![t.val, 0] :=
  have h := at3 t
  ⟨h.1, (tf m _).trans h.1, h.2⟩

theorem rd0 (t : Fin (cf m).N) (k i j) : (iblk m (ok m) c 0 t : S8x416x1024.Idx → EReal) (ix3 k i j) = a0 m c (ix3 k (row m t i) j) := by
  blk_ext [iblk, V, idx m t]
theorem rd1 (t : Fin (cf m).N) (i j) : (iblk m (ok m) c 1 t : S1x416x1024.Idx → EReal) (ix3 0 i j) = a1 m c (ix3 0 (row m t i) j) := by
  blk_ext [iblk, V, idx m t]
theorem rd2 (t : Fin (cf m).N) (i j) : (iblk m (ok m) c 2 t : S416x1024.Idx → EReal) (ix2 i j) = a2 m c (ix2 (row m t i) j) := by
  blk_ext [iblk, V, idx m t]
theorem rd3 (t : Fin (cf m).N) (i j) : (iblk m (ok m) c 3 t : S416x1024.Idx → EReal) (ix2 i j) = a3 m c (ix2 (row m t i) j) := by
  blk_ext [iblk, V, idx m t]
theorem rd4 (t : Fin (cf m).N) (i j) : (iblk m (ok m) c 4 t : S416x1024.Idx → EReal) (ix2 i j) = a4 m c (ix2 (row m t i) j) := by
  blk_ext [iblk, V, idx m t]

/-- The body's four computed values, read at an entry. -/
theorem pay4 (v0 v3 v7 v11 v15 v19 v23 v27) (i j) : (k0_pay4 (F := Ideal) v0 v3 v7 v11 v15 v19 v23 v27 (ix2 i j) : EReal)
    = v0 (ix3 0 i j) + v3 (ix3 0 i j) + v7 (ix3 0 i j) + v11 (ix3 0 i j) + v15 (ix3 0 i j) + v19 (ix3 0 i j) + v23 (ix3 0 i j) + v27 (ix3 0 i j) := by
  pointwise [k0_pay4]
theorem pay1 (g u) (i j) : (k0_pay1 (F := Ideal) g u (Scalar.ofBits .f32 0x3F666666#32) (ix2 i j) : EReal) = Step.m' (g (ix2 i j)) (u (ix2 i j)) := rfl
theorem pay2 (g u) (i j) : (k0_pay2 (F := Ideal) g u (ix2 i j) : EReal) = Step.v' (g (ix2 i j)) (u (ix2 i j)) := rfl
theorem pay3 (g u v w) (i j) : (k0_pay3 (F := Ideal) g u (Scalar.ofBits .f32 0x3F666666#32) v w (ix2 i j) : EReal)
    = Step.d' (g (ix2 i j)) (w (ix2 i j)) (u (ix2 i j)) (v (ix2 i j)) := rfl

/-- What the body leaves in the four outputs' buffers: the gradient, -/
theorem p5 (i : grid0.Coords) (arg2 harg2 arg3 harg3 arg4 harg4 arg5 harg5 arg6 harg6 arg7 harg7 arg8 harg8 arg9 harg9 arg10 harg10)
    (x0 : S8x416x1024.Idx → EReal) (x1 : S1x416x1024.Idx → EReal) (x2 x3 x4 : S416x1024.Idx → EReal) (xt0) (a : Fin 416) (b : Fin 1024) :
    (out0_A_5 (F := Ideal) c i arg2 harg2 arg3 harg3 arg4 harg4 arg5 harg5 arg6 harg6 arg7 harg7 arg8 harg8 arg9 harg9 arg10 harg10 x0 x1 x2 x3 x4 xt0 (ix2 a b) : EReal) = (∑ k : Fin 8, Step.pick (x1 (ix3 0 a b)) (fun k => x0 (ix3 k a b)) k) := by
  frame_open
  frame_out
  exact (pay4 ..).trans (Step.parts ..)
/-- the change, -/
theorem p6 (i : grid0.Coords) (arg2 harg2 arg3 harg3 arg4 harg4 arg5 harg5 arg6 harg6 arg7 harg7 arg8 harg8 arg9 harg9 arg10 harg10)
    (x0 : S8x416x1024.Idx → EReal) (x1 : S1x416x1024.Idx → EReal) (x2 x3 x4 : S416x1024.Idx → EReal) (xt0) (a : Fin 416) (b : Fin 1024) :
    (out0_A_6 (F := Ideal) c i arg2 harg2 arg3 harg3 arg4 harg4 arg5 harg5 arg6 harg6 arg7 harg7 arg8 harg8 arg9 harg9 arg10 harg10 x0 x1 x2 x3 x4 xt0 (ix2 a b) : EReal) = Step.d' (∑ k : Fin 8, Step.pick (x1 (ix3 0 a b)) (fun k => x0 (ix3 k a b)) k) (x2 (ix2 a b)) (x3 (ix2 a b)) (x4 (ix2 a b)) := by
  frame_open
  frame_out
  refine (pay3 ..).trans ?_
  exact congrArg (fun g => Step.d' g _ _ _) ((pay4 ..).trans (Step.parts ..))
/-- the first moment, -/
theorem p7 (i : grid0.Coords) (arg2 harg2 arg3 harg3 arg4 harg4 arg5 harg5 arg6 harg6 arg7 harg7 arg8 harg8 arg9 harg9 arg10 harg10)
    (x0 : S8x416x1024.Idx → EReal) (x1 : S1x416x1024.Idx → EReal) (x2 x3 x4 : S416x1024.Idx → EReal) (xt0) (a : Fin 416) (b : Fin 1024) :
    (out0_A_7 (F := Ideal) c i arg2 harg2 arg3 harg3 arg4 harg4 arg5 harg5 arg6 harg6 arg7 harg7 arg8 harg8 arg9 harg9 arg10 harg10 x0 x1 x2 x3 x4 xt0 (ix2 a b) : EReal) = Step.m' (∑ k : Fin 8, Step.pick (x1 (ix3 0 a b)) (fun k => x0 (ix3 k a b)) k) (x3 (ix2 a b)) := by
  frame_open
  frame_out
  refine (pay1 ..).trans ?_
  exact congrArg (fun g => Step.m' g _) ((pay4 ..).trans (Step.parts ..))
/-- the second moment. -/
theorem p8 (i : grid0.Coords) (arg2 harg2 arg3 harg3 arg4 harg4 arg5 harg5 arg6 harg6 arg7 harg7 arg8 harg8 arg9 harg9 arg10 harg10)
    (x0 : S8x416x1024.Idx → EReal) (x1 : S1x416x1024.Idx → EReal) (x2 x3 x4 : S416x1024.Idx → EReal) (xt0) (a : Fin 416) (b : Fin 1024) :
    (out0_A_8 (F := Ideal) c i arg2 harg2 arg3 harg3 arg4 harg4 arg5 harg5 arg6 harg6 arg7 harg7 arg8 harg8 arg9 harg9 arg10 harg10 x0 x1 x2 x3 x4 xt0 (ix2 a b) : EReal) = Step.v' (∑ k : Fin 8, Step.pick (x1 (ix3 0 a b)) (fun k => x0 (ix3 k a b)) k) (x4 (ix2 a b)) := by
  frame_open
  frame_out
  refine (pay2 ..).trans ?_
  exact congrArg (fun g => Step.v' g _) ((pay4 ..).trans (Step.parts ..))

/-- The sum of a point's blocks is the gradient of their rows. -/
theorem sumAt (t : Fin (cf m).N) (i : Fin 416) (j : Fin 1024) :
    (∑ k : Fin 8, Step.pick ((iblk m (ok m) c 1 t : S1x416x1024.Idx → EReal) (ix3 0 i j)) (fun k => (iblk m (ok m) c 0 t : S8x416x1024.Idx → EReal) (ix3 k i j)) k)
      = Step.grad (a0 m c) (a1 m c) (row m t i) j :=
  Step.sumAt _ _ _ _ _ i j (fun k => rd0 m c t k i j) (rd1 m c t i j)

/-- The block of gradients at a point, -/
theorem o5 (t : Fin (cf m).N) (i : Fin 416) (j : Fin 1024) : ((outsAt0 m (ok m) c t).1 (ix2 i j) : EReal) = Step.grad (a0 m c) (a1 m c) (row m t i) j := by
  dsimp only [outsAt0]
  exact (p5 ..).trans (sumAt m c t i j)
/-- the block of changes, -/
theorem o6 (t : Fin (cf m).N) (i : Fin 416) (j : Fin 1024) : ((outsAt0 m (ok m) c t).2.1 (ix2 i j) : EReal) = Step.d' (Step.grad (a0 m c) (a1 m c) (row m t i) j)
    (a2 m c (ix2 (row m t i) j)) (a3 m c (ix2 (row m t i) j)) (a4 m c (ix2 (row m t i) j)) := by
  dsimp only [outsAt0]
  exact (p6 ..).trans (congr (congr (congr (congrArg Step.d' (sumAt m c t i j)) (rd2 m c t i j)) (rd3 m c t i j)) (rd4 m c t i j))
/-- the block of first moments, -/
theorem o7 (t : Fin (cf m).N) (i : Fin 416) (j : Fin 1024) : ((outsAt0 m (ok m) c t).2.2.1 (ix2 i j) : EReal) = Step.m' (Step.grad (a0 m c) (a1 m c) (row m t i) j) (a3 m c (ix2 (row m t i) j)) := by
  dsimp only [outsAt0]
  exact (p7 ..).trans (congr (congrArg Step.m' (sumAt m c t i j)) (rd3 m c t i j))
/-- and the block of second moments. -/
theorem o8 (t : Fin (cf m).N) (i : Fin 416) (j : Fin 1024) : ((outsAt0 m (ok m) c t).2.2.2 (ix2 i j) : EReal) = Step.v' (Step.grad (a0 m c) (a1 m c) (row m t i) j) (a4 m c (ix2 (row m t i) j)) := by
  dsimp only [outsAt0]
  exact (p8 ..).trans (congr (congrArg Step.v' (sumAt m c t i j)) (rd4 m c t i j))

/-- The point that holds a row, and the row's place in its block. -/
def pt (i : Fin 416) : Fin (cf m).N := ⟨i.val / 416, by have h : (cf m).N = 1 := N_0; omega⟩
def pl (i : Fin 416) : Fin 416 := ⟨i.val % 416, by omega⟩
theorem back (x : S416x1024.Idx) : (ix2 (row m (pt m (x 0)) (pl (x 0))) (x 1) : S416x1024.Idx) = x :=
  (congrArg (fun p : Fin 416 => (ix2 p (x 1) : S416x1024.Idx)) (Fin.ext (Nat.div_add_mod' _ _))).trans (ix2_eta x)

/-- Each output array ends whole: the gradient, -/
theorem emb5 (t : Fin (cf m).N) (i : Fin 416) (j : Fin 1024) : (((cf m).win 5).blk t).view.emb (ix2 i j : S416x1024.Idx) = (ix2 (row m t i) j : S416x1024.Idx) := by
  blk_ext [idx m t]
theorem final5 : (dats m (ok m) 0 c).arrAt 5 (cf m).N = Step.Grad (a0 m c) (a1 m c) := by
  refine (dats m (ok m) 0 c).arrAt_eq_of_emb 5 _ (fun t hf (y : S416x1024.Idx) => ?_) (fun (x : S416x1024.Idx) => ⟨pt m (x 0), flush0_5 _ _, ?_⟩)
  · idx_vars y
    rw [emb5 m t y0 y1]
    refine Eq.trans ?_ (o5 m c t y0 y1)
    blk_simp
    rw [after0_5]
  · exact Step.mem_of _ _ _ ((emb5 m (pt m (x 0)) (pl (x 0)) (x 1)).trans (back m x))

/-- the change, -/
theorem emb6 (t : Fin (cf m).N) (i : Fin 416) (j : Fin 1024) : (((cf m).win 6).blk t).view.emb (ix2 i j : S416x1024.Idx) = (ix2 (row m t i) j : S416x1024.Idx) := by
  blk_ext [idx m t]
theorem final6 : (dats m (ok m) 0 c).arrAt 6 (cf m).N = Step.Delta (a0 m c) (a1 m c) (a2 m c) (a3 m c) (a4 m c) := by
  refine (dats m (ok m) 0 c).arrAt_eq_of_emb 6 _ (fun t hf (y : S416x1024.Idx) => ?_) (fun (x : S416x1024.Idx) => ⟨pt m (x 0), flush0_6 _ _, ?_⟩)
  · idx_vars y
    rw [emb6 m t y0 y1]
    refine Eq.trans ?_ (o6 m c t y0 y1)
    blk_simp
    rw [after0_6]
  · exact Step.mem_of _ _ _ ((emb6 m (pt m (x 0)) (pl (x 0)) (x 1)).trans (back m x))

/-- the first moment, -/
theorem emb7 (t : Fin (cf m).N) (i : Fin 416) (j : Fin 1024) : (((cf m).win 7).blk t).view.emb (ix2 i j : S416x1024.Idx) = (ix2 (row m t i) j : S416x1024.Idx) := by
  blk_ext [idx m t]
theorem final7 : (dats m (ok m) 0 c).arrAt 7 (cf m).N = Step.Mom (a0 m c) (a1 m c) (a3 m c) := by
  refine (dats m (ok m) 0 c).arrAt_eq_of_emb 7 _ (fun t hf (y : S416x1024.Idx) => ?_) (fun (x : S416x1024.Idx) => ⟨pt m (x 0), flush0_7 _ _, ?_⟩)
  · idx_vars y
    rw [emb7 m t y0 y1]
    refine Eq.trans ?_ (o7 m c t y0 y1)
    blk_simp
    rw [after0_7]
  · exact Step.mem_of _ _ _ ((emb7 m (pt m (x 0)) (pl (x 0)) (x 1)).trans (back m x))

/-- the second moment. -/
theorem emb8 (t : Fin (cf m).N) (i : Fin 416) (j : Fin 1024) : (((cf m).win 8).blk t).view.emb (ix2 i j : S416x1024.Idx) = (ix2 (row m t i) j : S416x1024.Idx) := by
  blk_ext [idx m t]
theorem final8 : (dats m (ok m) 0 c).arrAt 8 (cf m).N = Step.Sq (a0 m c) (a1 m c) (a4 m c) := by
  refine (dats m (ok m) 0 c).arrAt_eq_of_emb 8 _ (fun t hf (y : S416x1024.Idx) => ?_) (fun (x : S416x1024.Idx) => ⟨pt m (x 0), flush0_8 _ _, ?_⟩)
  · idx_vars y
    rw [emb8 m t y0 y1]
    refine Eq.trans ?_ (o8 m c t y0 y1)
    blk_simp
    rw [after0_8]
  · exact Step.mem_of _ _ _ ((emb8 m (pt m (x 0)) (pl (x 0)) (x 1)).trans (back m x))

/-- The run, its results named: the four arrays, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = Step.Grad (a0 m c) (a1 m c)
      ∧ r.2.mem ((c.tc : Thread nD τ).loc main_v1_1) = Step.Delta (a0 m c) (a1 m c) (a2 m c) (a3 m c) (a4 m c)
      ∧ r.2.mem ((c.tc : Thread nD τ).loc main_v1_2) = Step.Mom (a0 m c) (a1 m c) (a3 m c)
      ∧ r.2.mem ((c.tc : Thread nD τ).loc main_v1_3) = Step.Sq (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c), ((h c).1 8).trans (final8 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.StepIn

end
-- ==== Proof.Fwd.lean ====
/-
  The forward half of one block of rows: each computed value of the kernel's body, read at row `i` of the block,
  is the reference's array at row `ρ i`, for ANY map `ρ` of the block's rows to the array's rows. The blocks the
  body loads enter as variables with their reading as hypothesis; a chunk of 1024 hidden columns enters by a map
  `κ` of its columns to the 4096, so one lemma serves the four chunks.
-/
module

public import proofs.«01_k».proof.Proof.Alg
public import proofs.«01_k».proof.Proof.Gen.KernelIdeal.Skeleton
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

/-- The launch contents of one device of the reference. -/
abbrev RV := Valuation Cert.ReferenceIdeal.τ Cert.ReferenceIdeal.sig (Elt Ideal)

variable (V0 : RV)

/-! The arguments and the reference's stages, at their shapes. -/

abbrev A0 : FVec Ideal S8192x1024 .f32 := V0 (Proc.devRef .tc Cert.ReferenceIdeal.main_arg0)
abbrev A1 : FVec Ideal S8192x512 .bf16 := V0 (Proc.devRef .tc Cert.ReferenceIdeal.main_arg1)
abbrev A2 : FVec Ideal S8192x512 .bf16 := V0 (Proc.devRef .tc Cert.ReferenceIdeal.main_arg2)
abbrev A3 : FVec Ideal S8192x2048 .bf16 := V0 (Proc.devRef .tc Cert.ReferenceIdeal.main_arg3)
abbrev A4 : FVec Ideal S8192x1024 .f32 := V0 (Proc.devRef .tc Cert.ReferenceIdeal.main_arg4)
abbrev A5 : FVec Ideal S1x1024 .f32 := V0 (Proc.devRef .tc Cert.ReferenceIdeal.main_arg5)
abbrev A6 : FVec Ideal S1024 .f32 := V0 (Proc.devRef .tc Cert.ReferenceIdeal.main_arg6)
abbrev A7 : FVec Ideal S512x1024 .f32 := V0 (Proc.devRef .tc Cert.ReferenceIdeal.main_arg7)
abbrev A8 : FVec Ideal S512x1024 .f32 := V0 (Proc.devRef .tc Cert.ReferenceIdeal.main_arg8)
abbrev A9 : FVec Ideal S1024x1024 .f32 := V0 (Proc.devRef .tc Cert.ReferenceIdeal.main_arg9)
abbrev A10 : FVec Ideal S1024x4096 .f32 := V0 (Proc.devRef .tc Cert.ReferenceIdeal.main_arg10)
abbrev A11 : FVec Ideal S4096x1024 .f32 := V0 (Proc.devRef .tc Cert.ReferenceIdeal.main_arg11)

abbrev R3 : FVec Ideal S8192x1024 .f32 := res_main_v3 V0
abbrev R4 : FVec Ideal S8192x1024 .f32 := res_main_v4 V0
abbrev R12 : FVec Ideal S8192x1024 .f32 := res_main_v12 V0
abbrev R22 : FVec Ideal S8192x1024 .f32 := res_main_v22 V0
abbrev R27 : FVec Ideal S8192x1024 .f32 := res_main_v27 V0
abbrev R29 : FVec Ideal S8192x1024 .f32 := res_main_v29 V0
abbrev R36 : FVec Ideal Cert.ReferenceIdeal.S8192x1 .f32 := res_main_v36 V0
abbrev R37 : FVec Ideal Cert.ReferenceIdeal.S8192x1 .f32 := res_main_v37 V0
abbrev R42 : FVec Ideal S8192x1024 .f32 := res_main_v42 V0
abbrev R44 : FVec Ideal S8192x1024 .f32 := res_main_v44 V0
abbrev R45 : FVec Ideal S8192x4096 .f32 := res_main_v45 V0
abbrev R46 : FVec Ideal S8192x4096 .f32 := res_main_v46 V0
abbrev R52 : FVec Ideal S8192x1024 .f32 := res_main_v52 V0
abbrev R60 : FVec Ideal Cert.ReferenceIdeal.S8192x1 .f32 := res_main_v60 V0
abbrev R61 : FVec Ideal Cert.ReferenceIdeal.S8192x1 .f32 := res_main_v61 V0
abbrev R66 : FVec Ideal S8192x1024 .f32 := res_main_v66 V0
abbrev R69 : FVec Ideal S8192x1024 .f32 := res_main_v69 V0

/-- A sum over a chunk's two halves is the sum over the chunk. -/
theorem sum_halves (f : Fin 1024 → EReal) :
    ∑ k : Fin 512, f ⟨k, by omega⟩ + ∑ k : Fin 512, f ⟨512 + k, by omega⟩ = ∑ k, f k :=
  (Fin.sum_univ_add (a := 512) (b := 512) f).symm

/-- The four chunks of the 4096 hidden columns. -/
abbrev col (q : ℕ) (hq : q < 4 := by decide) (k : Fin 1024) : Fin 4096 := ⟨q * 1024 + k, by omega⟩

/-- A sum over the 4096 hidden columns is the sum of the four chunks' sums. -/
theorem sum_chunks (f : Fin 4096 → EReal) :
    ∑ k, f (col 0 (by decide) k) + ∑ k, f (col 1 (by decide) k) + ∑ k, f (col 2 (by decide) k) + ∑ k, f (col 3 (by decide) k) = ∑ k, f k := by
  rw [Fin.sum_univ_tiles 4 1024 rfl f, Fin.sum_univ_four]
  rfl

variable {V0} {ρ : Fin 256 → Fin 8192}

/-- The pool branch's product. -/
theorem p3 {v3 : Vec Ideal S256x512 .bf16} {v6 : Vec Ideal S1024x512 .bf16}
    (h3 : ∀ i k, v3 (ix2 i k) = A1 V0 (ix2 (ρ i) k)) (h6 : ∀ j k, v6 (ix2 j k) = A7 V0 (ix2 k j)) (i j) :
    k0_pay3 v3 v6 (ix2 i j) = R3 V0 (ix2 (ρ i) j) := by
  pointwise [k0_pay3, R3, res_main_v3]
  simp only [h3, h6]

/-- The attention branch's product. -/
theorem p4 {v4 : Vec Ideal S256x512 .bf16} {v9 : Vec Ideal S1024x512 .bf16}
    (h4 : ∀ i k, v4 (ix2 i k) = A2 V0 (ix2 (ρ i) k)) (h9 : ∀ j k, v9 (ix2 j k) = A8 V0 (ix2 k j)) (i j) :
    k0_pay4 v4 v9 (ix2 i j) = R4 V0 (ix2 (ρ i) j) := by
  pointwise [k0_pay4, R4, res_main_v4]
  simp only [h4, h9]

/-- The pool gate. -/
theorem p5 {v5 : Vec Ideal S256x2048 .bf16} (h5 : ∀ i k, v5 (ix2 i k) = A3 V0 (ix2 (ρ i) k)) (i j) :
    k0_pay5 v5 (ix2 i j) = R12 V0 (ix2 (ρ i) j) := by
  pointwise [k0_pay5, R12, res_main_v12, res_main_v2]
  simp only [h5, Ideal.logistic]

/-- The attention gate. -/
theorem p6 {v5 : Vec Ideal S256x2048 .bf16} (h5 : ∀ i k, v5 (ix2 i k) = A3 V0 (ix2 (ρ i) k)) (i j) :
    k0_pay6 v5 (ix2 i j) = R22 V0 (ix2 (ρ i) j) := by
  pointwise [k0_pay6, R22, res_main_v22, res_main_v2]
  simp only [h5, Ideal.logistic]

/-- The gated sum of the branches. -/
theorem p7 {v3 v4 : Vec Ideal S256x512 .bf16} {v5 : Vec Ideal S256x2048 .bf16} {v6 v9 : Vec Ideal S1024x512 .bf16}
    (h3 : ∀ i k, v3 (ix2 i k) = A1 V0 (ix2 (ρ i) k)) (h4 : ∀ i k, v4 (ix2 i k) = A2 V0 (ix2 (ρ i) k))
    (h5 : ∀ i k, v5 (ix2 i k) = A3 V0 (ix2 (ρ i) k))
    (h6 : ∀ j k, v6 (ix2 j k) = A7 V0 (ix2 k j)) (h9 : ∀ j k, v9 (ix2 j k) = A8 V0 (ix2 k j)) (i j) :
    k0_pay7 v3 v4 v5 v6 v9 (ix2 i j) = R27 V0 (ix2 (ρ i) j) := by
  pointwise [k0_pay7, R27, res_main_v27]
  rw [p3 h3 h6, p4 h4 h9, p5 h5, p6 h5]

/-- The stream after the mixer. -/
theorem p8 {v3 v4 : Vec Ideal S256x512 .bf16} {v5 : Vec Ideal S256x2048 .bf16} {v6 v9 : Vec Ideal S1024x512 .bf16}
    {v23 : Vec Ideal S256x1024 .f32} {v24 : Vec Ideal S1024x1024 .bf16}
    (h7 : ∀ i j, k0_pay7 v3 v4 v5 v6 v9 (ix2 i j) = R27 V0 (ix2 (ρ i) j))
    (h23 : ∀ i k, v23 (ix2 i k) = A0 V0 (ix2 (ρ i) k)) (h24 : ∀ k j, v24 (ix2 k j) = A9 V0 (ix2 k j)) (i j) :
    k0_pay8 v3 v4 v5 v6 v9 v23 v24 (ix2 i j) = R29 V0 (ix2 (ρ i) j) := by
  pointwise [k0_pay8, R29, res_main_v29]
  simp only [h7, h23, h24]

/-- The first norm's reciprocal root. -/
theorem p10 {v3 v4 : Vec Ideal S256x512 .bf16} {v5 : Vec Ideal S256x2048 .bf16} {v6 v9 : Vec Ideal S1024x512 .bf16}
    {v23 : Vec Ideal S256x1024 .f32} {v24 : Vec Ideal S1024x1024 .bf16}
    (h8 : ∀ i j, k0_pay8 v3 v4 v5 v6 v9 v23 v24 (ix2 i j) = R29 V0 (ix2 (ρ i) j)) (i j) :
    k0_pay10 (k0_pay9 v3 v4 v5 v6 v9 v23 v24) (Scalar.ofBits .f32 0x44800000#32) (ix2 i j) = R37 V0 (ix2 (ρ i) 0) := by
  pointwise [k0_pay10, k0_pay9, R37, res_main_v37, res_main_v36]
  simp only [h8]

/-- The first norm's row. -/
theorem p11 {v27 : FVec Ideal S256x1024 .f32} {v31 : FVec Ideal S256x1 .f32} {cst : Ideal .f32}
    (h27 : ∀ i j, v27 (ix2 i j) = R29 V0 (ix2 (ρ i) j))
    (hr : ∀ i j, k0_pay10 v31 cst (ix2 i j) = R37 V0 (ix2 (ρ i) 0)) (i j) :
    k0_pay11 v27 v31 cst (ix2 i j) = R42 V0 (ix2 (ρ i) j) := by
  pointwise [k0_pay11, R42, res_main_v42]
  simp only [h27, hr]

/-- The first norm's row with its gain. -/
theorem p12 {v27 : FVec Ideal S256x1024 .f32} {v31 : FVec Ideal S256x1 .f32} {cst : Ideal .f32} {v28 : Vec Ideal S1x1024 .f32}
    (h11 : ∀ i j, k0_pay11 v27 v31 cst (ix2 i j) = R42 V0 (ix2 (ρ i) j))
    (h28 : ∀ i j, v28 (ix2 i j) = A5 V0 (ix2 i j)) (i j) :
    k0_pay12 v27 v28 v31 cst (ix2 i j) = R44 V0 (ix2 (ρ i) j) := by
  pointwise [k0_pay12, R44, res_main_v44]
  simp only [h11, h28]

/-- The rectified scores at a column, as the reference has them. -/
theorem r46 (a : Fin 8192) (b : Fin 4096) :
    R46 V0 (ix2 a b) = max (∑ k : Fin 1024, R44 V0 (ix2 a k) * A10 V0 (ix2 k b)) 0 := by
  pointwise [R46, res_main_v46, res_main_v45]

/-- The stream after the MLP, as the reference has it. -/
theorem r52 (a : Fin 8192) (b : Fin 1024) :
    R52 V0 (ix2 a b) = R29 V0 (ix2 a b) + ∑ k : Fin 4096, (R46 V0 (ix2 a k) * R46 V0 (ix2 a k)) * A11 V0 (ix2 k b) := by
  pointwise [R52, res_main_v52]

/-- What the two halves of a chunk of up-columns are. -/
abbrev UpHalves (V0 : RV) (κ : Fin 1024 → Fin 4096) (v44 v47 : Vec Ideal S1x1024x512 .bf16) : Prop :=
  (∀ (k : Fin 1024) (j : Fin 512), v44 (ix3 0 k j) = A10 V0 (ix2 k (κ ⟨j, by omega⟩)))
    ∧ ∀ (k : Fin 1024) (j : Fin 512), v47 (ix3 0 k j) = A10 V0 (ix2 k (κ ⟨512 + j, by omega⟩))

/-- What a chunk of down-rows is. -/
abbrev DownRows (V0 : RV) (κ : Fin 1024 → Fin 4096) (v57 : Vec Ideal S1024x1024 .bf16) : Prop :=
  ∀ (k j : Fin 1024), v57 (ix2 k j) = A11 V0 (ix2 (κ k) j)

/-- Reading a concatenation of two halves is reading the whole. -/
theorem halves (F : Fin 1024 → EReal) (j : Fin 1024) :
    (if h : (j : ℕ) < 512 then F ⟨j, by omega⟩ else F ⟨512 + ((j : ℕ) - 512), by omega⟩) = F j := by
  split
  · rfl
  · rename_i h
    have e : (⟨512 + ((j : ℕ) - 512), by omega⟩ : Fin 1024) = j := Fin.ext (by show 512 + ((j : ℕ) - 512) = (j : ℕ); omega)
    rw [e]

/-- A chunk's rectified scores: the first chunk's form. -/
theorem p13 {v27 : FVec Ideal S256x1024 .f32} {v31 : FVec Ideal S256x1 .f32} {cst : Ideal .f32} {v28 : Vec Ideal S1x1024 .f32}
    {κ : Fin 1024 → Fin 4096} {v44 v47 : Vec Ideal S1x1024x512 .bf16}
    (h41 : ∀ i j, k0_pay12 v27 v28 v31 cst (ix2 i j) = R44 V0 (ix2 (ρ i) j)) (hu : UpHalves V0 κ v44 v47) (i : Fin 256) (j : Fin 1024) :
    k0_pay13 v27 v28 v31 cst v44 v47 (ix2 i j) = R46 V0 (ix2 (ρ i) (κ j)) := by
  rw [r46]
  pointwise [k0_pay13]
  simp only [h41, hu.1, hu.2]
  exact congrArg (max · 0) (halves (fun j => ∑ x, R44 V0 (ix2 (ρ i) x) * A10 V0 (ix2 x (κ j))) j)

/-- A chunk's rectified scores: the form whose first half's product comes in. -/
theorem p17 {v27 : FVec Ideal S256x1024 .f32} {v31 : FVec Ideal S256x1 .f32} {cst : Ideal .f32} {v28 : Vec Ideal S1x1024 .f32}
    {κ : Fin 1024 → Fin 4096} {v44 v47 : Vec Ideal S1x1024x512 .bf16}
    (h41 : ∀ i j, k0_pay12 v27 v28 v31 cst (ix2 i j) = R44 V0 (ix2 (ρ i) j)) (hu : UpHalves V0 κ v44 v47) (i : Fin 256) (j : Fin 1024) :
    k0_pay17 (k0_pay12 v27 v28 v31 cst) (k0_pay16 v27 v28 v31 cst v44) v47 (ix2 i j) = R46 V0 (ix2 (ρ i) (κ j)) := by
  rw [r46]
  pointwise [k0_pay17, k0_pay16]
  simp only [h41, hu.1, hu.2]
  exact congrArg (max · 0) (halves (fun j => ∑ x, R44 V0 (ix2 (ρ i) x) * A10 V0 (ix2 x (κ j))) j)

/-- A chunk's rectified scores: the third chunk's form. -/
theorem p19 {v41 : FVec Ideal S256x1024 .bf16} {κ : Fin 1024 → Fin 4096} {v44 v47 : Vec Ideal S1x1024x512 .bf16}
    (h41 : ∀ i j, v41 (ix2 i j) = R44 V0 (ix2 (ρ i) j)) (hu : UpHalves V0 κ v44 v47) (i : Fin 256) (j : Fin 1024) :
    k0_pay19 v41 v44 v47 (ix2 i j) = R46 V0 (ix2 (ρ i) (κ j)) := by
  rw [r46]
  pointwise [k0_pay19]
  simp only [h41, hu.1, hu.2]
  exact congrArg (max · 0) (halves (fun j => ∑ x, R44 V0 (ix2 (ρ i) x) * A10 V0 (ix2 x (κ j))) j)

/-- A chunk's rectified scores: the last chunk's form. -/
theorem p23 {v41 : FVec Ideal S256x1024 .bf16} {κ : Fin 1024 → Fin 4096} {v44 v47 : Vec Ideal S1x1024x512 .bf16}
    (h41 : ∀ i j, v41 (ix2 i j) = R44 V0 (ix2 (ρ i) j)) (hu : UpHalves V0 κ v44 v47) (i : Fin 256) (j : Fin 1024) :
    k0_pay23 v41 (k0_pay22 v41 v44) v47 (ix2 i j) = R46 V0 (ix2 (ρ i) (κ j)) := by
  rw [r46]
  pointwise [k0_pay23, k0_pay22]
  simp only [h41, hu.1, hu.2]
  exact congrArg (max · 0) (halves (fun j => ∑ x, R44 V0 (ix2 (ρ i) x) * A10 V0 (ix2 x (κ j))) j)

/-- What one chunk adds to the MLP's output. -/
abbrev part (V0 : RV) (κ : Fin 1024 → Fin 4096) (a : Fin 8192) (b : Fin 1024) : EReal :=
  ∑ k : Fin 1024, (R46 V0 (ix2 a (κ k)) * R46 V0 (ix2 a (κ k))) * A11 V0 (ix2 (κ k) b)

/-- The MLP's output after the first chunk. -/
theorem p15 {v27 : FVec Ideal S256x1024 .f32} {v31 : FVec Ideal S256x1 .f32} {cst : Ideal .f32} {v28 : Vec Ideal S1x1024 .f32}
    {κ : Fin 1024 → Fin 4096} {v44 v47 : Vec Ideal S1x1024x512 .bf16} {v57 : Vec Ideal S1024x1024 .bf16}
    (h13 : ∀ i j, k0_pay13 v27 v28 v31 cst v44 v47 (ix2 i j) = R46 V0 (ix2 (ρ i) (κ j))) (hd : DownRows V0 κ v57) (i j) :
    k0_pay15 v27 v28 v31 cst v44 v47 v57 (ix2 i j) = part V0 κ (ρ i) j := by
  pointwise [k0_pay15]
  simp only [h13, hd _ _]

/-- … after the third: the second's and the third's parts are added. -/
theorem p21 {v41 : FVec Ideal S256x1024 .bf16} {v60 : FVec Ideal S256x1024 .f32} {v63 : FVec Ideal S256x512 .f32}
    {κ κ' : Fin 1024 → Fin 4096} {v64 v78 v81 : Vec Ideal S1x1024x512 .bf16} {v74 v91 : Vec Ideal S1024x1024 .bf16}
    (h17 : ∀ i j, k0_pay17 v41 v63 v64 (ix2 i j) = R46 V0 (ix2 (ρ i) (κ j)))
    (h19 : ∀ i j, k0_pay19 v41 v78 v81 (ix2 i j) = R46 V0 (ix2 (ρ i) (κ' j)))
    (hd : DownRows V0 κ v74) (hd' : DownRows V0 κ' v91) (i j) :
    k0_pay21 v41 v60 v63 v64 v74 v78 v81 v91 (ix2 i j) = v60 (ix2 i j) + part V0 κ (ρ i) j + part V0 κ' (ρ i) j := by
  pointwise [k0_pay21]
  simp only [h17, h19, hd _ _, hd' _ _]

/-- The stream after the MLP. -/
theorem p25 {v27 v94 : FVec Ideal S256x1024 .f32} {v41 : FVec Ideal S256x1024 .bf16} {v97 : FVec Ideal S256x512 .f32}
    {v98 : Vec Ideal S1x1024x512 .bf16} {v108 : Vec Ideal S1024x1024 .bf16}
    (h27 : ∀ i j, v27 (ix2 i j) = R29 V0 (ix2 (ρ i) j))
    (h94 : ∀ i j, v94 (ix2 i j) = part V0 (col 0) (ρ i) j + part V0 (col 1) (ρ i) j + part V0 (col 2) (ρ i) j)
    (h23 : ∀ i j, k0_pay23 v41 v97 v98 (ix2 i j) = R46 V0 (ix2 (ρ i) (col 3 (by decide) j)))
    (hd : DownRows V0 (col 3) v108) (i j) :
    k0_pay25 v27 v41 v94 v97 v98 v108 (ix2 i j) = R52 V0 (ix2 (ρ i) j) := by
  rw [r52, ← sum_chunks]
  pointwise [k0_pay25]
  simp only [h27, h94, h23, hd _ _]

/-- The last norm's reciprocal root. -/
theorem p26 {v27 v94 : FVec Ideal S256x1024 .f32} {v41 : FVec Ideal S256x1024 .bf16} {v97 : FVec Ideal S256x512 .f32}
    {v98 : Vec Ideal S1x1024x512 .bf16} {v108 : Vec Ideal S1024x1024 .bf16}
    (h25 : ∀ i j, k0_pay25 v27 v41 v94 v97 v98 v108 (ix2 i j) = R52 V0 (ix2 (ρ i) j)) (i j) :
    k0_pay26 v27 v41 v94 v97 v98 v108 (ix2 i j) = R61 V0 (ix2 (ρ i) 0) := by
  pointwise [k0_pay26, R61, res_main_v61, res_main_v60]
  simp only [h25]

/-- The last norm's row. -/
theorem p27 {v27 v94 : FVec Ideal S256x1024 .f32} {v41 : FVec Ideal S256x1024 .bf16} {v97 : FVec Ideal S256x512 .f32}
    {v98 : Vec Ideal S1x1024x512 .bf16} {v108 : Vec Ideal S1024x1024 .bf16}
    (h25 : ∀ i j, k0_pay25 v27 v41 v94 v97 v98 v108 (ix2 i j) = R52 V0 (ix2 (ρ i) j))
    (h26 : ∀ i j, k0_pay26 v27 v41 v94 v97 v98 v108 (ix2 i j) = R61 V0 (ix2 (ρ i) 0)) (i j) :
    k0_pay27 v27 v41 v94 v97 v98 v108 (ix2 i j) = R66 V0 (ix2 (ρ i) j) := by
  pointwise [k0_pay27, R66, res_main_v66]
  simp only [h25, h26]

/-- The difference of the prediction and the target. -/
theorem p28 {v27 v94 : FVec Ideal S256x1024 .f32} {v41 : FVec Ideal S256x1024 .bf16} {v97 : FVec Ideal S256x512 .f32}
    {v98 : Vec Ideal S1x1024x512 .bf16} {v108 : Vec Ideal S1024x1024 .bf16} {v113 : Vec Ideal S1x1024 .f32} {v127 : Vec Ideal S256x1024 .f32}
    (h27 : ∀ i j, k0_pay27 v27 v41 v94 v97 v98 v108 (ix2 i j) = R66 V0 (ix2 (ρ i) j))
    (h113 : ∀ i j, v113 (ix2 i j) = A6 V0 (ix1 j)) (h127 : ∀ i j, v127 (ix2 i j) = A4 V0 (ix2 (ρ i) j)) (i j) :
    k0_pay28 v27 v41 v94 v97 v98 v108 v113 v127 (ix2 i j) = R69 V0 (ix2 (ρ i) j) := by
  pointwise [k0_pay28, R69, res_main_v69, res_main_v53]
  simp only [h27, h113, h127]

/-- The mean of a row's squared differences. -/
theorem p30 {v27 v94 : FVec Ideal S256x1024 .f32} {v41 : FVec Ideal S256x1024 .bf16} {v97 : FVec Ideal S256x512 .f32}
    {v98 : Vec Ideal S1x1024x512 .bf16} {v108 : Vec Ideal S1024x1024 .bf16} {v113 : Vec Ideal S1x1024 .f32} {v127 : Vec Ideal S256x1024 .f32}
    (h28 : ∀ i j, k0_pay28 v27 v41 v94 v97 v98 v108 v113 v127 (ix2 i j) = R69 V0 (ix2 (ρ i) j)) (i j) :
    k0_pay30 v27 v41 v94 v97 v98 v108 v113 v127 (ix2 i j)
      = Ideal.div (∑ k, R69 V0 (ix2 (ρ i) k) * R69 V0 (ix2 (ρ i) k)) (Ideal.ofBits .f32 0x44800000#32) := by
  pointwise [k0_pay30]
  simp only [h28]

/-- The loss row: the tile's part is added. -/
theorem p31 {v130 : FVec Ideal S1x1024 .f32} {v135 : FVec Ideal S256x1 .f32} (i j) :
    k0_pay31 v130 v135 (ix2 i j) = v130 (ix2 0 j) + Ideal.ofBits .f32 0x3F000000#32 * ∑ k : Fin 256, v135 (ix2 k 0) := by
  pointwise [k0_pay31]
  obtain rfl := Subsingleton.elim i 0
  simp only [Finset.univ_unique, Finset.sum_singleton]

end Cert.Core

end
-- ==== Proof.Bwd.lean ====
/-
  The backward half of one block of rows: each gradient the kernel's body computes, read at row `i` of the block, is
  the reference's array at row `ρ i`. The hypotheses are the forward half's readings (Fwd.lean). The two norms'
  input gradients are met through `rms_bwd` (Alg.lean), the squared rectifier's through `relu_sq`.
-/
module

public import proofs.«01_k».proof.Proof.Fwd

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

variable (V0 : RV)

abbrev R83 : FVec Ideal S8192x1024 .f32 := res_main_v83 V0
abbrev R88 : FVec Ideal S8192x1024 .f32 := res_main_v88 V0
abbrev R98 : FVec Ideal S8192x1024 .f32 := res_main_v98 V0
abbrev R102 : FVec Ideal S8192x1024 .f32 := res_main_v102 V0
abbrev R103 : FVec Ideal S8192x4096 .f32 := res_main_v103 V0
abbrev R108 : FVec Ideal S8192x4096 .f32 := res_main_v108 V0
abbrev R109 : FVec Ideal S8192x1024 .f32 := res_main_v109 V0
abbrev R114 : FVec Ideal S8192x1024 .f32 := res_main_v114 V0
abbrev R129 : FVec Ideal S8192x1024 .f32 := res_main_v129 V0
abbrev R130 : FVec Ideal S8192x1024 .f32 := res_main_v130 V0
abbrev R131 : FVec Ideal S8192x1024 .f32 := res_main_v131 V0
abbrev R134 : FVec Ideal S8192x1024 .f32 := res_main_v134 V0

variable {V0} {ρ : Fin 256 → Fin 8192}

/-- The prediction's gradient. -/
theorem p32 {v128 : FVec Ideal S256x1024 .f32} (h : ∀ i j, v128 (ix2 i j) = R69 V0 (ix2 (ρ i) j)) (i j) :
    k0_pay32 v128 (ix2 i j) = R83 V0 (ix2 (ρ i) j) := by
  pointwise [k0_pay32, R83, res_main_v83]
  rw [h, c1024, chalf, ctwo, cinv1024, div_real _ _ (by norm_num), ← mul_assoc, ← EReal.coe_mul, ← EReal.coe_mul, mul_comm]
  norm_num

/-- The last norm's input gradient, in the factored form. -/
theorem r102 (a : Fin 8192) (b : Fin 1024) :
    R102 V0 (ix2 a b) = R61 V0 (ix2 a 0) * (R83 V0 (ix2 a b) * A6 V0 (ix1 b) - R66 V0 (ix2 a b)
      * Ideal.div (∑ k, (R83 V0 (ix2 a k) * A6 V0 (ix1 k)) * R66 V0 (ix2 a k)) (Ideal.ofBits .f32 0x44800000#32)) := by
  obtain ⟨e, he, hc⟩ := ceps
  pointwise [R102, R66, R61, res_main_v102, res_main_v98, res_main_v88, res_main_v66, res_main_v61, res_main_v53]
  simp only [Finset.univ_unique, Finset.sum_singleton, Fin.default_eq_zero, c1024, cneghalf]
  exact (rms_bwd (fun k => R52 V0 (ix2 a k)) (fun k => R83 V0 (ix2 a k) * A6 V0 (ix1 k)) e he (R60 V0 (ix2 a 0))
    (by pointwise [R60, res_main_v60]; rw [c1024, hc]) b).symm

/-- The first norm's input gradient in the factored form, with the residual's gradient. -/
theorem r129 (a : Fin 8192) (b : Fin 1024) :
    R129 V0 (ix2 a b) = R102 V0 (ix2 a b) + R37 V0 (ix2 a 0) * (R109 V0 (ix2 a b) * A5 V0 (ix2 0 b) - R42 V0 (ix2 a b)
      * Ideal.div (∑ k, (R109 V0 (ix2 a k) * A5 V0 (ix2 0 k)) * R42 V0 (ix2 a k)) (Ideal.ofBits .f32 0x44800000#32)) := by
  obtain ⟨e, he, hc⟩ := ceps
  pointwise [R129, R42, R37, res_main_v129, res_main_v124, res_main_v114, res_main_v42, res_main_v37]
  simp only [Finset.univ_unique, Finset.sum_singleton, Fin.default_eq_zero, c1024, cneghalf]
  exact congrArg (R102 V0 (ix2 a b) + ·) (rms_bwd (fun k => R29 V0 (ix2 a k)) (fun k => R109 V0 (ix2 a k) * A5 V0 (ix2 0 k)) e he (R36 V0 (ix2 a 0))
    (by pointwise [R36, res_main_v36]; rw [c1024, hc]) b).symm

/-- The stream's gradient at the last norm. -/
theorem p33 {v122 : FVec Ideal S256x1 .f32} {v124 v128 : FVec Ideal S256x1024 .f32} {v146 : Vec Ideal S1x1024 .f32}
    (h122 : ∀ i j, v122 (ix2 i j) = R61 V0 (ix2 (ρ i) 0)) (h124 : ∀ i j, v124 (ix2 i j) = R66 V0 (ix2 (ρ i) j))
    (h32 : ∀ i j, k0_pay32 v128 (ix2 i j) = R83 V0 (ix2 (ρ i) j)) (h146 : ∀ i j, v146 (ix2 i j) = A6 V0 (ix1 j)) (i j) :
    k0_pay33 v122 v124 v128 v146 (ix2 i j) = R102 V0 (ix2 (ρ i) j) := by
  rw [r102]
  pointwise [k0_pay33]
  simp only [h122, h124, h32, h146]

/-- The same in the products' format. -/
theorem p35 {v122 : FVec Ideal S256x1 .f32} {v124 v128 : FVec Ideal S256x1024 .f32} {v146 : Vec Ideal S1x1024 .f32}
    (h33 : ∀ i j, k0_pay33 v122 v124 v128 v146 (ix2 i j) = R102 V0 (ix2 (ρ i) j)) (i j) :
    k0_pay35 v122 v124 v128 v146 (ix2 i j) = R102 V0 (ix2 (ρ i) j) := by
  pointwise [k0_pay35]
  rw [h33]

/-- The last gain's gradient: the tile's part is added. -/
theorem p34 {v124 v128 : FVec Ideal S256x1024 .f32} {v163 : Vec Ideal S1x1024 .f32}
    (h124 : ∀ i j, v124 (ix2 i j) = R66 V0 (ix2 (ρ i) j))
    (h32 : ∀ i j, k0_pay32 v128 (ix2 i j) = R83 V0 (ix2 (ρ i) j)) (i j) :
    k0_pay34 v124 v128 v163 (ix2 i j) = v163 (ix2 0 j) + ∑ k : Fin 256, R66 V0 (ix2 (ρ k) j) * R83 V0 (ix2 (ρ k) j) := by
  obtain rfl := Subsingleton.elim i 0
  pointwise [k0_pay34]
  simp only [h124, h32]
  exact congrArg (v163 (ix2 0 j) + ·) (Finset.sum_congr rfl fun k _ => mul_comm _ _)

/-- The score's gradient, as the reference has it, in the kernel's form. -/
theorem r108 (a : Fin 8192) (b : Fin 4096) :
    R108 V0 (ix2 a b) = (∑ k : Fin 1024, R102 V0 (ix2 a k) * A11 V0 (ix2 b k)) * (Ideal.ofBits .f32 0x40000000#32 * R46 V0 (ix2 a b)) := by
  pointwise [R108, R46, res_main_v108, res_main_v103, res_main_v46]
  rw [ctwo, relu_sq]

/-- A chunk's score gradient: the first chunk's form. -/
theorem p38 {v122 : FVec Ideal S256x1 .f32} {v124 v128 : FVec Ideal S256x1024 .f32} {v146 : Vec Ideal S1x1024 .f32}
    {v170 : Vec Ideal S1024x1024 .bf16} {v173 : Vec Ideal S256x1024 .bf16} {κ : Fin 1024 → Fin 4096}
    (h35 : ∀ i j, k0_pay35 v122 v124 v128 v146 (ix2 i j) = R102 V0 (ix2 (ρ i) j)) (hd : DownRows V0 κ v170)
    (h173 : ∀ i j, v173 (ix2 i j) = R46 V0 (ix2 (ρ i) (κ j))) (i : Fin 256) (j : Fin 1024) :
    k0_pay38 (k0_pay37 v122 v124 v128 v146 v170) v173 (ix2 i j) = R108 V0 (ix2 (ρ i) (κ j)) := by
  rw [r108]
  pointwise [k0_pay38, k0_pay37]
  simp only [h35, hd _ _, h173]

/-- A chunk's score gradient: the second chunk's form. -/
theorem p40 {v167 : FVec Ideal S256x1024 .bf16}
    {v170 : Vec Ideal S1024x1024 .bf16} {v173 : Vec Ideal S256x1024 .bf16} {κ : Fin 1024 → Fin 4096}
    (h35 : ∀ i j, v167 (ix2 i j) = R102 V0 (ix2 (ρ i) j)) (hd : DownRows V0 κ v170)
    (h173 : ∀ i j, v173 (ix2 i j) = R46 V0 (ix2 (ρ i) (κ j))) (i : Fin 256) (j : Fin 1024) :
    k0_pay40 v167 v170 v173 (ix2 i j) = R108 V0 (ix2 (ρ i) (κ j)) := by
  rw [r108]
  pointwise [k0_pay40]
  simp only [h35, hd _ _, h173]

/-- A chunk's score gradient: the third chunk's form. -/
theorem p42 {v167 : FVec Ideal S256x1024 .bf16}
    {v170 : Vec Ideal S1024x1024 .bf16} {v173 : Vec Ideal S256x1024 .bf16} {κ : Fin 1024 → Fin 4096}
    (h35 : ∀ i j, v167 (ix2 i j) = R102 V0 (ix2 (ρ i) j)) (hd : DownRows V0 κ v170)
    (h173 : ∀ i j, v173 (ix2 i j) = R46 V0 (ix2 (ρ i) (κ j))) (i : Fin 256) (j : Fin 1024) :
    k0_pay42 v167 v170 v173 (ix2 i j) = R108 V0 (ix2 (ρ i) (κ j)) := by
  rw [r108]
  pointwise [k0_pay42]
  simp only [h35, hd _ _, h173]

/-- A chunk's score gradient: the last chunk's form. -/
theorem p46 {v167 : FVec Ideal S256x1024 .bf16}
    {v170 : Vec Ideal S1024x1024 .bf16} {v173 : Vec Ideal S256x1024 .bf16} {κ : Fin 1024 → Fin 4096}
    (h35 : ∀ i j, v167 (ix2 i j) = R102 V0 (ix2 (ρ i) j)) (hd : DownRows V0 κ v170)
    (h173 : ∀ i j, v173 (ix2 i j) = R46 V0 (ix2 (ρ i) (κ j))) (i : Fin 256) (j : Fin 1024) :
    k0_pay46 (k0_pay44 v167 v170) (k0_pay45 v173) (Scalar.ofBits .f32 0x40000000#32) (ix2 i j) = R108 V0 (ix2 (ρ i) (κ j)) := by
  rw [r108]
  pointwise [k0_pay46, k0_pay44, k0_pay45]
  simp only [h35, hd _ _, h173]

/-- What one chunk adds to the gradient of the MLP's input. -/
abbrev back (V0 : RV) (κ : Fin 1024 → Fin 4096) (a : Fin 8192) (b : Fin 1024) : EReal :=
  ∑ k : Fin 1024, R108 V0 (ix2 a (κ k)) * A10 V0 (ix2 b (κ k))

/-- … as the two products of the chunk's halves. -/
theorem back_halves (κ : Fin 1024 → Fin 4096) (a : Fin 8192) (b : Fin 1024) :
    back V0 κ a b = ∑ k : Fin 512, R108 V0 (ix2 a (κ ⟨k, by omega⟩)) * A10 V0 (ix2 b (κ ⟨k, by omega⟩))
      + ∑ k : Fin 512, R108 V0 (ix2 a (κ ⟨512 + k, by omega⟩)) * A10 V0 (ix2 b (κ ⟨512 + k, by omega⟩)) :=
  (sum_halves fun k => R108 V0 (ix2 a (κ k)) * A10 V0 (ix2 b (κ k))).symm

/-- The gradient of the MLP's input after the first chunk. -/
theorem p39 {v172 : FVec Ideal S256x1024 .f32} {v173 : Vec Ideal S256x1024 .bf16} {v182 v187 : Vec Ideal S1x1024x512 .bf16}
    {κ : Fin 1024 → Fin 4096} (h38 : ∀ i j, k0_pay38 v172 v173 (ix2 i j) = R108 V0 (ix2 (ρ i) (κ j)))
    (hu : UpHalves V0 κ v182 v187) (i j) :
    k0_pay39 k0_pay36 v172 v173 v182 v187 (ix2 i j) = back V0 κ (ρ i) j := by
  rw [back_halves]
  pointwise [k0_pay39, k0_pay36]
  simp only [h38, hu.1, hu.2]

/-- … after the third: the second's and the third's parts are added. -/
theorem p43 {v167 : FVec Ideal S256x1024 .bf16} {v190 : FVec Ideal S256x1024 .f32} {v191 v212 : Vec Ideal S1024x1024 .bf16} {v194 v215 : Vec Ideal S256x1024 .bf16}
    {v203 v208 v224 v229 : Vec Ideal S1x1024x512 .bf16} {κ κ' : Fin 1024 → Fin 4096}
    (h40 : ∀ i j, k0_pay40 v167 v191 v194 (ix2 i j) = R108 V0 (ix2 (ρ i) (κ j)))
    (h42 : ∀ i j, k0_pay42 v167 v212 v215 (ix2 i j) = R108 V0 (ix2 (ρ i) (κ' j)))
    (hu : UpHalves V0 κ v203 v208) (hu' : UpHalves V0 κ' v224 v229) (i j) :
    k0_pay43 v167 v190 (k0_pay40 v167 v191 v194) (k0_pay41 v167 v191 v194 v203) v208 v212 v215 v224 v229 (ix2 i j)
      = v190 (ix2 i j) + back V0 κ (ρ i) j + back V0 κ' (ρ i) j := by
  rw [back_halves, back_halves]
  pointwise [k0_pay43, k0_pay41]
  simp only [h40, h42, hu.1, hu.2, hu'.1, hu'.2]
  ac_rfl

/-- The gradient of the MLP's input, as the reference has it. -/
theorem r109 (a : Fin 8192) (b : Fin 1024) :
    R109 V0 (ix2 a b) = back V0 (col 0) a b + back V0 (col 1) a b + back V0 (col 2) a b + back V0 (col 3) a b := by
  rw [sum_chunks fun k => R108 V0 (ix2 a k) * A10 V0 (ix2 b k)]
  pointwise [R109, res_main_v109]

/-- The gradient of the MLP's input. -/
theorem p47 {v232 v235 v238 : FVec Ideal S256x1024 .f32} {cst : Ideal .f32} {v245 v250 : Vec Ideal S1x1024x512 .bf16}
    (h232 : ∀ i j, v232 (ix2 i j) = back V0 (col 0) (ρ i) j + back V0 (col 1) (ρ i) j + back V0 (col 2) (ρ i) j)
    (h46 : ∀ i j, k0_pay46 v235 v238 cst (ix2 i j) = R108 V0 (ix2 (ρ i) (col 3 (by decide) j)))
    (hu : UpHalves V0 (col 3) v245 v250) (i j) :
    k0_pay47 v232 v235 v238 cst v245 v250 (ix2 i j) = R109 V0 (ix2 (ρ i) j) := by
  rw [r109, back_halves (col 3)]
  pointwise [k0_pay47]
  simp only [h46, h232, hu.1, hu.2]
  ac_rfl

/-- The first gain's gradient: the tile's part is added. -/
theorem p48 {v38 v232 v235 v238 : FVec Ideal S256x1024 .f32} {cst : Ideal .f32} {v245 v250 : Vec Ideal S1x1024x512 .bf16} {v270 : Vec Ideal S1x1024 .f32}
    (h47 : ∀ i j, k0_pay47 v232 v235 v238 cst v245 v250 (ix2 i j) = R109 V0 (ix2 (ρ i) j))
    (h38 : ∀ i j, v38 (ix2 i j) = R42 V0 (ix2 (ρ i) j)) (i j) :
    k0_pay48 v38 v232 v235 v238 cst v245 v250 v270 (ix2 i j)
      = v270 (ix2 0 j) + ∑ k : Fin 256, R42 V0 (ix2 (ρ k) j) * R109 V0 (ix2 (ρ k) j) := by
  obtain rfl := Subsingleton.elim i 0
  pointwise [k0_pay48]
  simp only [h47, h38]
  exact congrArg (v270 (ix2 0 j) + ·) (Finset.sum_congr rfl fun k _ => mul_comm _ _)

/-- The gradient of the stream after the mixer. -/
theorem p49 {v36 : FVec Ideal S256x1 .f32} {v38 v159 v232 v235 v238 : FVec Ideal S256x1024 .f32} {cst : Ideal .f32}
    {v245 v250 : Vec Ideal S1x1024x512 .bf16} {v254 : Vec Ideal S1x1024 .f32}
    (h36 : ∀ i j, v36 (ix2 i j) = R37 V0 (ix2 (ρ i) 0)) (h38 : ∀ i j, v38 (ix2 i j) = R42 V0 (ix2 (ρ i) j))
    (h159 : ∀ i j, v159 (ix2 i j) = R102 V0 (ix2 (ρ i) j))
    (h47 : ∀ i j, k0_pay47 v232 v235 v238 cst v245 v250 (ix2 i j) = R109 V0 (ix2 (ρ i) j))
    (h254 : ∀ i j, v254 (ix2 i j) = A5 V0 (ix2 i j)) (i j) :
    k0_pay49 v36 v38 v159 v232 v235 v238 cst v245 v250 v254 (ix2 i j) = R129 V0 (ix2 (ρ i) j) := by
  rw [r129]
  pointwise [k0_pay49]
  simp only [h36, h38, h159, h47, h254]

/-- The same in the products' format. -/
theorem p50 {v274 : FVec Ideal S256x1024 .f32} (h : ∀ i j, v274 (ix2 i j) = R129 V0 (ix2 (ρ i) j)) (i j) :
    k0_pay50 v274 (ix2 i j) = R129 V0 (ix2 (ρ i) j) := by
  pointwise [k0_pay50]
  rw [h]

/-- The gradient of the gated sum. -/
theorem p51 {v274 : FVec Ideal S256x1024 .f32} {v278 : Vec Ideal S1024x1024 .bf16}
    (h : ∀ i j, v274 (ix2 i j) = R129 V0 (ix2 (ρ i) j)) (h278 : ∀ k j, v278 (ix2 k j) = A9 V0 (ix2 k j)) (i j) :
    k0_pay51 v274 v278 (ix2 i j) = R130 V0 (ix2 (ρ i) j) := by
  pointwise [k0_pay51, R130, res_main_v130]
  simp only [p50 h, h278]

variable {v274 : FVec Ideal S256x1024 .f32} {v278 : Vec Ideal S1024x1024 .bf16}

/-- The pool branch's gradient. -/
theorem p52 {v14 : FVec Ideal S256x1024 .f32} (h51 : ∀ i j, k0_pay51 v274 v278 (ix2 i j) = R130 V0 (ix2 (ρ i) j))
    (h14 : ∀ i j, v14 (ix2 i j) = R12 V0 (ix2 (ρ i) j)) (i j) :
    k0_pay52 v14 v274 v278 (ix2 i j) = R134 V0 (ix2 (ρ i) j) := by
  pointwise [k0_pay52, R134, res_main_v134]
  rw [h51, h14, mul_comm]

/-- The attention branch's gradient. -/
theorem p53 {v17 : FVec Ideal S256x1024 .f32} (h51 : ∀ i j, k0_pay51 v274 v278 (ix2 i j) = R130 V0 (ix2 (ρ i) j))
    (h17 : ∀ i j, v17 (ix2 i j) = R22 V0 (ix2 (ρ i) j)) (i j) :
    k0_pay53 v17 v274 v278 (ix2 i j) = R131 V0 (ix2 (ρ i) j) := by
  pointwise [k0_pay53, R131, res_main_v131]
  rw [h51, h17, mul_comm]

/-- The pool gate's gradient. -/
theorem p54 {v8 v14 : FVec Ideal S256x1024 .f32} (h51 : ∀ i j, k0_pay51 v274 v278 (ix2 i j) = R130 V0 (ix2 (ρ i) j))
    (h8 : ∀ i j, v8 (ix2 i j) = R3 V0 (ix2 (ρ i) j)) (h14 : ∀ i j, v14 (ix2 i j) = R12 V0 (ix2 (ρ i) j)) (i j) :
    k0_pay54 v8 v14 v274 v278 (ix2 i j)
      = (R130 V0 (ix2 (ρ i) j) * R3 V0 (ix2 (ρ i) j)) * (R12 V0 (ix2 (ρ i) j) * (1 - R12 V0 (ix2 (ρ i) j))) := by
  pointwise [k0_pay54]
  rw [h51, h8, h14]

/-- The attention gate's gradient. -/
theorem p55 {v11 v17 : FVec Ideal S256x1024 .f32} (h51 : ∀ i j, k0_pay51 v274 v278 (ix2 i j) = R130 V0 (ix2 (ρ i) j))
    (h11 : ∀ i j, v11 (ix2 i j) = R4 V0 (ix2 (ρ i) j)) (h17 : ∀ i j, v17 (ix2 i j) = R22 V0 (ix2 (ρ i) j)) (i j) :
    k0_pay55 v11 v17 v274 v278 (ix2 i j)
      = (R130 V0 (ix2 (ρ i) j) * R4 V0 (ix2 (ρ i) j)) * (R22 V0 (ix2 (ρ i) j) * (1 - R22 V0 (ix2 (ρ i) j))) := by
  pointwise [k0_pay55]
  rw [h51, h11, h17]

/-- The pooled rows' gradient. -/
theorem p56 {v14 : FVec Ideal S256x1024 .f32} {v301 : Vec Ideal S1024x512 .bf16}
    (h52 : ∀ i j, k0_pay52 v14 v274 v278 (ix2 i j) = R134 V0 (ix2 (ρ i) j)) (h301 : ∀ j k, v301 (ix2 j k) = A7 V0 (ix2 k j)) (i j) :
    k0_pay56 v14 v274 v278 v301 (ix2 i j) = ∑ k : Fin 1024, R134 V0 (ix2 (ρ i) k) * A7 V0 (ix2 j k) := by
  pointwise [k0_pay56]
  simp only [h52, h301]

/-- The attended rows' gradient. -/
theorem p1 {v284 : FVec Ideal S256x1024 .bf16} {v306 : Vec Ideal S1024x512 .bf16}
    (h284 : ∀ i j, v284 (ix2 i j) = R131 V0 (ix2 (ρ i) j)) (h306 : ∀ j k, v306 (ix2 j k) = A8 V0 (ix2 k j)) (i j) :
    k0_pay1 v284 v306 (ix2 i j) = ∑ k : Fin 1024, R131 V0 (ix2 (ρ i) k) * A8 V0 (ix2 j k) := by
  pointwise [k0_pay1]
  simp only [h284, h306]

end Cert.Core

end
-- ==== Proof.Body.lean ====
/-
  The kernel's body on one block of rows: the twelve blocks it loads, the values it computes from them by name, and
  each value read against the reference's arrays at the rows `ρ` of the block (the payloads' readings of `Fwd` and
  `Bwd` put together).
-/
module

public import proofs.«01_k».proof.Proof.Bwd

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

/-- The blocks the body loads. -/
structure Blk where
  x0 : Vec Ideal S256x1024 .f32
  x1 : Vec Ideal S256x512 .bf16
  x2 : Vec Ideal S256x512 .bf16
  x3 : Vec Ideal S256x2048 .bf16
  x4 : Vec Ideal S256x1024 .f32
  x5 : Vec Ideal S1x1024 .f32
  x6 : Vec Ideal S1x1024 .f32
  x7 : Vec Ideal S1024x512 .bf16
  x8 : Vec Ideal S1024x512 .bf16
  x9 : Vec Ideal S1024x1024 .bf16
  x10 : Vec Ideal S8x1024x512 .bf16
  x11 : Vec Ideal S4096x1024 .bf16

/-- What the blocks are: rows `ρ` of the row arrays, the gains, and the weights. -/
structure Reads (V0 : RV) (ρ : Fin 256 → Fin 8192) (X : Blk) : Prop where
  h0 : ∀ i k, X.x0 (ix2 i k) = A0 V0 (ix2 (ρ i) k)
  h1 : ∀ i k, X.x1 (ix2 i k) = A1 V0 (ix2 (ρ i) k)
  h2 : ∀ i k, X.x2 (ix2 i k) = A2 V0 (ix2 (ρ i) k)
  h3 : ∀ i k, X.x3 (ix2 i k) = A3 V0 (ix2 (ρ i) k)
  h4 : ∀ i k, X.x4 (ix2 i k) = A4 V0 (ix2 (ρ i) k)
  h5 : ∀ i j, X.x5 (ix2 i j) = A5 V0 (ix2 i j)
  h6 : ∀ i j, X.x6 (ix2 i j) = A6 V0 (ix1 j)
  h7 : ∀ j k, X.x7 (ix2 j k) = A7 V0 (ix2 k j)
  h8 : ∀ j k, X.x8 (ix2 j k) = A8 V0 (ix2 k j)
  h9 : ∀ k j, X.x9 (ix2 k j) = A9 V0 (ix2 k j)
  h10 : ∀ (n : Fin 8) (k : Fin 1024) (j : Fin 512), X.x10 (ix3 n k j) = A10 V0 (ix2 k ⟨n * 512 + j, by omega⟩)
  h11 : ∀ k j, X.x11 (ix2 k j) = A11 V0 (ix2 k j)

variable (X : Blk)

/-- The literals the body multiplies and divides by. -/
abbrev c1k : Ideal .f32 := FloatOps.ofBits .f32 0x44800000#32
abbrev c2 : Ideal .f32 := FloatOps.ofBits .f32 0x40000000#32

/-! The weights' pieces the body loads. -/
abbrev u0 : Vec Ideal S1x1024x512 .bf16 := View.ld X.x10 (Rect.unit ![0, 0, 0] ![1, 1024, 512] inb_S8x1024x512_S1x1024x512_0_0_0)
abbrev u1 : Vec Ideal S1x1024x512 .bf16 := View.ld X.x10 (Rect.unit ![1, 0, 0] ![1, 1024, 512] inb_S8x1024x512_S1x1024x512_1_0_0)
abbrev u2 : Vec Ideal S1x1024x512 .bf16 := View.ld X.x10 (Rect.unit ![2, 0, 0] ![1, 1024, 512] inb_S8x1024x512_S1x1024x512_2_0_0)
abbrev u3 : Vec Ideal S1x1024x512 .bf16 := View.ld X.x10 (Rect.unit ![3, 0, 0] ![1, 1024, 512] inb_S8x1024x512_S1x1024x512_3_0_0)
abbrev u4 : Vec Ideal S1x1024x512 .bf16 := View.ld X.x10 (Rect.unit ![4, 0, 0] ![1, 1024, 512] inb_S8x1024x512_S1x1024x512_4_0_0)
abbrev u5 : Vec Ideal S1x1024x512 .bf16 := View.ld X.x10 (Rect.unit ![5, 0, 0] ![1, 1024, 512] inb_S8x1024x512_S1x1024x512_5_0_0)
abbrev u6 : Vec Ideal S1x1024x512 .bf16 := View.ld X.x10 (Rect.unit ![6, 0, 0] ![1, 1024, 512] inb_S8x1024x512_S1x1024x512_6_0_0)
abbrev u7 : Vec Ideal S1x1024x512 .bf16 := View.ld X.x10 (Rect.unit ![7, 0, 0] ![1, 1024, 512] inb_S8x1024x512_S1x1024x512_7_0_0)
abbrev d0 : Vec Ideal S1024x1024 .bf16 := View.ld X.x11 (Rect.unit ![0, 0] ![1024, 1024] inb_S4096x1024_S1024x1024_0_0)
abbrev d1 : Vec Ideal S1024x1024 .bf16 := View.ld X.x11 (Rect.unit ![1024, 0] ![1024, 1024] inb_S4096x1024_S1024x1024_1024_0)
abbrev d2 : Vec Ideal S1024x1024 .bf16 := View.ld X.x11 (Rect.unit ![2048, 0] ![1024, 1024] inb_S4096x1024_S1024x1024_2048_0)
abbrev d3 : Vec Ideal S1024x1024 .bf16 := View.ld X.x11 (Rect.unit ![3072, 0] ![1024, 1024] inb_S4096x1024_S1024x1024_3072_0)

/-! The values, in the body's order. -/
abbrev t8 := k0_pay3 X.x1 X.x7
abbrev t11 := k0_pay4 X.x2 X.x8
abbrev t14 := k0_pay5 X.x3
abbrev t17 := k0_pay6 X.x3
abbrev t27 := k0_pay8 X.x1 X.x2 X.x3 X.x7 X.x8 X.x0 X.x9
abbrev t31 := k0_pay9 X.x1 X.x2 X.x3 X.x7 X.x8 X.x0 X.x9
abbrev t36 := k0_pay10 (t31 X) c1k
abbrev t38 := k0_pay11 (t27 X) (t31 X) c1k
abbrev t41 := k0_pay12 (t27 X) X.x5 (t31 X) c1k
abbrev a0 : Vec Ideal S256x1024 .bf16 := k0_pay14 (t27 X) X.x5 (t31 X) c1k (u0 X) (u1 X)
abbrev t60 := k0_pay15 (t27 X) X.x5 (t31 X) c1k (u0 X) (u1 X) (d0 X)
abbrev t63 := k0_pay16 (t27 X) X.x5 (t31 X) c1k (u2 X)
abbrev a1 : Vec Ideal S256x1024 .bf16 := k0_pay18 (t41 X) (t63 X) (u3 X)
abbrev a2 : Vec Ideal S256x1024 .bf16 := k0_pay20 (t41 X) (u4 X) (u5 X)
abbrev t94 := k0_pay21 (t41 X) (t60 X) (t63 X) (u3 X) (d1 X) (u4 X) (u5 X) (d2 X)
abbrev t97 := k0_pay22 (t41 X) (u6 X)
abbrev a3 : Vec Ideal S256x1024 .bf16 := k0_pay24 (t41 X) (t97 X) (u7 X)
abbrev t122 := k0_pay26 (t27 X) (t41 X) (t94 X) (t97 X) (u7 X) (d3 X)
abbrev t124 := k0_pay27 (t27 X) (t41 X) (t94 X) (t97 X) (u7 X) (d3 X)
abbrev t128 := k0_pay28 (t27 X) (t41 X) (t94 X) (t97 X) (u7 X) (d3 X) X.x6 X.x4
abbrev t135 := k0_pay30 (t27 X) (t41 X) (t94 X) (t97 X) (u7 X) (d3 X) X.x6 X.x4
abbrev t159 := k0_pay33 (t122 X) (t124 X) (t128 X) X.x6
abbrev t167 := k0_pay35 (t122 X) (t124 X) (t128 X) X.x6
abbrev t172 := k0_pay37 (t122 X) (t124 X) (t128 X) X.x6 (d0 X)
abbrev b0 := k0_pay38 (t172 X) (a0 X)
abbrev t190 := k0_pay39 k0_pay36 (t172 X) (a0 X) (u0 X) (u1 X)
abbrev b1 := k0_pay40 (t167 X) (d1 X) (a1 X)
abbrev t205 := k0_pay41 (t167 X) (d1 X) (a1 X) (u2 X)
abbrev b2 := k0_pay42 (t167 X) (d2 X) (a2 X)
abbrev t232 := k0_pay43 (t167 X) (t190 X) (b1 X) (t205 X) (u3 X) (d2 X) (a2 X) (u4 X) (u5 X)
abbrev t235 := k0_pay44 (t167 X) (d3 X)
abbrev t238 := k0_pay45 (a3 X)
abbrev b3 := k0_pay46 (t235 X) (t238 X) c2
abbrev t274 := k0_pay49 (t36 X) (t38 X) (t159 X) (t232 X) (t235 X) (t238 X) c2 (u6 X) (u7 X) X.x5
abbrev t282 := k0_pay52 (t14 X) (t274 X) X.x9
abbrev t284 := k0_pay53 (t17 X) (t274 X) X.x9

namespace Reads

variable {V0 : RV} {ρ : Fin 256 → Fin 8192} {X : Blk} (H : Reads V0 ρ X)
include H

theorem up0 : UpHalves V0 (col 0) (u0 X) (u1 X) :=
  ⟨fun k j => by pointwise [u0]; exact (H.h10 _ k j).trans (congrArg (A10 V0) (by blk_ext)),
   fun k j => by pointwise [u1]; exact (H.h10 _ k j).trans (congrArg (A10 V0) (by blk_ext))⟩
theorem up1 : UpHalves V0 (col 1) (u2 X) (u3 X) :=
  ⟨fun k j => by pointwise [u2]; exact (H.h10 _ k j).trans (congrArg (A10 V0) (by blk_ext)),
   fun k j => by pointwise [u3]; exact (H.h10 _ k j).trans (congrArg (A10 V0) (by blk_ext))⟩
theorem up2 : UpHalves V0 (col 2) (u4 X) (u5 X) :=
  ⟨fun k j => by pointwise [u4]; exact (H.h10 _ k j).trans (congrArg (A10 V0) (by blk_ext)),
   fun k j => by pointwise [u5]; exact (H.h10 _ k j).trans (congrArg (A10 V0) (by blk_ext))⟩
theorem up3 : UpHalves V0 (col 3) (u6 X) (u7 X) :=
  ⟨fun k j => by pointwise [u6]; exact (H.h10 _ k j).trans (congrArg (A10 V0) (by blk_ext)),
   fun k j => by pointwise [u7]; exact (H.h10 _ k j).trans (congrArg (A10 V0) (by blk_ext))⟩
theorem down0 : DownRows V0 (col 0) (d0 X) :=
  fun k j => by pointwise [d0]; exact (H.h11 _ j).trans (congrArg (A11 V0) (by blk_ext))
theorem down1 : DownRows V0 (col 1) (d1 X) :=
  fun k j => by pointwise [d1]; exact (H.h11 _ j).trans (congrArg (A11 V0) (by blk_ext))
theorem down2 : DownRows V0 (col 2) (d2 X) :=
  fun k j => by pointwise [d2]; exact (H.h11 _ j).trans (congrArg (A11 V0) (by blk_ext))
theorem down3 : DownRows V0 (col 3) (d3 X) :=
  fun k j => by pointwise [d3]; exact (H.h11 _ j).trans (congrArg (A11 V0) (by blk_ext))

/-! The values' readings. -/

theorem r3 (i j) : t8 X (ix2 i j) = R3 V0 (ix2 (ρ i) j) := p3 H.h1 H.h7 i j
theorem r4 (i j) : t11 X (ix2 i j) = R4 V0 (ix2 (ρ i) j) := p4 H.h2 H.h8 i j
theorem r12 (i j) : t14 X (ix2 i j) = R12 V0 (ix2 (ρ i) j) := p5 H.h3 i j
theorem r22 (i j) : t17 X (ix2 i j) = R22 V0 (ix2 (ρ i) j) := p6 H.h3 i j
theorem r27 (i j) : k0_pay7 X.x1 X.x2 X.x3 X.x7 X.x8 (ix2 i j) = R27 V0 (ix2 (ρ i) j) := p7 H.h1 H.h2 H.h3 H.h7 H.h8 i j
theorem r29 (i j) : t27 X (ix2 i j) = R29 V0 (ix2 (ρ i) j) := p8 H.r27 H.h0 H.h9 i j
theorem r37 (i j) : t36 X (ix2 i j) = R37 V0 (ix2 (ρ i) 0) := p10 H.r29 i j
theorem r42 (i j) : t38 X (ix2 i j) = R42 V0 (ix2 (ρ i) j) := p11 H.r29 H.r37 i j
theorem r44 (i j) : t41 X (ix2 i j) = R44 V0 (ix2 (ρ i) j) := p12 H.r42 H.h5 i j
theorem r46_0' (i j) : k0_pay13 (t27 X) X.x5 (t31 X) c1k (u0 X) (u1 X) (ix2 i j) = R46 V0 (ix2 (ρ i) (col 0 (by decide) j)) := p13 H.r44 H.up0 i j
theorem r46_1' (i j) : k0_pay17 (t41 X) (t63 X) (u3 X) (ix2 i j) = R46 V0 (ix2 (ρ i) (col 1 (by decide) j)) := p17 H.r44 H.up1 i j
theorem r46_2' (i j) : k0_pay19 (t41 X) (u4 X) (u5 X) (ix2 i j) = R46 V0 (ix2 (ρ i) (col 2 (by decide) j)) := p19 H.r44 H.up2 i j
theorem r46_3' (i j) : k0_pay23 (t41 X) (t97 X) (u7 X) (ix2 i j) = R46 V0 (ix2 (ρ i) (col 3 (by decide) j)) := p23 H.r44 H.up3 i j
theorem r46_0 (i j) : a0 X (ix2 i j) = R46 V0 (ix2 (ρ i) (col 0 (by decide) j)) := by pointwise [a0, k0_pay14]; exact H.r46_0' i j
theorem r46_1 (i j) : a1 X (ix2 i j) = R46 V0 (ix2 (ρ i) (col 1 (by decide) j)) := by pointwise [a1, k0_pay18]; exact H.r46_1' i j
theorem r46_2 (i j) : a2 X (ix2 i j) = R46 V0 (ix2 (ρ i) (col 2 (by decide) j)) := by pointwise [a2, k0_pay20]; exact H.r46_2' i j
theorem r46_3 (i j) : a3 X (ix2 i j) = R46 V0 (ix2 (ρ i) (col 3 (by decide) j)) := by pointwise [a3, k0_pay24]; exact H.r46_3' i j
theorem r60 (i j) : t60 X (ix2 i j) = part V0 (col 0) (ρ i) j := p15 H.r46_0' H.down0 i j
theorem r94 (i j) : t94 X (ix2 i j) = part V0 (col 0) (ρ i) j + part V0 (col 1) (ρ i) j + part V0 (col 2) (ρ i) j  :=
  (p21 (κ := col 1) (κ' := col 2) H.r46_1' H.r46_2' H.down1 H.down2 i j).trans (by rw [H.r60])
theorem r52 (i j) : k0_pay25 (t27 X) (t41 X) (t94 X) (t97 X) (u7 X) (d3 X) (ix2 i j) = R52 V0 (ix2 (ρ i) j) := p25 H.r29 H.r94 H.r46_3' H.down3 i j
theorem r61 (i j) : t122 X (ix2 i j) = R61 V0 (ix2 (ρ i) 0) := p26 H.r52 i j
theorem r66 (i j) : t124 X (ix2 i j) = R66 V0 (ix2 (ρ i) j) := p27 H.r52 H.r61 i j
theorem r69 (i j) : t128 X (ix2 i j) = R69 V0 (ix2 (ρ i) j) := p28 H.r66 H.h6 H.h4 i j
theorem r135 (i j) : t135 X (ix2 i j) = Ideal.div (∑ k, R69 V0 (ix2 (ρ i) k) * R69 V0 (ix2 (ρ i) k)) (Ideal.ofBits .f32 0x44800000#32) := p30 H.r69 i j
theorem r83 (i j) : k0_pay32 (t128 X) (ix2 i j) = R83 V0 (ix2 (ρ i) j) := p32 H.r69 i j
theorem r102 (i j) : t159 X (ix2 i j) = R102 V0 (ix2 (ρ i) j) := p33 H.r61 H.r66 H.r83 H.h6 i j
theorem r102' (i j) : t167 X (ix2 i j) = R102 V0 (ix2 (ρ i) j) := p35 H.r102 i j
theorem r108_0 (i j) : b0 X (ix2 i j) = R108 V0 (ix2 (ρ i) (col 0 (by decide) j)) := p38 H.r102' H.down0 H.r46_0 i j
theorem r108_1 (i j) : b1 X (ix2 i j) = R108 V0 (ix2 (ρ i) (col 1 (by decide) j)) := p40 H.r102' H.down1 H.r46_1 i j
theorem r108_2 (i j) : b2 X (ix2 i j) = R108 V0 (ix2 (ρ i) (col 2 (by decide) j)) := p42 H.r102' H.down2 H.r46_2 i j
theorem r108_3 (i j) : b3 X (ix2 i j) = R108 V0 (ix2 (ρ i) (col 3 (by decide) j)) := p46 H.r102' H.down3 H.r46_3 i j
theorem r190 (i j) : t190 X (ix2 i j) = back V0 (col 0) (ρ i) j := p39 H.r108_0 H.up0 i j
theorem r232 (i j) : t232 X (ix2 i j) = back V0 (col 0) (ρ i) j + back V0 (col 1) (ρ i) j + back V0 (col 2) (ρ i) j  :=
  (p43 (κ := col 1) (κ' := col 2) H.r108_1 H.r108_2 H.up1 H.up2 i j).trans (by rw [H.r190])
theorem r109 (i j) : k0_pay47 (t232 X) (t235 X) (t238 X) c2 (u6 X) (u7 X) (ix2 i j) = R109 V0 (ix2 (ρ i) j) := p47 H.r232 H.r108_3 H.up3 i j
theorem r129 (i j) : t274 X (ix2 i j) = R129 V0 (ix2 (ρ i) j) := p49 H.r37 H.r42 H.r102 H.r109 H.h5 i j
theorem r129' (i j) : k0_pay50 (t274 X) (ix2 i j) = R129 V0 (ix2 (ρ i) j) := p50 H.r129 i j
theorem r130 (i j) : k0_pay51 (t274 X) X.x9 (ix2 i j) = R130 V0 (ix2 (ρ i) j) := p51 H.r129 H.h9 i j
theorem r134 (i j) : t282 X (ix2 i j) = R134 V0 (ix2 (ρ i) j) := p52 H.r130 H.r12 i j
theorem r131 (i j) : t284 X (ix2 i j) = R131 V0 (ix2 (ρ i) j) := p53 H.r130 H.r22 i j
theorem zp (i j) : k0_pay54 (t8 X) (t14 X) (t274 X) X.x9 (ix2 i j)
    = (R130 V0 (ix2 (ρ i) j) * R3 V0 (ix2 (ρ i) j)) * (R12 V0 (ix2 (ρ i) j) * (1 - R12 V0 (ix2 (ρ i) j))) := p54 H.r130 H.r3 H.r12 i j
theorem za (i j) : k0_pay55 (t11 X) (t17 X) (t274 X) X.x9 (ix2 i j)
    = (R130 V0 (ix2 (ρ i) j) * R4 V0 (ix2 (ρ i) j)) * (R22 V0 (ix2 (ρ i) j) * (1 - R22 V0 (ix2 (ρ i) j))) := p55 H.r130 H.r4 H.r22 i j
theorem pm (i j) : k0_pay56 (t14 X) (t274 X) X.x9 X.x7 (ix2 i j) = ∑ k : Fin 1024, R134 V0 (ix2 (ρ i) k) * A7 V0 (ix2 j k) := p56 H.r134 H.h7 i j
theorem om (i j) : k0_pay1 (t284 X) X.x8 (ix2 i j) = ∑ k : Fin 1024, R131 V0 (ix2 (ρ i) k) * A8 V0 (ix2 j k) := p1 H.r131 H.h8 i j
/-- The tile's part of the first gain's gradient. -/
theorem s0 (v) (i j) : k0_pay48 (t38 X) (t232 X) (t235 X) (t238 X) c2 (u6 X) (u7 X) v (ix2 i j)
    = v (ix2 0 j) + ∑ k : Fin 256, R42 V0 (ix2 (ρ k) j) * R109 V0 (ix2 (ρ k) j) := p48 H.r109 H.r42 i j
/-- The tile's part of the last gain's gradient. -/
theorem s1 (v) (i j) : k0_pay34 (t124 X) (t128 X) v (ix2 i j)
    = v (ix2 0 j) + ∑ k : Fin 256, R66 V0 (ix2 (ρ k) j) * R83 V0 (ix2 (ρ k) j) := p34 H.r66 H.r83 i j
/-- The tile's part of the loss. -/
theorem s2 (v) (i j) : k0_pay31 v (t135 X) (ix2 i j) = v (ix2 0 j) + Ideal.ofBits .f32 0x3F000000#32
      * ∑ k : Fin 256, Ideal.div (∑ l, R69 V0 (ix2 (ρ k) l) * R69 V0 (ix2 (ρ k) l)) (Ideal.ofBits .f32 0x44800000#32) := by
  rw [p31]
  simp only [H.r135]

end Reads

end Cert.Core

end
-- ==== Proof.Blocks.lean ====
/-
  What the blocks of one grid point are: point `t` loads rows `256 t … 256 t + 255` of the row arrays, and the gains
  and weights whole — the weights as the host prepares them (transposed, cast, the up-columns in eight slabs).
-/
module

public import proofs.«01_k».proof.Proof.Body
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

variable (m : (ℓ : Loc nD τ sig) → Buf (Elt Ideal) ℓ) (c : Dev nD)

/-- The kernel's arguments are the reference's. -/
structure Args (V0 : RV) : Prop where
  e0 : A0 V0 = m ((c : Thread nD τ).loc main_arg0)
  e1 : A1 V0 = m ((c : Thread nD τ).loc main_arg1)
  e2 : A2 V0 = m ((c : Thread nD τ).loc main_arg2)
  e3 : A3 V0 = m ((c : Thread nD τ).loc main_arg3)
  e4 : A4 V0 = m ((c : Thread nD τ).loc main_arg4)
  e5 : A5 V0 = m ((c : Thread nD τ).loc main_arg5)
  e6 : A6 V0 = m ((c : Thread nD τ).loc main_arg6)
  e7 : A7 V0 = m ((c : Thread nD τ).loc main_arg7)
  e8 : A8 V0 = m ((c : Thread nD τ).loc main_arg8)
  e9 : A9 V0 = m ((c : Thread nD τ).loc main_arg9)
  e10 : A10 V0 = m ((c : Thread nD τ).loc main_arg10)
  e11 : A11 V0 = m ((c : Thread nD τ).loc main_arg11)

/-- The blocks point `t` loads. -/
abbrev blks (t : Fin cfg0.N) : Blk :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t⟩

/-- The row of the arrays at row `i` of point `t`'s block. -/
abbrev row (t : Fin cfg0.N) (i : Fin 256) : Fin 8192 :=
  ⟨256 * t.val + i.val, by have : t.val < 32 := lt_of_lt_of_eq t.isLt N_0; omega⟩

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0] :=
  (by decide +kernel : ∀ t : Fin grid0.N, _)

variable {V0 : RV} (E : Args m c V0) (t : Fin cfg0.N)
include E

theorem rd0 (i k) : (blks m c t).x0 (ix2 i k) = A0 V0 (ix2 (row t i) k) := by
  rw [E.e0]; dsimp only [blks]; blk_ext [iblk, V, idx t]
theorem rd1 (i k) : (blks m c t).x1 (ix2 i k) = A1 V0 (ix2 (row t i) k) := by
  rw [E.e1]; dsimp only [blks]; blk_ext [iblk, V, idx t]
theorem rd2 (i k) : (blks m c t).x2 (ix2 i k) = A2 V0 (ix2 (row t i) k) := by
  rw [E.e2]; dsimp only [blks]; blk_ext [iblk, V, idx t]
theorem rd3 (i k) : (blks m c t).x3 (ix2 i k) = A3 V0 (ix2 (row t i) k) := by
  rw [E.e3]; dsimp only [blks]; blk_ext [iblk, V, idx t]
theorem rd4 (i k) : (blks m c t).x4 (ix2 i k) = A4 V0 (ix2 (row t i) k) := by
  rw [E.e4]; dsimp only [blks]; blk_ext [iblk, V, idx t]
theorem rd5 (i k) : (blks m c t).x5 (ix2 i k) = A5 V0 (ix2 i k) := by
  rw [E.e5]; dsimp only [blks]; blk_ext [iblk, V, idx t]
theorem rd6 (i k) : (blks m c t).x6 (ix2 i k) = A6 V0 (ix1 k) := by
  rw [E.e6]; dsimp only [blks]; blk_simp [iblk]; entry_read; pointwise; blk_ext [idx t]
theorem rd7 (i k) : (blks m c t).x7 (ix2 i k) = A7 V0 (ix2 k i) := by
  rw [E.e7]; dsimp only [blks]; blk_simp [iblk]; entry_read; pointwise; blk_ext [idx t]
theorem rd8 (i k) : (blks m c t).x8 (ix2 i k) = A8 V0 (ix2 k i) := by
  rw [E.e8]; dsimp only [blks]; blk_simp [iblk]; entry_read; pointwise; blk_ext [idx t]
theorem rd9 (i k) : (blks m c t).x9 (ix2 i k) = A9 V0 (ix2 i k) := by
  rw [E.e9]; dsimp only [blks]; blk_simp [iblk]; entry_read; pointwise; blk_ext [idx t]
theorem rd11 (i k) : (blks m c t).x11 (ix2 i k) = A11 V0 (ix2 i k) := by
  rw [E.e11]; dsimp only [blks]; blk_simp [iblk]; entry_read; pointwise; blk_ext [idx t]
theorem rd10 (n : Fin 8) (k : Fin 1024) (j : Fin 512) : (blks m c t).x10 (ix3 n k j) = A10 V0 (ix2 k ⟨n * 512 + j, by omega⟩) := by
  rw [E.e10]; dsimp only [blks]; blk_simp [iblk]; entry_read; pointwise; blk_ext [idx t]

/-- Point `t`'s blocks are rows `row t`, the gains and the weights. -/
theorem reads : Reads V0 (row t) (blks m c t) :=
  ⟨rd0 m c E t, rd1 m c E t, rd2 m c E t, rd3 m c E t, rd4 m c E t, rd5 m c E t, rd6 m c E t, rd7 m c E t, rd8 m c E t,
    rd9 m c E t, rd10 m c E t, rd11 m c E t⟩

end Cert.Core

end
-- ==== Proof.Outs.lean ====
/-
  The reference's ten results by name, and each read at an index.
-/
module

public import proofs.«01_k».proof.Proof.Bwd

@[expose] public section

set_option maxRecDepth 16384

noncomputable section

namespace Cert.Core

section
open Cert.ReferenceIdeal Cert.ReferenceIdeal.Gen Cert.ReferenceIdeal.Value Idealize.ShloMosaic Idealize.ShloMosaic.TcCoe

variable (V0 : RV)

/-- The rectified scores. -/
def Out13 : FVec Ideal S8192x4096 .bf16 :=
  truncf .bf16 (maximumf (res_main_v45 V0) (broadcastInDim S8192x4096 ![] bcast_S_S8192x4096 (constant S_ .f32 0x00000000#32))) bitsLt_bf16_f32
/-- The scores' gradient. -/
def Out14 : FVec Ideal S8192x4096 .bf16 := truncf .bf16 (res_main_v108 V0) bitsLt_bf16_f32
/-- The gated sum, the MLP's input, and the stream's two gradients, side by side. -/
def Out15 : FVec Ideal S8192x4096 .bf16 :=
  truncf .bf16 ((concatenate S8192x4096 1 [⟨S8192x1024, ((res_main_v27 V0) : (⟨S8192x1024, .f32⟩ : BufTy).Contents (Elt Ideal))⟩, ⟨S8192x1024, ((res_main_v44 V0) : (⟨S8192x1024, .f32⟩ : BufTy).Contents (Elt Ideal))⟩, ⟨S8192x1024, ((res_main_v102 V0) : (⟨S8192x1024, .f32⟩ : BufTy).Contents (Elt Ideal))⟩, ⟨S8192x1024, ((res_main_v129 V0) : (⟨S8192x1024, .f32⟩ : BufTy).Contents (Elt Ideal))⟩] concatenates_S8192x1024_S8192x1024_S8192x1024_S8192x1024_S8192x4096_d1 : (⟨S8192x4096, .f32⟩ : BufTy).Contents (Elt Ideal))) bitsLt_bf16_f32
/-- The two gains' gradients, the loss, and five rows of zeros. -/
def Out16 : FVec Ideal S8x1024 .f32 :=
  (concatenate S8x1024 0 [⟨S1x1024, ((shapeCast _ (Host.reduceAdd (mulf (res_main_v42 V0) (res_main_v109 V0)) (constant S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (mulf (res_main_v66 V0) (res_main_v83 V0)) (constant S_ .f32 0x00000000#32) reducesTo_S8192x1024_S1024_d0 h_S_) shapeCasts_S1024_S1x1024) : (⟨S1x1024, .f32⟩ : BufTy).Contents (Elt Ideal))⟩, ⟨S1x1024, ((broadcastInDim S1x1024 ![] bcast_S_S1x1024 (mulf (constant S_ .f32 0x3F000000#32) (Host.reduceAdd (Host.divf (Host.reduceAdd (mulf (res_main_v69 V0) (res_main_v69 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal))
/-- The pool branch's gradient. -/
def Out17 : FVec Ideal S8192x1024 .bf16 := truncf .bf16 (res_main_v134 V0) bitsLt_bf16_f32
/-- The attention branch's gradient. -/
def Out18 : FVec Ideal S8192x1024 .bf16 := truncf .bf16 (res_main_v131 V0) bitsLt_bf16_f32
/-- The gates' gradients, side by side. -/
def Out19 : FVec Ideal S8192x2048 .bf16 :=
  truncf .bf16 (concatenate S8192x2048 1 [⟨S8192x1024, (mulf (mulf (res_main_v130 V0) (res_main_v3 V0)) (mulf (res_main_v12 V0) (subf (broadcastInDim S8192x1024 ![] bcast_S_S8192x1024 (constant S_ .f32 0x3F800000#32)) (res_main_v12 V0))))⟩, ⟨S8192x1024, (mulf (mulf (res_main_v130 V0) (res_main_v4 V0)) (mulf (res_main_v22 V0) (subf (broadcastInDim S8192x1024 ![] bcast_S_S8192x1024 (constant S_ .f32 0x3F800000#32)) (res_main_v22 V0))))⟩] concatenates_S8192x1024_S8192x1024_S8192x2048_d1) bitsLt_bf16_f32
/-- The pooled rows' gradient. -/
def Out20 : FVec Ideal S8192x512 .bf16 :=
  truncf .bf16 (Host.dotGeneral (φ₁ := .f32) (φ₂ := .f32) dot_S8192x1024_S512x1024_S8192x512_1_1_0_0_n_n none (res_main_v134 V0) (V0 (Proc.devRef .tc main_arg7))) bitsLt_bf16_f32
/-- The attended rows' gradient. -/
def Out21 : FVec Ideal S8192x512 .bf16 :=
  truncf .bf16 (Host.dotGeneral (φ₁ := .f32) (φ₂ := .f32) dot_S8192x1024_S512x1024_S8192x512_1_1_0_0_n_n none (res_main_v131 V0) (V0 (Proc.devRef .tc main_arg8))) bitsLt_bf16_f32
end

open Cert.KernelIdeal Idealize.ShloMosaic Idealize.ShloMosaic.TcCoe
open Cert.ReferenceIdeal.Value

variable (V0 : RV)

theorem out13_at (a : Fin 8192) (b : Fin 4096) : Out13 V0 (ix2 a b) = R46 V0 (ix2 a b) := by
  pointwise [Out13, R46, res_main_v46]
theorem out14_at (a : Fin 8192) (b : Fin 4096) : Out14 V0 (ix2 a b) = R108 V0 (ix2 a b) := by
  pointwise [Out14]
theorem out15_0 (a : Fin 8192) (j : Fin 1024) : Out15 V0 (ix2 a (col 0 (by decide) j)) = R27 V0 (ix2 a j) := by
  pointwise [Out15]
theorem out15_1 (a : Fin 8192) (j : Fin 1024) : Out15 V0 (ix2 a (col 1 (by decide) j)) = R44 V0 (ix2 a j) := by
  pointwise [Out15]
theorem out15_2 (a : Fin 8192) (j : Fin 1024) : Out15 V0 (ix2 a (col 2 (by decide) j)) = R102 V0 (ix2 a j) := by
  pointwise [Out15]
  rw [dif_neg (by omega), dif_neg (by omega), dif_pos (by omega)]
  exact congrArg (fun k => R102 V0 (ix2 a k)) (Fin.ext (by show 2048 + j.val - 1024 - 1024 = j.val; omega))
theorem out15_3 (a : Fin 8192) (j : Fin 1024) : Out15 V0 (ix2 a (col 3 (by decide) j)) = R129 V0 (ix2 a j) := by
  pointwise [Out15]
  rw [dif_neg (by omega), dif_neg (by omega), dif_neg (by omega)]
  exact congrArg (fun k => R129 V0 (ix2 a k)) (Fin.ext (by show 3072 + j.val - 1024 - 1024 - 1024 = j.val; omega))
theorem out16_0 (j : Fin 1024) : Out16 V0 (ix2 0 j) = ∑ k : Fin 8192, R42 V0 (ix2 k j) * R109 V0 (ix2 k j) := by
  pointwise [Out16]
theorem out16_1 (j : Fin 1024) : Out16 V0 (ix2 1 j) = ∑ k : Fin 8192, R66 V0 (ix2 k j) * R83 V0 (ix2 k j) := by
  pointwise [Out16]
theorem out16_2 (j : Fin 1024) : Out16 V0 (ix2 2 j) = Ideal.ofBits .f32 0x3F000000#32
      * ∑ k : Fin 8192, Ideal.div (∑ l, R69 V0 (ix2 k l) * R69 V0 (ix2 k l)) (Ideal.ofBits .f32 0x44800000#32) := by
  pointwise [Out16]
theorem out16_3 (i : Fin 8) (hi : 3 ≤ i.val) (j : Fin 1024) : Out16 V0 (ix2 i j) = (0 : EReal) := by
  pointwise [Out16]
  rw [dif_neg (by omega), dif_neg (by omega), dif_neg (by omega)]
theorem out17_at (a : Fin 8192) (b : Fin 1024) : Out17 V0 (ix2 a b) = R134 V0 (ix2 a b) := by
  pointwise [Out17]
theorem out18_at (a : Fin 8192) (b : Fin 1024) : Out18 V0 (ix2 a b) = R131 V0 (ix2 a b) := by
  pointwise [Out18]
/-- Column `j` of the left half of the gates' gradients. -/
abbrev lo (j : Fin 1024) : Fin 2048 := ⟨j.val, by have := j.isLt; omega⟩
/-- Column `j` of the right half. -/
abbrev hi (j : Fin 1024) : Fin 2048 := ⟨1024 + j.val, by have := j.isLt; omega⟩
theorem out19_0 (a : Fin 8192) (j : Fin 1024) : Out19 V0 (ix2 a (lo j))
    = (R130 V0 (ix2 a j) * R3 V0 (ix2 a j)) * (R12 V0 (ix2 a j) * (1 - R12 V0 (ix2 a j))) := by
  pointwise [Out19]
theorem out19_1 (a : Fin 8192) (j : Fin 1024) : Out19 V0 (ix2 a (hi j))
    = (R130 V0 (ix2 a j) * R4 V0 (ix2 a j)) * (R22 V0 (ix2 a j) * (1 - R22 V0 (ix2 a j))) := by
  pointwise [Out19]
theorem out20_at (a : Fin 8192) (b : Fin 512) : Out20 V0 (ix2 a b) = ∑ k : Fin 1024, R134 V0 (ix2 a k) * A7 V0 (ix2 b k) := by
  pointwise [Out20]
theorem out21_at (a : Fin 8192) (b : Fin 512) : Out21 V0 (ix2 a b) = ∑ k : Fin 1024, R131 V0 (ix2 a k) * A8 V0 (ix2 b k) := by
  pointwise [Out21]

end Cert.Core

end
-- ==== Proof.Windows.lean ====
/-
  The row-tiled results after the last point: each is the reference's array. A point's stores into a window tile it; each store is one payload
  of `Body.lean`.
-/
module

public import proofs.«01_k».proof.Proof.Blocks
public import proofs.«01_k».proof.Proof.Outs

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

variable (m : (ℓ : Loc nD τ sig) → Buf (Elt Ideal) ℓ)

/-- Point `t`'s blocks of the row-tiled results are rows `256 t …`, all columns. -/
theorem idxO : ∀ t : Fin cfg0.N, win0_12.index t = ![t.val, 0] ∧ win0_13.index t = ![t.val, 0] ∧ win0_14.index t = ![t.val, 0]
    ∧ win0_15.index t = ![t.val, 0] ∧ win0_17.index t = ![t.val, 0] ∧ win0_18.index t = ![t.val, 0]
    ∧ win0_19.index t = ![t.val, 0] ∧ win0_20.index t = ![t.val, 0] ∧ win0_21.index t = ![t.val, 0] :=
  (by decide +kernel : ∀ t : Fin grid0.N, _)

/-- One entry of an array under two spellings of its index. -/
theorem meet {n : ℕ} (F : (⟨2, ![8192, n]⟩ : Shape).Idx → EReal) {p p' : Fin 8192} {b b' : Fin n} (hp : p.val = p'.val) (hb : b.val = b'.val) :
    F (ix2 p b) = F (ix2 p' b') := by
  rw [Fin.ext hp, Fin.ext hb]

/-- What a point leaves in window 12: the stream's gradient, its tile. -/
theorem o12 (c : Dev nD) (t : Fin cfg0.N) : (outsAt0 m c t.val t.isLt).1 = t274 (blks m c t) := by
  by_cases h : t.val % 32 = 0
  · rw [outsAt0_A m c t h]
    frame_open
    simp (disch := decide) only [↓ View.readCov_skip, ↓ View.readCov_cons_toLoadRect, ↓ View.readCov_fill]
    frame_out
  · rw [outsAt0_B m c t h]
    frame_open
    simp (disch := decide) only [↓ View.readCov_skip, ↓ View.readCov_cons_toLoadRect, ↓ View.readCov_fill]
    frame_out

/-- The whole of the stream's gradient. -/
theorem final12 (c : Dev nD) (V0 : RV) (E : Args m c V0) : (dats m 0 c).arrAt 12 cfg0.N = R129 V0 := by
  refine (dats m 0 c).arrAt_eq_of_covers 12 _ (by decide +kernel) fun t hf y => ?_
  have H := reads m c E t
  blk_simp
  rw [after0_12, o12]
  idx_vars y
  refine (H.r129 _ _).trans ?_
  blk_ext [idxO t]

/-- What a point leaves in window 17: the pool branch's gradient, its tile. -/
theorem o17 (c : Dev nD) (t : Fin cfg0.N) : (outsAt0 m c t.val t.isLt).2.2.2.2.2.1 = t282 (blks m c t) := by
  by_cases h : t.val % 32 = 0
  · rw [outsAt0_A m c t h]
    frame_open
    simp (disch := decide) only [↓ View.readCov_skip, ↓ View.readCov_cons_toLoadRect, ↓ View.readCov_fill]
    frame_out
  · rw [outsAt0_B m c t h]
    frame_open
    simp (disch := decide) only [↓ View.readCov_skip, ↓ View.readCov_cons_toLoadRect, ↓ View.readCov_fill]
    frame_out

/-- The whole of the pool branch's gradient. -/
theorem final17 (c : Dev nD) (V0 : RV) (E : Args m c V0) : (dats m 0 c).arrAt 17 cfg0.N = Out17 V0 := by
  refine (dats m 0 c).arrAt_eq_of_covers 17 _ (by decide +kernel) fun t hf y => ?_
  have H := reads m c E t
  blk_simp
  rw [after0_17, o17]
  idx_vars y
  refine (H.r134 _ _).trans ((out17_at V0 _ _).symm.trans ?_)
  blk_ext [idxO t]

/-- What a point leaves in window 18: the attention branch's gradient, its tile. -/
theorem o18 (c : Dev nD) (t : Fin cfg0.N) : (outsAt0 m c t.val t.isLt).2.2.2.2.2.2.1 = t284 (blks m c t) := by
  by_cases h : t.val % 32 = 0
  · rw [outsAt0_A m c t h]
    frame_open
    simp (disch := decide) only [↓ View.readCov_skip, ↓ View.readCov_cons_toLoadRect, ↓ View.readCov_fill]
    frame_out
  · rw [outsAt0_B m c t h]
    frame_open
    simp (disch := decide) only [↓ View.readCov_skip, ↓ View.readCov_cons_toLoadRect, ↓ View.readCov_fill]
    frame_out

/-- The whole of the attention branch's gradient. -/
theorem final18 (c : Dev nD) (V0 : RV) (E : Args m c V0) : (dats m 0 c).arrAt 18 cfg0.N = Out18 V0 := by
  refine (dats m 0 c).arrAt_eq_of_covers 18 _ (by decide +kernel) fun t hf y => ?_
  have H := reads m c E t
  blk_simp
  rw [after0_18, o18]
  idx_vars y
  refine (H.r131 _ _).trans ((out18_at V0 _ _).symm.trans ?_)
  blk_ext [idxO t]

/-- What a point leaves in window 20: the pooled rows' gradient, its tile. -/
theorem o20 (c : Dev nD) (t : Fin cfg0.N) : (outsAt0 m c t.val t.isLt).2.2.2.2.2.2.2.2.1 = k0_pay56 (t14 (blks m c t)) (t274 (blks m c t)) (blks m c t).x9 (blks m c t).x7 := by
  by_cases h : t.val % 32 = 0
  · rw [outsAt0_A m c t h]
    frame_open
    simp (disch := decide) only [↓ View.readCov_skip, ↓ View.readCov_cons_toLoadRect, ↓ View.readCov_fill]
    frame_out
  · rw [outsAt0_B m c t h]
    frame_open
    simp (disch := decide) only [↓ View.readCov_skip, ↓ View.readCov_cons_toLoadRect, ↓ View.readCov_fill]
    frame_out

/-- The whole of the pooled rows' gradient. -/
theorem final20 (c : Dev nD) (V0 : RV) (E : Args m c V0) : (dats m 0 c).arrAt 20 cfg0.N = Out20 V0 := by
  refine (dats m 0 c).arrAt_eq_of_covers 20 _ (by decide +kernel) fun t hf y => ?_
  have H := reads m c E t
  blk_simp
  rw [after0_20, o20]
  idx_vars y
  refine (H.pm _ _).trans ((out20_at V0 _ _).symm.trans ?_)
  blk_ext [idxO t]

/-- What a point leaves in window 21: the attended rows' gradient, its tile. -/
theorem o21 (c : Dev nD) (t : Fin cfg0.N) : (outsAt0 m c t.val t.isLt).2.2.2.2.2.2.2.2.2 = k0_pay1 (t284 (blks m c t)) (blks m c t).x8 := by
  by_cases h : t.val % 32 = 0
  · rw [outsAt0_A m c t h]
    frame_open
    simp (disch := decide) only [↓ View.readCov_skip, ↓ View.readCov_cons_toLoadRect, ↓ View.readCov_fill]
    frame_out
  · rw [outsAt0_B m c t h]
    frame_open
    simp (disch := decide) only [↓ View.readCov_skip, ↓ View.readCov_cons_toLoadRect, ↓ View.readCov_fill]
    frame_out

/-- The whole of the attended rows' gradient. -/
theorem final21 (c : Dev nD) (V0 : RV) (E : Args m c V0) : (dats m 0 c).arrAt 21 cfg0.N = Out21 V0 := by
  refine (dats m 0 c).arrAt_eq_of_covers 21 _ (by decide +kernel) fun t hf y => ?_
  have H := reads m c E t
  blk_simp
  rw [after0_21, o21]
  idx_vars y
  refine (H.om _ _).trans ((out21_at V0 _ _).symm.trans ?_)
  blk_ext [idxO t]

set_option maxHeartbeats 1000000 in
/-- Window 13 after the first tile of a flush, entry by entry. -/
theorem o13A (c : Dev nD) (t : Fin cfg0.N) (h : t.val % 32 = 0) (V0 : RV) (E : Args m c V0) (y : S256x4096.Idx) :
    (outsAt0 m c t.val t.isLt).2.1 y = Out13 V0 (ix2 (row t (y 0)) (y 1)) := by
  have H := reads m c E t
  rw [outsAt0_A m c t h]
  frame_open
  simp (disch := decide) only [↓ View.readCov_skip, ↓ View.readCov_cons_toLoadRect, ↓ View.readCov_fill]
  frame_out
  canon_tiles x g
  case piece0 =>
    idx_vars x
    have e : a3 (blks m c t) (ix2 x0 x1) = Out13 V0 (ix2 (row t (y 0)) (y 1)) :=
      (H.r46_3 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : a2 (blks m c t) (ix2 x0 x1) = Out13 V0 (ix2 (row t (y 0)) (y 1)) :=
      (H.r46_2 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : a1 (blks m c t) (ix2 x0 x1) = Out13 V0 (ix2 (row t (y 0)) (y 1)) :=
      (H.r46_1 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : a0 (blks m c t) (ix2 x0 x1) = Out13 V0 (ix2 (row t (y 0)) (y 1)) :=
      (H.r46_0 x0 x1).trans (((out13_at V0 _ _).symm).trans (meet (Out13 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

set_option maxHeartbeats 1000000 in
/-- Window 13 after a later tile of a flush, entry by entry. -/
theorem o13B (c : Dev nD) (t : Fin cfg0.N) (h : ¬ t.val % 32 = 0) (V0 : RV) (E : Args m c V0) (y : S256x4096.Idx) :
    (outsAt0 m c t.val t.isLt).2.1 y = Out13 V0 (ix2 (row t (y 0)) (y 1)) := by
  have H := reads m c E t
  rw [outsAt0_B m c t h]
  frame_open
  simp (disch := decide) only [↓ View.readCov_skip, ↓ View.readCov_cons_toLoadRect, ↓ View.readCov_fill]
  frame_out
  canon_tiles x g
  case piece0 =>
    idx_vars x
    have e : a3 (blks m c t) (ix2 x0 x1) = Out13 V0 (ix2 (row t (y 0)) (y 1)) :=
      (H.r46_3 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : a2 (blks m c t) (ix2 x0 x1) = Out13 V0 (ix2 (row t (y 0)) (y 1)) :=
      (H.r46_2 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : a1 (blks m c t) (ix2 x0 x1) = Out13 V0 (ix2 (row t (y 0)) (y 1)) :=
      (H.r46_1 x0 x1).trans (((out13_at V0 _ _).symm).trans (meet (Out13 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : a0 (blks m c t) (ix2 x0 x1) = Out13 V0 (ix2 (row t (y 0)) (y 1)) :=
      (H.r46_0 x0 x1).trans (((out13_at V0 _ _).symm).trans (meet (Out13 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

/-- The whole of the rectified scores. -/
theorem final13 (c : Dev nD) (V0 : RV) (E : Args m c V0) : (dats m 0 c).arrAt 13 cfg0.N = Out13 V0 := by
  refine (dats m 0 c).arrAt_eq_of_covers 13 _ (by decide +kernel) fun t hf y => ?_
  blk_simp
  rw [after0_13]
  refine Eq.trans (b := Out13 V0 (ix2 (row t (y 0)) (y 1))) ?_ ?_
  · by_cases h : t.val % 32 = 0
    · exact o13A m c t h V0 E y
    · exact o13B m c t h V0 E y
  · blk_ext [idxO t]

set_option maxHeartbeats 1000000 in
/-- Window 14 after the first tile of a flush, entry by entry. -/
theorem o14A (c : Dev nD) (t : Fin cfg0.N) (h : t.val % 32 = 0) (V0 : RV) (E : Args m c V0) (y : S256x4096.Idx) :
    (outsAt0 m c t.val t.isLt).2.2.1 y = Out14 V0 (ix2 (row t (y 0)) (y 1)) := by
  have H := reads m c E t
  rw [outsAt0_A m c t h]
  frame_open
  simp (disch := decide) only [↓ View.readCov_skip, ↓ View.readCov_cons_toLoadRect, ↓ View.readCov_fill]
  frame_out
  canon_tiles x g
  case piece0 =>
    idx_vars x
    have e : b3 (blks m c t) (ix2 x0 x1) = Out14 V0 (ix2 (row t (y 0)) (y 1)) :=
      (H.r108_3 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : b2 (blks m c t) (ix2 x0 x1) = Out14 V0 (ix2 (row t (y 0)) (y 1)) :=
      (H.r108_2 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : b1 (blks m c t) (ix2 x0 x1) = Out14 V0 (ix2 (row t (y 0)) (y 1)) :=
      (H.r108_1 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : b0 (blks m c t) (ix2 x0 x1) = Out14 V0 (ix2 (row t (y 0)) (y 1)) :=
      (H.r108_0 x0 x1).trans (((out14_at V0 _ _).symm).trans (meet (Out14 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

set_option maxHeartbeats 1000000 in
/-- Window 14 after a later tile of a flush, entry by entry. -/
theorem o14B (c : Dev nD) (t : Fin cfg0.N) (h : ¬ t.val % 32 = 0) (V0 : RV) (E : Args m c V0) (y : S256x4096.Idx) :
    (outsAt0 m c t.val t.isLt).2.2.1 y = Out14 V0 (ix2 (row t (y 0)) (y 1)) := by
  have H := reads m c E t
  rw [outsAt0_B m c t h]
  frame_open
  simp (disch := decide) only [↓ View.readCov_skip, ↓ View.readCov_cons_toLoadRect, ↓ View.readCov_fill]
  frame_out
  canon_tiles x g
  case piece0 =>
    idx_vars x
    have e : b3 (blks m c t) (ix2 x0 x1) = Out14 V0 (ix2 (row t (y 0)) (y 1)) :=
      (H.r108_3 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : b2 (blks m c t) (ix2 x0 x1) = Out14 V0 (ix2 (row t (y 0)) (y 1)) :=
      (H.r108_2 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : b1 (blks m c t) (ix2 x0 x1) = Out14 V0 (ix2 (row t (y 0)) (y 1)) :=
      (H.r108_1 x0 x1).trans (((out14_at V0 _ _).symm).trans (meet (Out14 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : b0 (blks m c t) (ix2 x0 x1) = Out14 V0 (ix2 (row t (y 0)) (y 1)) :=
      (H.r108_0 x0 x1).trans (((out14_at V0 _ _).symm).trans (meet (Out14 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

/-- The whole of the scores' gradient. -/
theorem final14 (c : Dev nD) (V0 : RV) (E : Args m c V0) : (dats m 0 c).arrAt 14 cfg0.N = Out14 V0 := by
  refine (dats m 0 c).arrAt_eq_of_covers 14 _ (by decide +kernel) fun t hf y => ?_
  blk_simp
  rw [after0_14]
  refine Eq.trans (b := Out14 V0 (ix2 (row t (y 0)) (y 1))) ?_ ?_
  · by_cases h : t.val % 32 = 0
    · exact o14A m c t h V0 E y
    · exact o14B m c t h V0 E y
  · blk_ext [idxO t]

set_option maxHeartbeats 1000000 in
/-- Window 15 after the first tile of a flush, entry by entry. -/
theorem o15A (c : Dev nD) (t : Fin cfg0.N) (h : t.val % 32 = 0) (V0 : RV) (E : Args m c V0) (y : S256x4096.Idx) :
    (outsAt0 m c t.val t.isLt).2.2.2.1 y = Out15 V0 (ix2 (row t (y 0)) (y 1)) := by
  have H := reads m c E t
  rw [outsAt0_A m c t h]
  frame_open
  simp (disch := decide) only [↓ View.readCov_skip, ↓ View.readCov_cons_toLoadRect, ↓ View.readCov_fill]
  frame_out
  canon_tiles x g
  case piece0 =>
    idx_vars x
    have e : k0_pay50 (t274 (blks m c t)) (ix2 x0 x1) = Out15 V0 (ix2 (row t (y 0)) (y 1)) :=
      (H.r129' x0 x1).trans (((out15_3 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : t167 (blks m c t) (ix2 x0 x1) = Out15 V0 (ix2 (row t (y 0)) (y 1)) :=
      (H.r102' x0 x1).trans (((out15_2 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : t41 (blks m c t) (ix2 x0 x1) = Out15 V0 (ix2 (row t (y 0)) (y 1)) :=
      (H.r44 x0 x1).trans (((out15_1 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : k0_pay7 (blks m c t).x1 (blks m c t).x2 (blks m c t).x3 (blks m c t).x7 (blks m c t).x8 (ix2 x0 x1) = Out15 V0 (ix2 (row t (y 0)) (y 1)) :=
      (H.r27 x0 x1).trans (((out15_0 V0 _ _).symm).trans (meet (Out15 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

set_option maxHeartbeats 1000000 in
/-- Window 15 after a later tile of a flush, entry by entry. -/
theorem o15B (c : Dev nD) (t : Fin cfg0.N) (h : ¬ t.val % 32 = 0) (V0 : RV) (E : Args m c V0) (y : S256x4096.Idx) :
    (outsAt0 m c t.val t.isLt).2.2.2.1 y = Out15 V0 (ix2 (row t (y 0)) (y 1)) := by
  have H := reads m c E t
  rw [outsAt0_B m c t h]
  frame_open
  simp (disch := decide) only [↓ View.readCov_skip, ↓ View.readCov_cons_toLoadRect, ↓ View.readCov_fill]
  frame_out
  canon_tiles x g
  case piece0 =>
    idx_vars x
    have e : k0_pay50 (t274 (blks m c t)) (ix2 x0 x1) = Out15 V0 (ix2 (row t (y 0)) (y 1)) :=
      (H.r129' x0 x1).trans (((out15_3 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : t167 (blks m c t) (ix2 x0 x1) = Out15 V0 (ix2 (row t (y 0)) (y 1)) :=
      (H.r102' x0 x1).trans (((out15_2 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece2 =>
    idx_vars x
    have e : t41 (blks m c t) (ix2 x0 x1) = Out15 V0 (ix2 (row t (y 0)) (y 1)) :=
      (H.r44 x0 x1).trans (((out15_1 V0 _ _).symm).trans (meet (Out15 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece3 =>
    idx_vars x
    have e : k0_pay7 (blks m c t).x1 (blks m c t).x2 (blks m c t).x3 (blks m c t).x7 (blks m c t).x8 (ix2 x0 x1) = Out15 V0 (ix2 (row t (y 0)) (y 1)) :=
      (H.r27 x0 x1).trans (((out15_0 V0 _ _).symm).trans (meet (Out15 V0) (congrArg (256 * t.val + ·) g0.symm) ((Nat.zero_add _).trans g1.symm)))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

/-- The whole of the four packed arrays. -/
theorem final15 (c : Dev nD) (V0 : RV) (E : Args m c V0) : (dats m 0 c).arrAt 15 cfg0.N = Out15 V0 := by
  refine (dats m 0 c).arrAt_eq_of_covers 15 _ (by decide +kernel) fun t hf y => ?_
  blk_simp
  rw [after0_15]
  refine Eq.trans (b := Out15 V0 (ix2 (row t (y 0)) (y 1))) ?_ ?_
  · by_cases h : t.val % 32 = 0
    · exact o15A m c t h V0 E y
    · exact o15B m c t h V0 E y
  · blk_ext [idxO t]

set_option maxHeartbeats 1000000 in
/-- Window 19 after the first tile of a flush, entry by entry. -/
theorem o19A (c : Dev nD) (t : Fin cfg0.N) (h : t.val % 32 = 0) (V0 : RV) (E : Args m c V0) (y : S256x2048.Idx) :
    (outsAt0 m c t.val t.isLt).2.2.2.2.2.2.2.1 y = Out19 V0 (ix2 (row t (y 0)) (y 1)) := by
  have H := reads m c E t
  rw [outsAt0_A m c t h]
  frame_open
  simp (disch := decide) only [↓ View.readCov_skip, ↓ View.readCov_cons_toLoadRect, ↓ View.readCov_fill]
  frame_out
  canon_tiles x g
  case piece0 =>
    idx_vars x
    have e : k0_pay55 (t11 (blks m c t)) (t17 (blks m c t)) (t274 (blks m c t)) (blks m c t).x9 (ix2 x0 x1) = Out19 V0 (ix2 (row t (y 0)) (y 1)) :=
      (H.za x0 x1).trans (((out19_1 V0 _ _).symm).trans (meet (Out19 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : k0_pay54 (t8 (blks m c t)) (t14 (blks m c t)) (t274 (blks m c t)) (blks m c t).x9 (ix2 x0 x1) = Out19 V0 (ix2 (row t (y 0)) (y 1)) :=
      (H.zp x0 x1).trans (((out19_0 V0 _ _).symm).trans (meet (Out19 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

set_option maxHeartbeats 1000000 in
/-- Window 19 after a later tile of a flush, entry by entry. -/
theorem o19B (c : Dev nD) (t : Fin cfg0.N) (h : ¬ t.val % 32 = 0) (V0 : RV) (E : Args m c V0) (y : S256x2048.Idx) :
    (outsAt0 m c t.val t.isLt).2.2.2.2.2.2.2.1 y = Out19 V0 (ix2 (row t (y 0)) (y 1)) := by
  have H := reads m c E t
  rw [outsAt0_B m c t h]
  frame_open
  simp (disch := decide) only [↓ View.readCov_skip, ↓ View.readCov_cons_toLoadRect, ↓ View.readCov_fill]
  frame_out
  canon_tiles x g
  case piece0 =>
    idx_vars x
    have e : k0_pay55 (t11 (blks m c t)) (t17 (blks m c t)) (t274 (blks m c t)) (blks m c t).x9 (ix2 x0 x1) = Out19 V0 (ix2 (row t (y 0)) (y 1)) :=
      (H.za x0 x1).trans (((out19_1 V0 _ _).symm).trans (meet (Out19 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e
  case piece1 =>
    idx_vars x
    have e : k0_pay54 (t8 (blks m c t)) (t14 (blks m c t)) (t274 (blks m c t)) (blks m c t).x9 (ix2 x0 x1) = Out19 V0 (ix2 (row t (y 0)) (y 1)) :=
      (H.zp x0 x1).trans (((out19_0 V0 _ _).symm).trans (meet (Out19 V0) (congrArg (256 * t.val + ·) g0.symm) g1.symm))
    dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
    exact e

/-- The whole of the gates' gradients. -/
theorem final19 (c : Dev nD) (V0 : RV) (E : Args m c V0) : (dats m 0 c).arrAt 19 cfg0.N = Out19 V0 := by
  refine (dats m 0 c).arrAt_eq_of_covers 19 _ (by decide +kernel) fun t hf y => ?_
  blk_simp
  rw [after0_19]
  refine Eq.trans (b := Out19 V0 (ix2 (row t (y 0)) (y 1))) ?_ ?_
  · by_cases h : t.val % 32 = 0
    · exact o19A m c t h V0 E y
    · exact o19B m c t h V0 E y
  · blk_ext [idxO t]

end Cert.Core

end
-- ==== Proof.Small.lean ====
/-
  The small result — two gains' gradients, the loss, and five rows of zeros — accumulates in one block over the 32 tiles:
  the first tile clears it, every tile adds its rows' sums, and the total is the reference's sum over all rows.
-/
module

public import proofs.«01_k».proof.Proof.Windows
public import Idealize.ShloMosaic.Lib.WritesUnit

@[expose] public section

set_option maxRecDepth 16384

noncomputable section

namespace Cert.Core

open Cert.KernelIdeal Cert.KernelIdeal.Gen Idealize.ShloMosaic Idealize.ShloMosaic.TcCoe Idealize.SL.Sem
open Cert.ReferenceIdeal.Value

variable (m : (ℓ : Loc nD τ sig) → Buf (Elt Ideal) ℓ)

/-- The newest store of one row, read on that row; -/
theorem canon_row {o : ℕ} (ho : o < 8) {off : Fin 2 → ℕ} (inb : ∀ a, off a + (![1, 1024] : Fin 2 → ℕ) a ≤ S8x1024.size a)
    (w : (Rect.unit (s := S8x1024) off ![1, 1024] inb).shape.Idx → Elt Ideal .f32) (L : List (View.Piece (Elt Ideal) S8x1024 .f32))
    (j : Fin 1024) (h : off = ![o, 0]) :
    View.canon ((⟨Rect.unit off ![1, 1024] inb, w⟩ : View.Piece (Elt Ideal) S8x1024 .f32) :: L) (ix2 ⟨o, ho⟩ j) = w (ix2 (0 : Fin 1) j) := by
  subst h
  have q : (ix2 ⟨o, ho⟩ j : S8x1024.Idx) = (Rect.unit (s := S8x1024) ![o, 0] ![1, 1024] inb).emb (ix2 (0 : Fin 1) j) := by
    funext a
    refine Fin.ext ?_
    fin_cases a
    · show o = o + 1 * 0; omega
    · show j.val = 0 + 1 * j.val; omega
  rw [q]
  exact View.canon_cons_emb (Val := Elt Ideal) (s := S8x1024) (e := .f32) (Rect.unit (s := S8x1024) ![o, 0] ![1, 1024] inb) w L (ix2 (0 : Fin 1) j)

/-- and off it. -/
theorem canon_off {o : ℕ} {off : Fin 2 → ℕ} (inb : ∀ a, off a + (![1, 1024] : Fin 2 → ℕ) a ≤ S8x1024.size a)
    (w : (Rect.unit (s := S8x1024) off ![1, 1024] inb).shape.Idx → Elt Ideal .f32) (L : List (View.Piece (Elt Ideal) S8x1024 .f32))
    (i : Fin 8) (j : Fin 1024) (h : off = ![o, 0]) (hi : i.val ≠ o) :
    View.canon ((⟨Rect.unit off ![1, 1024] inb, w⟩ : View.Piece (Elt Ideal) S8x1024 .f32) :: L) (ix2 i j) = View.canon L (ix2 i j) := by
  subst h
  refine View.canon_cons_of_not_mem _ _ fun hm => ?_
  rw [Rect.mem_set_unit] at hm
  have h0 : o ≤ i.val ∧ i.val < o + 1 := hm 0
  omega
section
variable {κ : Kind} {sp : Space} (v : View sig κ sp S8x1024 .f32) (f : v.ty.Contents (Elt Ideal))

/-- The same over earlier contents. -/
theorem writes_row {o : ℕ} (ho : o < 8) {off : Fin 2 → ℕ} (inb : ∀ a, off a + (![1, 1024] : Fin 2 → ℕ) a ≤ S8x1024.size a)
    (w : (Rect.unit (s := S8x1024) off ![1, 1024] inb).shape.Idx → Elt Ideal .f32) (L : List (View.Piece (Elt Ideal) S8x1024 .f32))
    (j : Fin 1024) (h : off = ![o, 0]) :
    v.read (Elt Ideal) (v.writes (Elt Ideal) f ((⟨Rect.unit off ![1, 1024] inb, w⟩ : View.Piece (Elt Ideal) S8x1024 .f32) :: L)) (ix2 ⟨o, ho⟩ j) = w (ix2 (0 : Fin 1) j) :=
  View.read_writes_cons_rows_of_mem (d := ![8, 1024]) v f inb w L (ix2 ⟨o, ho⟩ j) (ix2 (0 : Fin 1) j) h rfl rfl

/-- and off it. -/
theorem writes_off {o : ℕ} {off : Fin 2 → ℕ} (inb : ∀ a, off a + (![1, 1024] : Fin 2 → ℕ) a ≤ S8x1024.size a)
    (w : (Rect.unit (s := S8x1024) off ![1, 1024] inb).shape.Idx → Elt Ideal .f32) (L : List (View.Piece (Elt Ideal) S8x1024 .f32))
    (i : Fin 8) (j : Fin 1024) (h : off = ![o, 0]) (hi : i.val < o ∨ o + 1 ≤ i.val) :
    v.read (Elt Ideal) (v.writes (Elt Ideal) f ((⟨Rect.unit off ![1, 1024] inb, w⟩ : View.Piece (Elt Ideal) S8x1024 .f32) :: L)) (ix2 i j)
      = v.read (Elt Ideal) (v.writes (Elt Ideal) f L) (ix2 i j) :=
  View.read_writes_cons_rows_of_not_mem (d := ![8, 1024]) (W := 1) v f inb w L (ix2 i j) h rfl hi
end

/-- A row of a block, loaded. -/
theorem ld_row {o : ℕ} (ho : o < 8) {off : Fin 2 → ℕ} (inb : ∀ a, off a + (![1, 1024] : Fin 2 → ℕ) a ≤ S8x1024.size a)
    (X : S8x1024.Idx → Elt Ideal .f32) (j : Fin 1024) (h : off = ![o, 0]) :
    View.ld X (Rect.unit (s := S8x1024) off ![1, 1024] inb) (ix2 (0 : Fin 1) j) = X (ix2 ⟨o, ho⟩ j) := by
  subst h
  refine congrArg X ?_
  funext a
  refine Fin.ext ?_
  fin_cases a
  · show o + 1 * 0 = o; omega
  · show 0 + 1 * j.val = j.val; omega

/-- What a tile adds to row `i` of the small block. -/
def term16 (V0 : RV) (t : Fin cfg0.N) (x : S8x1024.Idx) : EReal :=
  if (x 0).val = 0 then ∑ k : Fin 256, R42 V0 (ix2 (row t k) (x 1)) * R109 V0 (ix2 (row t k) (x 1))
  else if (x 0).val = 1 then ∑ k : Fin 256, R66 V0 (ix2 (row t k) (x 1)) * R83 V0 (ix2 (row t k) (x 1))
  else if (x 0).val = 2 then Ideal.ofBits .f32 0x3F000000#32
      * ∑ k : Fin 256, Ideal.div (∑ l, R69 V0 (ix2 (row t k) l) * R69 V0 (ix2 (row t k) l)) (Ideal.ofBits .f32 0x44800000#32)
  else 0

/-- The loss row passes through a cast to its own shape. -/
theorem p29 (v) (j : Fin 1024) : k0_pay29 (F := Ideal) v (ix2 0 j) = v (ix2 0 j) := by
  pointwise [k0_pay29]

set_option maxHeartbeats 1000000 in
/-- Row 0, at the first tile. -/
theorem o16A0 (c : Dev nD) (t : Fin cfg0.N) (h : t.val % 32 = 0) (V0 : RV) (E : Args m c V0) (j : Fin 1024) :
    ((outsAt0 m c t.val t.isLt).2.2.2.2.1 (ix2 0 j) : EReal) = 0 + term16 V0 t (ix2 0 j) := by
  have H := reads m c E t
  rw [outsAt0_A m c t h]
  frame_open
  simp (disch := decide) only [↓ View.readCov_skip, ↓ View.readCov_cons_toLoadRect, ↓ View.readCov_fill]
  frame_out
  refine (canon_row (o := 0) (by decide) _ _ _ _ rfl).trans ?_
  have e := fun v => H.s0 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((ld_row (o := 0) (by decide) _ _ _ rfl).trans ?_) (by rfl)
  pointwise [k0_pay2]

set_option maxHeartbeats 1000000 in
/-- Row 1, at the first tile. -/
theorem o16A1 (c : Dev nD) (t : Fin cfg0.N) (h : t.val % 32 = 0) (V0 : RV) (E : Args m c V0) (j : Fin 1024) :
    ((outsAt0 m c t.val t.isLt).2.2.2.2.1 (ix2 1 j) : EReal) = 0 + term16 V0 t (ix2 1 j) := by
  have H := reads m c E t
  rw [outsAt0_A m c t h]
  frame_open
  simp (disch := decide) only [↓ View.readCov_skip, ↓ View.readCov_cons_toLoadRect, ↓ View.readCov_fill]
  frame_out
  refine (canon_off (o := 0) _ _ _ _ _ rfl (show (1 : ℕ) ≠ 0 by decide)).trans ?_
  refine (canon_row (o := 1) (by decide) _ _ _ _ rfl).trans ?_
  have e := fun v => H.s1 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((ld_row (o := 1) (by decide) _ _ _ rfl).trans ?_) (by rfl)
  pointwise [k0_pay2]

set_option maxHeartbeats 1000000 in
/-- Row 2, at the first tile. -/
theorem o16A2 (c : Dev nD) (t : Fin cfg0.N) (h : t.val % 32 = 0) (V0 : RV) (E : Args m c V0) (j : Fin 1024) :
    ((outsAt0 m c t.val t.isLt).2.2.2.2.1 (ix2 2 j) : EReal) = 0 + term16 V0 t (ix2 2 j) := by
  have H := reads m c E t
  rw [outsAt0_A m c t h]
  frame_open
  simp (disch := decide) only [↓ View.readCov_skip, ↓ View.readCov_cons_toLoadRect, ↓ View.readCov_fill]
  frame_out
  refine (canon_off (o := 0) _ _ _ _ _ rfl (show (2 : ℕ) ≠ 0 by decide)).trans ?_
  refine (canon_off (o := 1) _ _ _ _ _ rfl (show (2 : ℕ) ≠ 1 by decide)).trans ?_
  refine (canon_row (o := 2) (by decide) _ _ _ _ rfl).trans ?_
  have e := fun v => H.s2 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((p29 _ _).trans ((ld_row (o := 2) (by decide) _ _ _ rfl).trans ?_)) (by rfl)
  pointwise [k0_pay2]

set_option maxHeartbeats 1000000 in
/-- The rows below, at the first tile. -/
theorem o16A3 (c : Dev nD) (t : Fin cfg0.N) (h : t.val % 32 = 0) (V0 : RV) (E : Args m c V0) (i : Fin 8) (hi : 3 ≤ i.val) (j : Fin 1024) :
    ((outsAt0 m c t.val t.isLt).2.2.2.2.1 (ix2 i j) : EReal) = 0 + term16 V0 t (ix2 i j) := by
  have H := reads m c E t
  have n0 : i.val ≠ 0 := by omega
  have l0 : 0 + 1 ≤ i.val := by omega
  have n1 : i.val ≠ 1 := by omega
  have l1 : 1 + 1 ≤ i.val := by omega
  have n2 : i.val ≠ 2 := by omega
  have l2 : 2 + 1 ≤ i.val := by omega
  rw [outsAt0_A m c t h]
  frame_open
  simp (disch := decide) only [↓ View.readCov_skip, ↓ View.readCov_cons_toLoadRect, ↓ View.readCov_fill]
  frame_out
  refine (canon_off (o := 0) _ _ _ _ _ rfl n0).trans ?_
  refine (canon_off (o := 1) _ _ _ _ _ rfl n1).trans ?_
  refine (canon_off (o := 2) _ _ _ _ _ rfl n2).trans ?_
  rw [show term16 V0 t (ix2 i j) = 0 from (if_neg n0).trans ((if_neg n1).trans (if_neg n2)), add_zero]
  frame_out
  pointwise [k0_pay2]

set_option maxHeartbeats 1000000 in
/-- Row 0, at a later tile. -/
theorem o16B0 (c : Dev nD) (t : Fin cfg0.N) (h : ¬ t.val % 32 = 0) (V0 : RV) (E : Args m c V0) (j : Fin 1024) :
    ((outsAt0 m c t.val t.isLt).2.2.2.2.1 (ix2 0 j) : EReal) = (outsAt0 m c (t.val - 1) (Nat.lt_of_le_of_lt (Nat.sub_le _ _) t.isLt)).2.2.2.2.1 (ix2 0 j) + term16 V0 t (ix2 0 j) := by
  have H := reads m c E t
  rw [outsAt0_B m c t h]
  frame_open
  simp (disch := decide) only [↓ View.readCov_skip, ↓ View.readCov_cons_toLoadRect, ↓ View.readCov_fill]
  frame_out
  refine (writes_row (o := 0) _ _ (show 0 < 8 by decide) _ _ _ _ rfl).trans ?_
  have e := fun v => H.s0 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((ld_row (o := 0) (by decide) _ _ _ rfl).trans ?_) (by rfl)
  rfl

set_option maxHeartbeats 1000000 in
/-- Row 1, at a later tile. -/
theorem o16B1 (c : Dev nD) (t : Fin cfg0.N) (h : ¬ t.val % 32 = 0) (V0 : RV) (E : Args m c V0) (j : Fin 1024) :
    ((outsAt0 m c t.val t.isLt).2.2.2.2.1 (ix2 1 j) : EReal) = (outsAt0 m c (t.val - 1) (Nat.lt_of_le_of_lt (Nat.sub_le _ _) t.isLt)).2.2.2.2.1 (ix2 1 j) + term16 V0 t (ix2 1 j) := by
  have H := reads m c E t
  rw [outsAt0_B m c t h]
  frame_open
  simp (disch := decide) only [↓ View.readCov_skip, ↓ View.readCov_cons_toLoadRect, ↓ View.readCov_fill]
  frame_out
  refine (writes_off (o := 0) _ _ _ _ _ _ _ rfl (Or.inr (show 0 + 1 ≤ 1 by decide))).trans ?_
  refine (writes_row (o := 1) _ _ (show 1 < 8 by decide) _ _ _ _ rfl).trans ?_
  have e := fun v => H.s1 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((ld_row (o := 1) (by decide) _ _ _ rfl).trans ?_) (by rfl)
  rfl

set_option maxHeartbeats 1000000 in
/-- Row 2, at a later tile. -/
theorem o16B2 (c : Dev nD) (t : Fin cfg0.N) (h : ¬ t.val % 32 = 0) (V0 : RV) (E : Args m c V0) (j : Fin 1024) :
    ((outsAt0 m c t.val t.isLt).2.2.2.2.1 (ix2 2 j) : EReal) = (outsAt0 m c (t.val - 1) (Nat.lt_of_le_of_lt (Nat.sub_le _ _) t.isLt)).2.2.2.2.1 (ix2 2 j) + term16 V0 t (ix2 2 j) := by
  have H := reads m c E t
  rw [outsAt0_B m c t h]
  frame_open
  simp (disch := decide) only [↓ View.readCov_skip, ↓ View.readCov_cons_toLoadRect, ↓ View.readCov_fill]
  frame_out
  refine (writes_off (o := 0) _ _ _ _ _ _ _ rfl (Or.inr (show 0 + 1 ≤ 2 by decide))).trans ?_
  refine (writes_off (o := 1) _ _ _ _ _ _ _ rfl (Or.inr (show 1 + 1 ≤ 2 by decide))).trans ?_
  refine (writes_row (o := 2) _ _ (show 2 < 8 by decide) _ _ _ _ rfl).trans ?_
  have e := fun v => H.s2 v 0 j
  dsimp only [blks, c1k, c2, u0, u1, u2, u3, u4, u5, u6, u7, d0, d1, d2, d3, t8, t11, t14, t17, t27, t31, t36, t38, t41, a0, t60, t63, a1, a2, t94, t97, a3, t122, t124, t128, t135, t159, t167, t172, b0, t190, b1, t205, b2, t232, t235, t238, b3, t274, t282, t284] at e
  refine (e _).trans ?_
  refine congrArg₂ (· + ·) ((p29 _ _).trans ((ld_row (o := 2) (by decide) _ _ _ rfl).trans ?_)) (by rfl)
  rfl

set_option maxHeartbeats 1000000 in
/-- The rows below, at a later tile. -/
theorem o16B3 (c : Dev nD) (t : Fin cfg0.N) (h : ¬ t.val % 32 = 0) (V0 : RV) (E : Args m c V0) (i : Fin 8) (hi : 3 ≤ i.val) (j : Fin 1024) :
    ((outsAt0 m c t.val t.isLt).2.2.2.2.1 (ix2 i j) : EReal) = (outsAt0 m c (t.val - 1) (Nat.lt_of_le_of_lt (Nat.sub_le _ _) t.isLt)).2.2.2.2.1 (ix2 i j) + term16 V0 t (ix2 i j) := by
  have H := reads m c E t
  have n0 : i.val ≠ 0 := by omega
  have l0 : 0 + 1 ≤ i.val := by omega
  have n1 : i.val ≠ 1 := by omega
  have l1 : 1 + 1 ≤ i.val := by omega
  have n2 : i.val ≠ 2 := by omega
  have l2 : 2 + 1 ≤ i.val := by omega
  rw [outsAt0_B m c t h]
  frame_open
  simp (disch := decide) only [↓ View.readCov_skip, ↓ View.readCov_cons_toLoadRect, ↓ View.readCov_fill]
  frame_out
  refine (writes_off (o := 0) _ _ _ _ _ _ _ rfl (Or.inr l0)).trans ?_
  refine (writes_off (o := 1) _ _ _ _ _ _ _ rfl (Or.inr l1)).trans ?_
  refine (writes_off (o := 2) _ _ _ _ _ _ _ rfl (Or.inr l2)).trans ?_
  rw [show term16 V0 t (ix2 i j) = 0 from (if_neg n0).trans ((if_neg n1).trans (if_neg n2)), add_zero]
  exact congrFun (Memref.IsWhole.read_unread _ _) _

/-- An index of the small block is one of its three rows in use, or below them. -/
theorem rows_cases (P : S8x1024.Idx → Prop) (h0 : ∀ j, P (ix2 0 j)) (h1 : ∀ j, P (ix2 1 j)) (h2 : ∀ j, P (ix2 2 j))
    (h3 : ∀ (i : Fin 8) (hi : 3 ≤ i.val) j, P (ix2 i j)) : ∀ y, P y := by
  intro y
  idx_vars y
  by_cases e0 : y0.val = 0
  · rw [show y0 = 0 from Fin.ext e0]; exact h0 y1
  · by_cases e1 : y0.val = 1
    · rw [show y0 = 1 from Fin.ext e1]; exact h1 y1
    · by_cases e2 : y0.val = 2
      · rw [show y0 = 2 from Fin.ext e2]; exact h2 y1
      · exact h3 y0 (by omega) y1

/-- The 32 tiles' terms together. -/
theorem total16 (V0 : RV) (p : Fin 32 → Fin cfg0.N) (hp : ∀ s, (p s).val = s.val) : ∀ y : S8x1024.Idx,
    ∑ s : Fin 32, term16 V0 (p s) y = (Out16 V0 y : EReal) := by
  refine rows_cases _ (fun j => ?_) (fun j => ?_) (fun j => ?_) (fun i hi j => ?_)
  · rw [out16_0, show (∑ s : Fin 32, term16 V0 (p s) (ix2 0 j)) = ∑ s : Fin 32, ∑ k : Fin 256, R42 V0 (ix2 (row (p s) k) j) * R109 V0 (ix2 (row (p s) k) j) from rfl]
    refine Fin.sum_mul_add_congr (S := 32) (n := 256) fun s k hl => ?_
    rw [show row (p s) k = ⟨s.val * 256 + k.val, hl⟩ from Fin.ext (by show 256 * (p s).val + k.val = _; rw [hp]; exact congrArg (· + k.val) (Nat.mul_comm _ _))]
  · rw [out16_1, show (∑ s : Fin 32, term16 V0 (p s) (ix2 1 j)) = ∑ s : Fin 32, ∑ k : Fin 256, R66 V0 (ix2 (row (p s) k) j) * R83 V0 (ix2 (row (p s) k) j) from rfl]
    refine Fin.sum_mul_add_congr (S := 32) (n := 256) fun s k hl => ?_
    rw [show row (p s) k = ⟨s.val * 256 + k.val, hl⟩ from Fin.ext (by show 256 * (p s).val + k.val = _; rw [hp]; exact congrArg (· + k.val) (Nat.mul_comm _ _))]
  · rw [out16_2]
    refine Eq.trans ?_ (congrArg (Ideal.ofBits .f32 0x3F000000#32 * ·) (Fin.sum_mul_add_congr (S := 32) (n := 256)
      (F := fun s k => Ideal.div (∑ l, R69 V0 (ix2 (row (p s) k) l) * R69 V0 (ix2 (row (p s) k) l)) (Ideal.ofBits .f32 0x44800000#32)) fun s k hl => ?_))
    · rw [chalf, real_mul_sum _ _ (by norm_num), ← chalf]
      rfl
    · rw [show row (p s) k = ⟨s.val * 256 + k.val, hl⟩ from Fin.ext (by show 256 * (p s).val + k.val = _; rw [hp]; exact congrArg (· + k.val) (Nat.mul_comm _ _))]
  · rw [out16_3 V0 i hi j]
    refine Finset.sum_eq_zero fun s _ => ?_
    exact (if_neg (by show ¬ i.val = 0; omega)).trans ((if_neg (by show ¬ i.val = 1; omega)).trans (if_neg (by show ¬ i.val = 2; omega)))

/-- At the first tile the small block holds that tile's terms. -/
theorem o16A (c : Dev nD) (V0 : RV) (E : Args m c V0) (t : Fin cfg0.N) (h : t.val % 32 = 0) : ∀ y,
    ((outsAt0 m c t.val t.isLt).2.2.2.2.1 y : EReal) = 0 + term16 V0 t y :=
  rows_cases _ (o16A0 m c t h V0 E) (o16A1 m c t h V0 E) (o16A2 m c t h V0 E) (o16A3 m c t h V0 E)

/-- A later tile adds its terms to what the block held. -/
theorem o16B (c : Dev nD) (V0 : RV) (E : Args m c V0) (t : Fin cfg0.N) (h : ¬ t.val % 32 = 0) : ∀ y,
    ((outsAt0 m c t.val t.isLt).2.2.2.2.1 y : EReal)
      = (outsAt0 m c (t.val - 1) (Nat.lt_of_le_of_lt (Nat.sub_le _ _) t.isLt)).2.2.2.2.1 y + term16 V0 t y :=
  rows_cases _ (o16B0 m c t h V0 E) (o16B1 m c t h V0 E) (o16B2 m c t h V0 E) (o16B3 m c t h V0 E)

/-- Every point has the small block whole. -/
theorem idx16 : ∀ t : Fin cfg0.N, win0_16.index t = ![0, 0] := (by decide +kernel : ∀ t : Fin grid0.N, _)

/-- The small block at the end: the gains' gradients and the loss. -/
theorem final16 (c : Dev nD) (V0 : RV) (E : Args m c V0) : (dats m 0 c).arrAt 16 cfg0.N = Out16 V0 := by
  refine (dats m 0 c).arrAt_eq_of_covers 16 _ (by decide +kernel) fun t hf y => ?_
  have ht := (flush0_16 t).mp hf
  blk_simp
  rw [after0_16]
  have lt : t.val < 32 := lt_of_lt_of_eq t.isLt N_0
  have hs := (Pipeline.eq_sum_fin_of_reset_step_apply_of_flush (M := EReal) (fun n h => (outsAt0 m c n h).2.2.2.2.1) 32 (fun _ => 0) (term16 V0)
    (o16A m c V0 E) (o16B m c V0 E) t ht y).trans ((zero_add _).trans (total16 V0 _ (fun s => by show 32 * (t.val / 32) + s.val = s.val; omega) y))
  refine hs.trans ?_
  idx_vars y
  blk_ext [idx16 t]

end Cert.Core

end
-- ==== Proof.InW.lean ====
/-
  The gradient of the input projection's weight, transposed: the gradients of the projection's four parts, side by
  side, transposed, times the normed rows, in the eight row slabs that the devices hold. The grid walks the tokens in
  eight blocks of 1024; a scratch block of all the rows adds the eight up, part by part.
-/
module

public import proofs.«01_k».proof.Proof.Gen.TnWInIdeal.Value
public import proofs.«01_k».proof.Proof.Gen.RefTnWInIdeal.Run
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.Pointwise

@[expose] public section

set_option maxRecDepth 16384

noncomputable section

namespace Cert.InW

open Cert.TnWInIdeal Cert.TnWInIdeal.Gen Idealize.ShloMosaic Idealize.ShloMosaic.TcCoe Idealize.SL.Sem

variable (m : (ℓ : Loc nD τ sig) → Buf (Elt Ideal) ℓ) (c : Dev nD)

/-- The normed rows, and the gradients of the projection's four parts. -/
abbrev a0 : S8192x1024.Idx → EReal := m ((c : Thread nD τ).loc main_arg0)
abbrev a1 : S8192x512.Idx → EReal := m ((c : Thread nD τ).loc main_arg1)
abbrev a2 : S8192x512.Idx → EReal := m ((c : Thread nD τ).loc main_arg2)
abbrev a3 : S8192x256.Idx → EReal := m ((c : Thread nD τ).loc main_arg3)
abbrev a4 : S8192x2048.Idx → EReal := m ((c : Thread nD τ).loc main_arg4)

theorem lt8 (t : Fin cfg0.N) : t.val < 8 := lt_of_lt_of_eq t.isLt N_0

/-- The token of row `k` of point `t`'s blocks. -/
abbrev tok (t : Fin cfg0.N) (k : Fin 1024) : Fin 8192 := ⟨t.val % 8 * 1024 + k.val, by omega⟩

/-- Where the windows' blocks lie. -/
theorem idx : ∀ t : Fin cfg0.N, win0_0.index t = ![t.val % 8, 0] ∧ win0_1.index t = ![t.val % 8, 0]
    ∧ win0_2.index t = ![t.val % 8, 0] ∧ win0_3.index t = ![t.val % 8, 0] ∧ win0_4.index t = ![t.val % 8, 0]
    ∧ win0_5.index t = ![0, 0, 0] :=
  (by decide +kernel : ∀ t : Fin grid0.N, _)

theorem rd0 (t : Fin cfg0.N) (k i) : (iblk m c 0 t : S1024x1024.Idx → EReal) (ix2 k i) = a0 m c (ix2 (tok t k) i) := by
  blk_ext [iblk, V, idx t]
theorem rd1 (t : Fin cfg0.N) (k i) : (iblk m c 1 t : S1024x512.Idx → EReal) (ix2 k i) = a1 m c (ix2 (tok t k) i) := by
  blk_ext [iblk, V, idx t]
theorem rd2 (t : Fin cfg0.N) (k i) : (iblk m c 2 t : S1024x512.Idx → EReal) (ix2 k i) = a2 m c (ix2 (tok t k) i) := by
  blk_ext [iblk, V, idx t]
theorem rd3 (t : Fin cfg0.N) (k i) : (iblk m c 3 t : S1024x256.Idx → EReal) (ix2 k i) = a3 m c (ix2 (tok t k) i) := by
  blk_ext [iblk, V, idx t]
theorem rd4 (t : Fin cfg0.N) (k i) : (iblk m c 4 t : S1024x2048.Idx → EReal) (ix2 k i) = a4 m c (ix2 (tok t k) i) := by
  blk_ext [iblk, V, idx t]

/-- The four parts side by side. -/
def side (A : S8192x512.Idx → EReal) (B : S8192x512.Idx → EReal) (C : S8192x256.Idx → EReal) (D : S8192x2048.Idx → EReal)
    (k : Fin 8192) (r : Fin 3328) : EReal :=
  if h1 : r.val < 512 then A (ix2 k ⟨r.val, h1⟩)
  else if h2 : r.val < 1024 then B (ix2 k ⟨r.val - 512, by omega⟩)
  else if h3 : r.val < 1280 then C (ix2 k ⟨r.val - 1024, by omega⟩)
  else D (ix2 k ⟨r.val - 1280, by omega⟩)

section
variable (A : S8192x512.Idx → EReal) (B : S8192x512.Idx → EReal) (C : S8192x256.Idx → EReal) (D : S8192x2048.Idx → EReal)
variable (k : Fin 8192) (r : Fin 3328)

theorem side1 (i : Fin 512) (h : r.val = 0 + i.val) : side A B C D k r = A (ix2 k i) := by
  unfold side
  rw [dif_pos (by omega)]
  exact congrArg (fun q => A (ix2 k q)) (Fin.ext (by show r.val = i.val; omega))

theorem side2 (i : Fin 512) (h : r.val = 512 + i.val) : side A B C D k r = B (ix2 k i) := by
  unfold side
  rw [dif_neg (by omega), dif_pos (by omega)]
  exact congrArg (fun q => B (ix2 k q)) (Fin.ext (by show r.val - 512 = i.val; omega))

theorem side3 (i : Fin 256) (h : r.val = 1024 + i.val) : side A B C D k r = C (ix2 k i) := by
  unfold side
  rw [dif_neg (by omega), dif_neg (by omega), dif_pos (by omega)]
  exact congrArg (fun q => C (ix2 k q)) (Fin.ext (by show r.val - 1024 = i.val; omega))

/-- The four parts, each padded to the full width, add up to them side by side. -/
theorem side_sum : (((if h : 1280 ≤ r.val ∧ r.val - 1280 < 2048 then D (ix2 k ⟨r.val - 1280, h.2⟩) else 0)
    + if h : 1024 ≤ r.val ∧ r.val - 1024 < 256 then C (ix2 k ⟨r.val - 1024, h.2⟩) else 0)
    + if h : 512 ≤ r.val ∧ r.val - 512 < 512 then B (ix2 k ⟨r.val - 512, h.2⟩) else 0)
    + (if h : r.val < 512 then A (ix2 k ⟨r.val, h⟩) else 0) = side A B C D k r := by
  unfold side
  split_ifs <;> first | omega | simp

theorem side4 (i : Fin 2048) (h : r.val = 1280 + i.val) : side A B C D k r = D (ix2 k i) := by
  unfold side
  rw [dif_neg (by omega), dif_neg (by omega), dif_neg (by omega)]
  exact congrArg (fun q => D (ix2 k q)) (Fin.ext (by show r.val - 1280 = i.val; omega))

/-- One token's product. -/
def prod (U : S8192x1024.Idx → EReal) (j : Fin 1024) : EReal := side A B C D k r * U (ix2 k j)
end

/-- What point `t` adds to the scratch block. -/
def term (t : Fin cfg0.N) (y : S3328x1024.Idx) : EReal :=
  ∑ k : Fin 1024, prod (a1 m c) (a2 m c) (a3 m c) (a4 m c) (tok t k) (y 0) (a0 m c) (y 1)

/-- What is added to each part's rows. -/
theorem pay12 (u v d) (i j) : (k0_pay12 (F := Ideal) u v d (ix2 i j) : EReal) = v (ix2 i j) + ∑ k : Fin 1024, d (ix2 k i) * u (ix2 k j) := by
  pointwise [k0_pay12]
theorem pay13 (u v d) (i j) : (k0_pay13 (F := Ideal) u v d (ix2 i j) : EReal) = v (ix2 i j) + ∑ k : Fin 1024, d (ix2 k i) * u (ix2 k j) := by
  pointwise [k0_pay13]
theorem pay14 (u v d) (i j) : (k0_pay14 (F := Ideal) u v d (ix2 i j) : EReal) = v (ix2 i j) + ∑ k : Fin 1024, d (ix2 k i) * u (ix2 k j) := by
  pointwise [k0_pay14]
theorem pay1 (u v d) (i j) : (k0_pay1 (F := Ideal) u v d (ix2 i j) : EReal) = v (ix2 i j) + ∑ k : Fin 1024, d (ix2 k i) * u (ix2 k j) := by
  pointwise [k0_pay1]

abbrev PL := List (View.Piece (Elt Ideal) S3328x1024 .f32)

/-- A place in a run of rows. -/
theorem emb {o H : ℕ} (inb : ∀ a, (![o, 0] : Fin 2 → ℕ) a + (![H, 1024] : Fin 2 → ℕ) a ≤ S3328x1024.size a) (i : Fin 3328) (j : Fin 1024)
    (r : Fin H) (h : i.val = o + r.val) : (Rect.unit (s := S3328x1024) ![o, 0] ![H, 1024] inb).emb (ix2 r j) = ix2 i j := by
  funext a
  refine Fin.ext ?_
  fin_cases a
  · show o + 1 * r.val = i.val; omega
  · show 0 + 1 * j.val = j.val; omega

/-- The value stored last at a row, -/
theorem on {o H : ℕ} (inb : ∀ a, (![o, 0] : Fin 2 → ℕ) a + (![H, 1024] : Fin 2 → ℕ) a ≤ S3328x1024.size a)
    (w : (Rect.unit (s := S3328x1024) ![o, 0] ![H, 1024] inb).shape.Idx → Elt Ideal .f32) (L : PL) (i : Fin 3328) (j : Fin 1024)
    (r : Fin H) (h : i.val = o + r.val) :
    View.canon ((⟨Rect.unit ![o, 0] ![H, 1024] inb, w⟩ : View.Piece (Elt Ideal) S3328x1024 .f32) :: L) (ix2 i j) = w (ix2 r j) := by
  rw [← emb inb i j r h]
  exact View.canon_cons_emb _ _ _ _

/-- and at a row that the last store leaves alone. -/
theorem off {o H : ℕ} (inb : ∀ a, (![o, 0] : Fin 2 → ℕ) a + (![H, 1024] : Fin 2 → ℕ) a ≤ S3328x1024.size a)
    (w : (Rect.unit (s := S3328x1024) ![o, 0] ![H, 1024] inb).shape.Idx → Elt Ideal .f32) (L : PL) (i : Fin 3328) (j : Fin 1024)
    (h : i.val < o ∨ o + H ≤ i.val) :
    View.canon ((⟨Rect.unit ![o, 0] ![H, 1024] inb, w⟩ : View.Piece (Elt Ideal) S3328x1024 .f32) :: L) (ix2 i j) = View.canon L (ix2 i j) :=
  View.canon_cons_of_not_mem _ _ fun hm => by
    have e := (Rect.mem_set_unit (inb := inb)).mp hm 0
    have e1 : o ≤ i.val := e.1
    have e2 : i.val < o + H := e.2
    omega

/-- A row read back from a block. -/
theorem ld {o H : ℕ} (inb : ∀ a, (![o, 0] : Fin 2 → ℕ) a + (![H, 1024] : Fin 2 → ℕ) a ≤ S3328x1024.size a) (Z : S3328x1024.Idx → Elt Ideal .f32)
    (i : Fin 3328) (j : Fin 1024) (r : Fin H) (h : i.val = o + r.val) :
    View.ld Z (Rect.unit (s := S3328x1024) ![o, 0] ![H, 1024] inb) (ix2 r j) = Z (ix2 i j) :=
  congrArg Z (emb inb i j r h)

/-- The four parts' stores over a block `Z`, at any place. -/
theorem slabs (t : Fin cfg0.N) (Z : S3328x1024.Idx → Elt Ideal .f32) (b4 b3 b2 b1) (L : PL) (i : Fin 3328) (j : Fin 1024) :
    (View.canon ((⟨Rect.unit ![1280, 0] ![2048, 1024] b4, k0_pay1 (iblk m c 0 t) (View.ld Z (Rect.unit ![1280, 0] ![2048, 1024] b4)) (iblk m c 4 t)⟩ : View.Piece (Elt Ideal) S3328x1024 .f32)
      :: ⟨Rect.unit ![1024, 0] ![256, 1024] b3, k0_pay14 (iblk m c 0 t) (View.ld Z (Rect.unit ![1024, 0] ![256, 1024] b3)) (iblk m c 3 t)⟩
      :: ⟨Rect.unit ![512, 0] ![512, 1024] b2, k0_pay13 (iblk m c 0 t) (View.ld Z (Rect.unit ![512, 0] ![512, 1024] b2)) (iblk m c 2 t)⟩
      :: ⟨Rect.unit ![0, 0] ![512, 1024] b1, k0_pay12 (iblk m c 0 t) (View.ld Z (Rect.unit ![0, 0] ![512, 1024] b1)) (iblk m c 1 t)⟩ :: L) (ix2 i j) : EReal)
      = Z (ix2 i j) + term m c t (ix2 i j) := by
  by_cases h4 : 1280 ≤ i.val
  · have hr : i.val = 1280 + (⟨i.val - 1280, by omega⟩ : Fin 2048).val := by show i.val = 1280 + (i.val - 1280); omega
    refine (on _ _ _ i j _ hr).trans ((pay1 _ _ _ _ _).trans (congrArg₂ (· + ·) (ld b4 Z i j _ hr) (Finset.sum_congr rfl fun k _ => ?_)))
    rw [rd0, rd4]
    exact congrArg (· * _) (side4 _ _ _ _ _ i _ hr).symm
  rw [off _ _ _ i j (Or.inl (by omega))]
  by_cases h3 : 1024 ≤ i.val
  · have hr : i.val = 1024 + (⟨i.val - 1024, by omega⟩ : Fin 256).val := by show i.val = 1024 + (i.val - 1024); omega
    refine (on _ _ _ i j _ hr).trans ((pay14 _ _ _ _ _).trans (congrArg₂ (· + ·) (ld b3 Z i j _ hr) (Finset.sum_congr rfl fun k _ => ?_)))
    rw [rd0, rd3]
    exact congrArg (· * _) (side3 _ _ _ _ _ i _ hr).symm
  rw [off _ _ _ i j (Or.inl (by omega))]
  by_cases h2 : 512 ≤ i.val
  · have hr : i.val = 512 + (⟨i.val - 512, by omega⟩ : Fin 512).val := by show i.val = 512 + (i.val - 512); omega
    refine (on _ _ _ i j _ hr).trans ((pay13 _ _ _ _ _).trans (congrArg₂ (· + ·) (ld b2 Z i j _ hr) (Finset.sum_congr rfl fun k _ => ?_)))
    rw [rd0, rd2]
    exact congrArg (· * _) (side2 _ _ _ _ _ i _ hr).symm
  rw [off _ _ _ i j (Or.inl (by omega))]
  have hr : i.val = 0 + (⟨i.val, by omega⟩ : Fin 512).val := by show i.val = 0 + i.val; omega
  refine (on _ _ _ i j _ hr).trans ((pay12 _ _ _ _ _).trans (congrArg₂ (· + ·) (ld b1 Z i j _ hr) (Finset.sum_congr rfl fun k _ => ?_)))
  rw [rd0, rd1]
  exact congrArg (· * _) (side1 _ _ _ _ _ i _ hr).symm

/-- The scratch block: cleared at the first point, -/
theorem sA (t : Fin cfg0.N) (h0 : t.val % 8 = 0) (y) : ((outsAt0 m c t.val t.isLt).2 y : EReal) = 0 + term m c t y := by
  have h1 : ¬ t.val % 8 = 7 := by omega
  have e := slabs m c t (k0_pay11 (F := Ideal))
  idx_vars y
  rw [outsAt0_A m c t h0 h1]
  frame_open
  simp (disch := decide) only [↓ View.readCov_skip, ↓ View.readCov_cons_toLoadRect, ↓ View.readCov_fill]
  frame_out
  refine (e _ _ _ _ _ _ _).trans (congrArg (· + _) ?_)
  pointwise [k0_pay11]

/-- and added to at every later one. -/
theorem sB (t : Fin cfg0.N) (h0 : ¬ t.val % 8 = 0) (y) : ((outsAt0 m c t.val t.isLt).2 y : EReal)
    = (outsAt0 m c (t.val - 1) (Nat.lt_of_le_of_lt (Nat.sub_le _ _) t.isLt)).2 y + term m c t y := by
  have e := slabs m c t
  idx_vars y
  by_cases h1 : t.val % 8 = 7
  · rw [outsAt0_C m c t h0 h1]
    frame_open
    simp (disch := decide) only [↓ View.readCov_skip, ↓ View.readCov_cons_toLoadRect, ↓ View.readCov_fill]
    frame_out
    exact (e _ _ _ _ _ _ _ _).trans (congrArg (· + _) (congrFun (Memref.IsWhole.read_unread _ _) _))
  · rw [outsAt0_B m c t h0 h1]
    frame_open
    simp (disch := decide) only [↓ View.readCov_skip, ↓ View.readCov_cons_toLoadRect, ↓ View.readCov_fill]
    frame_out
    exact (e _ _ _ _ _ _ _ _).trans (congrArg (· + _) (congrFun (Memref.IsWhole.read_unread _ _) _))

/-- The place in the scratch block of an entry of the eight slabs written out. -/
abbrev place (y : S8x416x1024.Idx) : S3328x1024.Idx := ix2 ⟨(y 0).val * 416 + (y 1).val, by
  have h0 : (y 0).val < 8 := (y 0).isLt
  have h1 : (y 1).val < 416 := (y 1).isLt
  omega⟩ (y 2)

/-- The slabs, each a run of 416 rows, cast and put under a leading axis of one. -/
theorem out2 (S : S416x1024.Idx → EReal) (x : S1x416x1024.Idx) : (k0_pay2 (F := Ideal) (k0_pay10 S) x : EReal) = S (ix2 (x 1) (x 2)) := by
  idx_vars x
  pointwise [k0_pay2, k0_pay10]
theorem out3 (S : S416x1024.Idx → EReal) (x : S1x416x1024.Idx) : (k0_pay3 (F := Ideal) S x : EReal) = S (ix2 (x 1) (x 2)) := by
  idx_vars x
  pointwise [k0_pay3]
theorem out4 (S : S416x1024.Idx → EReal) (x : S1x416x1024.Idx) : (k0_pay4 (F := Ideal) S x : EReal) = S (ix2 (x 1) (x 2)) := by
  idx_vars x
  pointwise [k0_pay4]
theorem out5 (S : S416x1024.Idx → EReal) (x : S1x416x1024.Idx) : (k0_pay5 (F := Ideal) S x : EReal) = S (ix2 (x 1) (x 2)) := by
  idx_vars x
  pointwise [k0_pay5]
theorem out6 (S : S416x1024.Idx → EReal) (x : S1x416x1024.Idx) : (k0_pay6 (F := Ideal) S x : EReal) = S (ix2 (x 1) (x 2)) := by
  idx_vars x
  pointwise [k0_pay6]
theorem out7 (S : S416x1024.Idx → EReal) (x : S1x416x1024.Idx) : (k0_pay7 (F := Ideal) S x : EReal) = S (ix2 (x 1) (x 2)) := by
  idx_vars x
  pointwise [k0_pay7]
theorem out8 (S : S416x1024.Idx → EReal) (x : S1x416x1024.Idx) : (k0_pay8 (F := Ideal) S x : EReal) = S (ix2 (x 1) (x 2)) := by
  idx_vars x
  pointwise [k0_pay8]
theorem out9 (S : S416x1024.Idx → EReal) (x : S1x416x1024.Idx) : (k0_pay9 (F := Ideal) S x : EReal) = S (ix2 (x 1) (x 2)) := by
  idx_vars x
  pointwise [k0_pay9]

/-- An entry of a run of rows, read back, at its place in the block. -/
theorem part {κ : Kind} {sp : Space} (v : View sig κ sp S3328x1024 .f32) (L : PL) (o : ℕ) (hr) (i : Fin 416) (j : Fin 1024) (y : S8x416x1024.Idx) (hj : (y 2).val = j.val)
    (hi : o + i.val = (y 0).val * 416 + (y 1).val) :
    v.readCov L (Rect.unit (s := S3328x1024) ![o, 0] ![416, 1024] hr).toLoadRect (ix2 i j) = View.canon L (place y) := by
  have h0 : (y 0).val < 8 := (y 0).isLt
  have h1 : (y 1).val < 416 := (y 1).isLt
  rw [View.readCov_eq_canon']
  exact congrArg (View.canon L) ((emb hr ⟨(y 0).val * 416 + (y 1).val, by omega⟩ j i hi.symm).trans (congrArg (ix2 _) (Fin.ext hj.symm)))

/-- The last point writes the scratch block out, as eight slabs. -/
theorem oC (t : Fin cfg0.N) (h1 : t.val % 8 = 7) (y) : ((outsAt0 m c t.val t.isLt).1 y : EReal) = (outsAt0 m c t.val t.isLt).2 (place y) := by
  have h0 : ¬ t.val % 8 = 0 := by omega
  rw [outsAt0_C m c t h0 h1]
  frame_open
  frame_out
  canon_tiles x g
  · exact (out4 _ x).trans (part _ _ 2912 _ _ _ y g2 (by omega))
  · exact (out3 _ x).trans (part _ _ 2496 _ _ _ y g2 (by omega))
  · exact (out2 _ x).trans (part _ _ 2080 _ _ _ y g2 (by omega))
  · exact (out9 _ x).trans (part _ _ 1664 _ _ _ y g2 (by omega))
  · exact (out8 _ x).trans (part _ _ 1248 _ _ _ y g2 (by omega))
  · exact (out7 _ x).trans (part _ _ 832 _ _ _ y g2 (by omega))
  · exact (out6 _ x).trans (part _ _ 416 _ _ _ y g2 (by omega))
  · exact (out5 _ x).trans (part _ _ 0 _ _ _ y g2 (by omega))

/-- The whole product, in slabs. -/
def Total (U : S8192x1024.Idx → EReal) (A : S8192x512.Idx → EReal) (B : S8192x512.Idx → EReal) (C : S8192x256.Idx → EReal) (D : S8192x2048.Idx → EReal)
    (x : S8x416x1024.Idx) : EReal :=
  ∑ k : Fin 8192, prod A B C D k ⟨(x 0).val * 416 + (x 1).val, by
    have h0 : (x 0).val < 8 := (x 0).isLt
    have h1 : (x 1).val < 416 := (x 1).isLt
    omega⟩ U (x 2)

/-- The array after the last point. -/
theorem final : (dats m 0 c).arrAt 5 cfg0.N = Total (a0 m c) (a1 m c) (a2 m c) (a3 m c) (a4 m c) := by
  refine (dats m 0 c).arrAt_eq_of_covers 5 _ (by decide +kernel) fun t hf y => ?_
  have ht := (flush0_5 t).mp hf
  have lt := lt8 t
  have hs := (Pipeline.eq_sum_fin_of_reset_step_apply_of_flush (M := EReal) (fun n h => (outsAt0 m c n h).2) 8 (fun _ => 0) (term m c)
    (sA m c) (sB m c) t ht)
  have o := oC m c t ht
  blk_simp
  rw [after0_5]
  idx_vars y
  refine (o _).trans ((hs _).trans ((zero_add _).trans ?_))
  refine Eq.trans (b := Total (a0 m c) (a1 m c) (a2 m c) (a3 m c) (a4 m c) (ix3 y0 y1 y2)) ?_ (by blk_ext [idx t])
  refine Fin.sum_mul_add_congr (S := 8) (n := 1024) fun s k hl => ?_
  exact congrArg (fun p => prod (a1 m c) (a2 m c) (a3 m c) (a4 m c) p _ (a0 m c) y2)
    (Fin.ext (by show (8 * (t.val / 8) + s.val) % 8 * 1024 + k.val = s.val * 1024 + k.val; omega))

/-- The reference's result is the whole product. -/
theorem ref (U : S8192x1024.Idx → EReal) (A : S8192x512.Idx → EReal) (B : S8192x512.Idx → EReal) (C : S8192x256.Idx → EReal) (D : S8192x2048.Idx → EReal) :
    (truncf (F := Ideal) .bf16 (shapeCast _ (transpose Cert.RefTnWInIdeal.S3328x1024 [1, 0] (transpose Cert.RefTnWInIdeal.S1024x3328 [1, 0] (Host.dotGeneral (φ₁ := .f32) (φ₂ := .f32) Cert.RefTnWInIdeal.dot_S8192x3328_S8192x1024_S3328x1024_0_0_1_1_n_n none (addf (addf (addf (pad Cert.RefTnWInIdeal.S8192x3328 ![0, 1280] ![0, 0] ![0, 0] (extf .f32 D Cert.RefTnWInIdeal.Gen.bitsLt_bf16_f32) (constant Cert.RefTnWInIdeal.S_ .f32 0x00000000#32) Cert.RefTnWInIdeal.Gen.pads_S8192x2048_S8192x3328_000_128000 Cert.RefTnWInIdeal.Gen.h_S_) (pad Cert.RefTnWInIdeal.S8192x3328 ![0, 1024] ![0, 2048] ![0, 0] (extf .f32 C Cert.RefTnWInIdeal.Gen.bitsLt_bf16_f32) (constant Cert.RefTnWInIdeal.S_ .f32 0x00000000#32) Cert.RefTnWInIdeal.Gen.pads_S8192x256_S8192x3328_000_102420480 Cert.RefTnWInIdeal.Gen.h_S_)) (pad Cert.RefTnWInIdeal.S8192x3328 ![0, 512] ![0, 2304] ![0, 0] (extf .f32 B Cert.RefTnWInIdeal.Gen.bitsLt_bf16_f32) (constant Cert.RefTnWInIdeal.S_ .f32 0x00000000#32) Cert.RefTnWInIdeal.Gen.pads_S8192x512_S8192x3328_000_51223040 Cert.RefTnWInIdeal.Gen.h_S_)) (pad Cert.RefTnWInIdeal.S8192x3328 ![0, 0] ![0, 2816] ![0, 0] (extf .f32 A Cert.RefTnWInIdeal.Gen.bitsLt_bf16_f32) (constant Cert.RefTnWInIdeal.S_ .f32 0x00000000#32) Cert.RefTnWInIdeal.Gen.pads_S8192x512_S8192x3328_000_028160 Cert.RefTnWInIdeal.Gen.h_S_)) (extf .f32 U Cert.RefTnWInIdeal.Gen.bitsLt_bf16_f32)) Cert.RefTnWInIdeal.Gen.transposes_S3328x1024_S1024x3328_1_0) Cert.RefTnWInIdeal.Gen.transposes_S1024x3328_S3328x1024_1_0) Cert.RefTnWInIdeal.Gen.shapeCasts_S3328x1024_S8x416x1024) Cert.RefTnWInIdeal.Gen.bitsLt_bf16_f32 : S8x416x1024.Idx → EReal) = Total U A B C D := by
  funext x
  idx_vars x
  pointwise
  exact Finset.sum_congr rfl fun k _ => congrArg (· * U (ix2 k x2)) (side_sum A B C D k ⟨x0.val * 416 + x1.val, by omega⟩)

end Cert.InW

end
-- ==== Proof.InB.lean ====
/-
  The input projection's and the first norm's backward: the gradients of the projection's four parts, side by side,
  times the weight's transpose, carried through the rows' root-mean-square norm and added to the residual's gradient;
  and the norm's scale's gradient. The grid walks the rows in sixteen blocks of 512; the scale's gradient is added up
  in its one output block.
-/
module

public import proofs.«01_k».proof.Proof.Gen.InBwdIdeal.Value
public import proofs.«01_k».proof.Proof.Gen.RefInBwdIdeal.Run
public import proofs.«01_k».proof.Proof.Alg
public import proofs.«01_k».proof.Proof.InW

@[expose] public section

set_option maxRecDepth 16384

noncomputable section

namespace Cert.InB

open Cert.InBwdIdeal Cert.InBwdIdeal.Gen Idealize.ShloMosaic Idealize.ShloMosaic.TcCoe Idealize.SL.Sem
open Cert.Core (ceps c1024 cneghalf rms_bwd)
open Cert.InW (side side1 side2 side3 side4 side_sum)

variable (m : (ℓ : Loc nD τ sig) → Buf (Elt Ideal) ℓ) (c : Dev nD)

/-- The four parts' gradients, the weight, the rows, the residual's gradient and the norm's scale. -/
abbrev a1 : S8192x512.Idx → EReal := m ((c : Thread nD τ).loc main_arg1)
abbrev a2 : S8192x512.Idx → EReal := m ((c : Thread nD τ).loc main_arg2)
abbrev a3 : S8192x256.Idx → EReal := m ((c : Thread nD τ).loc main_arg3)
abbrev a4 : S8192x2048.Idx → EReal := m ((c : Thread nD τ).loc main_arg4)
abbrev a5 : S1024x3328.Idx → EReal := m ((c : Thread nD τ).loc main_arg5)
abbrev a6 : S8192x1024.Idx → EReal := m ((c : Thread nD τ).loc main_arg6)
abbrev a7 : S8192x1024.Idx → EReal := m ((c : Thread nD τ).loc main_arg7)
abbrev a8 : S1x1024.Idx → EReal := m ((c : Thread nD τ).loc main_arg8)

theorem lt16 (t : Fin cfg0.N) : t.val < 16 := lt_of_lt_of_eq t.isLt N_0

/-- The token of row `i` of point `t`'s blocks. -/
abbrev tok (t : Fin cfg0.N) (i : Fin 512) : Fin 8192 := ⟨t.val * 512 + i.val, by have := lt16 t; omega⟩

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] ∧ win0_8.index t = ![t.val, 0] ∧ win0_9.index t = ![0, 0] :=
  (by decide +kernel : ∀ t : Fin grid0.N, _)

theorem rd0 (t : Fin cfg0.N) (i k) : (iblk m c 0 t : S512x512.Idx → EReal) (ix2 i k) = a1 m c (ix2 (tok t i) k) := by
  blk_ext [iblk, V, idx t]
theorem rd1 (t : Fin cfg0.N) (i k) : (iblk m c 1 t : S512x512.Idx → EReal) (ix2 i k) = a2 m c (ix2 (tok t i) k) := by
  blk_ext [iblk, V, idx t]
theorem rd2 (t : Fin cfg0.N) (i k) : (iblk m c 2 t : S512x256.Idx → EReal) (ix2 i k) = a3 m c (ix2 (tok t i) k) := by
  blk_ext [iblk, V, idx t]
theorem rd3 (t : Fin cfg0.N) (i k) : (iblk m c 3 t : S512x2048.Idx → EReal) (ix2 i k) = a4 m c (ix2 (tok t i) k) := by
  blk_ext [iblk, V, idx t]
theorem rd4 (t : Fin cfg0.N) (n k) : (iblk m c 4 t : S3328x1024.Idx → EReal) (ix2 n k) = a5 m c (ix2 k n) := by
  blk_simp [iblk]
  entry_read
  pointwise
  blk_ext [idx t]
theorem rd5 (t : Fin cfg0.N) (i k) : (iblk m c 5 t : S512x1024.Idx → EReal) (ix2 i k) = a6 m c (ix2 (tok t i) k) := by
  blk_ext [iblk, V, idx t]
theorem rd6 (t : Fin cfg0.N) (i k) : (iblk m c 6 t : S512x1024.Idx → EReal) (ix2 i k) = a7 m c (ix2 (tok t i) k) := by
  blk_ext [iblk, V, idx t]
theorem rd7 (t : Fin cfg0.N) (i k) : (iblk m c 7 t : S1x1024.Idx → EReal) (ix2 i k) = a8 m c (ix2 i k) := by
  blk_ext [iblk, V, idx t]

/-- A sum over the projection's columns, part by part. -/
theorem sum_parts (f : Fin 3328 → EReal) : ∑ r : Fin 3328, f r
    = ((∑ r : Fin 512, f ⟨r.val, by omega⟩ + ∑ r : Fin 512, f ⟨512 + r.val, by omega⟩) + ∑ r : Fin 256, f ⟨1024 + r.val, by omega⟩)
      + ∑ r : Fin 2048, f ⟨1280 + r.val, by omega⟩ :=
  (Fin.sum_univ_add (a := 1280) (b := 2048) f).trans (congrArg (· + _)
    ((Fin.sum_univ_add (a := 1024) (b := 256) fun r => f (Fin.castAdd 2048 r)).trans (congrArg (· + _)
      (Fin.sum_univ_add (a := 512) (b := 512) fun r => f (Fin.castAdd 2048 (Fin.castAdd 256 r))))))

section
variable (A : S8192x512.Idx → EReal) (B : S8192x512.Idx → EReal) (C : S8192x256.Idx → EReal) (D : S8192x2048.Idx → EReal)
variable (W : S1024x3328.Idx → EReal) (X H : S8192x1024.Idx → EReal) (g : S1x1024.Idx → EReal)

/-- The normed rows' gradient. -/
def du (i : Fin 8192) (k : Fin 1024) : EReal := ∑ r : Fin 3328, side A B C D i r * W (ix2 k r)
def Du (x : S8192x1024.Idx) : EReal := du A B C D W (x 0) (x 1)

/-- A row's mean square and small constant, and the row over their root. -/
def ms (i : Fin 8192) : EReal :=
  Ideal.div (∑ l : Fin 1024, X (ix2 i l) * X (ix2 i l)) (Ideal.ofBits .f32 0x44800000#32) + Ideal.ofBits .f32 0x3727C5AC#32
def xh (i : Fin 8192) (k : Fin 1024) : EReal := X (ix2 i k) * Ideal.rsqrt (ms X i)

/-- The rows' gradient, in the factored form, and the scale's gradient. -/
def dx (i : Fin 8192) (k : Fin 1024) : EReal := H (ix2 i k) + Ideal.rsqrt (ms X i) * (du A B C D W i k * g (ix2 0 k)
  - xh X i k * Ideal.div (∑ l : Fin 1024, du A B C D W i l * g (ix2 0 l) * xh X i l) (Ideal.ofBits .f32 0x44800000#32))
def Dx (x : S8192x1024.Idx) : EReal := dx A B C D W X H g (x 0) (x 1)
def Dg (x : S1x1024.Idx) : EReal := ∑ i : Fin 8192, du A B C D W i (x 1) * xh X i (x 1)
end

/-- What a point adds to the scale's gradient. -/
def term (t : Fin cfg0.N) (y : S1x1024.Idx) : EReal :=
  ∑ i : Fin 512, du (a1 m c) (a2 m c) (a3 m c) (a4 m c) (a5 m c) (tok t i) (y 1) * xh (a6 m c) (tok t i) (y 1)

/-- The rows of the weight that one part reads. -/
theorem ld {o H : ℕ} (inb : ∀ a, (![o, 0] : Fin 2 → ℕ) a + (![H, 1024] : Fin 2 → ℕ) a ≤ S3328x1024.size a) (Z : S3328x1024.Idx → Elt Ideal .bf16)
    (i : Fin 3328) (k : Fin 1024) (r : Fin H) (h : o + r.val = i.val) :
    View.ld Z (Rect.unit (s := S3328x1024) ![o, 0] ![H, 1024] inb) (ix2 r k) = Z (ix2 i k) := by
  refine congrArg Z ?_
  funext a
  refine Fin.ext ?_
  fin_cases a
  · show o + 1 * r.val = i.val; omega
  · show 0 + 1 * k.val = k.val; omega

theorem pay5 (u1 w1 u2 w2 u3 w3 u4 w4) (i j) : (k0_pay5 (F := Ideal) u1 w1 u2 w2 u3 w3 u4 w4 (ix2 i j) : EReal)
    = ((∑ r : Fin 512, u1 (ix2 i r) * w1 (ix2 r j) + ∑ r : Fin 512, u2 (ix2 i r) * w2 (ix2 r j)) + ∑ r : Fin 256, u3 (ix2 i r) * w3 (ix2 r j))
      + ∑ r : Fin 2048, u4 (ix2 i r) * w4 (ix2 r j) := by
  pointwise [k0_pay5]

/-- The normed rows' gradient of a point's block, -/
theorem gdu (t : Fin cfg0.N) (b1 b2 b3 b4) (i : Fin 512) (j : Fin 1024) :
    (k0_pay5 (F := Ideal) (iblk m c 0 t) (View.ld (iblk m c 4 t) (Rect.unit (s := S3328x1024) ![0, 0] ![512, 1024] b1))
      (iblk m c 1 t) (View.ld (iblk m c 4 t) (Rect.unit (s := S3328x1024) ![512, 0] ![512, 1024] b2))
      (iblk m c 2 t) (View.ld (iblk m c 4 t) (Rect.unit (s := S3328x1024) ![1024, 0] ![256, 1024] b3))
      (iblk m c 3 t) (View.ld (iblk m c 4 t) (Rect.unit (s := S3328x1024) ![1280, 0] ![2048, 1024] b4)) (ix2 i j) : EReal)
      = du (a1 m c) (a2 m c) (a3 m c) (a4 m c) (a5 m c) (tok t i) j := by
  refine (pay5 _ _ _ _ _ _ _ _ _ _).trans (Eq.trans ?_ (sum_parts _).symm)
  refine congrArg₂ (· + ·) (congrArg₂ (· + ·) (congrArg₂ (· + ·) ?_ ?_) ?_) ?_ <;> refine Finset.sum_congr rfl fun r _ => congrArg₂ (· * ·) ?_ ?_
  · exact (rd0 m c t i r).trans (side1 _ _ _ _ _ _ r (by show r.val = 0 + r.val; omega)).symm
  · exact (ld b1 _ ⟨r.val, by omega⟩ j r (by show 0 + r.val = r.val; omega)).trans (rd4 m c t _ _)
  · exact (rd1 m c t i r).trans (side2 _ _ _ _ _ _ r rfl).symm
  · exact (ld b2 _ ⟨512 + r.val, by omega⟩ j r rfl).trans (rd4 m c t _ _)
  · exact (rd2 m c t i r).trans (side3 _ _ _ _ _ _ r rfl).symm
  · exact (ld b3 _ ⟨1024 + r.val, by omega⟩ j r rfl).trans (rd4 m c t _ _)
  · exact (rd3 m c t i r).trans (side4 _ _ _ _ _ _ r rfl).symm
  · exact (ld b4 _ ⟨1280 + r.val, by omega⟩ j r rfl).trans (rd4 m c t _ _)

/-- and its rows' roots. -/
theorem gr (t : Fin cfg0.N) (i : Fin 512) (j : Fin 1) : (k0_pay6 (F := Ideal) (iblk m c 5 t) (ix2 i j) : EReal) = Ideal.rsqrt (ms (a6 m c) (tok t i)) := by
  pointwise [k0_pay6]
  simp only [rd5]
  rfl

/-- What the scale's block gains, -/
theorem pay2 (t : Fin cfg0.N) (d : S512x1024.Idx → EReal) (hd : ∀ i j, d (ix2 i j) = du (a1 m c) (a2 m c) (a3 m c) (a4 m c) (a5 m c) (tok t i) j) (v i j) :
    (k0_pay2 (F := Ideal) d (iblk m c 5 t) (k0_pay6 (iblk m c 5 t)) v (ix2 i j) : EReal) = v (ix2 i j) + term m c t (ix2 i j) := by
  pointwise [k0_pay2, k0_pay1]
  simp only [hd, gr, rd5]
  first
    | rfl
    | (fin_cases i; rfl)

/-- and the rows' gradient of a point's block. -/
theorem pay3 (t : Fin cfg0.N) (d : S512x1024.Idx → EReal) (hd : ∀ i j, d (ix2 i j) = du (a1 m c) (a2 m c) (a3 m c) (a4 m c) (a5 m c) (tok t i) j) (i j) :
    (k0_pay3 (F := Ideal) d (iblk m c 5 t) (k0_pay6 (iblk m c 5 t)) (iblk m c 7 t) (iblk m c 6 t) (ix2 i j) : EReal)
      = dx (a1 m c) (a2 m c) (a3 m c) (a4 m c) (a5 m c) (a6 m c) (a7 m c) (a8 m c) (tok t i) j := by
  pointwise [k0_pay3, k0_pay1]
  simp only [hd, gr, rd5, rd6, rd7]
  rfl

/-- The rows' block written at a point. -/
theorem o8 (t : Fin cfg0.N) (y) : ((outsAt0 m c t.val t.isLt).1 y : EReal)
    = dx (a1 m c) (a2 m c) (a3 m c) (a4 m c) (a5 m c) (a6 m c) (a7 m c) (a8 m c) (tok t (y 0)) (y 1) := by
  have e := pay3 m c t
  have d := gdu m c t
  idx_vars y
  by_cases h0 : t.val % 16 = 0
  · rw [outsAt0_A m c t h0]
    frame_open
    frame_out
    exact e _ (d _ _ _ _) _ _
  · rw [outsAt0_B m c t h0]
    frame_open
    frame_out
    exact e _ (d _ _ _ _) _ _

/-- The scale's block: cleared and added to at the first point, -/
theorem sA (t : Fin cfg0.N) (h0 : t.val % 16 = 0) (y) : ((outsAt0 m c t.val t.isLt).2 y : EReal) = 0 + term m c t y := by
  have e := pay2 m c t
  have d := gdu m c t
  idx_vars y
  rw [outsAt0_A m c t h0]
  frame_open
  simp (disch := decide) only [↓ View.readCov_skip, ↓ View.readCov_cons_toLoadRect, ↓ View.readCov_fill]
  frame_out
  refine (e _ (d _ _ _ _) _ _ _).trans (congrArg (· + _) ?_)
  pointwise [k0_pay4]

/-- and added to at every later one. -/
theorem sB (t : Fin cfg0.N) (h0 : ¬ t.val % 16 = 0) (y) : ((outsAt0 m c t.val t.isLt).2 y : EReal)
    = (outsAt0 m c (t.val - 1) (Nat.lt_of_le_of_lt (Nat.sub_le _ _) t.isLt)).2 y + term m c t y := by
  have e := pay2 m c t
  have d := gdu m c t
  idx_vars y
  rw [outsAt0_B m c t h0]
  frame_open
  simp (disch := decide) only [↓ View.readCov_skip, ↓ View.readCov_cons_toLoadRect, ↓ View.readCov_fill]
  frame_out
  exact e _ (d _ _ _ _) _ _ _

/-- The rows' gradient after the last point, -/
theorem final8 : (dats m 0 c).arrAt 8 cfg0.N = Dx (a1 m c) (a2 m c) (a3 m c) (a4 m c) (a5 m c) (a6 m c) (a7 m c) (a8 m c) := by
  refine (dats m 0 c).arrAt_eq_of_covers 8 _ (by decide +kernel) fun t hf y => ?_
  have o := o8 m c t
  blk_simp
  rw [after0_8]
  idx_vars y
  refine (o _).trans ?_
  refine Eq.trans (b := Dx (a1 m c) (a2 m c) (a3 m c) (a4 m c) (a5 m c) (a6 m c) (a7 m c) (a8 m c) (ix2 (tok t y0) y1)) rfl ?_
  blk_ext [idx t]

/-- and the scale's gradient. -/
theorem final9 : (dats m 0 c).arrAt 9 cfg0.N = Dg (a1 m c) (a2 m c) (a3 m c) (a4 m c) (a5 m c) (a6 m c) := by
  refine (dats m 0 c).arrAt_eq_of_covers 9 _ (by decide +kernel) fun t hf y => ?_
  have ht := (flush0_9 t).mp hf
  have lt := lt16 t
  have hs := (Pipeline.eq_sum_fin_of_reset_step_apply_of_flush (M := EReal) (fun n h => (outsAt0 m c n h).2) 16 (fun _ => 0) (term m c)
    (sA m c) (sB m c) t ht)
  blk_simp
  rw [after0_9]
  idx_vars y
  refine (hs _).trans ((zero_add _).trans ?_)
  refine Eq.trans (b := Dg (a1 m c) (a2 m c) (a3 m c) (a4 m c) (a5 m c) (a6 m c) (ix2 y0 y1)) ?_ (by blk_ext [idx t])
  refine Fin.sum_mul_add_congr (S := 16) (n := 512) fun s k hl => ?_
  exact congrArg (fun p => du (a1 m c) (a2 m c) (a3 m c) (a4 m c) (a5 m c) p y1 * xh (a6 m c) p y1)
    (Fin.ext (by show (16 * (t.val / 16) + s.val) * 512 + k.val = s.val * 512 + k.val; omega))

section
variable (A B : FVec Ideal S8192x512 .bf16) (C : FVec Ideal S8192x256 .bf16) (D : FVec Ideal S8192x2048 .bf16)
variable (W : FVec Ideal S1024x3328 .f32) (X H : FVec Ideal S8192x1024 .f32) (g : FVec Ideal S1x1024 .f32)

/-- The reference's product is the normed rows' gradient, -/
theorem rdu : ((Host.dotGeneral (φ₁ := .f32) (φ₂ := .f32) Cert.RefInBwdIdeal.dot_S8192x3328_S1024x3328_S8192x1024_1_1_0_0_n_n none (addf (addf (addf (pad Cert.RefInBwdIdeal.S8192x3328 ![0, 1280] ![0, 0] ![0, 0] (extf .f32 D Cert.RefInBwdIdeal.Gen.bitsLt_bf16_f32) (constant Cert.RefInBwdIdeal.S_ .f32 0x00000000#32) Cert.RefInBwdIdeal.Gen.pads_S8192x2048_S8192x3328_000_128000 Cert.RefInBwdIdeal.Gen.h_S_) (pad Cert.RefInBwdIdeal.S8192x3328 ![0, 1024] ![0, 2048] ![0, 0] (extf .f32 C Cert.RefInBwdIdeal.Gen.bitsLt_bf16_f32) (constant Cert.RefInBwdIdeal.S_ .f32 0x00000000#32) Cert.RefInBwdIdeal.Gen.pads_S8192x256_S8192x3328_000_102420480 Cert.RefInBwdIdeal.Gen.h_S_)) (pad Cert.RefInBwdIdeal.S8192x3328 ![0, 512] ![0, 2304] ![0, 0] (extf .f32 B Cert.RefInBwdIdeal.Gen.bitsLt_bf16_f32) (constant Cert.RefInBwdIdeal.S_ .f32 0x00000000#32) Cert.RefInBwdIdeal.Gen.pads_S8192x512_S8192x3328_000_51223040 Cert.RefInBwdIdeal.Gen.h_S_)) (pad Cert.RefInBwdIdeal.S8192x3328 ![0, 0] ![0, 2816] ![0, 0] (extf .f32 A Cert.RefInBwdIdeal.Gen.bitsLt_bf16_f32) (constant Cert.RefInBwdIdeal.S_ .f32 0x00000000#32) Cert.RefInBwdIdeal.Gen.pads_S8192x512_S8192x3328_000_028160 Cert.RefInBwdIdeal.Gen.h_S_)) W) : FVec Ideal S8192x1024 .f32) = Du A B C D W := by
  funext x
  idx_vars x
  pointwise
  exact Finset.sum_congr rfl fun r _ => congrArg (· * W (ix2 x1 r)) (side_sum A B C D x0 r)

/-- its rows' gradient the factored form, -/
theorem ref8 : (addf H (addf (addf (mulf (mulf (Host.dotGeneral (φ₁ := .f32) (φ₂ := .f32) Cert.RefInBwdIdeal.dot_S8192x3328_S1024x3328_S8192x1024_1_1_0_0_n_n none (addf (addf (addf (pad Cert.RefInBwdIdeal.S8192x3328 ![0, 1280] ![0, 0] ![0, 0] (extf .f32 D Cert.RefInBwdIdeal.Gen.bitsLt_bf16_f32) (constant Cert.RefInBwdIdeal.S_ .f32 0x00000000#32) Cert.RefInBwdIdeal.Gen.pads_S8192x2048_S8192x3328_000_128000 Cert.RefInBwdIdeal.Gen.h_S_) (pad Cert.RefInBwdIdeal.S8192x3328 ![0, 1024] ![0, 2048] ![0, 0] (extf .f32 C Cert.RefInBwdIdeal.Gen.bitsLt_bf16_f32) (constant Cert.RefInBwdIdeal.S_ .f32 0x00000000#32) Cert.RefInBwdIdeal.Gen.pads_S8192x256_S8192x3328_000_102420480 Cert.RefInBwdIdeal.Gen.h_S_)) (pad Cert.RefInBwdIdeal.S8192x3328 ![0, 512] ![0, 2304] ![0, 0] (extf .f32 B Cert.RefInBwdIdeal.Gen.bitsLt_bf16_f32) (constant Cert.RefInBwdIdeal.S_ .f32 0x00000000#32) Cert.RefInBwdIdeal.Gen.pads_S8192x512_S8192x3328_000_51223040 Cert.RefInBwdIdeal.Gen.h_S_)) (pad Cert.RefInBwdIdeal.S8192x3328 ![0, 0] ![0, 2816] ![0, 0] (extf .f32 A Cert.RefInBwdIdeal.Gen.bitsLt_bf16_f32) (constant Cert.RefInBwdIdeal.S_ .f32 0x00000000#32) Cert.RefInBwdIdeal.Gen.pads_S8192x512_S8192x3328_000_028160 Cert.RefInBwdIdeal.Gen.h_S_)) W) (broadcastInDim Cert.RefInBwdIdeal.S8192x1024 ![0, 1] Cert.RefInBwdIdeal.Gen.bcast_S1x1024_S8192x1024_0_1 g)) (broadcastInDim Cert.RefInBwdIdeal.S8192x1024 ![0, 1] Cert.RefInBwdIdeal.Gen.bcast_S8192x1_S8192x1024_0_1 (Host.rsqrt (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))))) (mulf X (broadcastInDim Cert.RefInBwdIdeal.S8192x1024 ![0] Cert.RefInBwdIdeal.Gen.bcast_S8192_S8192x1024_0 (Host.reduceAdd (Host.divf (mulf (shapeCast _ (Host.reduceAdd (mulf X (mulf (Host.dotGeneral (φ₁ := .f32) (φ₂ := .f32) Cert.RefInBwdIdeal.dot_S8192x3328_S1024x3328_S8192x1024_1_1_0_0_n_n none (addf (addf (addf (pad Cert.RefInBwdIdeal.S8192x3328 ![0, 1280] ![0, 0] ![0, 0] (extf .f32 D Cert.RefInBwdIdeal.Gen.bitsLt_bf16_f32) (constant Cert.RefInBwdIdeal.S_ .f32 0x00000000#32) Cert.RefInBwdIdeal.Gen.pads_S8192x2048_S8192x3328_000_128000 Cert.RefInBwdIdeal.Gen.h_S_) (pad Cert.RefInBwdIdeal.S8192x3328 ![0, 1024] ![0, 2048] ![0, 0] (extf .f32 C Cert.RefInBwdIdeal.Gen.bitsLt_bf16_f32) (constant Cert.RefInBwdIdeal.S_ .f32 0x00000000#32) Cert.RefInBwdIdeal.Gen.pads_S8192x256_S8192x3328_000_102420480 Cert.RefInBwdIdeal.Gen.h_S_)) (pad Cert.RefInBwdIdeal.S8192x3328 ![0, 512] ![0, 2304] ![0, 0] (extf .f32 B Cert.RefInBwdIdeal.Gen.bitsLt_bf16_f32) (constant Cert.RefInBwdIdeal.S_ .f32 0x00000000#32) Cert.RefInBwdIdeal.Gen.pads_S8192x512_S8192x3328_000_51223040 Cert.RefInBwdIdeal.Gen.h_S_)) (pad Cert.RefInBwdIdeal.S8192x3328 ![0, 0] ![0, 2816] ![0, 0] (extf .f32 A Cert.RefInBwdIdeal.Gen.bitsLt_bf16_f32) (constant Cert.RefInBwdIdeal.S_ .f32 0x00000000#32) Cert.RefInBwdIdeal.Gen.pads_S8192x512_S8192x3328_000_028160 Cert.RefInBwdIdeal.Gen.h_S_)) W) (broadcastInDim Cert.RefInBwdIdeal.S8192x1024 ![0, 1] Cert.RefInBwdIdeal.Gen.bcast_S1x1024_S8192x1024_0_1 g))) (constant Cert.RefInBwdIdeal.S_ .f32 0x00000000#32) Cert.RefInBwdIdeal.Gen.reducesTo_S8192x1024_S8192_d1 Cert.RefInBwdIdeal.Gen.h_S_) Cert.RefInBwdIdeal.Gen.shapeCasts_S8192_S8192x1) (mulf (broadcastInDim Cert.RefInBwdIdeal.S8192x1 ![] Cert.RefInBwdIdeal.Gen.bcast_S_S8192x1 (constant Cert.RefInBwdIdeal.S_ .f32 0xBF000000#32)) (Host.divf (Host.rsqrt (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))) (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))))) (broadcastInDim Cert.RefInBwdIdeal.S8192x1 ![] Cert.RefInBwdIdeal.Gen.bcast_S_S8192x1 (constant Cert.RefInBwdIdeal.S_ .f32 0x44800000#32))) (constant Cert.RefInBwdIdeal.S_ .f32 0x00000000#32) Cert.RefInBwdIdeal.Gen.reducesTo_S8192x1_S8192_d1 Cert.RefInBwdIdeal.Gen.h_S_)))) (mulf (broadcastInDim Cert.RefInBwdIdeal.S8192x1024 ![0] Cert.RefInBwdIdeal.Gen.bcast_S8192_S8192x1024_0 (Host.reduceAdd (Host.divf (mulf (shapeCast _ (Host.reduceAdd (mulf X (mulf (Host.dotGeneral (φ₁ := .f32) (φ₂ := .f32) Cert.RefInBwdIdeal.dot_S8192x3328_S1024x3328_S8192x1024_1_1_0_0_n_n none (addf (addf (addf (pad Cert.RefInBwdIdeal.S8192x3328 ![0, 1280] ![0, 0] ![0, 0] (extf .f32 D Cert.RefInBwdIdeal.Gen.bitsLt_bf16_f32) (constant Cert.RefInBwdIdeal.S_ .f32 0x00000000#32) Cert.RefInBwdIdeal.Gen.pads_S8192x2048_S8192x3328_000_128000 Cert.RefInBwdIdeal.Gen.h_S_) (pad Cert.RefInBwdIdeal.S8192x3328 ![0, 1024] ![0, 2048] ![0, 0] (extf .f32 C Cert.RefInBwdIdeal.Gen.bitsLt_bf16_f32) (constant Cert.RefInBwdIdeal.S_ .f32 0x00000000#32) Cert.RefInBwdIdeal.Gen.pads_S8192x256_S8192x3328_000_102420480 Cert.RefInBwdIdeal.Gen.h_S_)) (pad Cert.RefInBwdIdeal.S8192x3328 ![0, 512] ![0, 2304] ![0, 0] (extf .f32 B Cert.RefInBwdIdeal.Gen.bitsLt_bf16_f32) (constant Cert.RefInBwdIdeal.S_ .f32 0x00000000#32) Cert.RefInBwdIdeal.Gen.pads_S8192x512_S8192x3328_000_51223040 Cert.RefInBwdIdeal.Gen.h_S_)) (pad Cert.RefInBwdIdeal.S8192x3328 ![0, 0] ![0, 2816] ![0, 0] (extf .f32 A Cert.RefInBwdIdeal.Gen.bitsLt_bf16_f32) (constant Cert.RefInBwdIdeal.S_ .f32 0x00000000#32) Cert.RefInBwdIdeal.Gen.pads_S8192x512_S8192x3328_000_028160 Cert.RefInBwdIdeal.Gen.h_S_)) W) (broadcastInDim Cert.RefInBwdIdeal.S8192x1024 ![0, 1] Cert.RefInBwdIdeal.Gen.bcast_S1x1024_S8192x1024_0_1 g))) (constant Cert.RefInBwdIdeal.S_ .f32 0x00000000#32) Cert.RefInBwdIdeal.Gen.reducesTo_S8192x1024_S8192_d1 Cert.RefInBwdIdeal.Gen.h_S_) Cert.RefInBwdIdeal.Gen.shapeCasts_S8192_S8192x1) (mulf (broadcastInDim Cert.RefInBwdIdeal.S8192x1 ![] Cert.RefInBwdIdeal.Gen.bcast_S_S8192x1 (constant Cert.RefInBwdIdeal.S_ .f32 0xBF000000#32)) (Host.divf (Host.rsqrt (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))) (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))))) (broadcastInDim Cert.RefInBwdIdeal.S8192x1 ![] Cert.RefInBwdIdeal.Gen.bcast_S_S8192x1 (constant Cert.RefInBwdIdeal.S_ .f32 0x44800000#32))) (constant Cert.RefInBwdIdeal.S_ .f32 0x00000000#32) Cert.RefInBwdIdeal.Gen.reducesTo_S8192x1_S8192_d1 Cert.RefInBwdIdeal.Gen.h_S_)) X)) : FVec Ideal S8192x1024 .f32) = Dx A B C D W X H g := by
  have e := rdu A B C D W
  obtain ⟨z, hz, hc⟩ := ceps
  rw [e]
  funext x
  idx_vars x
  pointwise
  have hm : Ideal.div (∑ l : Fin 1024, X (ix2 x0 l) * X (ix2 x0 l)) ((1024 : ℝ) : EReal) + Ideal.ofBits .f32 0x3727C5AC#32 = ms X x0 := by
    unfold ms
    rw [c1024]
  simp only [Finset.univ_unique, Finset.sum_singleton, Fin.default_eq_zero, c1024, cneghalf, hm]
  refine congrArg (H (ix2 x0 x1) + ·) ?_
  refine (rms_bwd (fun k => X (ix2 x0 k)) (fun k => du A B C D W x0 k * g (ix2 0 k)) z hz (ms X x0) (by rw [← hm, hc]) x1).symm.trans ?_
  rw [c1024]
  rfl

omit A B C D W X H g in
/-- as it is stated of its run, -/
theorem ref8_run (m' : (ℓ : Loc Cert.RefInBwdIdeal.nD Cert.RefInBwdIdeal.τ Cert.RefInBwdIdeal.sig) → Buf (Elt Ideal) ℓ) (c : Dev Cert.RefInBwdIdeal.nD) :
    Cert.RefInBwdIdeal.Value.res_main_v51 m' c = Dx (m' ((c.tc : Thread Cert.RefInBwdIdeal.nD Cert.RefInBwdIdeal.τ).loc Cert.RefInBwdIdeal.main_arg1)) (m' ((c.tc : Thread Cert.RefInBwdIdeal.nD Cert.RefInBwdIdeal.τ).loc Cert.RefInBwdIdeal.main_arg2)) (m' ((c.tc : Thread Cert.RefInBwdIdeal.nD Cert.RefInBwdIdeal.τ).loc Cert.RefInBwdIdeal.main_arg3)) (m' ((c.tc : Thread Cert.RefInBwdIdeal.nD Cert.RefInBwdIdeal.τ).loc Cert.RefInBwdIdeal.main_arg4)) (m' ((c.tc : Thread Cert.RefInBwdIdeal.nD Cert.RefInBwdIdeal.τ).loc Cert.RefInBwdIdeal.main_arg5)) (m' ((c.tc : Thread Cert.RefInBwdIdeal.nD Cert.RefInBwdIdeal.τ).loc Cert.RefInBwdIdeal.main_arg6)) (m' ((c.tc : Thread Cert.RefInBwdIdeal.nD Cert.RefInBwdIdeal.τ).loc Cert.RefInBwdIdeal.main_arg7)) (m' ((c.tc : Thread Cert.RefInBwdIdeal.nD Cert.RefInBwdIdeal.τ).loc Cert.RefInBwdIdeal.main_arg8)) :=
  ref8 (m' ((c.tc : Thread Cert.RefInBwdIdeal.nD Cert.RefInBwdIdeal.τ).loc Cert.RefInBwdIdeal.main_arg1)) (m' ((c.tc : Thread Cert.RefInBwdIdeal.nD Cert.RefInBwdIdeal.τ).loc Cert.RefInBwdIdeal.main_arg2)) (m' ((c.tc : Thread Cert.RefInBwdIdeal.nD Cert.RefInBwdIdeal.τ).loc Cert.RefInBwdIdeal.main_arg3)) (m' ((c.tc : Thread Cert.RefInBwdIdeal.nD Cert.RefInBwdIdeal.τ).loc Cert.RefInBwdIdeal.main_arg4)) (m' ((c.tc : Thread Cert.RefInBwdIdeal.nD Cert.RefInBwdIdeal.τ).loc Cert.RefInBwdIdeal.main_arg5)) (m' ((c.tc : Thread Cert.RefInBwdIdeal.nD Cert.RefInBwdIdeal.τ).loc Cert.RefInBwdIdeal.main_arg6)) (m' ((c.tc : Thread Cert.RefInBwdIdeal.nD Cert.RefInBwdIdeal.τ).loc Cert.RefInBwdIdeal.main_arg7)) (m' ((c.tc : Thread Cert.RefInBwdIdeal.nD Cert.RefInBwdIdeal.τ).loc Cert.RefInBwdIdeal.main_arg8))

/-- and its scale's gradient the sum over the rows. -/
theorem ref9 : (shapeCast _ (Host.reduceAdd (mulf (mulf X (broadcastInDim Cert.RefInBwdIdeal.S8192x1024 ![0, 1] Cert.RefInBwdIdeal.Gen.bcast_S8192x1_S8192x1024_0_1 (Host.rsqrt (addf (Host.divf (broadcastInDim Cert.RefInBwdIdeal.S8192x1 ![0] Cert.RefInBwdIdeal.Gen.bcast_S8192_S8192x1_0 (Host.reduceAdd (mulf X X) (constant Cert.RefInBwdIdeal.S_ .f32 0x00000000#32) Cert.RefInBwdIdeal.Gen.reducesTo_S8192x1024_S8192_d1 Cert.RefInBwdIdeal.Gen.h_S_)) (broadcastInDim Cert.RefInBwdIdeal.S8192x1 ![] Cert.RefInBwdIdeal.Gen.bcast_S_S8192x1 (constant Cert.RefInBwdIdeal.S_ .f32 0x44800000#32))) (broadcastInDim Cert.RefInBwdIdeal.S8192x1 ![] Cert.RefInBwdIdeal.Gen.bcast_S_S8192x1 (constant Cert.RefInBwdIdeal.S_ .f32 0x3727C5AC#32)))))) (Host.dotGeneral (φ₁ := .f32) (φ₂ := .f32) Cert.RefInBwdIdeal.dot_S8192x3328_S1024x3328_S8192x1024_1_1_0_0_n_n none (addf (addf (addf (pad Cert.RefInBwdIdeal.S8192x3328 ![0, 1280] ![0, 0] ![0, 0] (extf .f32 D Cert.RefInBwdIdeal.Gen.bitsLt_bf16_f32) (constant Cert.RefInBwdIdeal.S_ .f32 0x00000000#32) Cert.RefInBwdIdeal.Gen.pads_S8192x2048_S8192x3328_000_128000 Cert.RefInBwdIdeal.Gen.h_S_) (pad Cert.RefInBwdIdeal.S8192x3328 ![0, 1024] ![0, 2048] ![0, 0] (extf .f32 C Cert.RefInBwdIdeal.Gen.bitsLt_bf16_f32) (constant Cert.RefInBwdIdeal.S_ .f32 0x00000000#32) Cert.RefInBwdIdeal.Gen.pads_S8192x256_S8192x3328_000_102420480 Cert.RefInBwdIdeal.Gen.h_S_)) (pad Cert.RefInBwdIdeal.S8192x3328 ![0, 512] ![0, 2304] ![0, 0] (extf .f32 B Cert.RefInBwdIdeal.Gen.bitsLt_bf16_f32) (constant Cert.RefInBwdIdeal.S_ .f32 0x00000000#32) Cert.RefInBwdIdeal.Gen.pads_S8192x512_S8192x3328_000_51223040 Cert.RefInBwdIdeal.Gen.h_S_)) (pad Cert.RefInBwdIdeal.S8192x3328 ![0, 0] ![0, 2816] ![0, 0] (extf .f32 A Cert.RefInBwdIdeal.Gen.bitsLt_bf16_f32) (constant Cert.RefInBwdIdeal.S_ .f32 0x00000000#32) Cert.RefInBwdIdeal.Gen.pads_S8192x512_S8192x3328_000_028160 Cert.RefInBwdIdeal.Gen.h_S_)) W)) (constant Cert.RefInBwdIdeal.S_ .f32 0x00000000#32) Cert.RefInBwdIdeal.Gen.reducesTo_S8192x1024_S1024_d0 Cert.RefInBwdIdeal.Gen.h_S_) Cert.RefInBwdIdeal.Gen.shapeCasts_S1024_S1x1024 : FVec Ideal S1x1024 .f32) = Dg A B C D W X := by
  have e := rdu A B C D W
  rw [e]
  funext x
  idx_vars x
  pointwise
  exact Finset.sum_congr rfl fun i _ => mul_comm _ _
end

end Cert.InB

end
-- ==== Proof.InF.lean ====
/-
  The input projection: the rows' root-mean-square norm, scaled, times the weight, cut in its four parts. The grid
  walks the rows in sixteen blocks of 512.
-/
module

public import proofs.«01_k».proof.Proof.Gen.FwdInIdeal.Value
public import proofs.«01_k».proof.Proof.Gen.RefFwdInIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.InF

open Cert.FwdInIdeal Cert.FwdInIdeal.Gen Idealize.ShloMosaic Idealize.ShloMosaic.TcCoe Idealize.SL.Sem

variable (m : (ℓ : Loc nD τ sig) → Buf (Elt Ideal) ℓ) (c : Dev nD)

/-- The rows, the norm's scale and the weight. -/
abbrev a1 : S8192x1024.Idx → EReal := m ((c : Thread nD τ).loc main_arg1)
abbrev a2 : S1x1024.Idx → EReal := m ((c : Thread nD τ).loc main_arg2)
abbrev a3 : S1024x3328.Idx → EReal := m ((c : Thread nD τ).loc main_arg3)

theorem lt16 (t : Fin cfg0.N) : t.val < 16 := lt_of_lt_of_eq t.isLt N_0

/-- The token of row `i` of point `t`'s blocks. -/
abbrev tok (t : Fin cfg0.N) (i : Fin 512) : Fin 8192 := ⟨t.val * 512 + i.val, by have := lt16 t; omega⟩

/-- Where the windows' blocks lie. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem rd0 (t : Fin cfg0.N) (i k) : (iblk m c 0 t : S512x1024.Idx → EReal) (ix2 i k) = a1 m c (ix2 (tok t i) k) := by
  blk_ext [iblk, V, idx t]
theorem rd1 (t : Fin cfg0.N) (i k) : (iblk m c 1 t : S1x1024.Idx → EReal) (ix2 i k) = a2 m c (ix2 i k) := by
  blk_ext [iblk, V, idx t]
theorem rd2 (t : Fin cfg0.N) (n k) : (iblk m c 2 t : S3328x1024.Idx → EReal) (ix2 n k) = a3 m c (ix2 k n) := by
  blk_simp [iblk]
  entry_read
  pointwise
  blk_ext [idx t]

/-- The normed rows. -/
def nrm (X : S8192x1024.Idx → EReal) (g : S1x1024.Idx → EReal) (i : Fin 8192) (k : Fin 1024) : EReal :=
  X (ix2 i k) * Ideal.rsqrt (Ideal.div (∑ l : Fin 1024, X (ix2 i l) * X (ix2 i l)) (Ideal.ofBits .f32 0x44800000#32) + Ideal.ofBits .f32 0x3727C5AC#32)
    * g (ix2 0 k)

/-- The normed rows times a column of the weight. -/
def proj (X : S8192x1024.Idx → EReal) (g : S1x1024.Idx → EReal) (W : S1024x3328.Idx → EReal) (i : Fin 8192) (n : Fin 3328) : EReal :=
  ∑ k : Fin 1024, nrm X g i k * W (ix2 k n)

theorem pay2 (t : Fin cfg0.N) (i k) : (k0_pay2 (F := Ideal) (iblk m c 0 t) (iblk m c 1 t) (ix2 i k) : EReal) = nrm (a1 m c) (a2 m c) (tok t i) k := by
  pointwise [k0_pay2]
  simp only [rd0, rd1]
  rfl

theorem pay3 (u v w) (i j) : (k0_pay3 (F := Ideal) u v w (ix2 i j) : EReal) = ∑ k : Fin 1024, k0_pay2 (F := Ideal) u v (ix2 i k) * w (ix2 j k) := by
  pointwise [k0_pay3]
theorem pay4 (u v w) (i j) : (k0_pay4 (F := Ideal) u v w (ix2 i j) : EReal) = ∑ k : Fin 1024, k0_pay2 (F := Ideal) u v (ix2 i k) * w (ix2 j k) := by
  pointwise [k0_pay4]
theorem pay5 (u v w) (i j) : (k0_pay5 (F := Ideal) u v w (ix2 i j) : EReal) = ∑ k : Fin 1024, k0_pay2 (F := Ideal) u v (ix2 i k) * w (ix2 j k) := by
  pointwise [k0_pay5]
theorem pay1 (p w) (i j) : (k0_pay1 (F := Ideal) p w (ix2 i j) : EReal) = ∑ k : Fin 1024, p (ix2 i k) * w (ix2 j k) := by
  pointwise [k0_pay1]

/-- The rows of the weight that one part reads. -/
theorem ld {o H : ℕ} (inb : ∀ a, (![o, 0] : Fin 2 → ℕ) a + (![H, 1024] : Fin 2 → ℕ) a ≤ S3328x1024.size a) (Z : S3328x1024.Idx → Elt Ideal .bf16)
    (i : Fin 3328) (k : Fin 1024) (r : Fin H) (h : o + r.val = i.val) :
    View.ld Z (Rect.unit (s := S3328x1024) ![o, 0] ![H, 1024] inb) (ix2 r k) = Z (ix2 i k) := by
  refine congrArg Z ?_
  funext a
  refine Fin.ext ?_
  fin_cases a
  · show o + 1 * r.val = i.val; omega
  · show 0 + 1 * k.val = k.val; omega

/-- The block of normed rows written at a point, -/
theorem o3 (t : Fin cfg0.N) (y) : ((outsAt0 m c t).1 y : EReal) = nrm (a1 m c) (a2 m c) (tok t (y 0)) (y 1) := by
  have e := pay2 m c t
  idx_vars y
  dsimp only [outsAt0]
  frame_open
  frame_out
  exact e y0 y1

/-- The columns of the four parts. -/
abbrev at4 (j : Fin 512) : Fin 3328 := ⟨j.val, by omega⟩
abbrev at5 (j : Fin 512) : Fin 3328 := ⟨512 + j.val, by omega⟩
abbrev at6 (j : Fin 256) : Fin 3328 := ⟨1024 + j.val, by omega⟩
abbrev at7 (j : Fin 2048) : Fin 3328 := ⟨1280 + j.val, by omega⟩

/-- and of the four parts. -/
theorem o4 (t : Fin cfg0.N) (y) : ((outsAt0 m c t).2.1 y : EReal) = proj (a1 m c) (a2 m c) (a3 m c) (tok t (y 0)) (at4 (y 1)) := by
  have e := pay2 m c t
  idx_vars y
  frame_open
  frame_out
  refine (pay3 _ _ _ _ _).trans (Finset.sum_congr rfl fun k _ => congrArg₂ (· * ·) (e _ _) ?_)
  exact (ld _ _ (at4 y1) k y1 (by show 0 + y1.val = y1.val; omega)).trans (rd2 m c t _ _)

theorem o5 (t : Fin cfg0.N) (y) : ((outsAt0 m c t).2.2.1 y : EReal) = proj (a1 m c) (a2 m c) (a3 m c) (tok t (y 0)) (at5 (y 1)) := by
  have e := pay2 m c t
  idx_vars y
  frame_open
  frame_out
  refine (pay4 _ _ _ _ _).trans (Finset.sum_congr rfl fun k _ => congrArg₂ (· * ·) (e _ _) ?_)
  exact (ld _ _ (at5 y1) k y1 (by show 512 + y1.val = 512 + y1.val; omega)).trans (rd2 m c t _ _)

theorem o6 (t : Fin cfg0.N) (y) : ((outsAt0 m c t).2.2.2.1 y : EReal) = proj (a1 m c) (a2 m c) (a3 m c) (tok t (y 0)) (at6 (y 1)) := by
  have e := pay2 m c t
  idx_vars y
  frame_open
  frame_out
  refine (pay5 _ _ _ _ _).trans (Finset.sum_congr rfl fun k _ => congrArg₂ (· * ·) (e _ _) ?_)
  exact (ld _ _ (at6 y1) k y1 (by show 1024 + y1.val = 1024 + y1.val; omega)).trans (rd2 m c t _ _)

theorem o7 (t : Fin cfg0.N) (y) : ((outsAt0 m c t).2.2.2.2 y : EReal) = proj (a1 m c) (a2 m c) (a3 m c) (tok t (y 0)) (at7 (y 1)) := by
  have e := pay2 m c t
  idx_vars y
  frame_open
  frame_out
  refine (pay1 _ _ _ _).trans (Finset.sum_congr rfl fun k _ => congrArg₂ (· * ·) (e _ _) ?_)
  exact (ld _ _ (at7 y1) k y1 (by show 1280 + y1.val = 1280 + y1.val; omega)).trans (rd2 m c t _ _)

/-- The five arrays after the last point. -/
def Nrm (X : S8192x1024.Idx → EReal) (g : S1x1024.Idx → EReal) (x : S8192x1024.Idx) : EReal := nrm X g (x 0) (x 1)
def Part4 (X : S8192x1024.Idx → EReal) (g : S1x1024.Idx → EReal) (W : S1024x3328.Idx → EReal) (x : S8192x512.Idx) : EReal :=
  proj X g W (x 0) (at4 (x 1))
def Part5 (X : S8192x1024.Idx → EReal) (g : S1x1024.Idx → EReal) (W : S1024x3328.Idx → EReal) (x : S8192x512.Idx) : EReal :=
  proj X g W (x 0) (at5 (x 1))
def Part6 (X : S8192x1024.Idx → EReal) (g : S1x1024.Idx → EReal) (W : S1024x3328.Idx → EReal) (x : S8192x256.Idx) : EReal :=
  proj X g W (x 0) (at6 (x 1))
def Part7 (X : S8192x1024.Idx → EReal) (g : S1x1024.Idx → EReal) (W : S1024x3328.Idx → EReal) (x : S8192x2048.Idx) : EReal :=
  proj X g W (x 0) (at7 (x 1))

theorem final3 : (dats m 0 c).arrAt 3 cfg0.N = Nrm (a1 m c) (a2 m c) := by
  refine (dats m 0 c).arrAt_eq_of_covers 3 _ (by decide +kernel) fun t hf y => ?_
  have o := o3 m c t
  blk_simp
  rw [after0_3]
  idx_vars y
  refine (o _).trans ?_
  refine Eq.trans (b := Nrm (a1 m c) (a2 m c) (ix2 (tok t y0) y1)) rfl ?_
  blk_ext [idx t]

theorem final4 : (dats m 0 c).arrAt 4 cfg0.N = Part4 (a1 m c) (a2 m c) (a3 m c) := by
  refine (dats m 0 c).arrAt_eq_of_covers 4 _ (by decide +kernel) fun t hf y => ?_
  have o := o4 m c t
  blk_simp
  rw [after0_4]
  idx_vars y
  refine (o _).trans ?_
  refine Eq.trans (b := Part4 (a1 m c) (a2 m c) (a3 m c) (ix2 (tok t y0) y1)) rfl ?_
  blk_ext [idx t]

theorem final5 : (dats m 0 c).arrAt 5 cfg0.N = Part5 (a1 m c) (a2 m c) (a3 m c) := by
  refine (dats m 0 c).arrAt_eq_of_covers 5 _ (by decide +kernel) fun t hf y => ?_
  have o := o5 m c t
  blk_simp
  rw [after0_5]
  idx_vars y
  refine (o _).trans ?_
  refine Eq.trans (b := Part5 (a1 m c) (a2 m c) (a3 m c) (ix2 (tok t y0) y1)) rfl ?_
  blk_ext [idx t]

theorem final6 : (dats m 0 c).arrAt 6 cfg0.N = Part6 (a1 m c) (a2 m c) (a3 m c) := by
  refine (dats m 0 c).arrAt_eq_of_covers 6 _ (by decide +kernel) fun t hf y => ?_
  have o := o6 m c t
  blk_simp
  rw [after0_6]
  idx_vars y
  refine (o _).trans ?_
  refine Eq.trans (b := Part6 (a1 m c) (a2 m c) (a3 m c) (ix2 (tok t y0) y1)) rfl ?_
  blk_ext [idx t]

theorem final7 : (dats m 0 c).arrAt 7 cfg0.N = Part7 (a1 m c) (a2 m c) (a3 m c) := by
  refine (dats m 0 c).arrAt_eq_of_covers 7 _ (by decide +kernel) fun t hf y => ?_
  have o := o7 m c t
  blk_simp
  rw [after0_7]
  idx_vars y
  refine (o _).trans ?_
  refine Eq.trans (b := Part7 (a1 m c) (a2 m c) (a3 m c) (ix2 (tok t y0) y1)) rfl ?_
  blk_ext [idx t]

/-- The reference's five results. -/
theorem ref3 (X : S8192x1024.Idx → EReal) (g : S1x1024.Idx → EReal) :
    (truncf (F := Ideal) .bf16 (mulf (mulf X (broadcastInDim Cert.RefFwdInIdeal.S8192x1024 ![0, 1] Cert.RefFwdInIdeal.Gen.bcast_S8192x1_S8192x1024_0_1 (Host.rsqrt (addf (Host.divf (broadcastInDim Cert.RefFwdInIdeal.S8192x1 ![0] Cert.RefFwdInIdeal.Gen.bcast_S8192_S8192x1_0 (Host.reduceAdd (mulf X X) (constant Cert.RefFwdInIdeal.S_ .f32 0x00000000#32) Cert.RefFwdInIdeal.Gen.reducesTo_S8192x1024_S8192_d1 Cert.RefFwdInIdeal.Gen.h_S_)) (broadcastInDim Cert.RefFwdInIdeal.S8192x1 ![] Cert.RefFwdInIdeal.Gen.bcast_S_S8192x1 (constant Cert.RefFwdInIdeal.S_ .f32 0x44800000#32))) (broadcastInDim Cert.RefFwdInIdeal.S8192x1 ![] Cert.RefFwdInIdeal.Gen.bcast_S_S8192x1 (constant Cert.RefFwdInIdeal.S_ .f32 0x3727C5AC#32)))))) (broadcastInDim Cert.RefFwdInIdeal.S8192x1024 ![0, 1] Cert.RefFwdInIdeal.Gen.bcast_S1x1024_S8192x1024_0_1 g)) Cert.RefFwdInIdeal.Gen.bitsLt_bf16_f32 : S8192x1024.Idx → EReal) = Nrm X g := by
  funext x
  idx_vars x
  pointwise
  rfl

theorem ref4 (X : S8192x1024.Idx → EReal) (g : S1x1024.Idx → EReal) (W : S1024x3328.Idx → EReal) :
    (extractStridedSlice Cert.RefFwdInIdeal.S8192x512 ![0, 0] (truncf (F := Ideal) .bf16 (Host.dotGeneral (φ₁ := .f32) (φ₂ := .f32) Cert.RefFwdInIdeal.dot_S8192x1024_S1024x3328_S8192x3328_1_0_0_1_n_n none (mulf (mulf X (broadcastInDim Cert.RefFwdInIdeal.S8192x1024 ![0, 1] Cert.RefFwdInIdeal.Gen.bcast_S8192x1_S8192x1024_0_1 (Host.rsqrt (addf (Host.divf (broadcastInDim Cert.RefFwdInIdeal.S8192x1 ![0] Cert.RefFwdInIdeal.Gen.bcast_S8192_S8192x1_0 (Host.reduceAdd (mulf X X) (constant Cert.RefFwdInIdeal.S_ .f32 0x00000000#32) Cert.RefFwdInIdeal.Gen.reducesTo_S8192x1024_S8192_d1 Cert.RefFwdInIdeal.Gen.h_S_)) (broadcastInDim Cert.RefFwdInIdeal.S8192x1 ![] Cert.RefFwdInIdeal.Gen.bcast_S_S8192x1 (constant Cert.RefFwdInIdeal.S_ .f32 0x44800000#32))) (broadcastInDim Cert.RefFwdInIdeal.S8192x1 ![] Cert.RefFwdInIdeal.Gen.bcast_S_S8192x1 (constant Cert.RefFwdInIdeal.S_ .f32 0x3727C5AC#32)))))) (broadcastInDim Cert.RefFwdInIdeal.S8192x1024 ![0, 1] Cert.RefFwdInIdeal.Gen.bcast_S1x1024_S8192x1024_0_1 g)) W) Cert.RefFwdInIdeal.Gen.bitsLt_bf16_f32) Cert.RefFwdInIdeal.Gen.slices_S8192x3328_S8192x512_0_0 : S8192x512.Idx → EReal) = Part4 X g W := by
  funext x
  idx_vars x
  pointwise
  rfl

theorem ref5 (X : S8192x1024.Idx → EReal) (g : S1x1024.Idx → EReal) (W : S1024x3328.Idx → EReal) :
    (extractStridedSlice Cert.RefFwdInIdeal.S8192x512 ![0, 512] (truncf (F := Ideal) .bf16 (Host.dotGeneral (φ₁ := .f32) (φ₂ := .f32) Cert.RefFwdInIdeal.dot_S8192x1024_S1024x3328_S8192x3328_1_0_0_1_n_n none (mulf (mulf X (broadcastInDim Cert.RefFwdInIdeal.S8192x1024 ![0, 1] Cert.RefFwdInIdeal.Gen.bcast_S8192x1_S8192x1024_0_1 (Host.rsqrt (addf (Host.divf (broadcastInDim Cert.RefFwdInIdeal.S8192x1 ![0] Cert.RefFwdInIdeal.Gen.bcast_S8192_S8192x1_0 (Host.reduceAdd (mulf X X) (constant Cert.RefFwdInIdeal.S_ .f32 0x00000000#32) Cert.RefFwdInIdeal.Gen.reducesTo_S8192x1024_S8192_d1 Cert.RefFwdInIdeal.Gen.h_S_)) (broadcastInDim Cert.RefFwdInIdeal.S8192x1 ![] Cert.RefFwdInIdeal.Gen.bcast_S_S8192x1 (constant Cert.RefFwdInIdeal.S_ .f32 0x44800000#32))) (broadcastInDim Cert.RefFwdInIdeal.S8192x1 ![] Cert.RefFwdInIdeal.Gen.bcast_S_S8192x1 (constant Cert.RefFwdInIdeal.S_ .f32 0x3727C5AC#32)))))) (broadcastInDim Cert.RefFwdInIdeal.S8192x1024 ![0, 1] Cert.RefFwdInIdeal.Gen.bcast_S1x1024_S8192x1024_0_1 g)) W) Cert.RefFwdInIdeal.Gen.bitsLt_bf16_f32) Cert.RefFwdInIdeal.Gen.slices_S8192x3328_S8192x512_0_512 : S8192x512.Idx → EReal) = Part5 X g W := by
  funext x
  idx_vars x
  pointwise
  rfl

theorem ref6 (X : S8192x1024.Idx → EReal) (g : S1x1024.Idx → EReal) (W : S1024x3328.Idx → EReal) :
    (extractStridedSlice Cert.RefFwdInIdeal.S8192x256 ![0, 1024] (truncf (F := Ideal) .bf16 (Host.dotGeneral (φ₁ := .f32) (φ₂ := .f32) Cert.RefFwdInIdeal.dot_S8192x1024_S1024x3328_S8192x3328_1_0_0_1_n_n none (mulf (mulf X (broadcastInDim Cert.RefFwdInIdeal.S8192x1024 ![0, 1] Cert.RefFwdInIdeal.Gen.bcast_S8192x1_S8192x1024_0_1 (Host.rsqrt (addf (Host.divf (broadcastInDim Cert.RefFwdInIdeal.S8192x1 ![0] Cert.RefFwdInIdeal.Gen.bcast_S8192_S8192x1_0 (Host.reduceAdd (mulf X X) (constant Cert.RefFwdInIdeal.S_ .f32 0x00000000#32) Cert.RefFwdInIdeal.Gen.reducesTo_S8192x1024_S8192_d1 Cert.RefFwdInIdeal.Gen.h_S_)) (broadcastInDim Cert.RefFwdInIdeal.S8192x1 ![] Cert.RefFwdInIdeal.Gen.bcast_S_S8192x1 (constant Cert.RefFwdInIdeal.S_ .f32 0x44800000#32))) (broadcastInDim Cert.RefFwdInIdeal.S8192x1 ![] Cert.RefFwdInIdeal.Gen.bcast_S_S8192x1 (constant Cert.RefFwdInIdeal.S_ .f32 0x3727C5AC#32)))))) (broadcastInDim Cert.RefFwdInIdeal.S8192x1024 ![0, 1] Cert.RefFwdInIdeal.Gen.bcast_S1x1024_S8192x1024_0_1 g)) W) Cert.RefFwdInIdeal.Gen.bitsLt_bf16_f32) Cert.RefFwdInIdeal.Gen.slices_S8192x3328_S8192x256_0_1024 : S8192x256.Idx → EReal) = Part6 X g W := by
  funext x
  idx_vars x
  pointwise
  rfl

theorem ref7 (X : S8192x1024.Idx → EReal) (g : S1x1024.Idx → EReal) (W : S1024x3328.Idx → EReal) :
    (extractStridedSlice Cert.RefFwdInIdeal.S8192x2048 ![0, 1280] (truncf (F := Ideal) .bf16 (Host.dotGeneral (φ₁ := .f32) (φ₂ := .f32) Cert.RefFwdInIdeal.dot_S8192x1024_S1024x3328_S8192x3328_1_0_0_1_n_n none (mulf (mulf X (broadcastInDim Cert.RefFwdInIdeal.S8192x1024 ![0, 1] Cert.RefFwdInIdeal.Gen.bcast_S8192x1_S8192x1024_0_1 (Host.rsqrt (addf (Host.divf (broadcastInDim Cert.RefFwdInIdeal.S8192x1 ![0] Cert.RefFwdInIdeal.Gen.bcast_S8192_S8192x1_0 (Host.reduceAdd (mulf X X) (constant Cert.RefFwdInIdeal.S_ .f32 0x00000000#32) Cert.RefFwdInIdeal.Gen.reducesTo_S8192x1024_S8192_d1 Cert.RefFwdInIdeal.Gen.h_S_)) (broadcastInDim Cert.RefFwdInIdeal.S8192x1 ![] Cert.RefFwdInIdeal.Gen.bcast_S_S8192x1 (constant Cert.RefFwdInIdeal.S_ .f32 0x44800000#32))) (broadcastInDim Cert.RefFwdInIdeal.S8192x1 ![] Cert.RefFwdInIdeal.Gen.bcast_S_S8192x1 (constant Cert.RefFwdInIdeal.S_ .f32 0x3727C5AC#32)))))) (broadcastInDim Cert.RefFwdInIdeal.S8192x1024 ![0, 1] Cert.RefFwdInIdeal.Gen.bcast_S1x1024_S8192x1024_0_1 g)) W) Cert.RefFwdInIdeal.Gen.bitsLt_bf16_f32) Cert.RefFwdInIdeal.Gen.slices_S8192x3328_S8192x2048_0_1280 : S8192x2048.Idx → EReal) = Part7 X g W := by
  funext x
  idx_vars x
  pointwise
  rfl

end Cert.InF

end
-- ==== Proof.Down.lean ====
/-
  The gradient of the MLP's second weight: `(relu s)²` transposed times the gradient of the stream. The grid walks the
  hidden rows in blocks of 1024 and, innermost, the tokens in four blocks of 2048; a scratch block adds the four up.
-/
module

public import proofs.«01_k».proof.Proof.Gen.GwDownIdeal.Value
public import proofs.«01_k».proof.Proof.Gen.RefGwDownIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Down

open Cert.GwDownIdeal Cert.GwDownIdeal.Gen Idealize.ShloMosaic Idealize.ShloMosaic.TcCoe Idealize.SL.Sem

variable (m : (ℓ : Loc nD τ sig) → Buf (Elt Ideal) ℓ) (c : Dev nD)

/-- The rectified scores, and the packed rows. -/
abbrev a0 : S8192x4096.Idx → EReal := m ((c : Thread nD τ).loc main_arg0)
abbrev a1 : S8192x4096.Idx → EReal := m ((c : Thread nD τ).loc main_arg1)

theorem lt16 (t : Fin cfg0.N) : t.val < 16 := lt_of_lt_of_eq t.isLt N_0

/-- The token of row `k` of point `t`'s blocks, and the hidden row of its row `i`. -/
abbrev tok (t : Fin cfg0.N) (k : Fin 2048) : Fin 8192 := ⟨t.val % 4 * 2048 + k.val, by omega⟩
abbrev hid (t : Fin cfg0.N) (i : Fin 1024) : Fin 4096 := ⟨t.val / 4 * 1024 + i.val, by have := lt16 t; omega⟩
abbrev col (j : Fin 1024) : Fin 4096 := ⟨2048 + j.val, by omega⟩

/-- Where the windows' blocks lie. -/
theorem idx : ∀ t : Fin cfg0.N, win0_0.index t = ![t.val % 4, t.val / 4] ∧ win0_1.index t = ![t.val % 4, 2]
    ∧ win0_2.index t = ![t.val / 4, 0] :=
  (by decide +kernel : ∀ t : Fin grid0.N, _)

theorem rd0 (t : Fin cfg0.N) (k i) : (iblk m c 0 t : S2048x1024.Idx → EReal) (ix2 k i) = a0 m c (ix2 (tok t k) (hid t i)) := by
  blk_ext [iblk, V, idx t]
theorem rd1 (t : Fin cfg0.N) (k j) : (iblk m c 1 t : S2048x1024.Idx → EReal) (ix2 k j) = a1 m c (ix2 (tok t k) (col j)) := by
  blk_ext [iblk, V, idx t]

/-- One token's product. -/
def prod (A B : S8192x4096.Idx → EReal) (k : Fin 8192) (i : Fin 4096) (j : Fin 1024) : EReal :=
  A (ix2 k i) * A (ix2 k i) * B (ix2 k (col j))

/-- What point `t` adds to the scratch block. -/
def term (t : Fin cfg0.N) (y : S1024x1024.Idx) : EReal :=
  ∑ k : Fin 2048, prod (a0 m c) (a1 m c) (tok t k) (hid t (y 0)) (y 1)

theorem pay2 (v3 v5 v6) (i j) : (k0_pay2 (F := Ideal) v3 v5 v6 (ix2 i j) : EReal)
    = v5 (ix2 i j) + ∑ k : Fin 2048, v3 (ix2 k i) * v3 (ix2 k i) * v6 (ix2 k j) := by
  pointwise [k0_pay2]

theorem step (t : Fin cfg0.N) (v5) (i j) : (k0_pay2 (F := Ideal) (iblk m c 0 t) v5 (iblk m c 1 t) (ix2 i j) : EReal)
    = v5 (ix2 i j) + term m c t (ix2 i j) := by
  refine (pay2 _ _ _ i j).trans (congrArg (v5 (ix2 i j) + ·) (Finset.sum_congr rfl fun k _ => ?_))
  rw [rd0, rd1]
  rfl

/-- The scratch block: cleared at a block's first point, -/
theorem sA (t : Fin cfg0.N) (h0 : t.val % 4 = 0) (y) : ((outsAt0 m c t.val t.isLt).2 y : EReal) = 0 + term m c t y := by
  have h1 : ¬ t.val % 4 = 3 := by omega
  have e := step m c t (k0_pay1 (F := Ideal))
  idx_vars y
  rw [outsAt0_A m c t h0 h1]
  frame_open
  simp (disch := decide) only [↓ View.readCov_skip, ↓ View.readCov_cons_toLoadRect, ↓ View.readCov_fill]
  frame_out
  refine (e _ _).trans (congrArg (· + _) ?_)
  pointwise [k0_pay1]

/-- and added to at every later one. -/
theorem sB (t : Fin cfg0.N) (h0 : ¬ t.val % 4 = 0) (y) : ((outsAt0 m c t.val t.isLt).2 y : EReal)
    = (outsAt0 m c (t.val - 1) (Nat.lt_of_le_of_lt (Nat.sub_le _ _) t.isLt)).2 y + term m c t y := by
  have e := step m c t
  idx_vars y
  by_cases h1 : t.val % 4 = 3
  · rw [outsAt0_C m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))
  · rw [outsAt0_B m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))

/-- The block's last point writes the scratch block out. -/
theorem oC (t : Fin cfg0.N) (h1 : t.val % 4 = 3) (y) : ((outsAt0 m c t.val t.isLt).1 y : EReal) = (outsAt0 m c t.val t.isLt).2 y := by
  have h0 : ¬ t.val % 4 = 0 := by omega
  idx_vars y
  rw [outsAt0_C m c t h0 h1]
  frame_open
  simp (disch := decide) only [↓ View.readCov_skip, ↓ View.readCov_cons_toLoadRect, ↓ View.readCov_fill]
  frame_out
  pointwise [k0_pay3]

/-- The whole product. -/
def Total (A B : S8192x4096.Idx → EReal) (x : S4096x1024.Idx) : EReal :=
  ∑ k : Fin 8192, prod A B k (x 0) (x 1)

/-- The array after the last point. -/
theorem final (c : Dev nD) : (dats m 0 c).arrAt 2 cfg0.N = Total (a0 m c) (a1 m c) := by
  refine (dats m 0 c).arrAt_eq_of_covers 2 _ (by decide +kernel) fun t hf y => ?_
  have ht := (flush0_2 t).mp hf
  have lt := lt16 t
  have hs := (Pipeline.eq_sum_fin_of_reset_step_apply_of_flush (M := EReal) (fun n h => (outsAt0 m c n h).2) 4 (fun _ => 0) (term m c)
    (sA m c) (sB m c) t ht)
  have o := oC m c t ht
  blk_simp
  rw [after0_2]
  idx_vars y
  refine (o _).trans ((hs _).trans ((zero_add _).trans ?_))
  refine Eq.trans (b := Total (a0 m c) (a1 m c) (ix2 (hid t y0) y1)) ?_ (by blk_ext [idx t])
  refine Fin.sum_mul_add_congr (S := 4) (n := 2048) fun s k hl => ?_
  exact congrArg₂ (fun p q => prod (a0 m c) (a1 m c) p q y1)
    (Fin.ext (by show (4 * (t.val / 4) + s.val) % 4 * 2048 + k.val = s.val * 2048 + k.val; omega))
    (Fin.ext (by show (4 * (t.val / 4) + s.val) / 4 * 1024 + y0.val = t.val / 4 * 1024 + y0.val; omega))

/-- The reference's result is the whole product. -/
theorem ref (A B : S8192x4096.Idx → EReal) : (truncf (F := Ideal) .bf16 (transpose Cert.RefGwDownIdeal.S4096x1024 [1, 0] (Host.dotGeneral (φ₁ := .f32) (φ₂ := .f32) Cert.RefGwDownIdeal.dot_S8192x1024_S8192x4096_S1024x4096_0_0_1_1_n_n none (extf .f32 (extractStridedSlice Cert.RefGwDownIdeal.S8192x1024 ![0, 2048] B Cert.RefGwDownIdeal.Gen.slices_S8192x4096_S8192x1024_0_2048) Cert.RefGwDownIdeal.Gen.bitsLt_bf16_f32) (mulf (extf .f32 A Cert.RefGwDownIdeal.Gen.bitsLt_bf16_f32) (extf .f32 A Cert.RefGwDownIdeal.Gen.bitsLt_bf16_f32))) Cert.RefGwDownIdeal.Gen.transposes_S1024x4096_S4096x1024_1_0) Cert.RefGwDownIdeal.Gen.bitsLt_bf16_f32 : S4096x1024.Idx → EReal) = Total A B := by
  funext x
  idx_vars x
  pointwise
  exact Finset.sum_congr rfl fun k _ => mul_comm _ _

end Cert.Down

end
-- ==== Proof.Up.lean ====
/-
  The gradient of the MLP's first weight: the normed rows transposed times the gradient of the scores, in the eight
  column slabs that the devices hold. The grid walks the hidden columns in blocks of 1024 (two slabs) and, innermost,
  the tokens in four blocks of 2048; a scratch block adds the four up.
-/
module

public import proofs.«01_k».proof.Proof.Gen.GwUpIdeal.Value
public import proofs.«01_k».proof.Proof.Gen.RefGwUpIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Up

open Cert.GwUpIdeal Cert.GwUpIdeal.Gen Idealize.ShloMosaic Idealize.ShloMosaic.TcCoe Idealize.SL.Sem

variable (m : (ℓ : Loc nD τ sig) → Buf (Elt Ideal) ℓ) (c : Dev nD)

/-- The packed rows, and the gradient of the scores. -/
abbrev a0 : S8192x4096.Idx → EReal := m ((c : Thread nD τ).loc main_arg0)
abbrev a1 : S8192x4096.Idx → EReal := m ((c : Thread nD τ).loc main_arg1)

theorem lt16 (t : Fin cfg0.N) : t.val < 16 := lt_of_lt_of_eq t.isLt N_0

/-- The token of row `k` of point `t`'s blocks, and the columns of the two factors. -/
abbrev tok (t : Fin cfg0.N) (k : Fin 2048) : Fin 8192 := ⟨t.val % 4 * 2048 + k.val, by omega⟩
abbrev lo (i : Fin 1024) : Fin 4096 := ⟨1024 + i.val, by omega⟩
abbrev hid (t : Fin cfg0.N) (j : Fin 1024) : Fin 4096 := ⟨t.val / 4 * 1024 + j.val, by have := lt16 t; omega⟩

/-- Where the windows' blocks lie. -/
theorem idx : ∀ t : Fin cfg0.N, win0_0.index t = ![t.val % 4, 1] ∧ win0_1.index t = ![t.val % 4, t.val / 4]
    ∧ win0_2.index t = ![t.val / 4, 0, 0] :=
  (by decide +kernel : ∀ t : Fin grid0.N, _)

theorem rd0 (t : Fin cfg0.N) (k i) : (iblk m c 0 t : S2048x1024.Idx → EReal) (ix2 k i) = a0 m c (ix2 (tok t k) (lo i)) := by
  blk_ext [iblk, V, idx t]
theorem rd1 (t : Fin cfg0.N) (k j) : (iblk m c 1 t : S2048x1024.Idx → EReal) (ix2 k j) = a1 m c (ix2 (tok t k) (hid t j)) := by
  blk_ext [iblk, V, idx t]

/-- One token's product. -/
def prod (A B : S8192x4096.Idx → EReal) (k : Fin 8192) (i : Fin 1024) (j : Fin 4096) : EReal :=
  A (ix2 k (lo i)) * B (ix2 k j)

/-- What point `t` adds to the scratch block. -/
def term (t : Fin cfg0.N) (y : S1024x1024.Idx) : EReal :=
  ∑ k : Fin 2048, prod (a0 m c) (a1 m c) (tok t k) (y 0) (hid t (y 1))

theorem pay2 (v3 v4 v5) (i j) : (k0_pay2 (F := Ideal) v3 v4 v5 (ix2 i j) : EReal)
    = v4 (ix2 i j) + ∑ k : Fin 2048, v3 (ix2 k i) * v5 (ix2 k j) := by
  pointwise [k0_pay2]

theorem step (t : Fin cfg0.N) (v5) (i j) : (k0_pay2 (F := Ideal) (iblk m c 0 t) v5 (iblk m c 1 t) (ix2 i j) : EReal)
    = v5 (ix2 i j) + term m c t (ix2 i j) := by
  refine (pay2 _ _ _ i j).trans (congrArg (v5 (ix2 i j) + ·) (Finset.sum_congr rfl fun k _ => ?_))
  rw [rd0, rd1]
  rfl

/-- The scratch block: cleared at a block's first point, -/
theorem sA (t : Fin cfg0.N) (h0 : t.val % 4 = 0) (y) : ((outsAt0 m c t.val t.isLt).2 y : EReal) = 0 + term m c t y := by
  have h1 : ¬ t.val % 4 = 3 := by omega
  have e := step m c t (k0_pay1 (F := Ideal))
  idx_vars y
  rw [outsAt0_A m c t h0 h1]
  frame_open
  simp (disch := decide) only [↓ View.readCov_skip, ↓ View.readCov_cons_toLoadRect, ↓ View.readCov_fill]
  frame_out
  refine (e _ _).trans (congrArg (· + _) ?_)
  pointwise [k0_pay1]

/-- and added to at every later one. -/
theorem sB (t : Fin cfg0.N) (h0 : ¬ t.val % 4 = 0) (y) : ((outsAt0 m c t.val t.isLt).2 y : EReal)
    = (outsAt0 m c (t.val - 1) (Nat.lt_of_le_of_lt (Nat.sub_le _ _) t.isLt)).2 y + term m c t y := by
  have e := step m c t
  idx_vars y
  by_cases h1 : t.val % 4 = 3
  · rw [outsAt0_C m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))
  · rw [outsAt0_B m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))

/-- The place in the scratch block of an entry of the two slabs written out. -/
abbrev place (y : S2x1024x512.Idx) : S1024x1024.Idx := ix2 (y 1) ⟨(y 0).val * 512 + (y 2).val, by
  have h0 : (y 0).val < 2 := (y 0).isLt
  have h2 : (y 2).val < 512 := (y 2).isLt
  omega⟩

/-- The slab of the right half of a block. -/
theorem pay4 (S : S1024x512.Idx → EReal) (x : S1x1024x512.Idx) : (k0_pay4 (F := Ideal) S x : EReal) = S (ix2 (x 1) (x 2)) := by
  idx_vars x
  pointwise [k0_pay4]

/-- The slab of the left half of a block. -/
theorem pay3 (S : S1024x512.Idx → EReal) (x : S1x1024x512.Idx) : (k0_pay3 (F := Ideal) S x : EReal) = S (ix2 (x 1) (x 2)) := by
  idx_vars x
  pointwise [k0_pay3]

/-- An entry of half a block, read at its place in the block. -/
theorem half (S : S1024x1024.Idx → Elt Ideal .f32) (o : ℕ) (hr) (i : Fin 1024) (j : Fin 512) (y : S2x1024x512.Idx) (hi : (y 1).val = i.val)
    (hj : o + j.val = (y 0).val * 512 + (y 2).val) :
    View.ld S (Rect.unit (s := S1024x1024) ![0, o] ![1024, 512] hr) (ix2 i j) = S (place y) := by
  refine congrArg S ?_
  funext a
  refine Fin.ext ?_
  fin_cases a
  · show 0 + 1 * i.val = (y 1).val; omega
  · show o + 1 * j.val = (y 0).val * 512 + (y 2).val; omega

/-- The block's last point writes the scratch block out, as two slabs. -/
theorem oC (t : Fin cfg0.N) (h1 : t.val % 4 = 3) (y) : ((outsAt0 m c t.val t.isLt).1 y : EReal) = (outsAt0 m c t.val t.isLt).2 (place y) := by
  have h0 : ¬ t.val % 4 = 0 := by omega
  rw [outsAt0_C m c t h0 h1]
  frame_open
  simp (disch := decide) only [↓ View.readCov_skip, ↓ View.readCov_cons_toLoadRect, ↓ View.readCov_fill]
  frame_out
  canon_tiles x g
  · exact (pay4 _ x).trans (half _ 512 _ _ _ y g1 (by omega))
  · exact (pay3 _ x).trans (half _ 0 _ _ _ y g1 (by omega))

/-- The whole product, in slabs. -/
def Total (A B : S8192x4096.Idx → EReal) (x : S8x1024x512.Idx) : EReal :=
  ∑ k : Fin 8192, prod A B k (x 1) ⟨(x 0).val * 512 + (x 2).val, by
    have h0 : (x 0).val < 8 := (x 0).isLt
    have h2 : (x 2).val < 512 := (x 2).isLt
    omega⟩

/-- The array after the last point. -/
theorem final (c : Dev nD) : (dats m 0 c).arrAt 2 cfg0.N = Total (a0 m c) (a1 m c) := by
  refine (dats m 0 c).arrAt_eq_of_covers 2 _ (by decide +kernel) fun t hf y => ?_
  have ht := (flush0_2 t).mp hf
  have lt := lt16 t
  have hs := (Pipeline.eq_sum_fin_of_reset_step_apply_of_flush (M := EReal) (fun n h => (outsAt0 m c n h).2) 4 (fun _ => 0) (term m c)
    (sA m c) (sB m c) t ht)
  have o := oC m c t ht
  blk_simp
  rw [after0_2]
  idx_vars y
  refine (o _).trans ((hs _).trans ((zero_add _).trans ?_))
  refine Eq.trans (b := Total (a0 m c) (a1 m c) (ix3 (⟨t.val / 4 * 2 + y0.val, by omega⟩ : Fin 8) y1 y2)) ?_ (by blk_ext [idx t])
  refine Fin.sum_mul_add_congr (S := 4) (n := 2048) fun s k hl => ?_
  exact congrArg₂ (fun p q => prod (a0 m c) (a1 m c) p y1 q)
    (Fin.ext (by show (4 * (t.val / 4) + s.val) % 4 * 2048 + k.val = s.val * 2048 + k.val; omega))
    (Fin.ext (by show (4 * (t.val / 4) + s.val) / 4 * 1024 + (y0.val * 512 + y2.val) = (t.val / 4 * 2 + y0.val) * 512 + y2.val; omega))

/-- The reference's result is the whole product. -/
theorem ref (A B : S8192x4096.Idx → EReal) : (truncf (F := Ideal) .bf16 (transpose Cert.RefGwUpIdeal.S8x1024x512 [1, 0, 2] (shapeCast _ (transpose Cert.RefGwUpIdeal.S1024x4096 [1, 0] (Host.dotGeneral (φ₁ := .f32) (φ₂ := .f32) Cert.RefGwUpIdeal.dot_S8192x4096_S8192x1024_S4096x1024_0_0_1_1_n_n none (extf .f32 B Cert.RefGwUpIdeal.Gen.bitsLt_bf16_f32) (extf .f32 (extractStridedSlice Cert.RefGwUpIdeal.S8192x1024 ![0, 1024] A Cert.RefGwUpIdeal.Gen.slices_S8192x4096_S8192x1024_0_1024) Cert.RefGwUpIdeal.Gen.bitsLt_bf16_f32)) Cert.RefGwUpIdeal.Gen.transposes_S4096x1024_S1024x4096_1_0) Cert.RefGwUpIdeal.Gen.shapeCasts_S1024x4096_S1024x8x512) Cert.RefGwUpIdeal.Gen.transposes_S1024x8x512_S8x1024x512_1_0_2) Cert.RefGwUpIdeal.Gen.bitsLt_bf16_f32 : S8x1024x512.Idx → EReal) = Total A B := by
  funext x
  idx_vars x
  pointwise
  exact Finset.sum_congr rfl fun k _ => mul_comm _ _

end Cert.Up

end
-- ==== Proof.OutW.lean ====
/-
  The gradient of the mixers' output projection: the mixed rows transposed times the gradient of the stream. The grid
  walks the tokens in four blocks of 2048; a scratch block adds the four up.
-/
module

public import proofs.«01_k».proof.Proof.Gen.GwOutIdeal.Value
public import proofs.«01_k».proof.Proof.Gen.RefGwOutIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.OutW

open Cert.GwOutIdeal Cert.GwOutIdeal.Gen Idealize.ShloMosaic Idealize.ShloMosaic.TcCoe Idealize.SL.Sem

variable (m : (ℓ : Loc nD τ sig) → Buf (Elt Ideal) ℓ) (c : Dev nD)

/-- The packed rows. -/
abbrev a0 : S8192x4096.Idx → EReal := m ((c : Thread nD τ).loc main_arg0)

theorem lt4 (t : Fin cfg0.N) : t.val < 4 := lt_of_lt_of_eq t.isLt N_0

/-- The token of row `k` of point `t`'s blocks, and the columns of the two factors. -/
abbrev tok (t : Fin cfg0.N) (k : Fin 2048) : Fin 8192 := ⟨t.val % 4 * 2048 + k.val, by omega⟩
abbrev lo (i : Fin 1024) : Fin 4096 := ⟨i.val, by omega⟩
abbrev hi (j : Fin 1024) : Fin 4096 := ⟨3072 + j.val, by omega⟩

/-- Where the windows' blocks lie. -/
theorem idx : ∀ t : Fin cfg0.N, win0_0.index t = ![t.val % 4, 0] ∧ win0_1.index t = ![t.val % 4, 3]
    ∧ win0_2.index t = ![0, 0] :=
  (by decide +kernel : ∀ t : Fin grid0.N, _)

theorem rd0 (t : Fin cfg0.N) (k i) : (iblk m c 0 t : S2048x1024.Idx → EReal) (ix2 k i) = a0 m c (ix2 (tok t k) (lo i)) := by
  blk_ext [iblk, V, idx t]
theorem rd1 (t : Fin cfg0.N) (k j) : (iblk m c 1 t : S2048x1024.Idx → EReal) (ix2 k j) = a0 m c (ix2 (tok t k) (hi j)) := by
  blk_ext [iblk, V, idx t]

/-- One token's product. -/
def prod (A : S8192x4096.Idx → EReal) (k : Fin 8192) (i j : Fin 1024) : EReal :=
  A (ix2 k (lo i)) * A (ix2 k (hi j))

/-- What point `t` adds to the scratch block. -/
def term (t : Fin cfg0.N) (y : S1024x1024.Idx) : EReal :=
  ∑ k : Fin 2048, prod (a0 m c) (tok t k) (y 0) (y 1)

theorem pay2 (v3 v4 v5) (i j) : (k0_pay2 (F := Ideal) v3 v4 v5 (ix2 i j) : EReal)
    = v4 (ix2 i j) + ∑ k : Fin 2048, v3 (ix2 k i) * v5 (ix2 k j) := by
  pointwise [k0_pay2]

theorem step (t : Fin cfg0.N) (v5) (i j) : (k0_pay2 (F := Ideal) (iblk m c 0 t) v5 (iblk m c 1 t) (ix2 i j) : EReal)
    = v5 (ix2 i j) + term m c t (ix2 i j) := by
  refine (pay2 _ _ _ i j).trans (congrArg (v5 (ix2 i j) + ·) (Finset.sum_congr rfl fun k _ => ?_))
  rw [rd0, rd1]
  rfl

/-- The scratch block: cleared at a block's first point, -/
theorem sA (t : Fin cfg0.N) (h0 : t.val % 4 = 0) (y) : ((outsAt0 m c t.val t.isLt).2 y : EReal) = 0 + term m c t y := by
  have h1 : ¬ t.val % 4 = 3 := by omega
  have e := step m c t (k0_pay1 (F := Ideal))
  idx_vars y
  rw [outsAt0_A m c t h0 h1]
  frame_open
  simp (disch := decide) only [↓ View.readCov_skip, ↓ View.readCov_cons_toLoadRect, ↓ View.readCov_fill]
  frame_out
  refine (e _ _).trans (congrArg (· + _) ?_)
  pointwise [k0_pay1]

/-- and added to at every later one. -/
theorem sB (t : Fin cfg0.N) (h0 : ¬ t.val % 4 = 0) (y) : ((outsAt0 m c t.val t.isLt).2 y : EReal)
    = (outsAt0 m c (t.val - 1) (Nat.lt_of_le_of_lt (Nat.sub_le _ _) t.isLt)).2 y + term m c t y := by
  have e := step m c t
  idx_vars y
  by_cases h1 : t.val % 4 = 3
  · rw [outsAt0_C m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))
  · rw [outsAt0_B m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))

/-- The block's last point writes the scratch block out. -/
theorem oC (t : Fin cfg0.N) (h1 : t.val % 4 = 3) (y) : ((outsAt0 m c t.val t.isLt).1 y : EReal) = (outsAt0 m c t.val t.isLt).2 y := by
  have h0 : ¬ t.val % 4 = 0 := by omega
  idx_vars y
  rw [outsAt0_C m c t h0 h1]
  frame_open
  simp (disch := decide) only [↓ View.readCov_skip, ↓ View.readCov_cons_toLoadRect, ↓ View.readCov_fill]
  frame_out
  pointwise [k0_pay3]

/-- The whole product. -/
def Total (A : S8192x4096.Idx → EReal) (x : S1024x1024.Idx) : EReal :=
  ∑ k : Fin 8192, prod A k (x 0) (x 1)

/-- The array after the last point. -/
theorem final (c : Dev nD) : (dats m 0 c).arrAt 2 cfg0.N = Total (a0 m c) := by
  refine (dats m 0 c).arrAt_eq_of_covers 2 _ (by decide +kernel) fun t hf y => ?_
  have ht := (flush0_2 t).mp hf
  have lt := lt4 t
  have hs := (Pipeline.eq_sum_fin_of_reset_step_apply_of_flush (M := EReal) (fun n h => (outsAt0 m c n h).2) 4 (fun _ => 0) (term m c)
    (sA m c) (sB m c) t ht)
  have o := oC m c t ht
  blk_simp
  rw [after0_2]
  idx_vars y
  refine (o _).trans ((hs _).trans ((zero_add _).trans ?_))
  refine Eq.trans (b := Total (a0 m c) (ix2 y0 y1)) ?_ (by blk_ext [idx t])
  refine Fin.sum_mul_add_congr (S := 4) (n := 2048) fun s k hl => ?_
  exact congrArg (fun p => prod (a0 m c) p y0 y1)
    (Fin.ext (by show (4 * (t.val / 4) + s.val) % 4 * 2048 + k.val = s.val * 2048 + k.val; omega))

/-- The reference's result is the whole product. -/
theorem ref (A : S8192x4096.Idx → EReal) : (truncf (F := Ideal) .bf16 (transpose Cert.RefGwOutIdeal.S1024x1024 [1, 0] (Host.dotGeneral (φ₁ := .f32) (φ₂ := .f32) Cert.RefGwOutIdeal.dot_S8192x1024_S8192x1024_S1024x1024_0_0_1_1_n_n none (extf .f32 (extractStridedSlice Cert.RefGwOutIdeal.S8192x1024 ![0, 3072] A Cert.RefGwOutIdeal.Gen.slices_S8192x4096_S8192x1024_0_3072) Cert.RefGwOutIdeal.Gen.bitsLt_bf16_f32) (extf .f32 (extractStridedSlice Cert.RefGwOutIdeal.S8192x1024 ![0, 0] A Cert.RefGwOutIdeal.Gen.slices_S8192x4096_S8192x1024_0_0) Cert.RefGwOutIdeal.Gen.bitsLt_bf16_f32)) Cert.RefGwOutIdeal.Gen.transposes_S1024x1024_S1024x1024_1_0) Cert.RefGwOutIdeal.Gen.bitsLt_bf16_f32 : S1024x1024.Idx → EReal) = Total A := by
  funext x
  idx_vars x
  pointwise
  exact Finset.sum_congr rfl fun k _ => mul_comm _ _

end Cert.OutW

end
-- ==== Proof.Proj.lean ====
/-
  The gradient of a projection's weight: the rows at its input transposed times the gradient of its output, in the
  eight column slabs that the devices hold. The grid walks the tokens in four blocks of 2048; a scratch block adds the
  four up.
-/
module

public import proofs.«01_k».proof.Proof.Gen.GpIdeal.Value
public import proofs.«01_k».proof.Proof.Gen.RefGpIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Proj

open Cert.GpIdeal Cert.GpIdeal.Gen Idealize.ShloMosaic Idealize.ShloMosaic.TcCoe Idealize.SL.Sem

variable (m : (ℓ : Loc nD τ sig) → Buf (Elt Ideal) ℓ) (c : Dev nD)

/-- The rows at the projection's input, and the gradient of its output. -/
abbrev a0 : S8192x512.Idx → EReal := m ((c : Thread nD τ).loc main_arg0)
abbrev a1 : S8192x1024.Idx → EReal := m ((c : Thread nD τ).loc main_arg1)

theorem lt4 (t : Fin cfg0.N) : t.val < 4 := lt_of_lt_of_eq t.isLt N_0

/-- The token of row `k` of point `t`'s blocks. -/
abbrev tok (t : Fin cfg0.N) (k : Fin 2048) : Fin 8192 := ⟨t.val % 4 * 2048 + k.val, by omega⟩

/-- Where the windows' blocks lie. -/
theorem idx : ∀ t : Fin cfg0.N, win0_0.index t = ![t.val % 4, 0] ∧ win0_1.index t = ![t.val % 4, 0]
    ∧ win0_2.index t = ![0, 0, 0] :=
  (by decide +kernel : ∀ t : Fin grid0.N, _)

theorem rd0 (t : Fin cfg0.N) (k i) : (iblk m c 0 t : S2048x512.Idx → EReal) (ix2 k i) = a0 m c (ix2 (tok t k) i) := by
  blk_ext [iblk, V, idx t]
theorem rd1 (t : Fin cfg0.N) (k j) : (iblk m c 1 t : S2048x1024.Idx → EReal) (ix2 k j) = a1 m c (ix2 (tok t k) j) := by
  blk_ext [iblk, V, idx t]

/-- One token's product. -/
def prod (A : S8192x512.Idx → EReal) (B : S8192x1024.Idx → EReal) (k : Fin 8192) (i : Fin 512) (j : Fin 1024) : EReal :=
  A (ix2 k i) * B (ix2 k j)

/-- What point `t` adds to the scratch block. -/
def term (t : Fin cfg0.N) (y : S512x1024.Idx) : EReal :=
  ∑ k : Fin 2048, prod (a0 m c) (a1 m c) (tok t k) (y 0) (y 1)

theorem pay2 (v3 v4 v5) (i j) : (k0_pay2 (F := Ideal) v3 v4 v5 (ix2 i j) : EReal)
    = v4 (ix2 i j) + ∑ k : Fin 2048, v3 (ix2 k i) * v5 (ix2 k j) := by
  pointwise [k0_pay2]

theorem step (t : Fin cfg0.N) (v5) (i j) : (k0_pay2 (F := Ideal) (iblk m c 0 t) v5 (iblk m c 1 t) (ix2 i j) : EReal)
    = v5 (ix2 i j) + term m c t (ix2 i j) := by
  refine (pay2 _ _ _ i j).trans (congrArg (v5 (ix2 i j) + ·) (Finset.sum_congr rfl fun k _ => ?_))
  rw [rd0, rd1]
  rfl

/-- The scratch block: cleared at a block's first point, -/
theorem sA (t : Fin cfg0.N) (h0 : t.val % 4 = 0) (y) : ((outsAt0 m c t.val t.isLt).2 y : EReal) = 0 + term m c t y := by
  have h1 : ¬ t.val % 4 = 3 := by omega
  have e := step m c t (k0_pay1 (F := Ideal))
  idx_vars y
  rw [outsAt0_A m c t h0 h1]
  frame_open
  simp (disch := decide) only [↓ View.readCov_skip, ↓ View.readCov_cons_toLoadRect, ↓ View.readCov_fill]
  frame_out
  refine (e _ _).trans (congrArg (· + _) ?_)
  pointwise [k0_pay1]

/-- and added to at every later one. -/
theorem sB (t : Fin cfg0.N) (h0 : ¬ t.val % 4 = 0) (y) : ((outsAt0 m c t.val t.isLt).2 y : EReal)
    = (outsAt0 m c (t.val - 1) (Nat.lt_of_le_of_lt (Nat.sub_le _ _) t.isLt)).2 y + term m c t y := by
  have e := step m c t
  idx_vars y
  by_cases h1 : t.val % 4 = 3
  · rw [outsAt0_C m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))
  · rw [outsAt0_B m c t h0 h1]
    frame_open
    simp (disch := decide) only [↓ View.readCov_skip, ↓ View.readCov_cons_toLoadRect, ↓ View.readCov_fill]
    frame_out
    exact (e _ _ _).trans (congrArg (· + _) (congrFun (Memref.IsWhole.read_unread _ _) _))

/-- The place in the scratch block of an entry of the eight slabs written out. -/
abbrev place (y : S8x512x128.Idx) : S512x1024.Idx := ix2 (y 1) ⟨(y 0).val * 128 + (y 2).val, by
  have h0 : (y 0).val < 8 := (y 0).isLt
  have h2 : (y 2).val < 128 := (y 2).isLt
  omega⟩

/-- The slabs, each a run of 128 columns, cast and put under a leading axis of one. -/
theorem pay3 (S : S512x128.Idx → EReal) (x : S1x512x128.Idx) : (k0_pay3 (F := Ideal) (k0_pay11 S) x : EReal) = S (ix2 (x 1) (x 2)) := by
  idx_vars x
  pointwise [k0_pay3, k0_pay11]
theorem pay4 (S : S512x128.Idx → EReal) (x : S1x512x128.Idx) : (k0_pay4 (F := Ideal) S x : EReal) = S (ix2 (x 1) (x 2)) := by
  idx_vars x
  pointwise [k0_pay4]
theorem pay5 (S : S512x128.Idx → EReal) (x : S1x512x128.Idx) : (k0_pay5 (F := Ideal) S x : EReal) = S (ix2 (x 1) (x 2)) := by
  idx_vars x
  pointwise [k0_pay5]
theorem pay6 (S : S512x128.Idx → EReal) (x : S1x512x128.Idx) : (k0_pay6 (F := Ideal) S x : EReal) = S (ix2 (x 1) (x 2)) := by
  idx_vars x
  pointwise [k0_pay6]
theorem pay7 (S : S512x128.Idx → EReal) (x : S1x512x128.Idx) : (k0_pay7 (F := Ideal) S x : EReal) = S (ix2 (x 1) (x 2)) := by
  idx_vars x
  pointwise [k0_pay7]
theorem pay8 (S : S512x128.Idx → EReal) (x : S1x512x128.Idx) : (k0_pay8 (F := Ideal) S x : EReal) = S (ix2 (x 1) (x 2)) := by
  idx_vars x
  pointwise [k0_pay8]
theorem pay9 (S : S512x128.Idx → EReal) (x : S1x512x128.Idx) : (k0_pay9 (F := Ideal) S x : EReal) = S (ix2 (x 1) (x 2)) := by
  idx_vars x
  pointwise [k0_pay9]
theorem pay10 (S : S512x128.Idx → EReal) (x : S1x512x128.Idx) : (k0_pay10 (F := Ideal) S x : EReal) = S (ix2 (x 1) (x 2)) := by
  idx_vars x
  pointwise [k0_pay10]

/-- An entry of a run of columns, read at its place in the block. -/
theorem part (S : S512x1024.Idx → Elt Ideal .f32) (o : ℕ) (hr) (i : Fin 512) (j : Fin 128) (y : S8x512x128.Idx) (hi : (y 1).val = i.val)
    (hj : o + j.val = (y 0).val * 128 + (y 2).val) :
    View.ld S (Rect.unit (s := S512x1024) ![0, o] ![512, 128] hr) (ix2 i j) = S (place y) := by
  refine congrArg S ?_
  funext a
  refine Fin.ext ?_
  fin_cases a
  · show 0 + 1 * i.val = (y 1).val; omega
  · show o + 1 * j.val = (y 0).val * 128 + (y 2).val; omega

/-- The block's last point writes the scratch block out, as eight slabs. -/
theorem oC (t : Fin cfg0.N) (h1 : t.val % 4 = 3) (y) : ((outsAt0 m c t.val t.isLt).1 y : EReal) = (outsAt0 m c t.val t.isLt).2 (place y) := by
  have h0 : ¬ t.val % 4 = 0 := by omega
  rw [outsAt0_C m c t h0 h1]
  frame_open
  simp (disch := decide) only [↓ View.readCov_skip, ↓ View.readCov_cons_toLoadRect, ↓ View.readCov_fill]
  frame_out
  canon_tiles x g
  · exact (pay5 _ x).trans (part _ 896 _ _ _ y g1 (by omega))
  · exact (pay4 _ x).trans (part _ 768 _ _ _ y g1 (by omega))
  · exact (pay3 _ x).trans (part _ 640 _ _ _ y g1 (by omega))
  · exact (pay10 _ x).trans (part _ 512 _ _ _ y g1 (by omega))
  · exact (pay9 _ x).trans (part _ 384 _ _ _ y g1 (by omega))
  · exact (pay8 _ x).trans (part _ 256 _ _ _ y g1 (by omega))
  · exact (pay7 _ x).trans (part _ 128 _ _ _ y g1 (by omega))
  · exact (pay6 _ x).trans (part _ 0 _ _ _ y g1 (by omega))

/-- The whole product, in slabs. -/
def Total (A : S8192x512.Idx → EReal) (B : S8192x1024.Idx → EReal) (x : S8x512x128.Idx) : EReal :=
  ∑ k : Fin 8192, prod A B k (x 1) ⟨(x 0).val * 128 + (x 2).val, by
    have h0 : (x 0).val < 8 := (x 0).isLt
    have h2 : (x 2).val < 128 := (x 2).isLt
    omega⟩

/-- The array after the last point. -/
theorem final (c : Dev nD) : (dats m 0 c).arrAt 2 cfg0.N = Total (a0 m c) (a1 m c) := by
  refine (dats m 0 c).arrAt_eq_of_covers 2 _ (by decide +kernel) fun t hf y => ?_
  have ht := (flush0_2 t).mp hf
  have lt := lt4 t
  have hs := (Pipeline.eq_sum_fin_of_reset_step_apply_of_flush (M := EReal) (fun n h => (outsAt0 m c n h).2) 4 (fun _ => 0) (term m c)
    (sA m c) (sB m c) t ht)
  have o := oC m c t ht
  blk_simp
  rw [after0_2]
  idx_vars y
  refine (o _).trans ((hs _).trans ((zero_add _).trans ?_))
  refine Eq.trans (b := Total (a0 m c) (a1 m c) (ix3 y0 y1 y2)) ?_ (by blk_ext [idx t])
  refine Fin.sum_mul_add_congr (S := 4) (n := 2048) fun s k hl => ?_
  exact congrArg (fun p => prod (a0 m c) (a1 m c) p y1 _)
    (Fin.ext (by show (4 * (t.val / 4) + s.val) % 4 * 2048 + k.val = s.val * 2048 + k.val; omega))

/-- The reference's result is the whole product. -/
theorem ref (A : S8192x512.Idx → EReal) (B : S8192x1024.Idx → EReal) : (truncf (F := Ideal) .bf16 (transpose Cert.RefGpIdeal.S8x512x128 [1, 0, 2] (shapeCast _ (transpose Cert.RefGpIdeal.S512x1024 [1, 0] (Host.dotGeneral (φ₁ := .f32) (φ₂ := .f32) Cert.RefGpIdeal.dot_S8192x1024_S8192x512_S1024x512_0_0_1_1_n_n none (extf .f32 B Cert.RefGpIdeal.Gen.bitsLt_bf16_f32) (extf .f32 A Cert.RefGpIdeal.Gen.bitsLt_bf16_f32)) Cert.RefGpIdeal.Gen.transposes_S1024x512_S512x1024_1_0) Cert.RefGpIdeal.Gen.shapeCasts_S512x1024_S512x8x128) Cert.RefGpIdeal.Gen.transposes_S512x8x128_S8x512x128_1_0_2) Cert.RefGpIdeal.Gen.bitsLt_bf16_f32 : S8x512x128.Idx → EReal) = Total A B := by
  funext x
  idx_vars x
  pointwise
  exact Finset.sum_congr rfl fun k _ => mul_comm _ _

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.RefInBwdIdeal
public import proofs.«01_k».proof.Proof.Gen.RefInBwdIdeal.Run
public import proofs.«01_k».proof.Proof.Gen.TnWIn
public import proofs.«01_k».proof.Proof.Gen.TnWIn.Skeleton
public import proofs.«01_k».proof.Proof.Gen.TnWIn.Launch
public import proofs.«01_k».proof.Proof.Gen.TnWIn.Points
public import proofs.«01_k».proof.Proof.Gen.TnWIn.Frame
public import proofs.«01_k».proof.Proof.Gen.TnWInIdeal
public import proofs.«01_k».proof.Proof.Gen.TnWInIdeal.Skeleton
public import proofs.«01_k».proof.Proof.Gen.TnWInIdeal.Launch
public import proofs.«01_k».proof.Proof.Gen.TnWInIdeal.Points
public import proofs.«01_k».proof.Proof.Gen.TnWInIdeal.Frame
public import proofs.«01_k».proof.Proof.Gen.TnWInIdeal.Value
public import proofs.«01_k».proof.Proof.Gen.RefTnWInIdeal
public import proofs.«01_k».proof.Proof.Gen.RefTnWInIdeal.Run
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInIdeal.Value
public import proofs.«01_k».proof.Proof.Gen.RefFwdInIdeal
public import proofs.«01_k».proof.Proof.Gen.RefFwdInIdeal.Run
public import proofs.«01_k».proof.Proof.Gen.GwDown
public import proofs.«01_k».proof.Proof.Gen.GwDown.Skeleton
public import proofs.«01_k».proof.Proof.Gen.GwDown.Launch
public import proofs.«01_k».proof.Proof.Gen.GwDown.Points
public import proofs.«01_k».proof.Proof.Gen.GwDown.Frame
public import proofs.«01_k».proof.Proof.Gen.GwDownIdeal
public import proofs.«01_k».proof.Proof.Gen.GwDownIdeal.Skeleton
public import proofs.«01_k».proof.Proof.Gen.GwDownIdeal.Launch
public import proofs.«01_k».proof.Proof.Gen.GwDownIdeal.Points
public import proofs.«01_k».proof.Proof.Gen.GwDownIdeal.Frame
public import proofs.«01_k».proof.Proof.Gen.GwDownIdeal.Value
public import proofs.«01_k».proof.Proof.Gen.RefGwDownIdeal
public import proofs.«01_k».proof.Proof.Gen.RefGwDownIdeal.Run
public import proofs.«01_k».proof.Proof.Gen.GwUp
public import proofs.«01_k».proof.Proof.Gen.GwUp.Skeleton
public import proofs.«01_k».proof.Proof.Gen.GwUp.Launch
public import proofs.«01_k».proof.Proof.Gen.GwUp.Points
public import proofs.«01_k».proof.Proof.Gen.GwUp.Frame
public import proofs.«01_k».proof.Proof.Gen.GwUpIdeal
public import proofs.«01_k».proof.Proof.Gen.GwUpIdeal.Skeleton
public import proofs.«01_k».proof.Proof.Gen.GwUpIdeal.Launch
public import proofs.«01_k».proof.Proof.Gen.GwUpIdeal.Points
public import proofs.«01_k».proof.Proof.Gen.GwUpIdeal.Frame
public import proofs.«01_k».proof.Proof.Gen.GwUpIdeal.Value
public import proofs.«01_k».proof.Proof.Gen.RefGwUpIdeal
public import proofs.«01_k».proof.Proof.Gen.RefGwUpIdeal.Run
public import proofs.«01_k».proof.Proof.Gen.GwOut
public import proofs.«01_k».proof.Proof.Gen.GwOut.Skeleton
public import proofs.«01_k».proof.Proof.Gen.GwOut.Launch
public import proofs.«01_k».proof.Proof.Gen.GwOut.Points
public import proofs.«01_k».proof.Proof.Gen.GwOut.Frame
public import proofs.«01_k».proof.Proof.Gen.GwOutIdeal
public import proofs.«01_k».proof.Proof.Gen.GwOutIdeal.Skeleton
public import proofs.«01_k».proof.Proof.Gen.GwOutIdeal.Launch
public import proofs.«01_k».proof.Proof.Gen.GwOutIdeal.Points
public import proofs.«01_k».proof.Proof.Gen.GwOutIdeal.Frame
public import proofs.«01_k».proof.Proof.Gen.GwOutIdeal.Value
public import proofs.«01_k».proof.Proof.Gen.RefGwOutIdeal
public import proofs.«01_k».proof.Proof.Gen.RefGwOutIdeal.Run
public import proofs.«01_k».proof.Proof.Gen.Gp
public import proofs.«01_k».proof.Proof.Gen.Gp.Skeleton
public import proofs.«01_k».proof.Proof.Gen.Gp.Launch
public import proofs.«01_k».proof.Proof.Gen.Gp.Points
public import proofs.«01_k».proof.Proof.Gen.Gp.Frame
public import proofs.«01_k».proof.Proof.Gen.GpIdeal
public import proofs.«01_k».proof.Proof.Gen.GpIdeal.Skeleton
public import proofs.«01_k».proof.Proof.Gen.GpIdeal.Launch
public import proofs.«01_k».proof.Proof.Gen.GpIdeal.Points
public import proofs.«01_k».proof.Proof.Gen.GpIdeal.Frame
public import proofs.«01_k».proof.Proof.Gen.GpIdeal.Value
public import proofs.«01_k».proof.Proof.Gen.RefGpIdeal
public import proofs.«01_k».proof.Proof.Gen.RefGpIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.RefAdamUpIdeal
public import proofs.«01_k».proof.Proof.Gen.RefAdamUpIdeal.Run
public import proofs.«01_k».proof.Proof.StepUp
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.RefPoolIdeal
public import proofs.«01_k».proof.Proof.Gen.RefPoolIdeal.Run
public import proofs.«01_k».proof.Proof.PoolC
public import proofs.«01_k».proof.Proof.Gen.PoolFirst
public import proofs.«01_k».proof.Proof.Gen.PoolFirst.Skeleton
public import proofs.«01_k».proof.Proof.Gen.PoolFirst.Launch
public import proofs.«01_k».proof.Proof.Gen.PoolFirst.Points
public import proofs.«01_k».proof.Proof.Gen.PoolFirst.Frame
public import proofs.«01_k».proof.Proof.Gen.PoolFirstIdeal
public import proofs.«01_k».proof.Proof.Gen.PoolFirstIdeal.Skeleton
public import proofs.«01_k».proof.Proof.Gen.PoolFirstIdeal.Launch
public import proofs.«01_k».proof.Proof.Gen.PoolFirstIdeal.Points
public import proofs.«01_k».proof.Proof.Gen.PoolFirstIdeal.Frame
public import proofs.«01_k».proof.Proof.Gen.RefPoolFirstIdeal
public import proofs.«01_k».proof.Proof.Gen.RefPoolFirstIdeal.Run
public import proofs.«01_k».proof.Proof.PoolF
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.RefAdamDownIdeal
public import proofs.«01_k».proof.Proof.Gen.RefAdamDownIdeal.Run
public import proofs.«01_k».proof.Proof.StepDown
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.RefAdamOutIdeal
public import proofs.«01_k».proof.Proof.Gen.RefAdamOutIdeal.Run
public import proofs.«01_k».proof.Proof.StepOut
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.RefAdamProjIdeal
public import proofs.«01_k».proof.Proof.Gen.RefAdamProjIdeal.Run
public import proofs.«01_k».proof.Proof.StepProj
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.RefAdamInIdeal
public import proofs.«01_k».proof.Proof.Gen.RefAdamInIdeal.Run
public import proofs.«01_k».proof.Proof.StepIn
public import proofs.«01_k».proof.Proof.Small
public import proofs.«01_k».proof.Proof.InB
public import proofs.«01_k».proof.Proof.InW
public import proofs.«01_k».proof.Proof.InF
public import proofs.«01_k».proof.Proof.Down
public import proofs.«01_k».proof.Proof.Up
public import proofs.«01_k».proof.Proof.OutW
public import proofs.«01_k».proof.Proof.Proj
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel's ten results are the reference's. -/
theorem core_value [hKernelIdeal : Cert.KernelIdeal.Facts] [hReferenceIdeal : Cert.ReferenceIdeal.Facts] :
    Cert.algebraic_KernelIdeal_ReferenceIdeal := by
  pair_intro
  · run_from Cert.KernelIdeal.Value.run_blocks m g
  · run_from Cert.ReferenceIdeal.Value.run m' g'
    all_goals
      have E : Cert.Core.Args m c (StableHlo.launchContents m' c) := by
        obtain ⟨h0, h1, h2, h3, h4, h5, h6, h7, h8, h9, h10, h11⟩ := hagree c
        exact ⟨h0, h1, h2, h3, h4, h5, h6, h7, h8, h9, h10, h11⟩
    · exact (Cert.Core.final12 m c _ E).symm
    · exact (Cert.Core.final13 m c _ E).symm
    · exact (Cert.Core.final14 m c _ E).symm
    · exact (Cert.Core.final15 m c _ E).symm
    · exact (Cert.Core.final16 m c _ E).symm
    · exact (Cert.Core.final17 m c _ E).symm
    · exact (Cert.Core.final18 m c _ E).symm
    · exact (Cert.Core.final19 m c _ E).symm
    · refine Eq.trans ?_ (Cert.Core.final20 m c _ E).symm
      rw [← (hagree c).2.2.2.2.2.2.2.1]
      rfl
    · refine Eq.trans ?_ (Cert.Core.final21 m c _ E).symm
      rw [← (hagree c).2.2.2.2.2.2.2.2.1]
      rfl

/-- The reference runs to the end with its arguments as they were; it declares no semaphore. -/
theorem reference_frame [hReferenceIdeal : Cert.ReferenceIdeal.Facts] : Cert.quiescent_ReferenceIdeal := by
  intro m ρ _
  run_from Cert.ReferenceIdeal.Value.run m ρ
  · simp
  · exact sem_eq_zero_of_no_sems (sig := Cert.ReferenceIdeal.sig) (by decide) _

/-- The input projection's backward: both results are the reference's. -/
theorem inBwd_value [h : Cert.InBwdIdeal.Facts] [h' : Cert.RefInBwdIdeal.Facts] :
    Cert.algebraic_InBwdIdeal_RefInBwdIdeal := by
  pair_intro
  · run_from Cert.InBwdIdeal.Value.run_blocks m g
  · refine Idealize.ShloMosaic.θ_run_mono (Cert.RefInBwdIdeal.Value.run m' g') ?_
    intro r hr c
    obtain ⟨e8, e9, e⟩ := hr c
    obtain ⟨-, h1, h2, h3, h4, h5, h6, h7, h8⟩ := hagree c
    refine ⟨e8.trans (((Cert.InB.ref8_run m' c).trans ?_).trans (Cert.InB.final8 m c).symm),
      e9.trans (((Cert.InB.ref9 _ _ _ _ _ _).trans ?_).trans (Cert.InB.final9 m c).symm), e⟩
    · rw [h1, h2, h3, h4, h5, h6, h7, h8]
    · rw [h1, h2, h3, h4, h5, h6]

/-- Its reference runs to the end with its arguments as they were; it declares no semaphore. -/
theorem inBwd_frame [h : Cert.RefInBwdIdeal.Facts] : Cert.quiescent_RefInBwdIdeal := by
  intro m ρ _
  run_from Cert.RefInBwdIdeal.Value.run m ρ
  · simp
  · exact sem_eq_zero_of_no_sems (sig := Cert.RefInBwdIdeal.sig) (by decide) _

/-- The input projection's weight's gradient is the reference's. -/
theorem tnWIn_value [h : Cert.TnWInIdeal.Facts] [h' : Cert.RefTnWInIdeal.Facts] :
    Cert.algebraic_TnWInIdeal_RefTnWInIdeal := by
  pair_intro
  · run_from Cert.TnWInIdeal.Value.run_blocks m g
  · run_from Cert.RefTnWInIdeal.Value.run m' g'
    refine Eq.trans ?_ (Cert.InW.final m c).symm
    exact Cert.InW.ref _ _ _ _ _

/-- Its reference runs to the end with its arguments as they were; it declares no semaphore. -/
theorem tnWIn_frame [h : Cert.RefTnWInIdeal.Facts] : Cert.quiescent_RefTnWInIdeal := by
  intro m ρ _
  run_from Cert.RefTnWInIdeal.Value.run m ρ
  · simp
  · exact sem_eq_zero_of_no_sems (sig := Cert.RefTnWInIdeal.sig) (by decide) _

/-- The input projection: the five results are the reference's. -/
theorem fwdIn_value [h : Cert.FwdInIdeal.Facts] [h' : Cert.RefFwdInIdeal.Facts] :
    Cert.algebraic_FwdInIdeal_RefFwdInIdeal := by
  pair_intro
  · run_from Cert.FwdInIdeal.Value.run_blocks m g
  · run_from Cert.RefFwdInIdeal.Value.run m' g'
    · refine Eq.trans ?_ (Cert.InF.final3 m c).symm
      exact Cert.InF.ref3 _ _
    · refine Eq.trans ?_ (Cert.InF.final4 m c).symm
      exact Cert.InF.ref4 _ _ _
    · refine Eq.trans ?_ (Cert.InF.final5 m c).symm
      exact Cert.InF.ref5 _ _ _
    · refine Eq.trans ?_ (Cert.InF.final6 m c).symm
      exact Cert.InF.ref6 _ _ _
    · refine Eq.trans ?_ (Cert.InF.final7 m c).symm
      exact Cert.InF.ref7 _ _ _

/-- Its reference runs to the end with its arguments as they were; it declares no semaphore. -/
theorem fwdIn_frame [h : Cert.RefFwdInIdeal.Facts] : Cert.quiescent_RefFwdInIdeal := by
  intro m ρ _
  run_from Cert.RefFwdInIdeal.Value.run m ρ
  · simp
  · exact sem_eq_zero_of_no_sems (sig := Cert.RefFwdInIdeal.sig) (by decide) _

/-- The second feed-forward weight's gradient is the reference's. -/
theorem gwDown_value [h : Cert.GwDownIdeal.Facts] [h' : Cert.RefGwDownIdeal.Facts] :
    Cert.algebraic_GwDownIdeal_RefGwDownIdeal := by
  pair_intro
  · run_from Cert.GwDownIdeal.Value.run_blocks m g
  · run_from Cert.RefGwDownIdeal.Value.run m' g'
    refine Eq.trans ?_ (Cert.Down.final m c).symm
    exact Cert.Down.ref _ _

/-- Its reference runs to the end with its arguments as they were; it declares no semaphore. -/
theorem gwDown_frame [h : Cert.RefGwDownIdeal.Facts] : Cert.quiescent_RefGwDownIdeal := by
  intro m ρ _
  run_from Cert.RefGwDownIdeal.Value.run m ρ
  · simp
  · exact sem_eq_zero_of_no_sems (sig := Cert.RefGwDownIdeal.sig) (by decide) _

/-- The first feed-forward weight's gradient is the reference's. -/
theorem gwUp_value [h : Cert.GwUpIdeal.Facts] [h' : Cert.RefGwUpIdeal.Facts] :
    Cert.algebraic_GwUpIdeal_RefGwUpIdeal := by
  pair_intro
  · run_from Cert.GwUpIdeal.Value.run_blocks m g
  · run_from Cert.RefGwUpIdeal.Value.run m' g'
    refine Eq.trans ?_ (Cert.Up.final m c).symm
    exact Cert.Up.ref _ _

/-- Its reference runs to the end with its arguments as they were; it declares no semaphore. -/
theorem gwUp_frame [h : Cert.RefGwUpIdeal.Facts] : Cert.quiescent_RefGwUpIdeal := by
  intro m ρ _
  run_from Cert.RefGwUpIdeal.Value.run m ρ
  · simp
  · exact sem_eq_zero_of_no_sems (sig := Cert.RefGwUpIdeal.sig) (by decide) _

/-- The output projection's weight's gradient is the reference's. -/
theorem gwOut_value [h : Cert.GwOutIdeal.Facts] [h' : Cert.RefGwOutIdeal.Facts] :
    Cert.algebraic_GwOutIdeal_RefGwOutIdeal := by
  pair_intro
  · run_from Cert.GwOutIdeal.Value.run_blocks m g
  · run_from Cert.RefGwOutIdeal.Value.run m' g'
    refine Eq.trans ?_ (Cert.OutW.final m c).symm
    exact Cert.OutW.ref _

/-- Its reference runs to the end with its arguments as they were; it declares no semaphore. -/
theorem gwOut_frame [h : Cert.RefGwOutIdeal.Facts] : Cert.quiescent_RefGwOutIdeal := by
  intro m ρ _
  run_from Cert.RefGwOutIdeal.Value.run m ρ
  · simp
  · exact sem_eq_zero_of_no_sems (sig := Cert.RefGwOutIdeal.sig) (by decide) _

/-- A mixer projection's weight's gradient is the reference's. -/
theorem gp_value [h : Cert.GpIdeal.Facts] [h' : Cert.RefGpIdeal.Facts] :
    Cert.algebraic_GpIdeal_RefGpIdeal := by
  pair_intro
  · run_from Cert.GpIdeal.Value.run_blocks m g
  · run_from Cert.RefGpIdeal.Value.run m' g'
    refine Eq.trans ?_ (Cert.Proj.final m c).symm
    exact Cert.Proj.ref _ _

/-- Its reference runs to the end with its arguments as they were; it declares no semaphore. -/
theorem gp_frame [h : Cert.RefGpIdeal.Facts] : Cert.quiescent_RefGpIdeal := by
  intro m ρ _
  run_from Cert.RefGpIdeal.Value.run m ρ
  · simp
  · exact sem_eq_zero_of_no_sems (sig := Cert.RefGpIdeal.sig) (by decide) _

/-- AdamW's step on the first feed-forward weight: the four results are the reference's. -/
theorem adamUp_value [h : Cert.AdamUpIdeal.Facts] [h' : Cert.RefAdamUpIdeal.Facts] :
    Cert.algebraic_AdamUpIdeal_RefAdamUpIdeal := by
  pair_intro
  · run_from Cert.StepUp.run_blocks m g
  · run_from Cert.RefAdamUpIdeal.Value.run m' g'
    · exact Cert.Step.whole ..
    · exact Cert.Step.delta _ _ _ _ _ _ (Cert.Step.whole ..) _
    · exact Cert.Step.mom _ _ _ _ (Cert.Step.whole ..) _
    · exact Cert.Step.sq _ _ _ _ (Cert.Step.whole ..) _

/-- Its reference runs to the end with its arguments as they were; it declares no semaphore. -/
theorem adamUp_frame [h : Cert.RefAdamUpIdeal.Facts] : Cert.quiescent_RefAdamUpIdeal := by
  intro m ρ _
  run_from Cert.RefAdamUpIdeal.Value.run m ρ
  · simp
  · exact sem_eq_zero_of_no_sems (sig := Cert.RefAdamUpIdeal.sig) (by decide) _

/-- AdamW's step on the second feed-forward weight: the four results are the reference's. -/
theorem adamDown_value [h : Cert.AdamDownIdeal.Facts] [h' : Cert.RefAdamDownIdeal.Facts] :
    Cert.algebraic_AdamDownIdeal_RefAdamDownIdeal := by
  pair_intro
  · run_from Cert.StepDown.run_blocks m g
  · run_from Cert.RefAdamDownIdeal.Value.run m' g'
    · exact Cert.Step.whole ..
    · exact Cert.Step.delta _ _ _ _ _ _ (Cert.Step.whole ..) _
    · exact Cert.Step.mom _ _ _ _ (Cert.Step.whole ..) _
    · exact Cert.Step.sq _ _ _ _ (Cert.Step.whole ..) _

/-- Its reference runs to the end with its arguments as they were; it declares no semaphore. -/
theorem adamDown_frame [h : Cert.RefAdamDownIdeal.Facts] : Cert.quiescent_RefAdamDownIdeal := by
  intro m ρ _
  run_from Cert.RefAdamDownIdeal.Value.run m ρ
  · simp
  · exact sem_eq_zero_of_no_sems (sig := Cert.RefAdamDownIdeal.sig) (by decide) _

/-- AdamW's step on the output projection's weight: the four results are the reference's. -/
theorem adamOut_value [h : Cert.AdamOutIdeal.Facts] [h' : Cert.RefAdamOutIdeal.Facts] :
    Cert.algebraic_AdamOutIdeal_RefAdamOutIdeal := by
  pair_intro
  · run_from Cert.StepOut.run_blocks m g
  · run_from Cert.RefAdamOutIdeal.Value.run m' g'
    · exact Cert.Step.whole ..
    · exact Cert.Step.delta _ _ _ _ _ _ (Cert.Step.whole ..) _
    · exact Cert.Step.mom _ _ _ _ (Cert.Step.whole ..) _
    · exact Cert.Step.sq _ _ _ _ (Cert.Step.whole ..) _

/-- Its reference runs to the end with its arguments as they were; it declares no semaphore. -/
theorem adamOut_frame [h : Cert.RefAdamOutIdeal.Facts] : Cert.quiescent_RefAdamOutIdeal := by
  intro m ρ _
  run_from Cert.RefAdamOutIdeal.Value.run m ρ
  · simp
  · exact sem_eq_zero_of_no_sems (sig := Cert.RefAdamOutIdeal.sig) (by decide) _

/-- AdamW's step on a mixer projection's weight: the four results are the reference's. -/
theorem adamProj_value [h : Cert.AdamProjIdeal.Facts] [h' : Cert.RefAdamProjIdeal.Facts] :
    Cert.algebraic_AdamProjIdeal_RefAdamProjIdeal := by
  pair_intro
  · run_from Cert.StepProj.run_blocks m g
  · run_from Cert.RefAdamProjIdeal.Value.run m' g'
    · exact Cert.Step.whole ..
    · exact Cert.Step.delta _ _ _ _ _ _ (Cert.Step.whole ..) _
    · exact Cert.Step.mom _ _ _ _ (Cert.Step.whole ..) _
    · exact Cert.Step.sq _ _ _ _ (Cert.Step.whole ..) _

/-- Its reference runs to the end with its arguments as they were; it declares no semaphore. -/
theorem adamProj_frame [h : Cert.RefAdamProjIdeal.Facts] : Cert.quiescent_RefAdamProjIdeal := by
  intro m ρ _
  run_from Cert.RefAdamProjIdeal.Value.run m ρ
  · simp
  · exact sem_eq_zero_of_no_sems (sig := Cert.RefAdamProjIdeal.sig) (by decide) _

/-- AdamW's step on the input projection's weight: the four results are the reference's. -/
theorem adamIn_value [h : Cert.AdamInIdeal.Facts] [h' : Cert.RefAdamInIdeal.Facts] :
    Cert.algebraic_AdamInIdeal_RefAdamInIdeal := by
  pair_intro
  · run_from Cert.StepIn.run_blocks m g
  · run_from Cert.RefAdamInIdeal.Value.run m' g'
    · exact Cert.Step.whole ..
    · exact Cert.Step.delta _ _ _ _ _ _ (Cert.Step.whole ..) _
    · exact Cert.Step.mom _ _ _ _ (Cert.Step.whole ..) _
    · exact Cert.Step.sq _ _ _ _ (Cert.Step.whole ..) _

/-- Its reference runs to the end with its arguments as they were; it declares no semaphore. -/
theorem adamIn_frame [h : Cert.RefAdamInIdeal.Facts] : Cert.quiescent_RefAdamInIdeal := by
  intro m ρ _
  run_from Cert.RefAdamInIdeal.Value.run m ρ
  · simp
  · exact sem_eq_zero_of_no_sems (sig := Cert.RefAdamInIdeal.sig) (by decide) _

/-- The mixers' second forward call: its pooling result is the reference's. -/
theorem pool_value [h : Cert.PoolIdeal.Facts] [h' : Cert.RefPoolIdeal.Facts] :
    Cert.algebraic_PoolIdeal_RefPoolIdeal := by
  pair_intro
  · run_from Cert.Pool.run_blocks m g
  · run_from Cert.RefPoolIdeal.Value.run m' g'
    · exact Cert.Pool.ref ..

/-- Its reference runs to the end with its arguments as they were; it declares no semaphore. -/
theorem pool_frame [h : Cert.RefPoolIdeal.Facts] : Cert.quiescent_RefPoolIdeal := by
  intro m ρ _
  run_from Cert.RefPoolIdeal.Value.run m ρ
  · simp
  · exact sem_eq_zero_of_no_sems (sig := Cert.RefPoolIdeal.sig) (by decide) _

/-- The mixers' first forward call: its pooling result, in the rows that it writes, is the reference's. -/
theorem poolFirst_value [h : Cert.PoolFirstIdeal.Facts] [h' : Cert.RefPoolFirstIdeal.Facts] :
    Cert.algebraic_PoolFirstIdeal_RefPoolFirstIdeal := by
  pair_intro
  · run_from Cert.PoolFirst.run_blocks m g
  · run_from Cert.RefPoolFirstIdeal.Value.run m' g'
    · exact Cert.PoolFirst.ref ..

/-- Its reference runs to the end with its arguments as they were; it declares no semaphore. -/
theorem poolFirst_frame [h : Cert.RefPoolFirstIdeal.Facts] : Cert.quiescent_RefPoolFirstIdeal := by
  intro m ρ _
  run_from Cert.RefPoolFirstIdeal.Value.run m ρ
  · simp
  · exact sem_eq_zero_of_no_sems (sig := Cert.RefPoolFirstIdeal.sig) (by decide) _

/-- All the claims of the certificate. -/
theorem claim : Cert.Claim := ⟨Cert.Kernel.Gen.facts, Cert.KernelIdeal.Gen.facts, Cert.ReferenceIdeal.Gen.facts,
  Cert.InBwd.Gen.facts, Cert.InBwdIdeal.Gen.facts, Cert.RefInBwdIdeal.Gen.facts,
  Cert.TnWIn.Gen.facts, Cert.TnWInIdeal.Gen.facts, Cert.RefTnWInIdeal.Gen.facts,
  Cert.FwdIn.Gen.facts, Cert.FwdInIdeal.Gen.facts, Cert.RefFwdInIdeal.Gen.facts,
  Cert.GwDown.Gen.facts, Cert.GwDownIdeal.Gen.facts, Cert.RefGwDownIdeal.Gen.facts,
  Cert.GwUp.Gen.facts, Cert.GwUpIdeal.Gen.facts, Cert.RefGwUpIdeal.Gen.facts,
  Cert.GwOut.Gen.facts, Cert.GwOutIdeal.Gen.facts, Cert.RefGwOutIdeal.Gen.facts,
  Cert.Gp.Gen.facts, Cert.GpIdeal.Gen.facts, Cert.RefGpIdeal.Gen.facts,
  Cert.AdamUp.Gen.facts, Cert.AdamUpIdeal.Gen.facts, Cert.RefAdamUpIdeal.Gen.facts,
  Cert.AdamDown.Gen.facts, Cert.AdamDownIdeal.Gen.facts, Cert.RefAdamDownIdeal.Gen.facts,
  Cert.AdamOut.Gen.facts, Cert.AdamOutIdeal.Gen.facts, Cert.RefAdamOutIdeal.Gen.facts,
  Cert.AdamProj.Gen.facts, Cert.AdamProjIdeal.Gen.facts, Cert.RefAdamProjIdeal.Gen.facts,
  Cert.AdamIn.Gen.facts, Cert.AdamInIdeal.Gen.facts, Cert.RefAdamInIdeal.Gen.facts,
  Cert.Pool.Gen.facts, Cert.PoolIdeal.Gen.facts, Cert.RefPoolIdeal.Gen.facts,
  Cert.PoolFirst.Gen.facts, Cert.PoolFirstIdeal.Gen.facts, Cert.RefPoolFirstIdeal.Gen.facts,
  fun m ρ _ => Cert.Kernel.Gen.frame m ρ, fun m ρ _ => Cert.KernelIdeal.Gen.frame m ρ, reference_frame,
  fun m ρ _ => Cert.InBwd.Gen.frame m ρ, fun m ρ _ => Cert.InBwdIdeal.Gen.frame m ρ, inBwd_frame,
  fun m ρ _ => Cert.TnWIn.Gen.frame m ρ, fun m ρ _ => Cert.TnWInIdeal.Gen.frame m ρ, tnWIn_frame,
  fun m ρ _ => Cert.FwdIn.Gen.frame m ρ, fun m ρ _ => Cert.FwdInIdeal.Gen.frame m ρ, fwdIn_frame,
  fun m ρ _ => Cert.GwDown.Gen.frame m ρ, fun m ρ _ => Cert.GwDownIdeal.Gen.frame m ρ, gwDown_frame,
  fun m ρ _ => Cert.GwUp.Gen.frame m ρ, fun m ρ _ => Cert.GwUpIdeal.Gen.frame m ρ, gwUp_frame,
  fun m ρ _ => Cert.GwOut.Gen.frame m ρ, fun m ρ _ => Cert.GwOutIdeal.Gen.frame m ρ, gwOut_frame,
  fun m ρ _ => Cert.Gp.Gen.frame m ρ, fun m ρ _ => Cert.GpIdeal.Gen.frame m ρ, gp_frame,
  fun m ρ _ => Cert.AdamUp.Gen.frame m ρ (Cert.AdamUp.Own.ok m), fun m ρ _ => Cert.AdamUpIdeal.Gen.frame m ρ (Cert.AdamUpIdeal.Own.ok m), adamUp_frame,
  fun m ρ _ => Cert.AdamDown.Gen.frame m ρ (Cert.AdamDown.Own.ok m), fun m ρ _ => Cert.AdamDownIdeal.Gen.frame m ρ (Cert.AdamDownIdeal.Own.ok m), adamDown_frame,
  fun m ρ _ => Cert.AdamOut.Gen.frame m ρ (Cert.AdamOut.Own.ok m), fun m ρ _ => Cert.AdamOutIdeal.Gen.frame m ρ (Cert.AdamOutIdeal.Own.ok m), adamOut_frame,
  fun m ρ _ => Cert.AdamProj.Gen.frame m ρ (Cert.AdamProj.Own.ok m), fun m ρ _ => Cert.AdamProjIdeal.Gen.frame m ρ (Cert.AdamProjIdeal.Own.ok m), adamProj_frame,
  fun m ρ _ => Cert.AdamIn.Gen.frame m ρ (Cert.AdamIn.Own.ok m), fun m ρ _ => Cert.AdamInIdeal.Gen.frame m ρ (Cert.AdamInIdeal.Own.ok m), adamIn_frame,
  fun m ρ _ => Cert.Pool.Gen.frame m ρ, fun m ρ _ => Cert.PoolIdeal.Gen.frame m ρ, pool_frame,
  fun m ρ _ => Cert.PoolFirst.Gen.frame m ρ, fun m ρ _ => Cert.PoolFirstIdeal.Gen.frame m ρ, poolFirst_frame,
  trivial, core_value,
  trivial, inBwd_value,
  trivial, tnWIn_value,
  trivial, fwdIn_value,
  trivial, gwDown_value,
  trivial, gwUp_value,
  trivial, gwOut_value,
  trivial, gp_value,
  trivial, adamUp_value,
  trivial, adamDown_value,
  trivial, adamOut_value,
  trivial, adamProj_value,
  trivial, adamIn_value,
  trivial, pool_value,
  trivial, poolFirst_value⟩

end Cert.Proof

end
